-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_v9) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v51) = v0 c
          ∧ r.2.mem ((c.tc : Thread Cert.Reference14Ideal.nD Cert.Reference14Ideal.τ).loc Cert.Reference14Ideal.main_v33) = v1 c
          ∧ r.2.mem ((c.tc : Thread Cert.Reference14Ideal.nD Cert.Reference14Ideal.τ).loc Cert.Reference14Ideal.main_v28) = v2 c
          ∧ r.2.mem ((c.tc : Thread Cert.Reference14Ideal.nD Cert.Reference14Ideal.τ).loc Cert.Reference14Ideal.main_v25) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v7_0)) (v1 : (c : Dev Cert.Kernel15Ideal.nD) → Buf (Elt Ideal) ((c.tc : Thread Cert.Kernel15Ideal.nD Cert.Kernel15Ideal.τ).loc Cert.Kernel15Ideal.main_v7_1)) (v2 : (c : Dev Cert.Kernel15Ideal.nD) → Buf (Elt Ideal) ((c.tc : Thread Cert.Kernel15Ideal.nD Cert.Kernel15Ideal.τ).loc Cert.Kernel15Ideal.main_v7_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v7_0) = v0 c
          ∧ r.2.mem ((c.tc : Thread Cert.Kernel15Ideal.nD Cert.Kernel15Ideal.τ).loc Cert.Kernel15Ideal.main_v7_1) = v1 c
          ∧ r.2.mem ((c.tc : Thread Cert.Kernel15Ideal.nD Cert.Kernel15Ideal.τ).loc Cert.Kernel15Ideal.main_v7_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v126) = v0 c
          ∧ r.2.mem ((c.tc : Thread Cert.Reference15Ideal.nD Cert.Reference15Ideal.τ).loc Cert.Reference15Ideal.main_v113) = v1 c
          ∧ r.2.mem ((c.tc : Thread Cert.Reference15Ideal.nD Cert.Reference15Ideal.τ).loc Cert.Reference15Ideal.main_v102) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v5) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_2)) (v2 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_2) = v1 c
          ∧ r.2.mem ((c.tc : Thread Cert.Kernel17Ideal.nD Cert.Kernel17Ideal.τ).loc Cert.Kernel17Ideal.main_v0_3) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v51) = v0 c
          ∧ r.2.mem ((c.tc : Thread Cert.Reference17Ideal.nD Cert.Reference17Ideal.τ).loc Cert.Reference17Ideal.main_v49) = v1 c
          ∧ r.2.mem ((c.tc : Thread Cert.Reference17Ideal.nD Cert.Reference17Ideal.τ).loc Cert.Reference17Ideal.main_v54) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v20) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S1x4096x768 : Shape := ⟨3, ![1, 4096, 768]⟩
abbrev S1x4096x256 : Shape := ⟨3, ![1, 4096, 256]⟩
abbrev S1x4096x1280 : Shape := ⟨3, ![1, 4096, 1280]⟩
abbrev S_ : Shape := ⟨0, ![]⟩

class Facts : Prop where
  concatenates_S1x4096x768_S1x4096x256_S1x4096x256_S1x4096x1280_d2 : Shape.Concatenates [S1x4096x768, S1x4096x256, S1x4096x256] S1x4096x1280 2
  bcast_S_S1x4096x1280 : S_.BroadcastsInDim S1x4096x1280 (![] : Fin 0 → Fin S1x4096x1280.rank)

variable [Facts]

def fn {F : FTy → Type} [FloatOps F] (main_arg0 : FVec F S1x4096x768 .f32) (main_arg1 : FVec F S1x4096x256 .f32) (main_arg2 : FVec F S1x4096x256 .f32) : IVec S1x4096x1280 1 :=
  let main_v0 : FVec F S1x4096x1280 .f32 := concatenate S1x4096x1280 2 [⟨S1x4096x768, main_arg0⟩, ⟨S1x4096x256, main_arg1⟩, ⟨S1x4096x256, main_arg2⟩] concatenates_S1x4096x768_S1x4096x256_S1x4096x256_S1x4096x1280_d2
  let main_v1 : FVec F S1x4096x1280 .f32 := Host.absf main_v0
  let main_cst : FVec F S_ .f32 := constant S_ .f32 0x7F800000#32
  let main_v2 : FVec F S1x4096x1280 .f32 := broadcastInDim S1x4096x1280 ![] bcast_S_S1x4096x1280 main_cst
  let main_v3 : IVec S1x4096x1280 1 := cmpf .olt main_v1 main_v2
  main_v3
-- ==== Kernel.lean ====
abbrev S1x4096x768 : Shape := ⟨3, ![1, 4096, 768]⟩
abbrev S1x4096x256 : Shape := ⟨3, ![1, 4096, 256]⟩
abbrev S32x128x1x3x256 : Shape := ⟨5, ![32, 128, 1, 3, 256]⟩
abbrev S3x1x32x128x256 : Shape := ⟨5, ![3, 1, 32, 128, 256]⟩
abbrev S_ : Shape := ⟨0, ![]⟩
abbrev S3x1x1x128x256 : Shape := ⟨5, ![3, 1, 1, 128, 256]⟩
abbrev S3x1x31x128x256 : Shape := ⟨5, ![3, 1, 31, 128, 256]⟩
abbrev S1x1x32x128x256 : Shape := ⟨5, ![1, 1, 32, 128, 256]⟩
abbrev S1x32x128x256 : Shape := ⟨4, ![1, 32, 128, 256]⟩
abbrev S1x128x768 : Shape := ⟨3, ![1, 128, 768]⟩
abbrev S1x1x128x256 : Shape := ⟨4, ![1, 1, 128, 256]⟩
abbrev S1x128x256 : Shape := ⟨3, ![1, 128, 256]⟩
abbrev S128x256 : Shape := ⟨2, ![128, 256]⟩
abbrev S128x768 : Shape := ⟨2, ![128, 768]⟩
abbrev S128x128 : Shape := ⟨2, ![128, 128]⟩
abbrev S128 : Shape := ⟨1, ![128]⟩
abbrev S128x1 : Shape := ⟨2, ![128, 1]⟩

abbrev nBuf : Space → Nat
  | .hbm => 14
  | .vmem => 14
  | .smem => 0
  | _ => 0

abbrev bufTy : (tb : Table) → Fin (tcTables nBuf tb) → BufTy
  | .hbm, ⟨0, _⟩ => ⟨S1x4096x768, .f32⟩
  | .hbm, ⟨1, _⟩ => ⟨S1x4096x256, .f32⟩
  | .hbm, ⟨2, _⟩ => ⟨S1x4096x256, .f32⟩
  | .hbm, ⟨3, _⟩ => ⟨S32x128x1x3x256, .f32⟩
  | .hbm, ⟨4, _⟩ => ⟨S3x1x32x128x256, .f32⟩
  | .hbm, ⟨5, _⟩ => ⟨S_, .f32⟩
  | .hbm, ⟨6, _⟩ => ⟨S3x1x1x128x256, .f32⟩
  | .hbm, ⟨7, _⟩ => ⟨S3x1x31x128x256, .f32⟩
  | .hbm, ⟨8, _⟩ => ⟨S3x1x32x128x256, .f32⟩
  | .hbm, ⟨9, _⟩ => ⟨S1x1x32x128x256, .f32⟩
  | .hbm, ⟨10, _⟩ => ⟨S1x32x128x256, .f32⟩
  | .hbm, ⟨11, _⟩ => ⟨S1x1x32x128x256, .f32⟩
  | .hbm, ⟨12, _⟩ => ⟨S1x32x128x256, .f32⟩
  | .hbm, ⟨13, _⟩ => ⟨S1x4096x768, .f32⟩
  | .local _ .vmem, ⟨0, _⟩ => ⟨S1x128x768, .f32⟩
  | .local _ .vmem, ⟨1, _⟩ => ⟨S1x128x768, .f32⟩
  | .local _ .vmem, ⟨2, _⟩ => ⟨S1x1x128x256, .f32⟩
  | .local _ .vmem, ⟨3, _⟩ => ⟨S1x1x128x256, .f32⟩
  | .local _ .vmem, ⟨4, _⟩ => ⟨S1x1x128x256, .f32⟩
  | .local _ .vmem, ⟨5, _⟩ => ⟨S1x1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x768, .f32⟩
  | .local _ .vmem, ⟨11, _⟩ => ⟨S1x128x768, .f32⟩
  | .local _ .vmem, ⟨12, _⟩ => ⟨S128x256, .f32⟩
  | .local _ .vmem, ⟨13, _⟩ => ⟨S128x256, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![c0_i32.toNat, v0.toNat, arg0.toNat]

def cc0_transform_1 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![c0_i32.toNat, v0.toNat, arg0.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![c0_i32.toNat, v0.toNat, arg0.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![c0_i32.toNat, v0.toNat, arg0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x4096x768 : Shape := ⟨3, ![1, 4096, 768]⟩
abbrev S1x4096x256 : Shape := ⟨3, ![1, 4096, 256]⟩
abbrev S4096x256 : Shape := ⟨2, ![4096, 256]⟩
abbrev S4096x4x64 : Shape := ⟨3, ![4096, 4, 64]⟩
abbrev S4096x1x4x64 : Shape := ⟨4, ![4096, 1, 4, 64]⟩
abbrev S1x4x4096x64 : Shape := ⟨4, ![1, 4, 4096, 64]⟩
abbrev S1x4x32x128x64 : Shape := ⟨5, ![1, 4, 32, 128, 64]⟩
abbrev S_ : Shape := ⟨0, ![]⟩
abbrev S1x4x1x128x64 : Shape := ⟨5, ![1, 4, 1, 128, 64]⟩
abbrev S1x4x33x128x64 : Shape := ⟨5, ![1, 4, 33, 128, 64]⟩
abbrev S1x4x32x256x64 : Shape := ⟨5, ![1, 4, 32, 256, 64]⟩
abbrev S1x4x32x128x256 : Shape := ⟨5, ![1, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x4x32x128 : Shape := ⟨4, ![1, 4, 32, 128]⟩
abbrev S1x4x32x128x1 : Shape := ⟨5, ![1, 4, 32, 128, 1]⟩
abbrev S1x4x4096 : Shape := ⟨3, ![1, 4, 4096]⟩
abbrev S4096x1x4 : Shape := ⟨3, ![4096, 1, 4]⟩
abbrev S4096x4 : Shape := ⟨2, ![4096, 4]⟩
abbrev S4x32x128 : Shape := ⟨3, ![4, 32, 128]⟩
abbrev S1x4x32x64x256 : Shape := ⟨5, ![1, 4, 32, 64, 256]⟩

abbrev nBuf : Space → Nat
  | .hbm => 212
  | .vmem => 0
  | .smem => 0
  | _ => 0

abbrev hbmTy0_0 (i : Nat) : BufTy := match i % 128 with
  | 0 => ⟨S1x4096x768, .f32⟩
  | 1 => ⟨S1x4096x256, .f32⟩
  | 2 => ⟨S1x4096x256, .f32⟩
  | 3 => ⟨S1x4096x256, .f32⟩
  | 4 => ⟨S4096x256, .f32⟩
  | 5 => ⟨S4096x4x64, .f32⟩
  | 6 => ⟨S1x4096x256, .f32⟩
  | 7 => ⟨S4096x256, .f32⟩
  | 8 => ⟨S4096x4x64, .f32⟩
  | 9 => ⟨S1x4096x256, .f32⟩
  | 10 => ⟨S4096x256, .f32⟩
  | 11 => ⟨S4096x4x64, .f32⟩
  | 12 => ⟨S4096x1x4x64, .f32⟩
  | 13 => ⟨S1x4x4096x64, .f32⟩
  | 14 => ⟨S1x4x32x128x64, .f32⟩
  | 15 => ⟨S4096x1x4x64, .f32⟩
  | 16 => ⟨S1x4x4096x64, .f32⟩
  | 17 => ⟨S1x4x32x128x64, .f32⟩
  | 18 => ⟨S4096x1x4x64, .f32⟩
  | 19 => ⟨S1x4x4096x64, .f32⟩
  | 20 => ⟨S1x4x32x128x64, .f32⟩
  | 21 => ⟨S_, .f32⟩
  | 22 => ⟨S1x4x1x128x64, .f32⟩
  | 23 => ⟨S1x4x33x128x64, .f32⟩
  | 24 => ⟨S_, .f32⟩
  | 25 => ⟨S1x4x1x128x64, .f32⟩
  | 26 => ⟨S1x4x32x128x64, .f32⟩
  | 27 => ⟨S1x4x32x128x64, .f32⟩
  | 28 => ⟨S1x4x32x256x64, .f32⟩
  | 29 => ⟨S_, .f32⟩
  | 30 => ⟨S1x4x1x128x64, .f32⟩
  | 31 => ⟨S1x4x33x128x64, .f32⟩
  | 32 => ⟨S_, .f32⟩
  | 33 => ⟨S1x4x1x128x64, .f32⟩
  | 34 => ⟨S1x4x32x128x64, .f32⟩
  | 35 => ⟨S1x4x32x128x64, .f32⟩
  | 36 => ⟨S1x4x32x256x64, .f32⟩
  | 37 => ⟨S1x4x32x128x256, .f32⟩
  | 38 => ⟨S_, .f32⟩
  | 39 => ⟨S1x4x32x128x256, .f32⟩
  | 40 => ⟨S1x4x32x128x256, .f32⟩
  | 41 => ⟨S128, .i32⟩
  | 42 => ⟨S128x1, .i32⟩
  | 43 => ⟨S_, .i32⟩
  | 44 => ⟨S128x1, .i32⟩
  | 45 => ⟨S128x1, .i32⟩
  | 46 => ⟨S256, .i32⟩
  | 47 => ⟨S1x256, .i32⟩
  | 48 => ⟨S128x256, .i32⟩
  | 49 => ⟨S128x256, .i32⟩
  | 50 => ⟨S128x256, .i32⟩
  | 51 => ⟨S32, .i32⟩
  | 52 => ⟨S32x1x1, .i32⟩
  | 53 => ⟨S_, .i32⟩
  | 54 => ⟨S32x1x1, .i32⟩
  | 55 => ⟨S32x1x1, .i32⟩
  | 56 => ⟨S1x1x256, .i32⟩
  | 57 => ⟨S32x1x256, .i32⟩
  | 58 => ⟨S32x1x256, .i32⟩
  | 59 => ⟨S32x1x256, .i32⟩
  | 60 => ⟨S_, .i32⟩
  | 61 => ⟨S32x1x256, .i32⟩
  | 62 => ⟨S32x1x256, .i32⟩
  | 63 => ⟨S_, .i32⟩
  | 64 => ⟨S128x256, .i32⟩
  | 65 => ⟨S128x256, .i1⟩
  | 66 => ⟨S_, .i32⟩
  | 67 => ⟨S128x256, .i32⟩
  | 68 => ⟨S128x256, .i1⟩
  | 69 => ⟨S128x256, .i1⟩
  | 70 => ⟨S_, .i32⟩
  | 71 => ⟨S32x1x256, .i32⟩
  | 72 => ⟨S32x1x256, .i1⟩
  | 73 => ⟨S1x128x256, .i1⟩
  | 74 => ⟨S32x128x256, .i1⟩
  | 75 => ⟨S32x128x256, .i1⟩
  | 76 => ⟨S32x128x256, .i1⟩
  | 77 => ⟨S_, .f32⟩
  | 78 => ⟨S_, .f32⟩
  | 79 => ⟨S1x4x32x128x256, .i1⟩
  | 80 => ⟨S1x4x32x128x256, .f32⟩
  | 81 => ⟨S1x4x32x128x256, .f32⟩
  | 82 => ⟨S_, .f32⟩
  | 83 => ⟨S1x4x32x128x256, .f32⟩
  | 84 => ⟨S_, .f32⟩
  | 85 => ⟨S1x4x32x128, .f32⟩
  | 86 => ⟨S1x4x32x128x1, .f32⟩
  | 87 => ⟨S1x4x32x128x256, .f32⟩
  | 88 => ⟨S1x4x32x128x256, .i1⟩
  | 89 => ⟨S1x4x32x128x256, .f32⟩
  | 90 => ⟨S_, .f32⟩
  | 91 => ⟨S1x4x32x128, .f32⟩
  | 92 => ⟨S1x4x32x128x1, .f32⟩
  | 93 => ⟨S1x4x32x128x256, .f32⟩
  | 94 => ⟨S1x4x32x128x256, .f32⟩
  | 95 => ⟨S1x4x32x128x256, .f32⟩
  | 96 => ⟨S_, .f32⟩
  | 97 => ⟨S1x4x32x128, .f32⟩
  | 98 => ⟨S1x4x32x128x64, .f32⟩
  | 99 => ⟨S1x4x32x128x1, .f32⟩
  | 100 => ⟨S1x4x32x128x64, .f32⟩
  | 101 => ⟨S1x4x32x128x64, .f32⟩
  | 102 => ⟨S1x4x32x128x1, .f32⟩
  | 103 => ⟨S_, .f32⟩
  | 104 => ⟨S1x4x32x128x1, .f32⟩
  | 105 => ⟨S1x4x32x128x1, .f32⟩
  | 106 => ⟨S1x4x32x128, .f32⟩
  | 107 => ⟨S1x4x32x128, .f32⟩
  | 108 => ⟨S1x4x32x128, .f32⟩
  | 109 => ⟨S1x4x4096x64, .f32⟩
  | 110 => ⟨S4096x1x4x64, .f32⟩
  | 111 => ⟨S4096x4x64, .f32⟩
  | 112 => ⟨S1x4x4096, .f32⟩
  | 113 => ⟨S4096x1x4, .f32⟩
  | 114 => ⟨S4096x4, .f32⟩
  | 115 => ⟨S1x4096x256, .f32⟩
  | 116 => ⟨S4096x4x64, .f32⟩
  | 117 => ⟨S4096x256, .f32⟩
  | 118 => ⟨S1x4096x256, .f32⟩
  | 119 => ⟨S4096x256, .f32⟩
  | 120 => ⟨S4096x4x64, .f32⟩
  | 121 => ⟨S_, .f32⟩
  | 122 => ⟨S4096x4, .f32⟩
  | 123 => ⟨S4096x4x64, .f32⟩
  | 124 => ⟨S4096x1x4, .f32⟩
  | 125 => ⟨S1x4x4096, .f32⟩
  | 126 => ⟨S1x4x32x128, .f32⟩
  | 127 => ⟨S4096x1x4x64, .f32⟩
  | _ => ⟨S1x4096x768, .f32⟩

abbrev hbmTy0_1 (i : Nat) : BufTy := match i % 128 with
  | 0 => ⟨S1x4x4096x64, .f32⟩
  | 1 => ⟨S1x4x32x128x64, .f32⟩
  | 2 => ⟨S1x4x32x128, .f32⟩
  | 3 => ⟨S1x4x32x128x1, .f32⟩
  | 4 => ⟨S1x4x32x128x64, .f32⟩
  | 5 => ⟨S1x4x32x128x64, .f32⟩
  | 6 => ⟨S1x4x32x128x64, .f32⟩
  | 7 => ⟨S_, .f32⟩
  | 8 => ⟨S1x4x32x128, .f32⟩
  | 9 => ⟨S1x4x32x128x1, .f32⟩
  | 10 => ⟨S1x4x32x128x1, .f32⟩
  | 11 => ⟨S1x4x32x128x64, .f32⟩
  | 12 => ⟨S1x4x32x128x64, .f32⟩
  | 13 => ⟨S_, .f32⟩
  | 14 => ⟨S4x32x128, .f32⟩
  | 15 => ⟨S1x4x32x128, .f32⟩
  | 16 => ⟨S1x4x32x128, .f32⟩
  | 17 => ⟨S1x4x32x64x256, .f32⟩
  | 18 => ⟨S1x4x32x256x64, .f32⟩
  | 19 => ⟨S1x4x32x128x256, .f32⟩
  | 20 => ⟨S1x4x32x128x256, .f32⟩
  | 21 => ⟨S1x4x32x128x256, .f32⟩
  | 22 => ⟨S1x4x32x128x256, .f32⟩
  | 23 => ⟨S1x4x32x128x256, .f32⟩
  | 24 => ⟨S_, .f32⟩
  | 25 => ⟨S1x4x32x128, .f32⟩
  | 26 => ⟨S1x4x32x128x1, .f32⟩
  | 27 => ⟨S1x4x32x128x1, .f32⟩
  | 28 => ⟨S_, .f32⟩
  | 29 => ⟨S4x32x128, .f32⟩
  | 30 => ⟨S1x4x32x128, .f32⟩
  | 31 => ⟨S1x4x32x128, .f32⟩
  | 32 => ⟨S1x4x32x128x256, .f32⟩
  | 33 => ⟨S1x4x32x128x256, .f32⟩
  | 34 => ⟨S1x4x32x128x256, .f32⟩
  | 35 => ⟨S_, .f32⟩
  | 36 => ⟨S1x4x32x128x256, .f32⟩
  | 37 => ⟨S1x4x32x128x256, .f32⟩
  | 38 => ⟨S_, .f32⟩
  | 39 => ⟨S1x4x32x128x256, .f32⟩
  | 40 => ⟨S1x4x32x128x256, .f32⟩
  | 41 => ⟨S1x4x32x256x64, .f32⟩
  | 42 => ⟨S1x4x32x128x64, .f32⟩
  | 43 => ⟨S1x4x32x128x64, .f32⟩
  | 44 => ⟨S1x4x32x128x64, .f32⟩
  | 45 => ⟨S_, .f32⟩
  | 46 => ⟨S1x4x33x128x64, .f32⟩
  | 47 => ⟨S_, .f32⟩
  | 48 => ⟨S1x4x33x128x64, .f32⟩
  | 49 => ⟨S1x4x33x128x64, .f32⟩
  | 50 => ⟨S1x4x1x128x64, .f32⟩
  | 51 => ⟨S1x4x32x128x64, .f32⟩
  | 52 => ⟨S1x4x32x128x64, .f32⟩
  | 53 => ⟨S1x4x32x128x64, .f32⟩
  | 54 => ⟨S_, .f32⟩
  | 55 => ⟨S1x4x33x128x64, .f32⟩
  | 56 => ⟨S_, .f32⟩
  | 57 => ⟨S1x4x33x128x64, .f32⟩
  | 58 => ⟨S1x4x33x128x64, .f32⟩
  | 59 => ⟨S1x4x1x128x64, .f32⟩
  | 60 => ⟨S1x4x32x128x64, .f32⟩
  | 61 => ⟨S1x4x4096x64, .f32⟩
  | 62 => ⟨S4096x1x4x64, .f32⟩
  | 63 => ⟨S4096x4x64, .f32⟩
  | 64 => ⟨S1x4x4096x64, .f32⟩
  | 65 => ⟨S4096x1x4x64, .f32⟩
  | 66 => ⟨S4096x4x64, .f32⟩
  | 67 => ⟨S1x4x4096x64, .f32⟩
  | 68 => ⟨S4096x1x4x64, .f32⟩
  | 69 => ⟨S4096x4x64, .f32⟩
  | 70 => ⟨S4096x256, .f32⟩
  | 71 => ⟨S1x4096x256, .f32⟩
  | 72 => ⟨S_, .f32⟩
  | 73 => ⟨S1x4096x768, .f32⟩
  | 74 => ⟨S4096x256, .f32⟩
  | 75 => ⟨S1x4096x256, .f32⟩
  | 76 => ⟨S_, .f32⟩
  | 77 => ⟨S1x4096x768, .f32⟩
  | 78 => ⟨S1x4096x768, .f32⟩
  | 79 => ⟨S4096x256, .f32⟩
  | 80 => ⟨S1x4096x256, .f32⟩
  | 81 => ⟨S_, .f32⟩
  | 82 => ⟨S1x4096x768, .f32⟩
  | 83 => ⟨S1x4096x768, .f32⟩
  | _ => ⟨S1x4096x768, .f32⟩

abbrev hbmTy (i : Nat) : BufTy := match i / 128 with
  | 0 => hbmTy0_0 i
  | 1 => hbmTy0_1 i
  | _ => ⟨S1x4096x768, .f32⟩

abbrev bufTy : (tb : Table) → Fin (tcTables nBuf tb) → BufTy
  | .hbm, ⟨i, _⟩ => hbmTy i
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_c_5 : Ref sig .tc := ⟨.hbm, 60, rfl⟩
abbrev main_v50 : Ref sig .tc := ⟨.hbm, 61, rfl⟩
abbrev main_v51 : Ref sig .tc := ⟨.hbm, 62, rfl⟩
abbrev main_c_6 : Ref sig .tc := ⟨.hbm, 63, rfl⟩
abbrev main_v52 : Ref sig .tc := ⟨.hbm, 64, rfl⟩
abbrev main_v53 : Ref sig .tc := ⟨.hbm, 65, rfl⟩
abbrev main_c_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_9 : Ref sig .tc := ⟨.hbm, 77, rfl⟩
abbrev main_call0_v0 : Ref sig .tc := ⟨.hbm, 78, rfl⟩
abbrev main_v63_1 : Ref sig .tc := ⟨.hbm, 79, rfl⟩
abbrev main_call0_v2 : Ref sig .tc := ⟨.hbm, 80, rfl⟩
abbrev main_v63_0 : Ref sig .tc := ⟨.hbm, 81, rfl⟩
abbrev main_call0_cst : Ref sig .tc := ⟨.hbm, 82, rfl⟩
abbrev main_v63_2 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_14 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_15 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_16 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_17 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_18 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_call1_cst : Ref sig .tc := ⟨.hbm, 163, rfl⟩
abbrev main_call1_v0 : Ref sig .tc := ⟨.hbm, 164, rfl⟩
abbrev main_v134 : Ref sig .tc := ⟨.hbm, 165, rfl⟩
abbrev main_cst_19 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_cst_20 : Ref sig .tc := ⟨.hbm, 173, rfl⟩
abbrev main_v141 : Ref sig .tc := ⟨.hbm, 174, rfl⟩
abbrev main_cst_21 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_cst_22 : Ref sig .tc := ⟨.hbm, 182, rfl⟩
abbrev main_v148 : Ref sig .tc := ⟨.hbm, 183, rfl⟩
abbrev main_cst_23 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_cst_24 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_cst_25 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_26 : Ref sig .tc := ⟨.hbm, 209, rfl⟩
abbrev main_v171 : Ref sig .tc := ⟨.hbm, 210, rfl⟩
abbrev main_v172 : Ref sig .tc := ⟨.hbm, 211, rfl⟩

abbrev nD : Nat := 1
abbrev τ : Topo := Topo.v7x

variable {F : FTy → Type} [FloatOps F]
-- ==== Kernel2.lean ====
abbrev S4096x5632 : Shape := ⟨2, ![4096, 5632]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x5632, .f32⟩
  | .hbm, ⟨3, _⟩ => ⟨S1024x5632, .f32⟩
  | .hbm, ⟨4, _⟩ => ⟨S_, .f32⟩
  | .hbm, ⟨5, _⟩ => ⟨S4096x1024, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  ![v28.toNat, arg0.toNat, c0_i32_11.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x5632 : Shape := ⟨2, ![4096, 5632]⟩
abbrev S_ : Shape := ⟨0, ![]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S5632x1024 : Shape := ⟨2, ![5632, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S4x1024x1408, .f32⟩
  | .hbm, ⟨4, _⟩ => ⟨S4096x1024, .f32⟩
  | .hbm, ⟨5, _⟩ => ⟨S1x1024x1408, .f32⟩
  | .hbm, ⟨6, _⟩ => ⟨S1024x1408, .f32⟩
  | .hbm, ⟨7, _⟩ => ⟨S1x1024x1408, .f32⟩
  | .hbm, ⟨8, _⟩ => ⟨S1024x1408, .f32⟩
  | .hbm, ⟨9, _⟩ => ⟨S1x1024x1408, .f32⟩
  | .hbm, ⟨10, _⟩ => ⟨S1024x1408, .f32⟩
  | .hbm, ⟨11, _⟩ => ⟨S1x1024x1408, .f32⟩
  | .hbm, ⟨12, _⟩ => ⟨S1024x1408, .f32⟩
  | .hbm, ⟨13, _⟩ => ⟨S1024x5632, .f32⟩
  | .hbm, ⟨14, _⟩ => ⟨S4096x5632, .f32⟩
  | .hbm, ⟨15, _⟩ => ⟨S4096x5632, .f32⟩
  | .hbm, ⟨16, _⟩ => ⟨S5632x1024, .f32⟩
  | .hbm, ⟨17, _⟩ => ⟨S1024x5632, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S1024x1408, .f32⟩
  | .hbm, ⟨22, _⟩ => ⟨S1x1024x1408, .f32⟩
  | .hbm, ⟨23, _⟩ => ⟨S_, .f32⟩
  | .hbm, ⟨24, _⟩ => ⟨S4x1024x1408, .f32⟩
  | .hbm, ⟨25, _⟩ => ⟨S1x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S1x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S1x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2688 : Shape := ⟨2, ![4096, 2688]⟩
abbrev S1024x2688 : Shape := ⟨2, ![1024, 2688]⟩
abbrev S4096x1024 : Shape := ⟨2, ![4096, 1024]⟩
abbrev S1024x896 : Shape := ⟨2, ![1024, 896]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S4096x1024, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2688 : Shape := ⟨2, ![4096, 2688]⟩
abbrev S1024x2688 : Shape := ⟨2, ![1024, 2688]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S4096x2688, .f32⟩
  | .hbm, ⟨3, _⟩ => ⟨S1024x2688, .f32⟩
  | .hbm, ⟨4, _⟩ => ⟨S_, .f32⟩
  | .hbm, ⟨5, _⟩ => ⟨S4096x1024, .f32⟩
  | .hbm, ⟨6, _⟩ => ⟨S4096x2688, .f32⟩
  | .hbm, ⟨7, _⟩ => ⟨S4096x1024, .f32⟩
  | _, _ => ⟨S4096x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S4096x2688 : Shape := ⟨2, ![4096, 2688]⟩
abbrev S1024x2688 : Shape := ⟨2, ![1024, 2688]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S1024x2688, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x2688 : Shape := ⟨2, ![4096, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S4096x1024, .f32⟩
  | .hbm, ⟨3, _⟩ => ⟨S4096x2688, .f32⟩
  | .hbm, ⟨4, _⟩ => ⟨S_, .f32⟩
  | .hbm, ⟨5, _⟩ => ⟨S1024x2688, .f32⟩
  | .hbm, ⟨6, _⟩ => ⟨S4096x2688, .f32⟩
  | .hbm, ⟨7, _⟩ => ⟨S2688x1024, .f32⟩
  | .hbm, ⟨8, _⟩ => ⟨S1024x2688, .f32⟩
  | .hbm, ⟨9, _⟩ => ⟨S1024x2688, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x1920 : Shape := ⟨2, ![1024, 1920]⟩
abbrev S4096x1920 : Shape := ⟨2, ![4096, 1920]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1920, .bf16⟩
  | .hbm, ⟨2, _⟩ => ⟨S4096x1920, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1920 : Shape := ⟨2, ![1024, 1920]⟩
abbrev S4096x1920 : Shape := ⟨2, ![4096, 1920]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1920, .bf16⟩
  | .hbm, ⟨2, _⟩ => ⟨S4096x1024, .f32⟩
  | .hbm, ⟨3, _⟩ => ⟨S1024x1920, .f32⟩
  | .hbm, ⟨4, _⟩ => ⟨S4096x1920, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S1024x768 : Shape := ⟨2, ![1024, 768]⟩
abbrev S4096x768 : Shape := ⟨2, ![4096, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x768, .bf16⟩
  | .hbm, ⟨2, _⟩ => ⟨S4096x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x768 : Shape := ⟨2, ![1024, 768]⟩
abbrev S4096x768 : Shape := ⟨2, ![4096, 768]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x768, .bf16⟩
  | .hbm, ⟨2, _⟩ => ⟨S4096x1024, .f32⟩
  | .hbm, ⟨3, _⟩ => ⟨S1024x768, .f32⟩
  | .hbm, ⟨4, _⟩ => ⟨S4096x768, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S1x4096x1024 : Shape := ⟨3, ![1, 4096, 1024]⟩
abbrev S1x1024 : Shape := ⟨2, ![1, 1024]⟩
abbrev S1x512x1024 : Shape := ⟨3, ![1, 512, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x4096x1024, .f32⟩
  | .hbm, ⟨3, _⟩ => ⟨S1x4096x1024, .bf16⟩
  | .hbm, ⟨4, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .bf16⟩
  | .local _ .vmem, ⟨6, _⟩ => ⟨S1x512x1024, .bf16⟩
  | .local _ .vmem, ⟨7, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let arg0 : BitVec 32 := BitVec.ofNat 32 (i 0).val
  let c0_i32_10 : BitVec 32 := 0#32
  let v15 : BitVec 1 := Scalar.cmpi .eq arg0 c0_i32_10
  let v16 : BitVec 1 := Scalar.andi v14 v15
  let v17 : BitVec 32 := Scalar.extui v16
  let c0_i32_11 : BitVec 32 := 0#32
  let v18 : BitVec 1 := Scalar.cmpi .ne v17 c0_i32_11
  v18

def k0_cond2 (i : grid0.Coords) : BitVec 1 :=
  let arg1 : BitVec 32 := BitVec.ofNat 32 (i 1).val
  let c0_i32 : BitVec 32 := 0#32
  let v14 : BitVec 1 := Scalar.cmpi .eq arg1 c0_i32
  let arg0 : BitVec 32 := BitVec.ofNat 32 (i 0).val
  let c0_i32_10 : BitVec 32 := 0#32
  let v15 : BitVec 1 := Scalar.cmpi .eq arg0 c0_i32_10
  let v16 : BitVec 1 := Scalar.andi v14 v15
  let v_true : BitVec 1 := 1#1
  let v19 : BitVec 1 := Scalar.xori v16 v_true
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference13Ideal.lean ====
abbrev S1x4096x1024 : Shape := ⟨3, ![1, 4096, 1024]⟩
abbrev S1x1024 : Shape := ⟨2, ![1, 1024]⟩
abbrev S4096x1024 : Shape := ⟨2, ![4096, 1024]⟩
abbrev S_ : Shape := ⟨0, ![]⟩
abbrev S1024 : Shape := ⟨1, ![1024]⟩

abbrev nBuf : Space → Nat
  | .hbm => 17
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S1x4096x1024, .f32⟩
  | .hbm, ⟨16, _⟩ => ⟨S1x4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel14.lean ====
abbrev S1x4096x1024 : Shape := ⟨3, ![1, 4096, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x4096x1024, .f32⟩
  | .hbm, ⟨5, _⟩ => ⟨S1x4096x1024, .f32⟩
  | .hbm, ⟨6, _⟩ => ⟨S1x4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v57 : BitVec 1 := Scalar.cmpi .eq arg1 c0_i32
  let arg0 : BitVec 32 := BitVec.ofNat 32 (i 0).val
  let c0_i32_25 : BitVec 32 := 0#32
  let v58 : BitVec 1 := Scalar.cmpi .eq arg0 c0_i32_25
  let v59 : BitVec 1 := Scalar.andi v57 v58
  let v60 : BitVec 32 := Scalar.extui v59
  let c0_i32_26 : BitVec 32 := 0#32
  let v61 : BitVec 1 := Scalar.cmpi .ne v60 c0_i32_26
  v61

def k0_cond2 (i : grid0.Coords) : BitVec 1 :=
  let arg1 : BitVec 32 := BitVec.ofNat 32 (i 1).val
  let c0_i32 : BitVec 32 := 0#32
  let v57 : BitVec 1 := Scalar.cmpi .eq arg1 c0_i32
  let arg0 : BitVec 32 := BitVec.ofNat 32 (i 0).val
  let c0_i32_25 : BitVec 32 := 0#32
  let v58 : BitVec 1 := Scalar.cmpi .eq arg0 c0_i32_25
  let v59 : BitVec 1 := Scalar.andi v57 v58
  let v_true : BitVec 1 := 1#1
  let v62 : BitVec 1 := Scalar.xori v59 v_true
  let v63 : BitVec 32 := Scalar.extui v62
  let c0_i32_27 : BitVec 32 := 0#32
  let v64 : BitVec 1 := Scalar.cmpi .ne v63 c0_i32_27
  v64

def k0_cond3 (i : grid0.Coords) : BitVec 1 :=
  let arg1 : BitVec 32 := BitVec.ofNat 32 (i 1).val
  let c0_i32_28 : BitVec 32 := 0#32
  let v65 : BitVec 1 := Scalar.cmpi .eq arg1 c0_i32_28
  let arg0 : BitVec 32 := BitVec.ofNat 32 (i 0).val
  let c0_i32_29 : BitVec 32 := 0#32
  let v66 : BitVec 1 := Scalar.cmpi .eq arg0 c0_i32_29
  let v67 : BitVec 1 := Scalar.andi v65 v66
  let v68 : BitVec 32 := Scalar.extui v67
  let c0_i32_30 : BitVec 32 := 0#32
  let v69 : BitVec 1 := Scalar.cmpi .ne v68 c0_i32_30
  v69

def k0_cond4 (i : grid0.Coords) : BitVec 1 :=
  let arg1 : BitVec 32 := BitVec.ofNat 32 (i 1).val
  let c0_i32_28 : BitVec 32 := 0#32
  let v65 : BitVec 1 := Scalar.cmpi .eq arg1 c0_i32_28
  let arg0 : BitVec 32 := BitVec.ofNat 32 (i 0).val
  let c0_i32_29 : BitVec 32 := 0#32
  let v66 : BitVec 1 := Scalar.cmpi .eq arg0 c0_i32_29
  let v67 : BitVec 1 := Scalar.andi v65 v66
  let true_31 : BitVec 1 := 1#1
  let v70 : BitVec 1 := Scalar.xori v67 true_31
  let v71 : BitVec 32 := Scalar.extui v70
  let c0_i32_32 : BitVec 32 := 0#32
  let v72 : BitVec 1 := Scalar.cmpi .ne v71 c0_i32_32
  v72

def k0_cond5 (i : grid0.Coords) : BitVec 1 :=
  let arg1 : BitVec 32 := BitVec.ofNat 32 (i 1).val
  let c0_i32_33 : BitVec 32 := 0#32
  let v73 : BitVec 1 := Scalar.cmpi .eq arg1 c0_i32_33
  let arg0 : BitVec 32 := BitVec.ofNat 32 (i 0).val
  let c0_i32_34 : BitVec 32 := 0#32
  let v74 : BitVec 1 := Scalar.cmpi .eq arg0 c0_i32_34
  let v75 : BitVec 1 := Scalar.andi v73 v74
  let v76 : BitVec 32 := Scalar.extui v75
  let c0_i32_35 : BitVec 32 := 0#32
  let v77 : BitVec 1 := Scalar.cmpi .ne v76 c0_i32_35
  v77

def k0_cond6 (i : grid0.Coords) : BitVec 1 :=
  let arg1 : BitVec 32 := BitVec.ofNat 32 (i 1).val
  let c0_i32_33 : BitVec 32 := 0#32
  let v73 : BitVec 1 := Scalar.cmpi .eq arg1 c0_i32_33
  let arg0 : BitVec 32 := BitVec.ofNat 32 (i 0).val
  let c0_i32_34 : BitVec 32 := 0#32
  let v74 : BitVec 1 := Scalar.cmpi .eq arg0 c0_i32_34
  let v75 : BitVec 1 := Scalar.andi v73 v74
  let true_36 : BitVec 1 := 1#1
  let v78 : BitVec 1 := Scalar.xori v75 true_36
  let v79 : BitVec 32 := Scalar.extui v78
  let c0_i32_37 : BitVec 32 := 0#32
  let v80 : BitVec 1 := Scalar.cmpi .ne v79 c0_i32_37
  v80

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference14Ideal.lean ====
abbrev S1x4096x1024 : Shape := ⟨3, ![1, 4096, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x4096x1024, .f32⟩
  | .hbm, ⟨5, _⟩ => ⟨S1x4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1x4096x1024, .f32⟩
  | .hbm, ⟨34, _⟩ => ⟨S_, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x4096x1024, .f32⟩
  | .hbm, ⟨69, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel15.lean ====
abbrev S1x4096x5632 : Shape := ⟨3, ![1, 4096, 5632]⟩
abbrev S3x5632 : Shape := ⟨2, ![3, 5632]⟩
abbrev S1x5632 : Shape := ⟨2, ![1, 5632]⟩
abbrev S1x4096x2816 : Shape := ⟨3, ![1, 4096, 2816]⟩
abbrev S4096x5632 : Shape := ⟨2, ![4096, 5632]⟩
abbrev S16x256x2x2816 : Shape := ⟨4, ![16, 256, 2, 2816]⟩
abbrev S16x8x2x2816 : Shape := ⟨4, ![16, 8, 2, 2816]⟩
abbrev S2x16x8x2816 : Shape := ⟨4, ![2, 16, 8, 2816]⟩
abbrev S_ : Shape := ⟨0, ![]⟩
abbrev S2x1x8x2816 : Shape := ⟨4, ![2, 1, 8, 2816]⟩
abbrev S2x15x8x2816 : Shape := ⟨4, ![2, 15, 8, 2816]⟩
abbrev S1x256x2816 : Shape := ⟨3, ![1, 256, 2816]⟩
abbrev S3x2816 : Shape := ⟨2, ![3, 2816]⟩
abbrev S1x2816 : Shape := ⟨2, ![1, 2816]⟩
abbrev S1x1x8x2816 : Shape := ⟨4, ![1, 1, 8, 2816]⟩
abbrev S1x256x1408 : Shape := ⟨3, ![1, 256, 1408]⟩
abbrev S8x2816 : Shape := ⟨2, ![8, 2816]⟩
abbrev S256x2816 : Shape := ⟨2, ![256, 2816]⟩
abbrev S256x1408 : Shape := ⟨2, ![256, 1408]⟩
abbrev S2816 : Shape := ⟨1, ![2816]⟩
abbrev S264x2816 : Shape := ⟨2, ![264, 2816]⟩
abbrev S248x2816 : Shape := ⟨2, ![248, 2816]⟩

abbrev nBuf : Space → Nat
  | .hbm => 15
  | .vmem => 17
  | .smem => 0
  | _ => 0

abbrev bufTy : (tb : Table) → Fin (tcTables nBuf tb) → BufTy
  | .hbm, ⟨0, _⟩ => ⟨S1x4096x5632, .f32⟩
  | .hbm, ⟨1, _⟩ => ⟨S3x5632, .f32⟩
  | .hbm, ⟨2, _⟩ => ⟨S1x5632, .f32⟩
  | .hbm, ⟨3, _⟩ => ⟨S1x4096x2816, .f32⟩
  | .hbm, ⟨4, _⟩ => ⟨S4096x5632, .f32⟩
  | .hbm, ⟨5, _⟩ => ⟨S16x256x2x2816, .f32⟩
  | .hbm, ⟨6, _⟩ => ⟨S16x8x2x2816, .f32⟩
  | .hbm, ⟨7, _⟩ => ⟨S2x16x8x2816, .f32⟩
  | .hbm, ⟨8, _⟩ => ⟨S_, .f32⟩
  | .hbm, ⟨9, _⟩ => ⟨S2x1x8x2816, .f32⟩
  | .hbm, ⟨10, _⟩ => ⟨S2x15x8x2816, .f32⟩
  | .hbm, ⟨11, _⟩ => ⟨S2x16x8x2816, .f32⟩
  | .hbm, ⟨12, _⟩ => ⟨S1x4096x5632, .bf16⟩
  | .hbm, ⟨13, _⟩ => ⟨S3x5632, .f32⟩
  | .hbm, ⟨14, _⟩ => ⟨S1x5632, .f32⟩
  | .local _ .vmem, ⟨0, _⟩ => ⟨S1x256x2816, .f32⟩
  | .local _ .vmem, ⟨1, _⟩ => ⟨S1x256x2816, .f32⟩
  | .local _ .vmem, ⟨2, _⟩ => ⟨S3x2816, .f32⟩
  | .local _ .vmem, ⟨3, _⟩ => ⟨S3x2816, .f32⟩
  | .local _ .vmem, ⟨4, _⟩ => ⟨S1x2816, .f32⟩
  | .local _ .vmem, ⟨5, _⟩ => ⟨S1x2816, .f32⟩
  | .local _ .vmem, ⟨6, _⟩ => ⟨S1x1x8x2816, .f32⟩
  | .local _ .vmem, ⟨7, _⟩ => ⟨S1x1x8x2816, .f32⟩
  | .local _ .vmem, ⟨8, _⟩ => ⟨S1x256x1408, .f32⟩
  | .local _ .vmem, ⟨9, _⟩ => ⟨S1x256x1408, .f32⟩
  | .local _ .vmem, ⟨10, _⟩ => ⟨S1x256x2816, .bf16⟩
  | .local _ .vmem, ⟨11, _⟩ => ⟨S1x256x2816, .bf16⟩
  | .local _ .vmem, ⟨12, _⟩ => ⟨S3x2816, .f32⟩
  | .local _ .vmem, ⟨13, _⟩ => ⟨S3x2816, .f32⟩
  | .local _ .vmem, ⟨14, _⟩ => ⟨S1x2816, .f32⟩
  | .local _ .vmem, ⟨15, _⟩ => ⟨S1x2816, .f32⟩
  | .local _ .vmem, ⟨16, _⟩ => ⟨S8x2816, .f32⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c0_i32_56 : BitVec 32 := 0#32
  let v150 : BitVec 1 := Scalar.cmpi .eq arg1 c0_i32_56
  let v151 : BitVec 32 := Scalar.extui v150
  let c0_i32_57 : BitVec 32 := 0#32
  let v152 : BitVec 1 := Scalar.cmpi .ne v151 c0_i32_57
  v152

def k0_cond3 (i : grid0.Coords) : BitVec 1 :=
  let arg1 : BitVec 32 := BitVec.ofNat 32 (i 1).val
  let c0_i32_56 : BitVec 32 := 0#32
  let v150 : BitVec 1 := Scalar.cmpi .eq arg1 c0_i32_56
  let v_true : BitVec 1 := 1#1
  let v153 : BitVec 1 := Scalar.xori v150 v_true
  let v154 : BitVec 32 := Scalar.extui v153
  let c0_i32_58 : BitVec 32 := 0#32
  let v155 : BitVec 1 := Scalar.cmpi .ne v154 c0_i32_58
  v155

def k0_cond4 (i : grid0.Coords) : BitVec 1 :=
  let arg1 : BitVec 32 := BitVec.ofNat 32 (i 1).val
  let c0_i32_59 : BitVec 32 := 0#32
  let v156 : BitVec 1 := Scalar.cmpi .eq arg1 c0_i32_59
  let v157 : BitVec 32 := Scalar.extui v156
  let c0_i32_60 : BitVec 32 := 0#32
  let v158 : BitVec 1 := Scalar.cmpi .ne v157 c0_i32_60
  v158

def k0_cond5 (i : grid0.Coords) : BitVec 1 :=
  let arg1 : BitVec 32 := BitVec.ofNat 32 (i 1).val
  let c0_i32_59 : BitVec 32 := 0#32
  let v156 : BitVec 1 := Scalar.cmpi .eq arg1 c0_i32_59
  let true_61 : BitVec 1 := 1#1
  let v159 : BitVec 1 := Scalar.xori v156 true_61
  let v160 : BitVec 32 := Scalar.extui v159
  let c0_i32_62 : BitVec 32 := 0#32
  let v161 : BitVec 1 := Scalar.cmpi .ne v160 c0_i32_62
  v161

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference15Ideal.lean ====
abbrev S1x4096x5632 : Shape := ⟨3, ![1, 4096, 5632]⟩
abbrev S3x5632 : Shape := ⟨2, ![3, 5632]⟩
abbrev S1x5632 : Shape := ⟨2, ![1, 5632]⟩
abbrev S1x4096x2816 : Shape := ⟨3, ![1, 4096, 2816]⟩
abbrev S4096x5632 : Shape := ⟨2, ![4096, 5632]⟩
abbrev S4096x1408 : Shape := ⟨2, ![4096, 1408]⟩
abbrev S3x1408 : Shape := ⟨2, ![3, 1408]⟩
abbrev S5632 : Shape := ⟨1, ![5632]⟩
abbrev S1408 : Shape := ⟨1, ![1408]⟩
abbrev S_ : Shape := ⟨0, ![]⟩
abbrev S2x5632 : Shape := ⟨2, ![2, 5632]⟩
abbrev S4098x5632 : Shape := ⟨2, ![4098, 5632]⟩
abbrev S4096x2816 : Shape := ⟨2, ![4096, 2816]⟩

abbrev nBuf : Space → Nat
  | .hbm => 176
  | .vmem => 0
  | .smem => 0
  | _ => 0

abbrev hbmTy0_0 (i : Nat) : BufTy := match i % 128 with
  | 0 => ⟨S1x4096x5632, .f32⟩
  | 1 => ⟨S3x5632, .f32⟩
  | 2 => ⟨S1x5632, .f32⟩
  | 3 => ⟨S1x4096x2816, .f32⟩
  | 4 => ⟨S4096x5632, .f32⟩
  | 5 => ⟨S4096x1408, .f32⟩
  | 6 => ⟨S4096x1408, .f32⟩
  | 7 => ⟨S4096x1408, .f32⟩
  | 8 => ⟨S4096x1408, .f32⟩
  | 9 => ⟨S4096x5632, .f32⟩
  | 10 => ⟨S3x1408, .f32⟩
  | 11 => ⟨S3x1408, .f32⟩
  | 12 => ⟨S3x1408, .f32⟩
  | 13 => ⟨S3x1408, .f32⟩
  | 14 => ⟨S3x5632, .f32⟩
  | 15 => ⟨S5632, .f32⟩
  | 16 => ⟨S1408, .f32⟩
  | 17 => ⟨S1408, .f32⟩
  | 18 => ⟨S1408, .f32⟩
  | 19 => ⟨S1408, .f32⟩
  | 20 => ⟨S5632, .f32⟩
  | 21 => ⟨S_, .f32⟩
  | 22 => ⟨S2x5632, .f32⟩
  | 23 => ⟨S4098x5632, .f32⟩
  | 24 => ⟨S_, .f32⟩
  | 25 => ⟨S2x5632, .f32⟩
  | 26 => ⟨S1x5632, .f32⟩
  | 27 => ⟨S5632, .f32⟩
  | 28 => ⟨S4096x5632, .f32⟩
  | 29 => ⟨S1x5632, .f32⟩
  | 30 => ⟨S4096x5632, .f32⟩
  | 31 => ⟨S4096x5632, .f32⟩
  | 32 => ⟨S_, .f32⟩
  | 33 => ⟨S4096x5632, .f32⟩
  | 34 => ⟨S4096x5632, .f32⟩
  | 35 => ⟨S1x5632, .f32⟩
  | 36 => ⟨S5632, .f32⟩
  | 37 => ⟨S4096x5632, .f32⟩
  | 38 => ⟨S1x5632, .f32⟩
  | 39 => ⟨S4096x5632, .f32⟩
  | 40 => ⟨S4096x5632, .f32⟩
  | 41 => ⟨S4096x5632, .f32⟩
  | 42 => ⟨S1x5632, .f32⟩
  | 43 => ⟨S5632, .f32⟩
  | 44 => ⟨S4096x5632, .f32⟩
  | 45 => ⟨S1x5632, .f32⟩
  | 46 => ⟨S4096x5632, .f32⟩
  | 47 => ⟨S4096x5632, .f32⟩
  | 48 => ⟨S4096x5632, .f32⟩
  | 49 => ⟨S1x5632, .f32⟩
  | 50 => ⟨S4096x5632, .f32⟩
  | 51 => ⟨S4096x5632, .f32⟩
  | 52 => ⟨S4096x2816, .f32⟩
  | 53 => ⟨S4096x2816, .f32⟩
  | 54 => ⟨S4096x2816, .f32⟩
  | 55 => ⟨S4096x2816, .f32⟩
  | 56 => ⟨S_, .f32⟩
  | 57 => ⟨S4096x2816, .f32⟩
  | 58 => ⟨S4096x2816, .f32⟩
  | 59 => ⟨S_, .f32⟩
  | 60 => ⟨S4096x2816, .f32⟩
  | 61 => ⟨S4096x2816, .f32⟩
  | 62 => ⟨S_, .f32⟩
  | 63 => ⟨S4096x2816, .f32⟩
  | 64 => ⟨S4096x2816, .f32⟩
  | 65 => ⟨S4096x2816, .f32⟩
  | 66 => ⟨S4096x2816, .f32⟩
  | 67 => ⟨S4096x2816, .f32⟩
  | 68 => ⟨S1x4096x2816, .f32⟩
  | 69 => ⟨S_, .f32⟩
  | 70 => ⟨S4096x2816, .f32⟩
  | 71 => ⟨S4096x2816, .f32⟩
  | 72 => ⟨S4096x2816, .f32⟩
  | 73 => ⟨S4096x2816, .f32⟩
  | 74 => ⟨S4096x2816, .f32⟩
  | 75 => ⟨S4096x2816, .f32⟩
  | 76 => ⟨S4096x2816, .f32⟩
  | 77 => ⟨S4096x5632, .f32⟩
  | 78 => ⟨S_, .f32⟩
  | 79 => ⟨S5632, .f32⟩
  | 80 => ⟨S1x5632, .f32⟩
  | 81 => ⟨S_, .f32⟩
  | 82 => ⟨S5632, .f32⟩
  | 83 => ⟨S4096x5632, .f32⟩
  | 84 => ⟨S4096x5632, .f32⟩
  | 85 => ⟨S4096x5632, .f32⟩
  | 86 => ⟨S_, .f32⟩
  | 87 => ⟨S5632, .f32⟩
  | 88 => ⟨S1x5632, .f32⟩
  | 89 => ⟨S_, .f32⟩
  | 90 => ⟨S5632, .f32⟩
  | 91 => ⟨S_, .f32⟩
  | 92 => ⟨S4098x5632, .f32⟩
  | 93 => ⟨S1x5632, .f32⟩
  | 94 => ⟨S_, .f32⟩
  | 95 => ⟨S3x5632, .f32⟩
  | 96 => ⟨S4096x5632, .f32⟩
  | 97 => ⟨S4096x5632, .f32⟩
  | 98 => ⟨S4096x5632, .f32⟩
  | 99 => ⟨S_, .f32⟩
  | 100 => ⟨S5632, .f32⟩
  | 101 => ⟨S1x5632, .f32⟩
  | 102 => ⟨S_, .f32⟩
  | 103 => ⟨S5632, .f32⟩
  | 104 => ⟨S_, .f32⟩
  | 105 => ⟨S4098x5632, .f32⟩
  | 106 => ⟨S4098x5632, .f32⟩
  | 107 => ⟨S1x5632, .f32⟩
  | 108 => ⟨S_, .f32⟩
  | 109 => ⟨S3x5632, .f32⟩
  | 110 => ⟨S3x5632, .f32⟩
  | 111 => ⟨S4096x5632, .f32⟩
  | 112 => ⟨S4096x5632, .f32⟩
  | 113 => ⟨S4096x5632, .f32⟩
  | 114 => ⟨S_, .f32⟩
  | 115 => ⟨S5632, .f32⟩
  | 116 => ⟨S1x5632, .f32⟩
  | 117 => ⟨S_, .f32⟩
  | 118 => ⟨S5632, .f32⟩
  | 119 => ⟨S_, .f32⟩
  | 120 => ⟨S4098x5632, .f32⟩
  | 121 => ⟨S4098x5632, .f32⟩
  | 122 => ⟨S1x5632, .f32⟩
  | 123 => ⟨S_, .f32⟩
  | 124 => ⟨S3x5632, .f32⟩
  | 125 => ⟨S3x5632, .f32⟩
  | 126 => ⟨S2x5632, .f32⟩
  | 127 => ⟨S4096x5632, .f32⟩
  | _ => ⟨S1x4096x5632, .f32⟩

abbrev hbmTy0_1 (i : Nat) : BufTy := match i % 128 with
  | 0 => ⟨S1408, .f32⟩
  | 1 => ⟨S1408, .f32⟩
  | 2 => ⟨S1408, .f32⟩
  | 3 => ⟨S1408, .f32⟩
  | 4 => ⟨S_, .f32⟩
  | 5 => ⟨S5632, .f32⟩
  | 6 => ⟨S_, .f32⟩
  | 7 => ⟨S5632, .f32⟩
  | 8 => ⟨S5632, .f32⟩
  | 9 => ⟨S_, .f32⟩
  | 10 => ⟨S5632, .f32⟩
  | 11 => ⟨S5632, .f32⟩
  | 12 => ⟨S_, .f32⟩
  | 13 => ⟨S5632, .f32⟩
  | 14 => ⟨S5632, .f32⟩
  | 15 => ⟨S1x5632, .f32⟩
  | 16 => ⟨S3x1408, .f32⟩
  | 17 => ⟨S3x1408, .f32⟩
  | 18 => ⟨S3x1408, .f32⟩
  | 19 => ⟨S3x1408, .f32⟩
  | 20 => ⟨S_, .f32⟩
  | 21 => ⟨S3x5632, .f32⟩
  | 22 => ⟨S_, .f32⟩
  | 23 => ⟨S3x5632, .f32⟩
  | 24 => ⟨S3x5632, .f32⟩
  | 25 => ⟨S_, .f32⟩
  | 26 => ⟨S3x5632, .f32⟩
  | 27 => ⟨S3x5632, .f32⟩
  | 28 => ⟨S_, .f32⟩
  | 29 => ⟨S3x5632, .f32⟩
  | 30 => ⟨S3x5632, .f32⟩
  | 31 => ⟨S4096x1408, .f32⟩
  | 32 => ⟨S4096x1408, .f32⟩
  | 33 => ⟨S4096x1408, .f32⟩
  | 34 => ⟨S4096x1408, .f32⟩
  | 35 => ⟨S_, .f32⟩
  | 36 => ⟨S4096x5632, .f32⟩
  | 37 => ⟨S_, .f32⟩
  | 38 => ⟨S4096x5632, .f32⟩
  | 39 => ⟨S4096x5632, .f32⟩
  | 40 => ⟨S_, .f32⟩
  | 41 => ⟨S4096x5632, .f32⟩
  | 42 => ⟨S4096x5632, .f32⟩
  | 43 => ⟨S_, .f32⟩
  | 44 => ⟨S4096x5632, .f32⟩
  | 45 => ⟨S4096x5632, .f32⟩
  | 46 => ⟨S1x4096x5632, .f32⟩
  | 47 => ⟨S1x4096x5632, .bf16⟩
  | _ => ⟨S1x4096x5632, .f32⟩

abbrev hbmTy (i : Nat) : BufTy := match i / 128 with
  | 0 => hbmTy0_0 i
  | 1 => hbmTy0_1 i
  | _ => ⟨S1x4096x5632, .f32⟩

abbrev bufTy : (tb : Table) → Fin (tcTables nBuf tb) → BufTy
  | .hbm, ⟨i, _⟩ => hbmTy i
  | _, _ => ⟨S1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v47_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v47_1 : Ref sig .tc := ⟨.hbm, 65, rfl⟩
abbrev main_v47_0 : Ref sig .tc := ⟨.hbm, 66, rfl⟩
abbrev main_v48 : Ref sig .tc := ⟨.hbm, 67, rfl⟩
abbrev main_v49 : Ref sig .tc := ⟨.hbm, 68, rfl⟩
abbrev main_cst_2 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v53 : Ref sig .tc := ⟨.hbm, 76, rfl⟩
abbrev main_v54 : Ref sig .tc := ⟨.hbm, 77, rfl⟩
abbrev main_cst_3 : Ref sig .tc := ⟨.hbm, 78, rfl⟩
abbrev main_v55 : Ref sig .tc := ⟨.hbm, 79, rfl⟩
abbrev main_v56 : Ref sig .tc := ⟨.hbm, 80, rfl⟩
abbrev main_cst_4 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_5 : Ref sig .tc := ⟨.hbm, 86, rfl⟩
abbrev main_v61 : Ref sig .tc := ⟨.hbm, 87, rfl⟩
abbrev main_v62 : Ref sig .tc := ⟨.hbm, 88, rfl⟩
abbrev main_cst_6 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_v65 : Ref sig .tc := ⟨.hbm, 93, rfl⟩
abbrev main_cst_8 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_9 : Ref sig .tc := ⟨.hbm, 99, rfl⟩
abbrev main_v70 : Ref sig .tc := ⟨.hbm, 100, rfl⟩
abbrev main_v71 : Ref sig .tc := ⟨.hbm, 101, rfl⟩
abbrev main_cst_10 : Ref sig .tc := ⟨.hbm, 102, rfl⟩
abbrev main_v72 : Ref sig .tc := ⟨.hbm, 103, rfl⟩
abbrev main_cst_11 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_12 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_13 : Ref sig .tc := ⟨.hbm, 114, rfl⟩
abbrev main_v81 : Ref sig .tc := ⟨.hbm, 115, rfl⟩
abbrev main_v82 : Ref sig .tc := ⟨.hbm, 116, rfl⟩
abbrev main_cst_14 : Ref sig .tc := ⟨.hbm, 117, rfl⟩
abbrev main_v83 : Ref sig .tc := ⟨.hbm, 118, rfl⟩
abbrev main_cst_15 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_cst_18 : Ref sig .tc := ⟨.hbm, 134, rfl⟩
abbrev main_v96 : Ref sig .tc := ⟨.hbm, 135, rfl⟩
abbrev main_v97 : Ref sig .tc := ⟨.hbm, 136, rfl⟩
abbrev main_cst_19 : Ref sig .tc := ⟨.hbm, 137, rfl⟩
abbrev main_v98 : Ref sig .tc := ⟨.hbm, 138, rfl⟩
abbrev main_v99 : Ref sig .tc := ⟨.hbm, 139, rfl⟩
abbrev main_cst_20 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_21 : Ref sig .tc := ⟨.hbm, 148, rfl⟩
abbrev main_v107 : Ref sig .tc := ⟨.hbm, 149, rfl⟩
abbrev main_cst_22 : Ref sig .tc := ⟨.hbm, 150, rfl⟩
abbrev main_v108 : Ref sig .tc := ⟨.hbm, 151, rfl⟩
abbrev main_v109 : Ref sig .tc := ⟨.hbm, 152, rfl⟩
abbrev main_cst_23 : Ref sig .tc := ⟨.hbm, 153, rfl⟩
abbrev main_v110 : Ref sig .tc := ⟨.hbm, 154, rfl⟩
abbrev main_v111 : Ref sig .tc := ⟨.hbm, 155, rfl⟩
abbrev main_cst_24 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_25 : Ref sig .tc := ⟨.hbm, 163, rfl⟩
abbrev main_v118 : Ref sig .tc := ⟨.hbm, 164, rfl⟩
abbrev main_cst_26 : Ref sig .tc := ⟨.hbm, 165, rfl⟩
abbrev main_v119 : Ref sig .tc := ⟨.hbm, 166, rfl⟩
abbrev main_v120 : Ref sig .tc := ⟨.hbm, 167, rfl⟩
abbrev main_cst_27 : Ref sig .tc := ⟨.hbm, 168, rfl⟩
abbrev main_v121 : Ref sig .tc := ⟨.hbm, 169, rfl⟩
abbrev main_v122 : Ref sig .tc := ⟨.hbm, 170, rfl⟩
abbrev main_cst_28 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference16Ideal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel17.lean ====
abbrev S1x4096x5632 : Shape := ⟨3, ![1, 4096, 5632]⟩
abbrev S3x5632 : Shape := ⟨2, ![3, 5632]⟩
abbrev S1x5632 : Shape := ⟨2, ![1, 5632]⟩
abbrev S2816x1024 : Shape := ⟨2, ![2816, 1024]⟩
abbrev S4096x1024 : Shape := ⟨2, ![4096, 1024]⟩
abbrev S1x1024 : Shape := ⟨2, ![1, 1024]⟩
abbrev S1x4096x2816 : Shape := ⟨3, ![1, 4096, 2816]⟩
abbrev S2x16x8x2816 : Shape := ⟨4, ![2, 16, 8, 2816]⟩
abbrev S1x256x2816 : Shape := ⟨3, ![1, 256, 2816]⟩
abbrev S3x2816 : Shape := ⟨2, ![3, 2816]⟩
abbrev S1x2816 : Shape := ⟨2, ![1, 2816]⟩
abbrev S1408x1024 : Shape := ⟨2, ![1408, 1024]⟩
abbrev S256x1024 : Shape := ⟨2, ![256, 1024]⟩
abbrev S1x256x1408 : Shape := ⟨3, ![1, 256, 1408]⟩
abbrev S1x1x8x2816 : Shape := ⟨4, ![1, 1, 8, 2816]⟩
abbrev S2x8x2816 : Shape := ⟨3, ![2, 8, 2816]⟩
abbrev S8x2816 : Shape := ⟨2, ![8, 2816]⟩
abbrev S1x8x2816 : Shape := ⟨3, ![1, 8, 2816]⟩
abbrev S256x2816 : Shape := ⟨2, ![256, 2816]⟩
abbrev S2816 : Shape := ⟨1, ![2816]⟩
abbrev S264x2816 : Shape := ⟨2, ![264, 2816]⟩
abbrev S256x1408 : Shape := ⟨2, ![256, 1408]⟩

abbrev nBuf : Space → Nat
  | .hbm => 10
  | .vmem => 21
  | .smem => 0
  | _ => 0

abbrev bufTy : (tb : Table) → Fin (tcTables nBuf tb) → BufTy
  | .hbm, ⟨0, _⟩ => ⟨S1x4096x5632, .f32⟩
  | .hbm, ⟨1, _⟩ => ⟨S3x5632, .f32⟩
  | .hbm, ⟨2, _⟩ => ⟨S1x5632, .f32⟩
  | .hbm, ⟨3, _⟩ => ⟨S2816x1024, .bf16⟩
  | .hbm, ⟨4, _⟩ => ⟨S4096x1024, .f32⟩
  | .hbm, ⟨5, _⟩ => ⟨S1x1024, .f32⟩
  | .hbm, ⟨6, _⟩ => ⟨S1x4096x2816, .bf16⟩
  | .hbm, ⟨7, _⟩ => ⟨S2x16x8x2816, .f32⟩
  | .hbm, ⟨8, _⟩ => ⟨S4096x1024, .f32⟩
  | .hbm, ⟨9, _⟩ => ⟨S4096x1024, .f32⟩
  | .local _ .vmem, ⟨0, _⟩ => ⟨S1x256x2816, .f32⟩
  | .local _ .vmem, ⟨1, _⟩ => ⟨S1x256x2816, .f32⟩
  | .local _ .vmem, ⟨2, _⟩ => ⟨S3x2816, .f32⟩
  | .local _ .vmem, ⟨3, _⟩ => ⟨S3x2816, .f32⟩
  | .local _ .vmem, ⟨4, _⟩ => ⟨S1x2816, .f32⟩
  | .local _ .vmem, ⟨5, _⟩ => ⟨S1x2816, .f32⟩
  | .local _ .vmem, ⟨6, _⟩ => ⟨S1408x1024, .bf16⟩
  | .local _ .vmem, ⟨7, _⟩ => ⟨S1408x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x256x1408, .bf16⟩
  | .local _ .vmem, ⟨12, _⟩ => ⟨S1x256x1408, .bf16⟩
  | .local _ .vmem, ⟨13, _⟩ => ⟨S1x1x8x2816, .f32⟩
  | .local _ .vmem, ⟨14, _⟩ => ⟨S1x1x8x2816, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S2x8x2816, .f32⟩
  | .local _ .vmem, ⟨20, _⟩ => ⟨S256x1024, .f32⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v80 : Index := Scalar.indexCast arg1
  let c0_37 : Index := 0#32
  let c0_38 : Index := 0#32
  ![v80.toNat, 0, 0]
def k0_off2 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_cond3 (i : grid0.Coords) : BitVec 1 :=
  let arg1 : BitVec 32 := BitVec.ofNat 32 (i 1).val
  let c1_i32_34 : BitVec 32 := 1#32
  let v76 : BitVec 1 := Scalar.cmpi .eq arg1 c1_i32_34
  let v77 : BitVec 32 := Scalar.extui v76
  let c0_i32_35 : BitVec 32 := 0#32
  let v78 : BitVec 1 := Scalar.cmpi .ne v77 c0_i32_35
  v78

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference17Ideal.lean ====
abbrev S1x4096x5632 : Shape := ⟨3, ![1, 4096, 5632]⟩
abbrev S3x5632 : Shape := ⟨2, ![3, 5632]⟩
abbrev S1x5632 : Shape := ⟨2, ![1, 5632]⟩
abbrev S2816x1024 : Shape := ⟨2, ![2816, 1024]⟩
abbrev S4096x1024 : Shape := ⟨2, ![4096, 1024]⟩
abbrev S1x1024 : Shape := ⟨2, ![1, 1024]⟩
abbrev S4096x5632 : Shape := ⟨2, ![4096, 5632]⟩
abbrev S4096x1408 : Shape := ⟨2, ![4096, 1408]⟩
abbrev S3x1408 : Shape := ⟨2, ![3, 1408]⟩
abbrev S5632 : Shape := ⟨1, ![5632]⟩
abbrev S1408 : Shape := ⟨1, ![1408]⟩
abbrev S_ : Shape := ⟨0, ![]⟩
abbrev S2x5632 : Shape := ⟨2, ![2, 5632]⟩
abbrev S4098x5632 : Shape := ⟨2, ![4098, 5632]⟩
abbrev S4096x2816 : Shape := ⟨2, ![4096, 2816]⟩
abbrev S1x4096x2816 : Shape := ⟨3, ![1, 4096, 2816]⟩

abbrev nBuf : Space → Nat
  | .hbm => 71
  | .vmem => 0
  | .smem => 0
  | _ => 0

abbrev bufTy : (tb : Table) → Fin (tcTables nBuf tb) → BufTy
  | .hbm, ⟨0, _⟩ => ⟨S1x4096x5632, .f32⟩
  | .hbm, ⟨1, _⟩ => ⟨S3x5632, .f32⟩
  | .hbm, ⟨2, _⟩ => ⟨S1x5632, .f32⟩
  | .hbm, ⟨3, _⟩ => ⟨S2816x1024, .bf16⟩
  | .hbm, ⟨4, _⟩ => ⟨S4096x1024, .f32⟩
  | .hbm, ⟨5, _⟩ => ⟨S1x1024, .f32⟩
  | .hbm, ⟨6, _⟩ => ⟨S4096x5632, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x5632, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S3x1408, .f32⟩
  | .hbm, ⟨16, _⟩ => ⟨S3x5632, .f32⟩
  | .hbm, ⟨17, _⟩ => ⟨S5632, .f32⟩
  | .hbm, ⟨18, _⟩ => ⟨S1408, .f32⟩
  | .hbm, ⟨19, _⟩ => ⟨S1408, .f32⟩
  | .hbm, ⟨20, _⟩ => ⟨S1408, .f32⟩
  | .hbm, ⟨21, _⟩ => ⟨S1408, .f32⟩
  | .hbm, ⟨22, _⟩ => ⟨S5632, .f32⟩
  | .hbm, ⟨23, _⟩ => ⟨S_, .f32⟩
  | .hbm, ⟨24, _⟩ => ⟨S2x5632, .f32⟩
  | .hbm, ⟨25, _⟩ => ⟨S4098x5632, .f32⟩
  | .hbm, ⟨26, _⟩ => ⟨S1x5632, .f32⟩
  | .hbm, ⟨27, _⟩ => ⟨S5632, .f32⟩
  | .hbm, ⟨28, _⟩ => ⟨S4096x5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S1x5632, .f32⟩
  | .hbm, ⟨36, _⟩ => ⟨S5632, .f32⟩
  | .hbm, ⟨37, _⟩ => ⟨S4096x5632, .f32⟩
  | .hbm, ⟨38, _⟩ => ⟨S1x5632, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S1x5632, .f32⟩
  | .hbm, ⟨43, _⟩ => ⟨S5632, .f32⟩
  | .hbm, ⟨44, _⟩ => ⟨S4096x5632, .f32⟩
  | .hbm, ⟨45, _⟩ => ⟨S1x5632, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S1x5632, .f32⟩
  | .hbm, ⟨50, _⟩ => ⟨S4096x5632, .f32⟩
  | .hbm, ⟨51, _⟩ => ⟨S4096x5632, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S_, .f32⟩
  | .hbm, ⟨57, _⟩ => ⟨S4096x2816, .f32⟩
  | .hbm, ⟨58, _⟩ => ⟨S4096x2816, .f32⟩
  | .hbm, ⟨59, _⟩ => ⟨S_, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S2816x1024, .f32⟩
  | .hbm, ⟨65, _⟩ => ⟨S4096x1024, .f32⟩
  | .hbm, ⟨66, _⟩ => ⟨S1x4096x2816, .f32⟩
  | .hbm, ⟨67, _⟩ => ⟨S1x4096x2816, .bf16⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel18.lean ====
abbrev S1x4096x1024 : Shape := ⟨3, ![1, 4096, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x512x1024, .bf16⟩
  | .local _ .vmem, ⟨6, _⟩ => ⟨S1x512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference18Ideal.lean ====
abbrev S1x4096x1024 : Shape := ⟨3, ![1, 4096, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x4096x1024, .f32⟩
  | .hbm, ⟨28, _⟩ => ⟨S1x4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Attn.Row.lean ====
/-
  One row of causal windowed attention and of its gradient, over the extended reals.

  A row has a query, 256 keys and values (the block before and its own block), a set of keys it may see, and the two
  cotangents that reach it: one of its output, one of its log-sum-exp. The definitions say what each intermediate is;
  the theorems say that over finite inputs the total weight is a positive real, and that the cotangent of the row's
  maximum is zero.
-/
module

public import Mathlib.Tactic.Ring
public import Mathlib.Tactic.FieldSimp
public import Idealize.ShloMosaic.Lib.Pointwise
public import Idealize.ShloMosaic.PureOps.Ideal.Laws
public import Idealize.ShloMosaic.Lib.IdealHost

@[expose] public section

noncomputable section

namespace Cert.Attn

open Idealize.ShloMosaic

/-- The score scale, one eighth, as the programs write it. -/
def eighth : EReal := Ideal.ofBits .f32 0x3E000000#32

/-- The score scale is a real number. -/
theorem eighth_real : ∃ x : ℝ, eighth = (x : EReal) :=
  ⟨1 / 8, by unfold eighth; simp [Ideal.ofBits, Ideal.ieee, -EReal.coe_mul]; norm_num⟩

variable {ι κ : Type} [Fintype ι] [Fintype κ]

/-- The score of a key: the scaled product with the query where the key is seen, minus infinity elsewhere. -/
def rowScore (q : ι → EReal) (k : κ → ι → EReal) (ok : κ → Prop) [DecidablePred ok] (c : κ) : EReal :=
  if ok c then (∑ e, q e * k c e) * eighth else ⊥

/-- The largest score of a row. -/
def rowTop (s : κ → EReal) : EReal := Finset.univ.fold max ⊥ s

/-- The weight of a key before it is divided by the total. -/
def rowWeight (s : κ → EReal) (c : κ) : EReal := Ideal.exp (s c - rowTop s)

/-- The total weight of a row. -/
def rowTotal (s : κ → EReal) : EReal := ∑ c, rowWeight s c

/-- The weighted sum of the values before it is divided by the total. -/
def rowNum (s : κ → EReal) (v : κ → ι → EReal) (e : ι) : EReal := ∑ c, rowWeight s c * v c e

/-- The cotangent of the weighted sum. -/
def rowDNum (s : κ → EReal) (d : ι → EReal) (e : ι) : EReal := Ideal.div (d e) (rowTotal s)

/-- The cotangent of the total weight, `t` being that of the row's log-sum-exp. -/
def rowDTotal (s : κ → EReal) (v : κ → ι → EReal) (d : ι → EReal) (t : EReal) : EReal :=
  Ideal.div t (rowTotal s) + -(∑ e, d e * Ideal.div 1 (rowTotal s * rowTotal s) * rowNum s v e)

/-- The cotangent of a key's weight. -/
def rowDWeight (s : κ → EReal) (v : κ → ι → EReal) (d : ι → EReal) (t : EReal) (c : κ) : EReal :=
  (∑ e, rowDNum s d e * v c e) + rowDTotal s v d t

/-- The cotangent of a key's product with the query. -/
def rowDScore (ok : κ → Prop) [DecidablePred ok] (s : κ → EReal) (v : κ → ι → EReal) (d : ι → EReal) (t : EReal)
    (c : κ) : EReal :=
  (if ok c then rowDWeight s v d t c * rowWeight s c else 0) * eighth

/-- Any extended real whose magnitude is below infinity is a real number. -/
theorem real_of_finite {x : EReal} (h : x ≠ ⊤ ∧ x ≠ ⊥) : ∃ r : ℝ, x = (r : EReal) :=
  ⟨x.toReal, (EReal.coe_toReal h.1 h.2).symm⟩

/-- A finite sum of reals is the real sum. -/
theorem sum_coe {α : Type} (t : Finset α) (f : α → ℝ) : (∑ a ∈ t, (f a : EReal)) = ((∑ a ∈ t, f a : ℝ) : EReal) := by
  classical
  induction t using Finset.induction_on with
  | empty => simp
  | insert a t ha ih => rw [Finset.sum_insert ha, Finset.sum_insert ha, ih, EReal.coe_add]

/-- The largest score is an upper bound of the scores. -/
theorem le_rowTop (s : κ → EReal) (c : κ) : s c ≤ rowTop s := by
  unfold rowTop
  exact (Finset.le_fold_max _).mpr (Or.inr ⟨c, Finset.mem_univ c, le_rfl⟩)

/-- A fold of maxima from minus infinity is minus infinity or one of its terms. -/
theorem rowTop_attained (s : κ → EReal) : rowTop s = ⊥ ∨ ∃ c, rowTop s = s c := by
  classical
  unfold rowTop
  generalize (Finset.univ : Finset κ) = t
  induction t using Finset.induction_on with
  | empty => exact Or.inl (by simp)
  | insert a t ha ih =>
    rw [Finset.fold_insert ha]
    rcases max_choice (s a) (t.fold max ⊥ s) with h | h
    · exact Or.inr ⟨a, h⟩
    · rw [h]; exact ih

section Finite

variable (q : ι → EReal) (k : κ → ι → EReal) (ok : κ → Prop) [DecidablePred ok]

/-- Over finite queries and keys, with some key seen, the scores and their maximum are real where seen: the weights are
    reals, nonnegative, and their total is positive. -/
theorem weights_real (hq : ∀ e, ∃ r : ℝ, q e = r) (hk : ∀ c e, ∃ r : ℝ, k c e = r) (hok : ∃ c, ok c) :
    ∃ p : κ → ℝ, (∀ c, rowWeight (rowScore q k ok) c = (p c : EReal)) ∧ 0 < ∑ c, p c := by
  classical
  choose q' hq' using hq
  choose k' hk' using hk
  obtain ⟨g, hg⟩ := eighth_real
  let s' : κ → ℝ := fun c => (∑ e, q' e * k' c e) * g
  have hs : ∀ c, rowScore q k ok c = if ok c then ((s' c : ℝ) : EReal) else ⊥ := by
    intro c
    unfold rowScore
    by_cases h : ok c
    · rw [if_pos h, if_pos h, hg]
      simp only [hq', hk', ← EReal.coe_mul, sum_coe]
      rfl
    · rw [if_neg h, if_neg h]
  obtain ⟨c0, h0⟩ := hok
  have hm : ∃ m : ℝ, rowTop (rowScore q k ok) = (m : EReal) := by
    rcases rowTop_attained (rowScore q k ok) with h | ⟨c, h⟩
    · have := le_rowTop (rowScore q k ok) c0
      rw [h, hs c0, if_pos h0] at this
      exact absurd this (by simp)
    · by_cases hc : ok c
      · exact ⟨s' c, by rw [h, hs c, if_pos hc]⟩
      · have := le_rowTop (rowScore q k ok) c0
        rw [h, hs c, if_neg hc, hs c0, if_pos h0] at this
        exact absurd this (by simp)
  obtain ⟨m, hm⟩ := hm
  refine ⟨fun c => if ok c then Real.exp (s' c - m) else 0, fun c => ?_, ?_⟩
  · unfold rowWeight
    rw [hm, hs c]
    by_cases h : ok c
    · simp only [if_pos h]
      rw [← EReal.coe_sub]
      rfl
    · simp only [if_neg h]
      rw [EReal.bot_sub]
      rfl
  · refine Finset.sum_pos' (fun c _ => ?_) ⟨c0, Finset.mem_univ _, ?_⟩
    · show (0 : ℝ) ≤ if ok c then Real.exp (s' c - m) else 0
      split
      · exact (Real.exp_pos _).le
      · exact le_rfl
    · show (0 : ℝ) < if ok c0 then Real.exp (s' c0 - m) else 0
      rw [if_pos h0]
      exact Real.exp_pos _

/-- Over finite queries and keys, with some key seen, the total weight is not zero. -/
theorem rowTotal_ne_zero (hq : ∀ e, ∃ r : ℝ, q e = r) (hk : ∀ c e, ∃ r : ℝ, k c e = r) (hok : ∃ c, ok c) :
    rowTotal (rowScore q k ok) ≠ 0 := by
  obtain ⟨p, hp, hpos⟩ := weights_real q k ok hq hk hok
  unfold rowTotal
  simp only [hp, sum_coe]
  exact fun h => hpos.ne' (EReal.coe_eq_zero.mp h)

/-- Over finite inputs, with some key seen, the cotangent of the row's maximum is zero: what the log-sum-exp hands it is
    what the weights take back. -/
theorem rowDTop_zero (v : κ → ι → EReal) (d : ι → EReal) (t : EReal)
    (hq : ∀ e, ∃ r : ℝ, q e = r) (hk : ∀ c e, ∃ r : ℝ, k c e = r) (hok : ∃ c, ok c)
    (hv : ∀ c e, ∃ r : ℝ, v c e = r) (hd : ∀ e, ∃ r : ℝ, d e = r) (ht : ∃ r : ℝ, t = r) :
    t + ∑ c, -(rowDWeight (rowScore q k ok) v d t c * rowWeight (rowScore q k ok) c) = 0 := by
  obtain ⟨p, hp, hpos⟩ := weights_real q k ok hq hk hok
  choose v' hv' using hv
  choose d' hd' using hd
  obtain ⟨t', rfl⟩ := ht
  generalize rowScore q k ok = s at hp
  obtain ⟨l, hl⟩ : ∃ l : ℝ, l = ∑ c, p c := ⟨_, rfl⟩
  rw [← hl] at hpos
  have hl0 : l ≠ 0 := hpos.ne'
  have hll : l * l ≠ 0 := mul_ne_zero hl0 hl0
  have htot : rowTotal s = (l : EReal) := by unfold rowTotal; simp only [hp, sum_coe, hl]
  have hnum : ∀ e, rowNum s v e = ((∑ c, p c * v' c e : ℝ) : EReal) := by
    intro e; unfold rowNum; simp only [hp, hv', ← EReal.coe_mul, sum_coe]
  have hdl : rowDTotal s v d t' = ((t' * (1 / l) + -(∑ e, d' e * (1 * (1 / (l * l))) * ∑ c, p c * v' c e) : ℝ) : EReal) := by
    unfold rowDTotal
    rw [htot]
    simp only [← EReal.coe_mul, Ideal.div_coe hll, Ideal.div_coe hl0, hnum, hd', ← EReal.coe_one, sum_coe, ← EReal.coe_neg,
      ← EReal.coe_add]
  have hdw : ∀ c, rowDWeight s v d t' c * rowWeight s c
      = (((∑ e, d' e * (1 / l) * v' c e + (t' * (1 / l) + -(∑ e, d' e * (1 * (1 / (l * l))) * ∑ c, p c * v' c e))) * p c : ℝ) : EReal) := by
    intro c
    unfold rowDWeight rowDNum
    rw [hdl, htot]
    simp only [Ideal.div_coe hl0, hd', hv', hp, ← EReal.coe_mul, sum_coe, ← EReal.coe_add]
  simp only [hdw, ← EReal.coe_neg, sum_coe, ← EReal.coe_add]
  rw [← EReal.coe_zero]
  congr 1
  rw [Finset.sum_neg_distrib]
  simp only [add_mul]
  rw [Finset.sum_add_distrib, Finset.sum_add_distrib, ← Finset.mul_sum, ← Finset.mul_sum, ← hl]
  have hx : ∑ c, (∑ e, d' e * (1 / l) * v' c e) * p c = (1 / l) * ∑ e, d' e * ∑ c, p c * v' c e := by
    simp only [Finset.sum_mul, Finset.mul_sum]
    rw [Finset.sum_comm]
    exact Finset.sum_congr rfl fun e _ => Finset.sum_congr rfl fun c _ => by ring
  have hy : ∑ e, d' e * (1 * (1 / (l * l))) * ∑ c, p c * v' c e = (1 / (l * l)) * ∑ e, d' e * ∑ c, p c * v' c e := by
    rw [Finset.mul_sum]
    exact Finset.sum_congr rfl fun e _ => by ring
  rw [hx, hy]
  field_simp
  ring

end Finite

end Cert.Attn

end
-- ==== Proof.Attn.Split.lean ====
/-
  How the 256 lanes of a block fall into four heads of 64 lanes, and the 256 keys of a row into the block before and the
  row's own block: sums over the lanes of one head, sums and maxima over the two blocks.
-/
module

public import proofs.«01_k».proof.Proof.Attn.Row

@[expose] public section

noncomputable section

namespace Cert.Attn

open Idealize.ShloMosaic

/-- Lane `e` of head `h`. -/
def lane (h : Fin 4) (e : Fin 64) : Fin 256 := ⟨64 * h.val + e.val, by omega⟩

/-- The head of a lane. -/
def headOf (c : Fin 256) : Fin 4 := ⟨c.val / 64, by omega⟩

/-- The place of a lane in its head. -/
def placeOf (c : Fin 256) : Fin 64 := ⟨c.val % 64, by omega⟩

theorem lane_headOf (c : Fin 256) : lane (headOf c) (placeOf c) = c := by
  apply Fin.ext; show 64 * (c.val / 64) + c.val % 64 = c.val; omega

theorem headOf_lane (h : Fin 4) (e : Fin 64) : headOf (lane h e) = h := by
  apply Fin.ext; show (64 * h.val + e.val) / 64 = h.val; omega

theorem placeOf_lane (h : Fin 4) (e : Fin 64) : placeOf (lane h e) = e := by
  apply Fin.ext; show (64 * h.val + e.val) % 64 = e.val; omega

/-- A sum over the lanes whose terms vanish outside one head is the sum over that head. -/
theorem sum_head (h : Fin 4) (f : Fin 256 → EReal) (hf : ∀ c, headOf c ≠ h → f c = 0) :
    ∑ c, f c = ∑ e, f (lane h e) := by
  classical
  have hinj : Function.Injective (lane h) := fun a b hab => by
    rw [← placeOf_lane h a, hab, placeOf_lane]
  rw [← Finset.sum_image (s := Finset.univ) (g := lane h) (f := f) (fun a _ b _ hab => hinj hab)]
  refine (Finset.sum_subset (Finset.subset_univ _) fun c _ hc => hf c fun hh => hc ?_).symm
  exact Finset.mem_image.mpr ⟨placeOf c, Finset.mem_univ _, by rw [← hh, lane_headOf]⟩

/-- A key of the block before. -/
def before (c : Fin 128) : Fin 256 := Fin.castAdd 128 c

/-- A key of the row's own block. -/
def own (c : Fin 128) : Fin 256 := Fin.natAdd 128 c

/-- Two blocks of keys one after the other. -/
def band {α : Type} (a b : Fin 128 → α) (c : Fin 256) : α :=
  if h : c.val < 128 then a ⟨c.val, h⟩ else b ⟨c.val - 128, by omega⟩

theorem band_before {α : Type} (a b : Fin 128 → α) (c : Fin 128) : band a b (before c) = a c := by
  unfold band before
  rw [dif_pos (show (Fin.castAdd 128 c).val < 128 from c.isLt)]
  rfl

theorem band_own {α : Type} (a b : Fin 128 → α) (c : Fin 128) : band a b (own c) = b c := by
  unfold band own
  rw [dif_neg (show ¬ (Fin.natAdd 128 c).val < 128 from by simp)]
  congr 1
  apply Fin.ext
  show 128 + c.val - 128 = c.val
  omega

/-- A sum over the keys is the sum over the block before and the sum over the own block. -/
theorem sum_band (f : Fin 256 → EReal) : ∑ c, f c = ∑ c, f (before c) + ∑ c, f (own c) :=
  Fin.sum_univ_add (a := 128) (b := 128) f

/-- The largest score over the keys is the larger of those over the two blocks. -/
theorem top_band (f : Fin 256 → EReal) :
    rowTop f = max (rowTop fun c : Fin 128 => f (before c)) (rowTop fun c : Fin 128 => f (own c)) := by
  apply le_antisymm
  · unfold rowTop
    refine (Finset.fold_max_le _).mpr ⟨bot_le, fun c _ => ?_⟩
    rcases lt_or_ge c.val 128 with h | h
    · exact le_max_of_le_left (le_rowTop (fun c : Fin 128 => f (before c)) ⟨c.val, h⟩)
    · refine le_max_of_le_right ?_
      have := le_rowTop (fun c : Fin 128 => f (own c)) ⟨c.val - 128, by omega⟩
      have hc : own ⟨c.val - 128, by omega⟩ = c := by
        apply Fin.ext; show 128 + (c.val - 128) = c.val; omega
      simp only [hc] at this
      exact this
  · refine max_le ?_ ?_
    · exact (Finset.fold_max_le _).mpr ⟨bot_le, fun c _ => le_rowTop f (before c)⟩
    · exact (Finset.fold_max_le _).mpr ⟨bot_le, fun c _ => le_rowTop f (own c)⟩

end Cert.Attn

end
-- ==== Proof.Attn.Spec.lean ====
/-
  The gradient of one banded attention branch over whole arrays, as plain sums: 4096 rows in 32 blocks of 128, every row
  looking at the 128 rows before it inside its own block and the block before.
-/
module

public import proofs.«01_k».proof.Proof.Attn.Split

@[expose] public section

noncomputable section

namespace Cert.Attn

open Idealize.ShloMosaic

/-- Row `r` of block `n`. -/
def tok (n : Fin 32) (r : Fin 128) : Fin 4096 := ⟨128 * n.val + r.val, by omega⟩

/-- The block of a row. -/
def blockOf (g : Fin 4096) : Fin 32 := ⟨g.val / 128, by omega⟩

/-- The place of a row in its block. -/
def rowOf (g : Fin 4096) : Fin 128 := ⟨g.val % 128, by omega⟩

theorem blockOf_tok (n : Fin 32) (r : Fin 128) : blockOf (tok n r) = n := by
  apply Fin.ext; show (128 * n.val + r.val) / 128 = n.val; omega

theorem rowOf_tok (n : Fin 32) (r : Fin 128) : rowOf (tok n r) = r := by
  apply Fin.ext; show (128 * n.val + r.val) % 128 = r.val; omega

theorem tok_blockOf (g : Fin 4096) : tok (blockOf g) (rowOf g) = g := by
  apply Fin.ext; show 128 * (g.val / 128) + g.val % 128 = g.val; omega

/-- Lane `l` of the queries, the keys or the values (`p` = 0, 1, 2) in a row. -/
def col (p : Fin 3) (l : Fin 256) : Fin 768 := ⟨256 * p.val + l.val, by omega⟩

/-- Which of queries, keys and values a column belongs to. -/
def partOf (j : Fin 768) : Fin 3 := ⟨j.val / 256, by omega⟩

/-- The lane of a column. -/
def laneOf (j : Fin 768) : Fin 256 := ⟨j.val % 256, by omega⟩

theorem partOf_col (p : Fin 3) (l : Fin 256) : partOf (col p l) = p := by
  apply Fin.ext; show (256 * p.val + l.val) / 256 = p.val; omega

theorem laneOf_col (p : Fin 3) (l : Fin 256) : laneOf (col p l) = l := by
  apply Fin.ext; show (256 * p.val + l.val) % 256 = l.val; omega

theorem col_partOf (j : Fin 768) : col (partOf j) (laneOf j) = j := by
  apply Fin.ext; show 256 * (j.val / 256) + j.val % 256 = j.val; omega

section

variable (X : Fin 4096 → Fin 768 → EReal) (D T : Fin 4096 → Fin 256 → EReal)

/-- Block `n`'s queries, keys or values. -/
def blk (p : Fin 3) (n : Fin 32) (r : Fin 128) (l : Fin 256) : EReal := X (tok n r) (col p l)

/-- The same of the block before; zero before the first. -/
def pre (p : Fin 3) (n : Fin 32) (r : Fin 128) (l : Fin 256) : EReal :=
  if 0 < n.val then X (tok ⟨n.val - 1, by omega⟩ r) (col p l) else 0

/-- One head's queries of a row. -/
def qRow (h : Fin 4) (n : Fin 32) (r : Fin 128) (e : Fin 64) : EReal := blk X 0 n r (lane h e)

/-- One head's keys that block `n` looks at. -/
def kBand (h : Fin 4) (n : Fin 32) : Fin 256 → Fin 64 → EReal :=
  band (fun c e => pre X 1 n c (lane h e)) (fun c e => blk X 1 n c (lane h e))

/-- One head's values that block `n` looks at. -/
def vBand (h : Fin 4) (n : Fin 32) : Fin 256 → Fin 64 → EReal :=
  band (fun c e => pre X 2 n c (lane h e)) (fun c e => blk X 2 n c (lane h e))

/-- The keys a row looks at: at most 128 rows back, none ahead, none before the first row of all. -/
def okRow (n : Fin 32) (r : Fin 128) (c : Fin 256) : Prop := r.val ≤ c.val ∧ c.val ≤ r.val + 128 ∧ (128 ≤ c.val ∨ 0 < n.val)

instance (n : Fin 32) (r : Fin 128) : DecidablePred (okRow n r) := fun c => by unfold okRow; infer_instance

/-- A row's masked scores. -/
def sRow (h : Fin 4) (n : Fin 32) (r : Fin 128) : Fin 256 → EReal := rowScore (qRow X h n r) (kBand X h n) (okRow n r)

/-- The cotangent of a score. -/
def dScore (h : Fin 4) (n : Fin 32) (r : Fin 128) (c : Fin 256) : EReal :=
  rowDScore (okRow n r) (sRow X h n r) (vBand X h n) (fun e => D (tok n r) (lane h e)) (∑ e, T (tok n r) (lane h e)) c

/-- A weight times the cotangent of the weighted sums. -/
def wNum (h : Fin 4) (n : Fin 32) (r : Fin 128) (c : Fin 256) (e : Fin 64) : EReal :=
  rowWeight (sRow X h n r) c * rowDNum (sRow X h n r) (fun e => D (tok n r) (lane h e)) e

/-- The queries' cotangent. -/
def gradQ (h : Fin 4) (n : Fin 32) (r : Fin 128) (e : Fin 64) : EReal := ∑ c : Fin 256, dScore X D T h n r c * kBand X h n c e

/-- What block `n`'s rows give to their own block's keys. -/
def ownK (h : Fin 4) (n : Fin 32) (c : Fin 128) (e : Fin 64) : EReal := ∑ r : Fin 128, dScore X D T h n r (own c) * qRow X h n r e

/-- What block `n`'s rows give to the keys of the block before. -/
def backK (h : Fin 4) (n : Fin 32) (c : Fin 128) (e : Fin 64) : EReal := ∑ r : Fin 128, dScore X D T h n r (before c) * qRow X h n r e

/-- What block `n`'s rows give to their own block's values. -/
def ownV (h : Fin 4) (n : Fin 32) (c : Fin 128) (e : Fin 64) : EReal := ∑ r : Fin 128, wNum X D h n r (own c) e

/-- What block `n`'s rows give to the values of the block before. -/
def backV (h : Fin 4) (n : Fin 32) (c : Fin 128) (e : Fin 64) : EReal := ∑ r : Fin 128, wNum X D h n r (before c) e

/-- The keys' cotangent: from the own block and from the block after, where there is one. -/
def gradK (h : Fin 4) (n : Fin 32) (c : Fin 128) (e : Fin 64) : EReal :=
  (if g : n.val + 1 < 32 then backK X D T h ⟨n.val + 1, g⟩ c e else 0) + ownK X D T h n c e

/-- The values' cotangent. -/
def gradV (h : Fin 4) (n : Fin 32) (c : Fin 128) (e : Fin 64) : EReal :=
  (if g : n.val + 1 < 32 then backV X D h ⟨n.val + 1, g⟩ c e else 0) + ownV X D h n c e

/-- The whole gradient at row `g` and column `j`. -/
def grad (g : Fin 4096) (j : Fin 768) : EReal :=
  if partOf j = 0 then gradQ X D T (headOf (laneOf j)) (blockOf g) (rowOf g) (placeOf (laneOf j))
  else if partOf j = 1 then gradK X D T (headOf (laneOf j)) (blockOf g) (rowOf g) (placeOf (laneOf j))
  else gradV X D (headOf (laneOf j)) (blockOf g) (rowOf g) (placeOf (laneOf j))

variable (hX : ∀ g j, ∃ a : ℝ, X g j = a)

include hX in
theorem blk_real (p : Fin 3) (n : Fin 32) (r : Fin 128) (l : Fin 256) : ∃ a : ℝ, blk X p n r l = a := hX _ _

include hX in
theorem pre_real (p : Fin 3) (n : Fin 32) (r : Fin 128) (l : Fin 256) : ∃ a : ℝ, pre X p n r l = a := by
  unfold pre
  by_cases h : 0 < n.val
  · rw [if_pos h]; exact hX _ _
  · rw [if_neg h]; exact ⟨0, rfl⟩

theorem band_real {α : Type} (a b : Fin 128 → α) (P : α → Prop) (ha : ∀ c, P (a c)) (hb : ∀ c, P (b c)) (c : Fin 256) : P (band a b c) := by
  unfold band
  by_cases h : c.val < 128
  · rw [dif_pos h]; exact ha _
  · rw [dif_neg h]; exact hb _

include hX in
theorem kBand_real (h : Fin 4) (n : Fin 32) (c : Fin 256) (e : Fin 64) : ∃ a : ℝ, kBand X h n c e = a :=
  band_real _ _ (fun f : Fin 64 → EReal => ∃ a : ℝ, f e = a) (fun _ => pre_real X hX _ _ _ _) (fun _ => blk_real X hX _ _ _ _) c

include hX in
theorem vBand_real (h : Fin 4) (n : Fin 32) (c : Fin 256) (e : Fin 64) : ∃ a : ℝ, vBand X h n c e = a :=
  band_real _ _ (fun f : Fin 64 → EReal => ∃ a : ℝ, f e = a) (fun _ => pre_real X hX _ _ _ _) (fun _ => blk_real X hX _ _ _ _) c

theorem ok_own (n : Fin 32) (r : Fin 128) : okRow n r (own r) := by
  unfold okRow own
  simp only [Fin.val_natAdd]
  omega

include hX in
/-- A row always looks at itself, so its total weight is not zero. -/
theorem sRow_total (h : Fin 4) (n : Fin 32) (r : Fin 128) : rowTotal (sRow X h n r) ≠ 0 :=
  rowTotal_ne_zero _ _ _ (fun _ => blk_real X hX _ _ _ _) (kBand_real X hX h n) ⟨own r, ok_own n r⟩

end

end Cert.Attn

end
-- ==== Proof.Attn.Vec.lean ====
/-
  The body of the attention gradient's kernel in named steps: what one head's masked score matrix, its weights, its
  cotangents and its contributions are, as vector expressions, and the three blocks a grid point writes.
-/
module

public import proofs.«01_k».proof.Proof.Gen.KernelIdeal.Skeleton

@[expose] public section

noncomputable section

namespace Cert.Attn.Vec

open Idealize.ShloMosaic Idealize.SL.Sem
open Cert.KernelIdeal Cert.KernelIdeal.Gen

variable {F : FTy → Type} [FloatOps F] [Named F]

/-- A zero block. -/
def zeros : FVec F S128x256 .f32 := broadcast S128x256 (Scalar.ofBits .f32 0x00000000#32 : F .f32)

/-- The head each lane belongs to. -/
def heads : IVec S128x256 32 := k0_pay18 (iota .tc S128x256 32 [1] iota_S128x256_d1_w32) 64#32 k0_pay16 k0_pay17

/-- The lanes of head `w`. -/
def lanesOf (w : BitVec 32) : IVec S128x256 1 := cmpi .eq heads (broadcast S128x256 w)

/-- A block with the other heads' lanes zeroed. -/
def keep (w : BitVec 32) (x : FVec F S128x256 .f32) : FVec F S128x256 .f32 := select (lanesOf w) x zeros

/-- A block with this head's lanes zeroed. -/
def leave (w : BitVec 32) (x : FVec F S128x256 .f32) : FVec F S128x256 .f32 := select (lanesOf w) zeros x

/-- Rows times keys: products of rows of two blocks. -/
def rowsByRows (a b : FVec F S128x256 .f32) : FVec F S128x128 .f32 :=
  matmul dot_S128x256_S128x256_S128x128_1_1_0_0_n_n none (truncf .bf16 a bitsLt_bf16_f32) (truncf .bf16 b bitsLt_bf16_f32)
    (constant S128x128 .f32 0x00000000#32)

/-- Weights times values. -/
def spread (p : FVec F S128x128 .f32) (x : FVec F S128x256 .f32) : FVec F S128x256 .f32 :=
  matmul dot_S128x128_S128x256_S128x256_1_0_0_1_n_n none (truncf .bf16 p bitsLt_bf16_f32) (truncf .bf16 x bitsLt_bf16_f32)
    (constant S128x256 .f32 0x00000000#32)

/-- Weights, transposed, times rows. -/
def gather (p : FVec F S128x128 .f32) (x : FVec F S128x256 .f32) : FVec F S128x256 .f32 :=
  matmul dot_S128x128_S128x256_S128x256_0_0_1_1_n_n none (truncf .bf16 p bitsLt_bf16_f32) (truncf .bf16 x bitsLt_bf16_f32)
    (constant S128x256 .f32 0x00000000#32)

/-- Masked scores of the rows of `a` against those of `b`. -/
def scores (ok : IVec S128x128 1) (a b : FVec F S128x256 .f32) : FVec F S128x128 .f32 :=
  select ok (mulf (rowsByRows a b) (broadcast S128x128 (Scalar.ofBits .f32 0x3E000000#32 : F .f32)))
    (broadcast S128x128 (Named.named κ "mask" 0xF149F2CA#32 : F .f32))

/-- The largest entry of each row. -/
def rowMax (s : FVec F S128x128 .f32) : FVec F S128x1 .f32 :=
  shapeCast S128x1 (multiReduction .maximumf [1] S128 s 0xFF800000#32 reduces_S128x128_S128 (.inl rfl) rfl) shapeCasts_S128_S128x1

/-- The sum of each row of weights. -/
def rowSum (p : FVec F S128x128 .f32) : FVec F S128x1 .f32 :=
  shapeCast S128x1 (multiReduction .add [1] S128 p 0x00000000#32 reduces_S128x128_S128 (.inl rfl) rfl) shapeCasts_S128_S128x1

/-- The sum of each row over the lanes. -/
def laneSum (x : FVec F S128x256 .f32) : FVec F S128x1 .f32 :=
  shapeCast S128x1 (multiReduction .add [1] S128 x 0x00000000#32 reduces_S128x256_S128 (.inl rfl) rfl) shapeCasts_S128_S128x1

/-- Exponentials of scores less their row's maximum. -/
def weights (s : FVec F S128x128 .f32) (m : FVec F S128x1 .f32) : FVec F S128x128 .f32 :=
  exp (subf s (broadcastTo S128x128 m broadcasts_S128x1_S128x128))

/-- A row value along the lanes. -/
def along (l : FVec F S128x1 .f32) : FVec F S128x256 .f32 := broadcastTo S128x256 l broadcasts_S128x1_S128x256

section Head

variable (q k v kp vp : FVec F S128x256 .f32) (pok cok : IVec S128x128 1) (w : BitVec 32)

/-- Scores against the block before. -/
def sP : FVec F S128x128 .f32 := scores pok (keep w q) kp
/-- Scores against the own block. -/
def sC : FVec F S128x128 .f32 := scores cok (keep w q) k
/-- The rows' largest scores. -/
def mx : FVec F S128x1 .f32 := maximumf (rowMax (sP q kp pok w)) (rowMax (sC q k cok w))
/-- Weights on the block before. -/
def pP : FVec F S128x128 .f32 := weights (sP q kp pok w) (mx q k kp pok cok w)
/-- Weights on the own block. -/
def pC : FVec F S128x128 .f32 := weights (sC q k cok w) (mx q k kp pok cok w)
/-- The rows' total weights. -/
def tot : FVec F S128x1 .f32 := addf (rowSum (pP q k kp pok cok w)) (rowSum (pC q k kp pok cok w))
/-- The weighted sums of the values. -/
def num : FVec F S128x256 .f32 := addf (spread (pP q k kp pok cok w) vp) (spread (pC q k kp pok cok w) v)
/-- One over the square of the total. -/
def inv2 : FVec F S128x1 .f32 :=
  divf (broadcast S128x1 (Scalar.ofBits .f32 0x3F800000#32 : F .f32)) (mulf (tot q k kp pok cok w) (tot q k kp pok cok w))

variable (d t : FVec F S128x256 .f32)

/-- The cotangent of the weighted sums, `d` being that of the output on this head's lanes. -/
def dN : FVec F S128x256 .f32 := divf d (along (tot q k kp pok cok w))
/-- The cotangent of the totals, `t` being that of the log-sum-exp on this head's lanes. -/
def dT : FVec F S128x1 .f32 :=
  addf (divf (laneSum t) (tot q k kp pok cok w))
    (subf (broadcast S128x1 (Scalar.ofBits .f32 0x00000000#32 : F .f32))
      (laneSum (mulf (mulf d (along (inv2 q k kp pok cok w))) (num q k v kp vp pok cok w))))
/-- The totals' cotangents along the keys. -/
def dTs : FVec F S128x128 .f32 :=
  broadcastTo S128x128
    (shapeCast S128x1 (multiReduction .add [1] S128 (dT q k v kp vp pok cok w d t) 0x00000000#32 reduces_S128x1_S128 (.inl rfl) rfl)
      shapeCasts_S128_S128x1) broadcasts_S128x1_S128x128
/-- The cotangents of weights `p` on a block of values `x`. -/
def dW (x : FVec F S128x256 .f32) : FVec F S128x128 .f32 :=
  addf (rowsByRows (dN q k kp pok cok w d) x) (dTs q k v kp vp pok cok w d t)
/-- The cotangents of scores, of weights `p` with cotangents `g`. -/
def dS (ok : IVec S128x128 1) (g p : FVec F S128x128 .f32) : FVec F S128x128 .f32 :=
  mulf (select ok (mulf g p) (broadcast S128x128 (Scalar.ofBits .f32 0x00000000#32 : F .f32)))
    (broadcast S128x128 (Scalar.ofBits .f32 0x3E000000#32 : F .f32))
/-- The cotangents of the scores against the own block. -/
def dSC : FVec F S128x128 .f32 := dS cok (dW q k v kp vp pok cok w d t v) (pC q k kp pok cok w)
/-- The cotangents of the scores against the block before. -/
def dSP : FVec F S128x128 .f32 := dS pok (dW q k v kp vp pok cok w d t vp) (pP q k kp pok cok w)
/-- The queries' cotangent from this head. -/
def hQ : FVec F S128x256 .f32 := keep w (addf (spread (dSC q k v kp vp pok cok w d t) k) (spread (dSP q k v kp vp pok cok w d t) kp))
/-- The own keys' cotangent from this head. -/
def hK : FVec F S128x256 .f32 := gather (dSC q k v kp vp pok cok w d t) (keep w q)
/-- The keys before's cotangent from this head. -/
def hKp : FVec F S128x256 .f32 := gather (dSP q k v kp vp pok cok w d t) (keep w q)
/-- The own values' cotangent from this head. -/
def hV : FVec F S128x256 .f32 := gather (pC q k kp pok cok w) (dN q k kp pok cok w d)
/-- The values before's cotangent from this head. -/
def hVp : FVec F S128x256 .f32 := gather (pP q k kp pok cok w) (dN q k kp pok cok w d)

end Head

section Point

variable (q k v kp vp : FVec F S128x256 .f32) (pok cok : IVec S128x128 1) (d t ck cv : FVec F S128x256 .f32)

/-- What is left of a cotangent after head 3 took its lanes, and so on down. -/
def left2 (x : FVec F S128x256 .f32) : FVec F S128x256 .f32 := leave 3#32 x
def left1 (x : FVec F S128x256 .f32) : FVec F S128x256 .f32 := leave 2#32 (left2 x)
def left0 (x : FVec F S128x256 .f32) : FVec F S128x256 .f32 := leave 1#32 (left1 x)

/-- The queries' cotangent. -/
def outQ : FVec F S128x256 .f32 :=
  addf (addf (addf (hQ q k v kp vp pok cok 3#32 (keep 3#32 d) (keep 3#32 t))
    (hQ q k v kp vp pok cok 2#32 (keep 2#32 (left2 d)) (keep 2#32 (left2 t))))
    (hQ q k v kp vp pok cok 1#32 (keep 1#32 (left1 d)) (keep 1#32 (left1 t))))
    (hQ q k v kp vp pok cok 0#32 (keep 0#32 (left0 d)) (keep 0#32 (left0 t)))
/-- The own keys' cotangent, over what the block after left. -/
def outK : FVec F S128x256 .f32 :=
  addf (addf (addf (addf ck (hK q k v kp vp pok cok 3#32 (keep 3#32 d) (keep 3#32 t)))
    (hK q k v kp vp pok cok 2#32 (keep 2#32 (left2 d)) (keep 2#32 (left2 t))))
    (hK q k v kp vp pok cok 1#32 (keep 1#32 (left1 d)) (keep 1#32 (left1 t))))
    (hK q k v kp vp pok cok 0#32 (keep 0#32 (left0 d)) (keep 0#32 (left0 t)))
/-- The own values' cotangent, over what the block after left. -/
def outV : FVec F S128x256 .f32 :=
  addf (addf (addf (addf cv (hV q k kp pok cok 3#32 (keep 3#32 d)))
    (hV q k kp pok cok 2#32 (keep 2#32 (left2 d))))
    (hV q k kp pok cok 1#32 (keep 1#32 (left1 d))))
    (hV q k kp pok cok 0#32 (keep 0#32 (left0 d)))
/-- What is handed to the keys of the block before. -/
def nextK : FVec F S128x256 .f32 :=
  addf (addf (addf (hKp q k v kp vp pok cok 3#32 (keep 3#32 d) (keep 3#32 t))
    (hKp q k v kp vp pok cok 2#32 (keep 2#32 (left2 d)) (keep 2#32 (left2 t))))
    (hKp q k v kp vp pok cok 1#32 (keep 1#32 (left1 d)) (keep 1#32 (left1 t))))
    (hKp q k v kp vp pok cok 0#32 (keep 0#32 (left0 d)) (keep 0#32 (left0 t)))
/-- What is handed to the values of the block before. -/
def nextV : FVec F S128x256 .f32 :=
  addf (addf (addf (hVp q k kp pok cok 3#32 (keep 3#32 d))
    (hVp q k kp pok cok 2#32 (keep 2#32 (left2 d))))
    (hVp q k kp pok cok 1#32 (keep 1#32 (left1 d))))
    (hVp q k kp pok cok 0#32 (keep 0#32 (left0 d)))

end Point

end Cert.Attn.Vec

end
-- ==== Proof.Attn.Read.lean ====
/-
  The named steps of the kernel's body read at an index, over the extended reals.
-/
module

public import proofs.«01_k».proof.Proof.Attn.Vec
public import proofs.«01_k».proof.Proof.Attn.Split
public import Idealize.ShloMosaic.Lib.Pointwise

@[expose] public section

set_option maxRecDepth 16384

noncomputable section

namespace Cert.Attn.Vec

open Idealize.ShloMosaic Idealize.SL.Sem
open Cert.KernelIdeal Cert.KernelIdeal.Gen

/-- A head's number as a machine word. -/
def wd (h : Fin 4) : BitVec 32 := BitVec.ofNat 32 h.val

/-- The pattern of minus infinity is the least extended real. -/
theorem ofBits_bot : Ideal.ofBits .f32 0xFF800000#32 = ⊥ := by simp [Ideal.ofBits, Ideal.ieee]

/-- A lane's head is its number divided by 64. -/
theorem heads_apply (r : Fin 128) (c : Fin 256) : heads (ix2 r c) = BitVec.ofNat 32 (c.val / 64) := by
  pointwise [heads, k0_pay18, k0_pay16, k0_pay17]
  revert c
  decide

theorem lanesOf_apply (h : Fin 4) (r : Fin 128) (c : Fin 256) : lanesOf (wd h) (ix2 r c) = if headOf c = h then 1#1 else 0#1 := by
  pointwise [lanesOf]
  rw [heads_apply]
  unfold wd headOf
  revert h c
  decide

theorem select_ite {α : Type} (b : BitVec 1) (x y : α) : Scalar.select b x y = if b = 1#1 then x else y := rfl

/-- Keeping a head's lanes. -/
theorem keep_apply (h : Fin 4) (x : FVec Ideal S128x256 .f32) (r : Fin 128) (c : Fin 256) :
    keep (wd h) x (ix2 r c) = if headOf c = h then x (ix2 r c) else 0 := by
  pointwise [keep, zeros]
  rw [lanesOf_apply, select_ite]
  by_cases e : headOf c = h <;> simp [e]

/-- Zeroing a head's lanes. -/
theorem leave_apply (h : Fin 4) (x : FVec Ideal S128x256 .f32) (r : Fin 128) (c : Fin 256) :
    leave (wd h) x (ix2 r c) = if headOf c = h then 0 else x (ix2 r c) := by
  pointwise [leave, zeros]
  rw [lanesOf_apply, select_ite]
  by_cases e : headOf c = h <;> simp [e]

theorem rowsByRows_apply (a b : FVec Ideal S128x256 .f32) (r c : Fin 128) :
    rowsByRows a b (ix2 r c) = ∑ l : Fin 256, a (ix2 r l) * b (ix2 c l) := by
  pointwise [rowsByRows]

theorem spread_apply (p : FVec Ideal S128x128 .f32) (x : FVec Ideal S128x256 .f32) (r : Fin 128) (l : Fin 256) :
    spread p x (ix2 r l) = ∑ c : Fin 128, p (ix2 r c) * x (ix2 c l) := by
  pointwise [spread]

theorem gather_apply (p : FVec Ideal S128x128 .f32) (x : FVec Ideal S128x256 .f32) (c : Fin 128) (l : Fin 256) :
    gather p x (ix2 c l) = ∑ r : Fin 128, p (ix2 r c) * x (ix2 r l) := by
  pointwise [gather]

theorem rowMax_apply (s : FVec Ideal S128x128 .f32) (r : Fin 128) :
    rowMax s (ix2 r 0) = rowTop fun c : Fin 128 => s (ix2 r c) := by
  pointwise [rowMax]
  rw [show Ideal.ofBits .f32 4286578688#32 = ⊥ from ofBits_bot]
  rfl

theorem rowSum_apply (s : FVec Ideal S128x128 .f32) (r : Fin 128) :
    rowSum s (ix2 r 0) = ∑ c : Fin 128, s (ix2 r c) := by
  pointwise [rowSum]

theorem laneSum_apply (s : FVec Ideal S128x256 .f32) (r : Fin 128) :
    laneSum s (ix2 r 0) = ∑ c : Fin 256, s (ix2 r c) := by
  pointwise [laneSum]

/-- The masking constant reads as minus infinity. -/
theorem mask_bot : (Named.named κ "mask" 0xF149F2CA#32 : Ideal .f32) = ⊥ :=
  IdealRules.named_const.ideal_named_scalar _ _ _ _ rfl

theorem scores_apply (ok : IVec S128x128 1) (a b : FVec Ideal S128x256 .f32) (r c : Fin 128) :
    scores ok a b (ix2 r c) = if ok (ix2 r c) = 1#1 then (∑ l : Fin 256, a (ix2 r l) * b (ix2 c l)) * eighth else ⊥ := by
  pointwise [scores]
  rw [select_ite, rowsByRows_apply]
  rw [show (Named.named κ "mask" 4048155338#32 : Ideal .f32) = ⊥ from mask_bot]
  rfl

/-- The kept query rows against keys: only the head's lanes count. -/
theorem kept_sum (h : Fin 4) (x : FVec Ideal S128x256 .f32) (r : Fin 128) (g : Fin 256 → EReal) :
    ∑ l : Fin 256, keep (wd h) x (ix2 r l) * g l = ∑ e : Fin 64, x (ix2 r (lane h e)) * g (lane h e) := by
  rw [sum_head h]
  · exact Finset.sum_congr rfl fun e _ => by rw [keep_apply, if_pos (headOf_lane h e)]
  · intro c hc
    rw [keep_apply, if_neg hc, zero_mul]

/-- One head's lanes of a block, row by row. -/
def part (x : FVec Ideal S128x256 .f32) (h : Fin 4) (r : Fin 128) (e : Fin 64) : EReal := x (ix2 r (lane h e))

section Head

variable (q k v kp vp : FVec Ideal S128x256 .f32) (pok cok : IVec S128x128 1) (h : Fin 4)
variable (ok : Fin 128 → Fin 256 → Prop) [∀ r, DecidablePred (ok r)]

/-- A row's scores for one head, over the block before and the own block. -/
def S (r : Fin 128) : Fin 256 → EReal := rowScore (part q h r) (band (part kp h) (part k h)) (ok r)

variable (hP : ∀ r c, pok (ix2 r c) = 1#1 ↔ ok r (before c)) (hC : ∀ r c, cok (ix2 r c) = 1#1 ↔ ok r (own c))

include hP in
theorem sP_apply (r c : Fin 128) : sP q kp pok (wd h) (ix2 r c) = S q k kp h ok r (before c) := by
  unfold sP S rowScore
  rw [scores_apply, kept_sum, band_before]
  simp only [hP]
  rfl

include hC in
theorem sC_apply (r c : Fin 128) : sC q k cok (wd h) (ix2 r c) = S q k kp h ok r (own c) := by
  unfold sC S rowScore
  rw [scores_apply, kept_sum, band_own]
  simp only [hC]
  rfl

include hP hC in
theorem mx_apply (r : Fin 128) : mx q k kp pok cok (wd h) (ix2 r 0) = rowTop (S q k kp h ok r) := by
  pointwise [mx]
  rw [rowMax_apply, rowMax_apply, top_band]
  simp only [sP_apply q k kp pok h ok hP, sC_apply q k kp cok h ok hC]

include hP hC in
theorem pP_apply (r c : Fin 128) : pP q k kp pok cok (wd h) (ix2 r c) = rowWeight (S q k kp h ok r) (before c) := by
  pointwise [pP, weights]
  rw [mx_apply q k kp pok cok h ok hP hC, sP_apply q k kp pok h ok hP]
  rfl

include hP hC in
theorem pC_apply (r c : Fin 128) : pC q k kp pok cok (wd h) (ix2 r c) = rowWeight (S q k kp h ok r) (own c) := by
  pointwise [pC, weights]
  rw [mx_apply q k kp pok cok h ok hP hC, sC_apply q k kp cok h ok hC]
  rfl

include hP hC in
theorem tot_apply (r : Fin 128) : tot q k kp pok cok (wd h) (ix2 r 0) = rowTotal (S q k kp h ok r) := by
  pointwise [tot]
  rw [rowSum_apply, rowSum_apply]
  unfold rowTotal
  rw [sum_band]
  simp only [pP_apply q k kp pok cok h ok hP hC, pC_apply q k kp pok cok h ok hP hC]

include hP hC in
theorem num_apply (r : Fin 128) (e : Fin 64) :
    num q k v kp vp pok cok (wd h) (ix2 r (lane h e)) = rowNum (S q k kp h ok r) (band (part vp h) (part v h)) e := by
  pointwise [num]
  rw [spread_apply, spread_apply]
  unfold rowNum
  rw [sum_band]
  simp only [pP_apply q k kp pok cok h ok hP hC, pC_apply q k kp pok cok h ok hP hC, band_before, band_own]
  rfl

include hP hC in
theorem inv2_apply (r : Fin 128) :
    inv2 q k kp pok cok (wd h) (ix2 r 0) = Ideal.div 1 (rowTotal (S q k kp h ok r) * rowTotal (S q k kp h ok r)) := by
  pointwise [inv2]
  rw [tot_apply q k kp pok cok h ok hP hC]

variable (d t D T : FVec Ideal S128x256 .f32)
variable (hd : ∀ r c, d (ix2 r c) = if headOf c = h then D (ix2 r c) else 0)
variable (ht : ∀ r c, t (ix2 r c) = if headOf c = h then T (ix2 r c) else 0)
variable (hl : ∀ r, rowTotal (S q k kp h ok r) ≠ 0)

include hP hC hd hl in
theorem dN_apply (r : Fin 128) (c : Fin 256) :
    dN q k kp pok cok (wd h) d (ix2 r c)
      = if headOf c = h then rowDNum (S q k kp h ok r) (part D h r) (placeOf c) else 0 := by
  pointwise [dN, along]
  rw [tot_apply q k kp pok cok h ok hP hC, hd]
  by_cases e : headOf c = h
  · rw [if_pos e, if_pos e]
    unfold rowDNum part
    rw [← e, lane_headOf]
  · rw [if_neg e, if_neg e, Ideal.zero_div (hl r)]

include hP hC hd hl in
/-- The product of the cotangent of the weighted sums with values: only the head's lanes count. -/
theorem dN_sum (r : Fin 128) (g : Fin 256 → EReal) :
    ∑ l : Fin 256, dN q k kp pok cok (wd h) d (ix2 r l) * g l
      = ∑ e : Fin 64, rowDNum (S q k kp h ok r) (part D h r) e * g (lane h e) := by
  rw [sum_head h]
  · exact Finset.sum_congr rfl fun e _ => by
      rw [dN_apply q k kp pok cok h ok hP hC d D hd hl, if_pos (headOf_lane h e), placeOf_lane]
  · intro c hc
    rw [dN_apply q k kp pok cok h ok hP hC d D hd hl, if_neg hc, zero_mul]

include hP hC hd ht in
theorem dT_apply (r : Fin 128) :
    dT q k v kp vp pok cok (wd h) d t (ix2 r 0)
      = rowDTotal (S q k kp h ok r) (band (part vp h) (part v h)) (part D h r) (∑ e, part T h r e) := by
  pointwise [dT]
  rw [laneSum_apply, laneSum_apply, tot_apply q k kp pok cok h ok hP hC, zero_sub]
  unfold rowDTotal
  have e1 : ∑ c : Fin 256, t (ix2 r c) = ∑ e, part T h r e := by
    rw [sum_head h]
    · exact Finset.sum_congr rfl fun e _ => by rw [ht, if_pos (headOf_lane h e)]; rfl
    · intro c hc; rw [ht, if_neg hc]
  have e2 : ∑ c : Fin 256, mulf (mulf d (along (inv2 q k kp pok cok (wd h)))) (num q k v kp vp pok cok (wd h)) (ix2 r c)
      = ∑ e, part D h r e * Ideal.div 1 (rowTotal (S q k kp h ok r) * rowTotal (S q k kp h ok r))
          * rowNum (S q k kp h ok r) (band (part vp h) (part v h)) e := by
    rw [sum_head h]
    · refine Finset.sum_congr rfl fun e _ => ?_
      pointwise [along]
      rw [hd, if_pos (headOf_lane h e), inv2_apply q k kp pok cok h ok hP hC, num_apply q k v kp vp pok cok h ok hP hC]
      rfl
    · intro c hc
      pointwise [along]
      rw [hd, if_neg hc, zero_mul, zero_mul]
  rw [e1, e2]

include hP hC hd ht in
theorem dTs_apply (r c : Fin 128) :
    dTs q k v kp vp pok cok (wd h) d t (ix2 r c)
      = rowDTotal (S q k kp h ok r) (band (part vp h) (part v h)) (part D h r) (∑ e, part T h r e) := by
  pointwise [dTs]
  rw [Fin.sum_univ_one]
  rw [dT_apply q k v kp vp pok cok h ok hP hC d t D T hd ht]

include hP hC hd ht hl in
theorem dSC_apply (r c : Fin 128) :
    dSC q k v kp vp pok cok (wd h) d t (ix2 r c)
      = rowDScore (ok r) (S q k kp h ok r) (band (part vp h) (part v h)) (part D h r) (∑ e, part T h r e) (own c) := by
  pointwise [dSC, dS, dW]
  rw [select_ite, rowsByRows_apply, dTs_apply q k v kp vp pok cok h ok hP hC d t D T hd ht,
    dN_sum q k kp pok cok h ok hP hC d D hd hl, pC_apply q k kp pok cok h ok hP hC]
  unfold rowDScore rowDWeight
  simp only [hC, band_own]
  by_cases e : ok r (own c)
  · simp only [if_pos e]; rfl
  · simp only [if_neg e, zero_mul]

include hP hC hd ht hl in
theorem dSP_apply (r c : Fin 128) :
    dSP q k v kp vp pok cok (wd h) d t (ix2 r c)
      = rowDScore (ok r) (S q k kp h ok r) (band (part vp h) (part v h)) (part D h r) (∑ e, part T h r e) (before c) := by
  pointwise [dSP, dS, dW]
  rw [select_ite, rowsByRows_apply, dTs_apply q k v kp vp pok cok h ok hP hC d t D T hd ht,
    dN_sum q k kp pok cok h ok hP hC d D hd hl, pP_apply q k kp pok cok h ok hP hC]
  unfold rowDScore rowDWeight
  simp only [hP, band_before]
  by_cases e : ok r (before c)
  · simp only [if_pos e]; rfl
  · simp only [if_neg e, zero_mul]

include hP hC hd ht hl in
/-- One head's part of the queries' cotangent. -/
theorem hQ_apply (r : Fin 128) (l : Fin 256) :
    hQ q k v kp vp pok cok (wd h) d t (ix2 r l) = if headOf l = h then
      ∑ c : Fin 256, rowDScore (ok r) (S q k kp h ok r) (band (part vp h) (part v h)) (part D h r) (∑ e, part T h r e) c
        * band (part kp h) (part k h) c (placeOf l) else 0 := by
  unfold hQ
  rw [keep_apply]
  by_cases e : headOf l = h
  · rw [if_pos e, if_pos e, sum_band]
    subst e
    pointwise
    rw [spread_apply, spread_apply, add_comm]
    simp only [dSP_apply q k v kp vp pok cok _ ok hP hC d t D T hd ht hl, dSC_apply q k v kp vp pok cok _ ok hP hC d t D T hd ht hl,
      band_before, band_own, part, lane_headOf]
  · rw [if_neg e, if_neg e]

include hP hC hd ht hl in
/-- One head's part of the own keys' cotangent. -/
theorem hK_apply (c : Fin 128) (l : Fin 256) :
    hK q k v kp vp pok cok (wd h) d t (ix2 c l) = if headOf l = h then
      ∑ r : Fin 128, rowDScore (ok r) (S q k kp h ok r) (band (part vp h) (part v h)) (part D h r) (∑ e, part T h r e) (own c)
        * part q h r (placeOf l) else 0 := by
  unfold hK
  rw [gather_apply]
  simp only [dSC_apply q k v kp vp pok cok h ok hP hC d t D T hd ht hl, keep_apply]
  by_cases e : headOf l = h
  · subst e
    simp only [if_true, part, lane_headOf]
  · simp only [if_neg e, mul_zero, Finset.sum_const_zero]

include hP hC hd ht hl in
/-- One head's part of what goes to the keys of the block before. -/
theorem hKp_apply (c : Fin 128) (l : Fin 256) :
    hKp q k v kp vp pok cok (wd h) d t (ix2 c l) = if headOf l = h then
      ∑ r : Fin 128, rowDScore (ok r) (S q k kp h ok r) (band (part vp h) (part v h)) (part D h r) (∑ e, part T h r e) (before c)
        * part q h r (placeOf l) else 0 := by
  unfold hKp
  rw [gather_apply]
  simp only [dSP_apply q k v kp vp pok cok h ok hP hC d t D T hd ht hl, keep_apply]
  by_cases e : headOf l = h
  · subst e
    simp only [if_true, part, lane_headOf]
  · simp only [if_neg e, mul_zero, Finset.sum_const_zero]

include hP hC hd hl in
/-- One head's part of the own values' cotangent. -/
theorem hV_apply (c : Fin 128) (l : Fin 256) :
    hV q k kp pok cok (wd h) d (ix2 c l) = if headOf l = h then
      ∑ r : Fin 128, rowWeight (S q k kp h ok r) (own c) * rowDNum (S q k kp h ok r) (part D h r) (placeOf l) else 0 := by
  unfold hV
  rw [gather_apply]
  simp only [pC_apply q k kp pok cok h ok hP hC, dN_apply q k kp pok cok h ok hP hC d D hd hl]
  by_cases e : headOf l = h
  · simp only [if_pos e]
  · simp only [if_neg e, mul_zero, Finset.sum_const_zero]

include hP hC hd hl in
/-- One head's part of what goes to the values of the block before. -/
theorem hVp_apply (c : Fin 128) (l : Fin 256) :
    hVp q k kp pok cok (wd h) d (ix2 c l) = if headOf l = h then
      ∑ r : Fin 128, rowWeight (S q k kp h ok r) (before c) * rowDNum (S q k kp h ok r) (part D h r) (placeOf l) else 0 := by
  unfold hVp
  rw [gather_apply]
  simp only [pP_apply q k kp pok cok h ok hP hC, dN_apply q k kp pok cok h ok hP hC d D hd hl]
  by_cases e : headOf l = h
  · simp only [if_pos e]
  · simp only [if_neg e, mul_zero, Finset.sum_const_zero]

end Head

end Cert.Attn.Vec

end
-- ==== Proof.Attn.Point.lean ====
/-
  One grid point over the reals: the queries', keys' and values' cotangents it computes, head by head, and what it hands to
  the block before.
-/
module

public import proofs.«01_k».proof.Proof.Attn.Read

@[expose] public section

set_option maxRecDepth 16384

noncomputable section

namespace Cert.Attn.Vec

open Idealize.ShloMosaic Idealize.SL.Sem
open Cert.KernelIdeal Cert.KernelIdeal.Gen Cert.Attn

theorem keep3_apply (x : FVec Ideal S128x256 .f32) (r : Fin 128) (c : Fin 256) :
    keep (wd 3) x (ix2 r c) = if headOf c = 3 then x (ix2 r c) else 0 := keep_apply 3 x r c

theorem keep2_apply (x : FVec Ideal S128x256 .f32) (r : Fin 128) (c : Fin 256) :
    keep (wd 2) (left2 x) (ix2 r c) = if headOf c = 2 then x (ix2 r c) else 0 := by
  rw [keep_apply]
  by_cases e : headOf c = 2
  · rw [if_pos e, if_pos e]
    show leave (wd 3) x (ix2 r c) = _
    rw [leave_apply, e, if_neg (by decide)]
  · rw [if_neg e, if_neg e]

theorem keep1_apply (x : FVec Ideal S128x256 .f32) (r : Fin 128) (c : Fin 256) :
    keep (wd 1) (left1 x) (ix2 r c) = if headOf c = 1 then x (ix2 r c) else 0 := by
  rw [keep_apply]
  by_cases e : headOf c = 1
  · rw [if_pos e, if_pos e]
    show leave (wd 2) (leave (wd 3) x) (ix2 r c) = _
    rw [leave_apply, leave_apply, e, if_neg (by decide), if_neg (by decide)]
  · rw [if_neg e, if_neg e]

theorem keep0_apply (x : FVec Ideal S128x256 .f32) (r : Fin 128) (c : Fin 256) :
    keep (wd 0) (left0 x) (ix2 r c) = if headOf c = 0 then x (ix2 r c) else 0 := by
  rw [keep_apply]
  by_cases e : headOf c = 0
  · rw [if_pos e, if_pos e]
    show leave (wd 1) (leave (wd 2) (leave (wd 3) x)) (ix2 r c) = _
    rw [leave_apply, leave_apply, leave_apply, e, if_neg (by decide), if_neg (by decide), if_neg (by decide)]
  · rw [if_neg e, if_neg e]

/-- Four heads' contributions, each on its own lanes, add up to the lane's own head's. -/
theorem four (X : Fin 4 → EReal) (h : Fin 4) :
    (((if h = 3 then X 3 else 0) + (if h = 2 then X 2 else 0)) + (if h = 1 then X 1 else 0)) + (if h = 0 then X 0 else 0) = X h := by
  fin_cases h <;> simp

/-- The same over a carried value. -/
theorem four_over (a : EReal) (X : Fin 4 → EReal) (h : Fin 4) :
    (((a + (if h = 3 then X 3 else 0)) + (if h = 2 then X 2 else 0)) + (if h = 1 then X 1 else 0)) + (if h = 0 then X 0 else 0)
      = a + X h := by
  fin_cases h <;> simp

section

variable (q k v kp vp : FVec Ideal S128x256 .f32) (pok cok : IVec S128x128 1)
variable (ok : Fin 128 → Fin 256 → Prop) [∀ r, DecidablePred (ok r)]
variable (d t ck cv : FVec Ideal S128x256 .f32)

/-- The cotangent of a score. -/
def DS (h : Fin 4) (r : Fin 128) (c : Fin 256) : EReal :=
  rowDScore (ok r) (S q k kp h ok r) (band (part vp h) (part v h)) (part d h r) (∑ e, part t h r e) c

variable (hP : ∀ r c, pok (ix2 r c) = 1#1 ↔ ok r (before c)) (hC : ∀ r c, cok (ix2 r c) = 1#1 ↔ ok r (own c))
variable (hl : ∀ h r, rowTotal (S q k kp h ok r) ≠ 0)

include hP hC hl in
theorem outQ_apply (r : Fin 128) (l : Fin 256) :
    outQ q k v kp vp pok cok d t (ix2 r l)
      = ∑ c : Fin 256, DS q k v kp vp ok d t (headOf l) r c * band (part kp (headOf l)) (part k (headOf l)) c (placeOf l) := by
  unfold outQ
  pointwise
  rw [show (3#32 : BitVec 32) = wd 3 from rfl, show (2#32 : BitVec 32) = wd 2 from rfl, show (1#32 : BitVec 32) = wd 1 from rfl,
    show (0#32 : BitVec 32) = wd 0 from rfl]
  rw [hQ_apply q k v kp vp pok cok 3 ok hP hC _ _ d t (keep3_apply d) (keep3_apply t) (hl 3),
    hQ_apply q k v kp vp pok cok 2 ok hP hC _ _ d t (keep2_apply d) (keep2_apply t) (hl 2),
    hQ_apply q k v kp vp pok cok 1 ok hP hC _ _ d t (keep1_apply d) (keep1_apply t) (hl 1),
    hQ_apply q k v kp vp pok cok 0 ok hP hC _ _ d t (keep0_apply d) (keep0_apply t) (hl 0)]
  exact four (fun h => ∑ c : Fin 256, DS q k v kp vp ok d t h r c * band (part kp h) (part k h) c (placeOf l)) (headOf l)

include hP hC hl in
theorem outK_apply (c : Fin 128) (l : Fin 256) :
    outK q k v kp vp pok cok d t ck (ix2 c l)
      = ck (ix2 c l) + ∑ r : Fin 128, DS q k v kp vp ok d t (headOf l) r (own c) * part q (headOf l) r (placeOf l) := by
  unfold outK
  pointwise
  rw [show (3#32 : BitVec 32) = wd 3 from rfl, show (2#32 : BitVec 32) = wd 2 from rfl, show (1#32 : BitVec 32) = wd 1 from rfl,
    show (0#32 : BitVec 32) = wd 0 from rfl]
  rw [hK_apply q k v kp vp pok cok 3 ok hP hC _ _ d t (keep3_apply d) (keep3_apply t) (hl 3),
    hK_apply q k v kp vp pok cok 2 ok hP hC _ _ d t (keep2_apply d) (keep2_apply t) (hl 2),
    hK_apply q k v kp vp pok cok 1 ok hP hC _ _ d t (keep1_apply d) (keep1_apply t) (hl 1),
    hK_apply q k v kp vp pok cok 0 ok hP hC _ _ d t (keep0_apply d) (keep0_apply t) (hl 0)]
  exact four_over _ (fun h => ∑ r : Fin 128, DS q k v kp vp ok d t h r (own c) * part q h r (placeOf l)) (headOf l)

include hP hC hl in
theorem nextK_apply (c : Fin 128) (l : Fin 256) :
    nextK q k v kp vp pok cok d t (ix2 c l)
      = ∑ r : Fin 128, DS q k v kp vp ok d t (headOf l) r (before c) * part q (headOf l) r (placeOf l) := by
  unfold nextK
  pointwise
  rw [show (3#32 : BitVec 32) = wd 3 from rfl, show (2#32 : BitVec 32) = wd 2 from rfl, show (1#32 : BitVec 32) = wd 1 from rfl,
    show (0#32 : BitVec 32) = wd 0 from rfl]
  rw [hKp_apply q k v kp vp pok cok 3 ok hP hC _ _ d t (keep3_apply d) (keep3_apply t) (hl 3),
    hKp_apply q k v kp vp pok cok 2 ok hP hC _ _ d t (keep2_apply d) (keep2_apply t) (hl 2),
    hKp_apply q k v kp vp pok cok 1 ok hP hC _ _ d t (keep1_apply d) (keep1_apply t) (hl 1),
    hKp_apply q k v kp vp pok cok 0 ok hP hC _ _ d t (keep0_apply d) (keep0_apply t) (hl 0)]
  exact four (fun h => ∑ r : Fin 128, DS q k v kp vp ok d t h r (before c) * part q h r (placeOf l)) (headOf l)

/-- A weight times the cotangent of the weighted sums. -/
def WN (h : Fin 4) (r : Fin 128) (c : Fin 256) (e : Fin 64) : EReal :=
  rowWeight (S q k kp h ok r) c * rowDNum (S q k kp h ok r) (part d h r) e

include hP hC hl in
theorem outV_apply (c : Fin 128) (l : Fin 256) :
    outV q k kp pok cok d cv (ix2 c l) = cv (ix2 c l) + ∑ r : Fin 128, WN q k kp ok d (headOf l) r (own c) (placeOf l) := by
  unfold outV
  pointwise
  rw [show (3#32 : BitVec 32) = wd 3 from rfl, show (2#32 : BitVec 32) = wd 2 from rfl, show (1#32 : BitVec 32) = wd 1 from rfl,
    show (0#32 : BitVec 32) = wd 0 from rfl]
  rw [hV_apply q k kp pok cok 3 ok hP hC _ d (keep3_apply d) (hl 3),
    hV_apply q k kp pok cok 2 ok hP hC _ d (keep2_apply d) (hl 2),
    hV_apply q k kp pok cok 1 ok hP hC _ d (keep1_apply d) (hl 1),
    hV_apply q k kp pok cok 0 ok hP hC _ d (keep0_apply d) (hl 0)]
  exact four_over _ (fun h => ∑ r : Fin 128, WN q k kp ok d h r (own c) (placeOf l)) (headOf l)

include hP hC hl in
theorem nextV_apply (c : Fin 128) (l : Fin 256) :
    nextV q k kp pok cok d (ix2 c l) = ∑ r : Fin 128, WN q k kp ok d (headOf l) r (before c) (placeOf l) := by
  unfold nextV
  pointwise
  rw [show (3#32 : BitVec 32) = wd 3 from rfl, show (2#32 : BitVec 32) = wd 2 from rfl, show (1#32 : BitVec 32) = wd 1 from rfl,
    show (0#32 : BitVec 32) = wd 0 from rfl]
  rw [hVp_apply q k kp pok cok 3 ok hP hC _ d (keep3_apply d) (hl 3),
    hVp_apply q k kp pok cok 2 ok hP hC _ d (keep2_apply d) (hl 2),
    hVp_apply q k kp pok cok 1 ok hP hC _ d (keep1_apply d) (hl 1),
    hVp_apply q k kp pok cok 0 ok hP hC _ d (keep0_apply d) (hl 0)]
  exact four (fun h => ∑ r : Fin 128, WN q k kp ok d h r (before c) (placeOf l)) (headOf l)

end

end Cert.Attn.Vec

end
-- ==== Proof.Attn.Pays.lean ====
/-
  The generated values of the attention gradient's body, each read as the named step it is.
-/
module

public import proofs.«01_k».proof.Proof.Gen.KernelIdeal.Skeleton
public import proofs.«01_k».proof.Proof.Attn.Vec

@[expose] public section

noncomputable section

namespace Cert.Attn.Pays

open Idealize.ShloMosaic Idealize.SL.Sem
open Cert.KernelIdeal Cert.KernelIdeal.Gen
open Cert.Attn.Vec

variable {F : FTy → Type} [FloatOps F] [Named F]
variable (q k v kp vp ck cv d t : FVec F S128x256 .f32) (pok cok : IVec S128x128 1)

/-- The output block of a point: the three cotangents side by side. -/
def outBlock : FVec F S1x128x768 .f32 :=
  shapeCast S1x128x768 (concatenate S128x768 1 [⟨S128x256, outQ q k v kp vp pok cok d t⟩,
    ⟨S128x256, outK q k v kp vp pok cok d t ck⟩, ⟨S128x256, outV q k kp pok cok d cv⟩]
    concatenates_S128x256_S128x256_S128x256_S128x768_d1) shapeCasts_S128x768_S1x128x768

theorem eq_k0_pay18 : k0_pay18 (iota .tc S128x256 32 [1] iota_S128x256_d1_w32) 64#32 (k0_pay16) (k0_pay17) = heads := rfl
theorem eq_k0_pay19 : k0_pay19 (iota .tc S128x256 32 [1] iota_S128x256_d1_w32) 64#32 (k0_pay16) (k0_pay17) = lanesOf 0#32 := rfl
theorem eq_k0_pay20 : k0_pay20 (q) (iota .tc S128x256 32 [1] iota_S128x256_d1_w32) 64#32 (k0_pay16) (k0_pay17) = keep 0#32 q := rfl
theorem eq_k0_pay21 : k0_pay21 (kp) (q) (pok) (iota .tc S128x256 32 [1] iota_S128x256_d1_w32) 64#32 (k0_pay16) (k0_pay17) = sP q kp pok 0#32 := rfl
theorem eq_k0_pay22 : k0_pay22 (q) (k) (cok) (iota .tc S128x256 32 [1] iota_S128x256_d1_w32) 64#32 (k0_pay16) (k0_pay17) = sC q k cok 0#32 := rfl
theorem eq_k0_pay23 : k0_pay23 (kp) (q) (k) (pok) (cok) (iota .tc S128x256 32 [1] iota_S128x256_d1_w32) 64#32 (k0_pay16) (k0_pay17) = mx q k kp pok cok 0#32 := rfl
theorem eq_k0_pay24 : k0_pay24 (kp) (q) (k) (pok) (cok) (iota .tc S128x256 32 [1] iota_S128x256_d1_w32) 64#32 (k0_pay16) (k0_pay17) = broadcastTo S128x128 (mx q k kp pok cok 0#32) broadcasts_S128x1_S128x128 := rfl
theorem eq_k0_pay25 : k0_pay25 (sP q kp pok 0#32) (broadcastTo S128x128 (mx q k kp pok cok 0#32) broadcasts_S128x1_S128x128) = pP q k kp pok cok 0#32 := rfl
theorem eq_k0_pay26 : k0_pay26 (sC q k cok 0#32) (mx q k kp pok cok 0#32) = pC q k kp pok cok 0#32 := rfl
theorem eq_k0_pay27 : k0_pay27 (sP q kp pok 0#32) (sC q k cok 0#32) (mx q k kp pok cok 0#32) (broadcastTo S128x128 (mx q k kp pok cok 0#32) broadcasts_S128x1_S128x128) = tot q k kp pok cok 0#32 := rfl
theorem eq_k0_pay28 : k0_pay28 (vp) (v) (sP q kp pok 0#32) (sC q k cok 0#32) (mx q k kp pok cok 0#32) (broadcastTo S128x128 (mx q k kp pok cok 0#32) broadcasts_S128x1_S128x128) = num q k v kp vp pok cok 0#32 := rfl
theorem eq_k0_pay29 : k0_pay29 (sP q kp pok 0#32) (sC q k cok 0#32) (mx q k kp pok cok 0#32) (broadcastTo S128x128 (mx q k kp pok cok 0#32) broadcasts_S128x1_S128x128) = inv2 q k kp pok cok 0#32 := rfl
theorem eq_k0_pay30 : k0_pay30 (heads) = lanesOf 1#32 := rfl
theorem eq_k0_pay31 : k0_pay31 (q) (heads) = keep 1#32 q := rfl
theorem eq_k0_pay33 : k0_pay33 (q) (k) (cok) (heads) = sC q k cok 1#32 := rfl
theorem eq_k0_pay34 : k0_pay34 (kp) (q) (k) (pok) (cok) (heads) = mx q k kp pok cok 1#32 := rfl
theorem eq_k0_pay35 : k0_pay35 (kp) (q) (k) (pok) (cok) (heads) = subf (sP q kp pok 1#32) (broadcastTo S128x128 (mx q k kp pok cok 1#32) broadcasts_S128x1_S128x128) := rfl
theorem eq_k0_pay36 : k0_pay36 (subf (sP q kp pok 1#32) (broadcastTo S128x128 (mx q k kp pok cok 1#32) broadcasts_S128x1_S128x128)) = pP q k kp pok cok 1#32 := rfl
theorem eq_k0_pay37 : k0_pay37 (sC q k cok 1#32) (mx q k kp pok cok 1#32) = pC q k kp pok cok 1#32 := rfl
theorem eq_k0_pay38 : k0_pay38 (sC q k cok 1#32) (mx q k kp pok cok 1#32) (subf (sP q kp pok 1#32) (broadcastTo S128x128 (mx q k kp pok cok 1#32) broadcasts_S128x1_S128x128)) = tot q k kp pok cok 1#32 := rfl
theorem eq_k0_pay39 : k0_pay39 (vp) (v) (sC q k cok 1#32) (mx q k kp pok cok 1#32) (subf (sP q kp pok 1#32) (broadcastTo S128x128 (mx q k kp pok cok 1#32) broadcasts_S128x1_S128x128)) = num q k v kp vp pok cok 1#32 := rfl
theorem eq_k0_pay40 : k0_pay40 (sC q k cok 1#32) (mx q k kp pok cok 1#32) (subf (sP q kp pok 1#32) (broadcastTo S128x128 (mx q k kp pok cok 1#32) broadcasts_S128x1_S128x128)) = inv2 q k kp pok cok 1#32 := rfl
theorem eq_k0_pay41 : k0_pay41 (heads) = lanesOf 2#32 := rfl
theorem eq_k0_pay42 : k0_pay42 (q) (heads) = keep 2#32 q := rfl
theorem eq_k0_pay44 : k0_pay44 (q) (k) (cok) (heads) = sC q k cok 2#32 := rfl
theorem eq_k0_pay45 : k0_pay45 (kp) (q) (k) (pok) (cok) (heads) = mx q k kp pok cok 2#32 := rfl
theorem eq_k0_pay46 : k0_pay46 (kp) (q) (k) (pok) (cok) (heads) = pP q k kp pok cok 2#32 := rfl
theorem eq_k0_pay47 : k0_pay47 (sC q k cok 2#32) (mx q k kp pok cok 2#32) = pC q k kp pok cok 2#32 := rfl
theorem eq_k0_pay48 : k0_pay48 (sC q k cok 2#32) (mx q k kp pok cok 2#32) (pP q k kp pok cok 2#32) = tot q k kp pok cok 2#32 := rfl
theorem eq_k0_pay49 : k0_pay49 (vp) (v) (sC q k cok 2#32) (mx q k kp pok cok 2#32) (pP q k kp pok cok 2#32) = num q k v kp vp pok cok 2#32 := rfl
theorem eq_k0_pay50 : k0_pay50 (sC q k cok 2#32) (mx q k kp pok cok 2#32) (pP q k kp pok cok 2#32) = inv2 q k kp pok cok 2#32 := rfl
theorem eq_k0_pay51 : k0_pay51 (heads) = lanesOf 3#32 := rfl
theorem eq_k0_pay52 : k0_pay52 (q) (heads) = keep 3#32 q := rfl
theorem eq_k0_pay54 : k0_pay54 (q) (k) (cok) (heads) = sC q k cok 3#32 := rfl
theorem eq_k0_pay56 : k0_pay56 (kp) (q) (k) (pok) (cok) (heads) = pP q k kp pok cok 3#32 := rfl
theorem eq_k0_pay57 : k0_pay57 (kp) (q) (k) (pok) (cok) (heads) = broadcastTo S128x128 (mx q k kp pok cok 3#32) broadcasts_S128x1_S128x128 := rfl
theorem eq_k0_pay58 : k0_pay58 (sC q k cok 3#32) (broadcastTo S128x128 (mx q k kp pok cok 3#32) broadcasts_S128x1_S128x128) = pC q k kp pok cok 3#32 := rfl
theorem eq_k0_pay61 : k0_pay61 (t) (lanesOf 3#32) = left2 t := rfl
theorem eq_k0_pay63 : k0_pay63 (d) (lanesOf 3#32) = left2 d := rfl
theorem eq_k0_pay65 : k0_pay65 (vp) (d) (t) (v) (lanesOf 3#32) (sC q k cok 3#32) (pP q k kp pok cok 3#32) (broadcastTo S128x128 (mx q k kp pok cok 3#32) broadcasts_S128x1_S128x128) = dT q k v kp vp pok cok 3#32 (keep 3#32 d) (keep 3#32 t) := rfl
theorem eq_k0_pay66 : k0_pay66 (d) (lanesOf 3#32) (sC q k cok 3#32) (pP q k kp pok cok 3#32) (broadcastTo S128x128 (mx q k kp pok cok 3#32) broadcasts_S128x1_S128x128) = dN q k kp pok cok 3#32 (keep 3#32 d) := rfl
theorem eq_k0_pay67 : k0_pay67 (d) (v) (lanesOf 3#32) (sC q k cok 3#32) (pP q k kp pok cok 3#32) (broadcastTo S128x128 (mx q k kp pok cok 3#32) broadcasts_S128x1_S128x128) = rowsByRows (dN q k kp pok cok 3#32 (keep 3#32 d)) v := rfl
theorem eq_k0_pay68 : k0_pay68 (cv) (d) (lanesOf 3#32) (sC q k cok 3#32) (pP q k kp pok cok 3#32) (broadcastTo S128x128 (mx q k kp pok cok 3#32) broadcasts_S128x1_S128x128) = addf cv (hV q k kp pok cok 3#32 (keep 3#32 d)) := rfl
theorem eq_k0_pay69 : k0_pay69 (vp) (d) (lanesOf 3#32) (sC q k cok 3#32) (pP q k kp pok cok 3#32) (broadcastTo S128x128 (mx q k kp pok cok 3#32) broadcasts_S128x1_S128x128) = rowsByRows (dN q k kp pok cok 3#32 (keep 3#32 d)) vp := rfl
theorem eq_k0_pay70 : k0_pay70 (pP q k kp pok cok 3#32) = truncf .bf16 (pP q k kp pok cok 3#32) bitsLt_bf16_f32 := rfl
theorem eq_k0_pay71 : k0_pay71 (dN q k kp pok cok 3#32 (keep 3#32 d)) (truncf .bf16 (pP q k kp pok cok 3#32) bitsLt_bf16_f32) = hVp q k kp pok cok 3#32 (keep 3#32 d) := rfl
theorem eq_k0_pay73 : k0_pay73 (ck) (cok) (keep 3#32 q) (pC q k kp pok cok 3#32) (dT q k v kp vp pok cok 3#32 (keep 3#32 d) (keep 3#32 t)) (rowsByRows (dN q k kp pok cok 3#32 (keep 3#32 d)) v) = addf ck (hK q k v kp vp pok cok 3#32 (keep 3#32 d) (keep 3#32 t)) := rfl
theorem eq_k0_pay75 : k0_pay75 (pok) (keep 3#32 q) (pP q k kp pok cok 3#32) (dT q k v kp vp pok cok 3#32 (keep 3#32 d) (keep 3#32 t)) (rowsByRows (dN q k kp pok cok 3#32 (keep 3#32 d)) vp) = hKp q k v kp vp pok cok 3#32 (keep 3#32 d) (keep 3#32 t) := rfl
theorem eq_k0_pay76 : k0_pay76 (kp) (k) (pok) (cok) (lanesOf 3#32) (pP q k kp pok cok 3#32) (pC q k kp pok cok 3#32) (dT q k v kp vp pok cok 3#32 (keep 3#32 d) (keep 3#32 t)) (rowsByRows (dN q k kp pok cok 3#32 (keep 3#32 d)) v) (rowsByRows (dN q k kp pok cok 3#32 (keep 3#32 d)) vp) = hQ q k v kp vp pok cok 3#32 (keep 3#32 d) (keep 3#32 t) := rfl
theorem eq_k0_pay78 : k0_pay78 (lanesOf 2#32) (left2 t) = left1 t := rfl
theorem eq_k0_pay79 : k0_pay79 (lanesOf 2#32) (tot q k kp pok cok 2#32) (left2 t) = divf (laneSum (keep 2#32 (left2 t))) (tot q k kp pok cok 2#32) := rfl
theorem eq_k0_pay81 : k0_pay81 (lanesOf 2#32) (left2 d) = left1 d := rfl
theorem eq_k0_pay82 : k0_pay82 (lanesOf 2#32) (left2 d) = (keep 2#32 (left2 d)) := rfl
theorem eq_k0_pay85 : k0_pay85 (pC q k kp pok cok 2#32) (tot q k kp pok cok 2#32) (addf cv (hV q k kp pok cok 3#32 (keep 3#32 d))) ((keep 2#32 (left2 d))) = addf (addf cv (hV q k kp pok cok 3#32 (keep 3#32 d))) (hV q k kp pok cok 2#32 (keep 2#32 (left2 d))) := rfl
theorem eq_k0_pay86 : k0_pay86 (pP q k kp pok cok 2#32) (tot q k kp pok cok 2#32) (hVp q k kp pok cok 3#32 (keep 3#32 d)) ((keep 2#32 (left2 d))) = addf (hVp q k kp pok cok 3#32 (keep 3#32 d)) (hVp q k kp pok cok 2#32 (keep 2#32 (left2 d))) := rfl
theorem eq_k0_pay88 : k0_pay88 (k) (v) (cok) (pC q k kp pok cok 2#32) (tot q k kp pok cok 2#32) (num q k v kp vp pok cok 2#32) (inv2 q k kp pok cok 2#32) (divf (laneSum (keep 2#32 (left2 t))) (tot q k kp pok cok 2#32)) ((keep 2#32 (left2 d))) = spread (dSC q k v kp vp pok cok 2#32 (keep 2#32 (left2 d)) (keep 2#32 (left2 t))) k := rfl
theorem eq_k0_pay89 : k0_pay89 (v) (cok) (keep 2#32 q) (pC q k kp pok cok 2#32) (tot q k kp pok cok 2#32) (num q k v kp vp pok cok 2#32) (inv2 q k kp pok cok 2#32) (addf ck (hK q k v kp vp pok cok 3#32 (keep 3#32 d) (keep 3#32 t))) (divf (laneSum (keep 2#32 (left2 t))) (tot q k kp pok cok 2#32)) ((keep 2#32 (left2 d))) = addf (addf ck (hK q k v kp vp pok cok 3#32 (keep 3#32 d) (keep 3#32 t))) (hK q k v kp vp pok cok 2#32 (keep 2#32 (left2 d)) (keep 2#32 (left2 t))) := rfl
theorem eq_k0_pay90 : k0_pay90 (vp) (pok) (pP q k kp pok cok 2#32) (tot q k kp pok cok 2#32) (num q k v kp vp pok cok 2#32) (inv2 q k kp pok cok 2#32) (divf (laneSum (keep 2#32 (left2 t))) (tot q k kp pok cok 2#32)) ((keep 2#32 (left2 d))) = select pok (mulf (dW q k v kp vp pok cok 2#32 (keep 2#32 (left2 d)) (keep 2#32 (left2 t)) vp) (pP q k kp pok cok 2#32)) (broadcast S128x128 (Scalar.ofBits .f32 0x00000000#32 : F .f32)) := rfl
theorem eq_k0_pay92 : k0_pay92 (keep 2#32 q) (hKp q k v kp vp pok cok 3#32 (keep 3#32 d) (keep 3#32 t)) (select pok (mulf (dW q k v kp vp pok cok 2#32 (keep 2#32 (left2 d)) (keep 2#32 (left2 t)) vp) (pP q k kp pok cok 2#32)) (broadcast S128x128 (Scalar.ofBits .f32 0x00000000#32 : F .f32))) = addf (hKp q k v kp vp pok cok 3#32 (keep 3#32 d) (keep 3#32 t)) (hKp q k v kp vp pok cok 2#32 (keep 2#32 (left2 d)) (keep 2#32 (left2 t))) := rfl
theorem eq_k0_pay93 : k0_pay93 (kp) (lanesOf 2#32) (hQ q k v kp vp pok cok 3#32 (keep 3#32 d) (keep 3#32 t)) (spread (dSC q k v kp vp pok cok 2#32 (keep 2#32 (left2 d)) (keep 2#32 (left2 t))) k) (select pok (mulf (dW q k v kp vp pok cok 2#32 (keep 2#32 (left2 d)) (keep 2#32 (left2 t)) vp) (pP q k kp pok cok 2#32)) (broadcast S128x128 (Scalar.ofBits .f32 0x00000000#32 : F .f32))) = addf (hQ q k v kp vp pok cok 3#32 (keep 3#32 d) (keep 3#32 t)) (hQ q k v kp vp pok cok 2#32 (keep 2#32 (left2 d)) (keep 2#32 (left2 t))) := rfl
theorem eq_k0_pay95 : k0_pay95 (lanesOf 1#32) (left1 t) = left0 t := rfl
theorem eq_k0_pay97 : k0_pay97 (lanesOf 1#32) (left1 d) = left0 d := rfl
theorem eq_k0_pay99 : k0_pay99 (lanesOf 1#32) (tot q k kp pok cok 1#32) (num q k v kp vp pok cok 1#32) (inv2 q k kp pok cok 1#32) (left1 t) (left1 d) = dT q k v kp vp pok cok 1#32 (keep 1#32 (left1 d)) (keep 1#32 (left1 t)) := rfl
theorem eq_k0_pay101 : k0_pay101 (v) (lanesOf 1#32) (tot q k kp pok cok 1#32) (left1 d) = rowsByRows (dN q k kp pok cok 1#32 (keep 1#32 (left1 d))) v := rfl
theorem eq_k0_pay102 : k0_pay102 (lanesOf 1#32) (pC q k kp pok cok 1#32) (tot q k kp pok cok 1#32) (left1 d) (addf (addf cv (hV q k kp pok cok 3#32 (keep 3#32 d))) (hV q k kp pok cok 2#32 (keep 2#32 (left2 d)))) = addf (addf (addf cv (hV q k kp pok cok 3#32 (keep 3#32 d))) (hV q k kp pok cok 2#32 (keep 2#32 (left2 d)))) (hV q k kp pok cok 1#32 (keep 1#32 (left1 d))) := rfl
theorem eq_k0_pay103 : k0_pay103 (vp) (lanesOf 1#32) (tot q k kp pok cok 1#32) (left1 d) = rowsByRows (dN q k kp pok cok 1#32 (keep 1#32 (left1 d))) vp := rfl
theorem eq_k0_pay104 : k0_pay104 (lanesOf 1#32) (pP q k kp pok cok 1#32) (tot q k kp pok cok 1#32) (left1 d) (addf (hVp q k kp pok cok 3#32 (keep 3#32 d)) (hVp q k kp pok cok 2#32 (keep 2#32 (left2 d)))) = addf (addf (hVp q k kp pok cok 3#32 (keep 3#32 d)) (hVp q k kp pok cok 2#32 (keep 2#32 (left2 d)))) (hVp q k kp pok cok 1#32 (keep 1#32 (left1 d))) := rfl
theorem eq_k0_pay106 : k0_pay106 (cok) (keep 1#32 q) (pC q k kp pok cok 1#32) (addf (addf ck (hK q k v kp vp pok cok 3#32 (keep 3#32 d) (keep 3#32 t))) (hK q k v kp vp pok cok 2#32 (keep 2#32 (left2 d)) (keep 2#32 (left2 t)))) (dT q k v kp vp pok cok 1#32 (keep 1#32 (left1 d)) (keep 1#32 (left1 t))) (rowsByRows (dN q k kp pok cok 1#32 (keep 1#32 (left1 d))) v) = addf (addf (addf ck (hK q k v kp vp pok cok 3#32 (keep 3#32 d) (keep 3#32 t))) (hK q k v kp vp pok cok 2#32 (keep 2#32 (left2 d)) (keep 2#32 (left2 t)))) (hK q k v kp vp pok cok 1#32 (keep 1#32 (left1 d)) (keep 1#32 (left1 t))) := rfl
theorem eq_k0_pay108 : k0_pay108 (pok) (keep 1#32 q) (pP q k kp pok cok 1#32) (addf (hKp q k v kp vp pok cok 3#32 (keep 3#32 d) (keep 3#32 t)) (hKp q k v kp vp pok cok 2#32 (keep 2#32 (left2 d)) (keep 2#32 (left2 t)))) (dT q k v kp vp pok cok 1#32 (keep 1#32 (left1 d)) (keep 1#32 (left1 t))) (rowsByRows (dN q k kp pok cok 1#32 (keep 1#32 (left1 d))) vp) = addf (addf (hKp q k v kp vp pok cok 3#32 (keep 3#32 d) (keep 3#32 t)) (hKp q k v kp vp pok cok 2#32 (keep 2#32 (left2 d)) (keep 2#32 (left2 t)))) (hKp q k v kp vp pok cok 1#32 (keep 1#32 (left1 d)) (keep 1#32 (left1 t))) := rfl
theorem eq_k0_pay109 : k0_pay109 (kp) (k) (pok) (cok) (lanesOf 1#32) (pP q k kp pok cok 1#32) (pC q k kp pok cok 1#32) (addf (hQ q k v kp vp pok cok 3#32 (keep 3#32 d) (keep 3#32 t)) (hQ q k v kp vp pok cok 2#32 (keep 2#32 (left2 d)) (keep 2#32 (left2 t)))) (dT q k v kp vp pok cok 1#32 (keep 1#32 (left1 d)) (keep 1#32 (left1 t))) (rowsByRows (dN q k kp pok cok 1#32 (keep 1#32 (left1 d))) v) (rowsByRows (dN q k kp pok cok 1#32 (keep 1#32 (left1 d))) vp) = addf (addf (hQ q k v kp vp pok cok 3#32 (keep 3#32 d) (keep 3#32 t)) (hQ q k v kp vp pok cok 2#32 (keep 2#32 (left2 d)) (keep 2#32 (left2 t)))) (hQ q k v kp vp pok cok 1#32 (keep 1#32 (left1 d)) (keep 1#32 (left1 t))) := rfl
theorem eq_k0_pay110 : k0_pay110 (lanesOf 0#32) (tot q k kp pok cok 0#32) (left0 t) = divf (laneSum (keep 0#32 (left0 t))) (tot q k kp pok cok 0#32) := rfl
theorem eq_k0_pay111 : k0_pay111 (lanesOf 0#32) (left0 d) = (keep 0#32 (left0 d)) := rfl
theorem eq_k0_pay112 : k0_pay112 (lanesOf 0#32) (num q k v kp vp pok cok 0#32) (inv2 q k kp pok cok 0#32) (left0 d) = mulf (mulf (keep 0#32 (left0 d)) (along (inv2 q k kp pok cok 0#32))) (num q k v kp vp pok cok 0#32) := rfl
theorem eq_k0_pay115 : k0_pay115 (pC q k kp pok cok 0#32) (tot q k kp pok cok 0#32) (addf (addf (addf cv (hV q k kp pok cok 3#32 (keep 3#32 d))) (hV q k kp pok cok 2#32 (keep 2#32 (left2 d)))) (hV q k kp pok cok 1#32 (keep 1#32 (left1 d)))) ((keep 0#32 (left0 d))) = outV q k kp pok cok d cv := rfl
theorem eq_k0_pay116 : k0_pay116 (pP q k kp pok cok 0#32) (tot q k kp pok cok 0#32) (addf (addf (hVp q k kp pok cok 3#32 (keep 3#32 d)) (hVp q k kp pok cok 2#32 (keep 2#32 (left2 d)))) (hVp q k kp pok cok 1#32 (keep 1#32 (left1 d)))) ((keep 0#32 (left0 d))) = nextV q k kp pok cok d := rfl
theorem eq_k0_pay118 : k0_pay118 (k) (v) (cok) (pC q k kp pok cok 0#32) (tot q k kp pok cok 0#32) (divf (laneSum (keep 0#32 (left0 t))) (tot q k kp pok cok 0#32)) ((keep 0#32 (left0 d))) (mulf (mulf (keep 0#32 (left0 d)) (along (inv2 q k kp pok cok 0#32))) (num q k v kp vp pok cok 0#32)) = spread (dSC q k v kp vp pok cok 0#32 (keep 0#32 (left0 d)) (keep 0#32 (left0 t))) k := rfl
theorem eq_k0_pay119 : k0_pay119 (v) (cok) (keep 0#32 q) (pC q k kp pok cok 0#32) (tot q k kp pok cok 0#32) (addf (addf (addf ck (hK q k v kp vp pok cok 3#32 (keep 3#32 d) (keep 3#32 t))) (hK q k v kp vp pok cok 2#32 (keep 2#32 (left2 d)) (keep 2#32 (left2 t)))) (hK q k v kp vp pok cok 1#32 (keep 1#32 (left1 d)) (keep 1#32 (left1 t)))) (divf (laneSum (keep 0#32 (left0 t))) (tot q k kp pok cok 0#32)) ((keep 0#32 (left0 d))) (mulf (mulf (keep 0#32 (left0 d)) (along (inv2 q k kp pok cok 0#32))) (num q k v kp vp pok cok 0#32)) = outK q k v kp vp pok cok d t ck := rfl
theorem eq_k0_pay120 : k0_pay120 (vp) (pok) (pP q k kp pok cok 0#32) (tot q k kp pok cok 0#32) (divf (laneSum (keep 0#32 (left0 t))) (tot q k kp pok cok 0#32)) ((keep 0#32 (left0 d))) (mulf (mulf (keep 0#32 (left0 d)) (along (inv2 q k kp pok cok 0#32))) (num q k v kp vp pok cok 0#32)) = dSP q k v kp vp pok cok 0#32 (keep 0#32 (left0 d)) (keep 0#32 (left0 t)) := rfl
theorem eq_k0_pay121 : k0_pay121 (vp) (pok) (pP q k kp pok cok 0#32) (tot q k kp pok cok 0#32) (divf (laneSum (keep 0#32 (left0 t))) (tot q k kp pok cok 0#32)) ((keep 0#32 (left0 d))) (mulf (mulf (keep 0#32 (left0 d)) (along (inv2 q k kp pok cok 0#32))) (num q k v kp vp pok cok 0#32)) = truncf .bf16 (dSP q k v kp vp pok cok 0#32 (keep 0#32 (left0 d)) (keep 0#32 (left0 t))) bitsLt_bf16_f32 := rfl
theorem eq_k0_pay1 : k0_pay1 (keep 0#32 q) (addf (addf (hKp q k v kp vp pok cok 3#32 (keep 3#32 d) (keep 3#32 t)) (hKp q k v kp vp pok cok 2#32 (keep 2#32 (left2 d)) (keep 2#32 (left2 t)))) (hKp q k v kp vp pok cok 1#32 (keep 1#32 (left1 d)) (keep 1#32 (left1 t)))) (dSP q k v kp vp pok cok 0#32 (keep 0#32 (left0 d)) (keep 0#32 (left0 t))) = shapeCast S128x256 (nextK q k v kp vp pok cok d t) shapeCasts_S128x256_S128x256 := rfl
theorem eq_k0_pay2 : k0_pay2 (nextV q k kp pok cok d) = shapeCast S128x256 (nextV q k kp pok cok d) shapeCasts_S128x256_S128x256 := rfl
theorem eq_k0_pay3 : k0_pay3 kp (lanesOf 0#32) (addf (addf (hQ q k v kp vp pok cok 3#32 (keep 3#32 d) (keep 3#32 t)) (hQ q k v kp vp pok cok 2#32 (keep 2#32 (left2 d)) (keep 2#32 (left2 t)))) (hQ q k v kp vp pok cok 1#32 (keep 1#32 (left1 d)) (keep 1#32 (left1 t)))) (outV q k kp pok cok d cv) (spread (dSC q k v kp vp pok cok 0#32 (keep 0#32 (left0 d)) (keep 0#32 (left0 t))) k) (outK q k v kp vp pok cok d t ck) (truncf .bf16 (dSP q k v kp vp pok cok 0#32 (keep 0#32 (left0 d)) (keep 0#32 (left0 t))) bitsLt_bf16_f32) = outBlock q k v kp vp ck cv d t pok cok := rfl
theorem eq_k0_pay4 : k0_pay4 (F := F) = shapeCast S128x256 zeros shapeCasts_S128x256_S128x256 := rfl
theorem eq_k0_pay5 : k0_pay5 (F := F) = shapeCast S128x256 zeros shapeCasts_S128x256_S128x256 := rfl

end Cert.Attn.Pays

end
-- ==== Proof.Attn.Outs.lean ====
/-
  What one grid point of the attention gradient's kernel leaves in its output block and in its two carries, in terms of
  the blocks it reads: the first point of a pass from zero carries, the later ones from what the point before left.
-/
module

public import proofs.«01_k».proof.Proof.Gen.KernelIdeal.Value
public import proofs.«01_k».proof.Proof.Attn.Pays
public import Idealize.ShloMosaic.Lib.Pointwise

@[expose] public section

noncomputable section

namespace Cert.Attn.Outs

open Idealize.ShloMosaic Idealize.SL.Sem
open Cert.KernelIdeal Cert.KernelIdeal.Gen
open Cert.Attn.Vec Cert.Attn.Pays

set_option maxRecDepth 65536

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (c : Dev nD) (i : grid0.Coords) (arg2 : Memref sig .tc .vmem S1x128x768 .f32) (harg2 : arg2.IsWhole) (arg3 : Memref sig .tc .vmem S1x1x128x256 .f32) (harg3 : arg3.IsWhole) (arg4 : Memref sig .tc .vmem S1x1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x768 .f32) (harg7 : arg7.IsWhole) (arg8 : Memref sig .tc .vmem S128x256 .f32) (harg8 : arg8.IsWhole) (arg9 : Memref sig .tc .vmem S128x256 .f32) (harg9 : arg9.IsWhole)
  (x0 : Vec Ideal S1x128x768 .f32) (x1 : Vec Ideal S1x1x128x256 .f32) (x2 : Vec Ideal S1x1x128x256 .f32) (x3 : Vec Ideal S1x128x256 .f32) (x4 : Vec Ideal S1x128x256 .f32)

/-- The output block at the first point of a pass. -/
theorem out0_A_5_eq (hc0 : cond0_0 i) :
    out0_A_5 c i arg2 harg2 arg3 harg3 arg4 harg4 arg5 harg5 arg6 harg6 arg7 harg7 arg8 harg8 arg9 harg9 hc0 x0 x1 x2 x3 x4 = outBlock (k0_pay11 x0) (k0_pay12 x0) (k0_pay13 x0) (k0_pay7 x1) (k0_pay8 x2) zeros zeros (k0_pay9 x3) (k0_pay10 x4) (k0_pay14 i) k0_pay15 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S128x256) hz2, View.ld_unit_zero (S := S1x128x256) hz3, View.ld_unit_zero (S := S1x128x768) hz3, View.ld_unit_zero (S := S1x1x128x256) hz4, View.readCov_unit_zero (S := S128x256) _ hz2, shapeCast_self]
  try rw [eq_k0_pay18]
  try rw [eq_k0_pay19]
  try rw [eq_k0_pay20]
  try rw [eq_k0_pay21]
  try rw [eq_k0_pay22]
  try rw [eq_k0_pay23]
  try rw [eq_k0_pay24]
  simp only [eq_k0_pay18, eq_k0_pay19, eq_k0_pay20, eq_k0_pay21, eq_k0_pay22, eq_k0_pay23, eq_k0_pay24, eq_k0_pay25, eq_k0_pay26, eq_k0_pay27, eq_k0_pay28, eq_k0_pay29, eq_k0_pay30, eq_k0_pay31, eq_k0_pay33, eq_k0_pay34, eq_k0_pay35, eq_k0_pay36, eq_k0_pay37, eq_k0_pay38, eq_k0_pay39, eq_k0_pay40, eq_k0_pay41, eq_k0_pay42, eq_k0_pay44, eq_k0_pay45, eq_k0_pay46, eq_k0_pay47, eq_k0_pay48, eq_k0_pay49, eq_k0_pay50, eq_k0_pay51, eq_k0_pay52, eq_k0_pay54, eq_k0_pay56, eq_k0_pay57, eq_k0_pay58, eq_k0_pay61, eq_k0_pay63, eq_k0_pay65, eq_k0_pay66, eq_k0_pay67, eq_k0_pay68, eq_k0_pay69, eq_k0_pay70, eq_k0_pay71, eq_k0_pay73, eq_k0_pay75, eq_k0_pay76, eq_k0_pay78, eq_k0_pay79, eq_k0_pay81, eq_k0_pay82, eq_k0_pay85, eq_k0_pay86, eq_k0_pay88, eq_k0_pay89, eq_k0_pay90, eq_k0_pay92, eq_k0_pay93, eq_k0_pay95, eq_k0_pay97, eq_k0_pay99, eq_k0_pay101, eq_k0_pay102, eq_k0_pay103, eq_k0_pay104, eq_k0_pay106, eq_k0_pay108, eq_k0_pay109, eq_k0_pay110, eq_k0_pay111, eq_k0_pay112, eq_k0_pay115, eq_k0_pay116, eq_k0_pay118, eq_k0_pay119, eq_k0_pay120, eq_k0_pay121, eq_k0_pay1, eq_k0_pay2, eq_k0_pay3, eq_k0_pay4, eq_k0_pay5, shapeCast_self]

/-- The keys' carry at the first point of a pass. -/
theorem sout0_A_0_eq (hc0 : cond0_0 i) :
    sout0_A_0 c i arg2 harg2 arg3 harg3 arg4 harg4 arg5 harg5 arg6 harg6 arg7 harg7 arg8 harg8 arg9 harg9 hc0 x0 x1 x2 x3 x4 = nextK (k0_pay11 x0) (k0_pay12 x0) (k0_pay13 x0) (k0_pay7 x1) (k0_pay8 x2) (k0_pay14 i) k0_pay15 (k0_pay9 x3) (k0_pay10 x4) := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S128x256) hz2]
  simp only [View.readAt_eq_ld, harg2.read_unread, harg3.read_unread, harg4.read_unread, harg5.read_unread, harg6.read_unread, harg7.read_unread, harg8.read_unread, harg9.read_unread, View.ld_unit_zero (S := S128x256) hz2, View.ld_unit_zero (S := S1x128x256) hz3, View.ld_unit_zero (S := S1x128x768) hz3, View.ld_unit_zero (S := S1x1x128x256) hz4, View.readCov_unit_zero (S := S128x256) _ hz2, shapeCast_self]
  try rw [eq_k0_pay18]
  try rw [eq_k0_pay19]
  try rw [eq_k0_pay20]
  try rw [eq_k0_pay21]
  try rw [eq_k0_pay22]
  try rw [eq_k0_pay23]
  try rw [eq_k0_pay24]
  simp only [eq_k0_pay18, eq_k0_pay19, eq_k0_pay20, eq_k0_pay21, eq_k0_pay22, eq_k0_pay23, eq_k0_pay24, eq_k0_pay25, eq_k0_pay26, eq_k0_pay27, eq_k0_pay28, eq_k0_pay29, eq_k0_pay30, eq_k0_pay31, eq_k0_pay33, eq_k0_pay34, eq_k0_pay35, eq_k0_pay36, eq_k0_pay37, eq_k0_pay38, eq_k0_pay39, eq_k0_pay40, eq_k0_pay41, eq_k0_pay42, eq_k0_pay44, eq_k0_pay45, eq_k0_pay46, eq_k0_pay47, eq_k0_pay48, eq_k0_pay49, eq_k0_pay50, eq_k0_pay51, eq_k0_pay52, eq_k0_pay54, eq_k0_pay56, eq_k0_pay57, eq_k0_pay58, eq_k0_pay61, eq_k0_pay63, eq_k0_pay65, eq_k0_pay66, eq_k0_pay67, eq_k0_pay68, eq_k0_pay69, eq_k0_pay70, eq_k0_pay71, eq_k0_pay73, eq_k0_pay75, eq_k0_pay76, eq_k0_pay78, eq_k0_pay79, eq_k0_pay81, eq_k0_pay82, eq_k0_pay85, eq_k0_pay86, eq_k0_pay88, eq_k0_pay89, eq_k0_pay90, eq_k0_pay92, eq_k0_pay93, eq_k0_pay95, eq_k0_pay97, eq_k0_pay99, eq_k0_pay101, eq_k0_pay102, eq_k0_pay103, eq_k0_pay104, eq_k0_pay106, eq_k0_pay108, eq_k0_pay109, eq_k0_pay110, eq_k0_pay111, eq_k0_pay112, eq_k0_pay115, eq_k0_pay116, eq_k0_pay118, eq_k0_pay119, eq_k0_pay120, eq_k0_pay121, eq_k0_pay1, eq_k0_pay2, eq_k0_pay3, eq_k0_pay4, eq_k0_pay5, shapeCast_self]

/-- The values' carry at the first point of a pass. -/
theorem sout0_A_1_eq (hc0 : cond0_0 i) :
    sout0_A_1 c i arg2 harg2 arg3 harg3 arg4 harg4 arg5 harg5 arg6 harg6 arg7 harg7 arg8 harg8 arg9 harg9 hc0 x0 x1 x2 x3 x4 = nextV (k0_pay11 x0) (k0_pay12 x0) (k0_pay7 x1) (k0_pay14 i) k0_pay15 (k0_pay9 x3) := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S128x256) hz2]
  simp only [View.readAt_eq_ld, harg2.read_unread, harg3.read_unread, harg4.read_unread, harg5.read_unread, harg6.read_unread, harg7.read_unread, harg8.read_unread, harg9.read_unread, View.ld_unit_zero (S := S128x256) hz2, View.ld_unit_zero (S := S1x128x256) hz3, View.ld_unit_zero (S := S1x128x768) hz3, View.ld_unit_zero (S := S1x1x128x256) hz4, View.readCov_unit_zero (S := S128x256) _ hz2, shapeCast_self]
  try rw [eq_k0_pay18]
  try rw [eq_k0_pay19]
  try rw [eq_k0_pay20]
  try rw [eq_k0_pay21]
  try rw [eq_k0_pay22]
  try rw [eq_k0_pay23]
  try rw [eq_k0_pay24]
  simp only [eq_k0_pay18, eq_k0_pay19, eq_k0_pay20, eq_k0_pay21, eq_k0_pay22, eq_k0_pay23, eq_k0_pay24, eq_k0_pay25, eq_k0_pay26, eq_k0_pay27, eq_k0_pay28, eq_k0_pay29, eq_k0_pay30, eq_k0_pay31, eq_k0_pay33, eq_k0_pay34, eq_k0_pay35, eq_k0_pay36, eq_k0_pay37, eq_k0_pay38, eq_k0_pay39, eq_k0_pay40, eq_k0_pay41, eq_k0_pay42, eq_k0_pay44, eq_k0_pay45, eq_k0_pay46, eq_k0_pay47, eq_k0_pay48, eq_k0_pay49, eq_k0_pay50, eq_k0_pay51, eq_k0_pay52, eq_k0_pay54, eq_k0_pay56, eq_k0_pay57, eq_k0_pay58, eq_k0_pay61, eq_k0_pay63, eq_k0_pay65, eq_k0_pay66, eq_k0_pay67, eq_k0_pay68, eq_k0_pay69, eq_k0_pay70, eq_k0_pay71, eq_k0_pay73, eq_k0_pay75, eq_k0_pay76, eq_k0_pay78, eq_k0_pay79, eq_k0_pay81, eq_k0_pay82, eq_k0_pay85, eq_k0_pay86, eq_k0_pay88, eq_k0_pay89, eq_k0_pay90, eq_k0_pay92, eq_k0_pay93, eq_k0_pay95, eq_k0_pay97, eq_k0_pay99, eq_k0_pay101, eq_k0_pay102, eq_k0_pay103, eq_k0_pay104, eq_k0_pay106, eq_k0_pay108, eq_k0_pay109, eq_k0_pay110, eq_k0_pay111, eq_k0_pay112, eq_k0_pay115, eq_k0_pay116, eq_k0_pay118, eq_k0_pay119, eq_k0_pay120, eq_k0_pay121, eq_k0_pay1, eq_k0_pay2, eq_k0_pay3, eq_k0_pay4, eq_k0_pay5, shapeCast_self]

/-- The output block at a later point. -/
theorem out0_B_5_eq (hc0 : ¬cond0_0 i) (s0 s1 : Vec Ideal S128x256 .f32) :
    out0_B_5 c i arg2 harg2 arg3 harg3 arg4 harg4 arg5 harg5 arg6 harg6 arg7 harg7 arg8 harg8 arg9 harg9 hc0 x0 x1 x2 x3 x4 s0 s1 = outBlock (k0_pay11 x0) (k0_pay12 x0) (k0_pay13 x0) (k0_pay7 x1) (k0_pay8 x2) s0 s1 (k0_pay9 x3) (k0_pay10 x4) (k0_pay14 i) k0_pay15 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 s0 s1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S128x256) hz2, View.ld_unit_zero (S := S1x128x256) hz3, View.ld_unit_zero (S := S1x128x768) hz3, View.ld_unit_zero (S := S1x1x128x256) hz4, View.readCov_unit_zero (S := S128x256) _ hz2, shapeCast_self]
  try rw [eq_k0_pay18]
  try rw [eq_k0_pay19]
  try rw [eq_k0_pay20]
  try rw [eq_k0_pay21]
  try rw [eq_k0_pay22]
  try rw [eq_k0_pay23]
  try rw [eq_k0_pay24]
  simp only [eq_k0_pay18, eq_k0_pay19, eq_k0_pay20, eq_k0_pay21, eq_k0_pay22, eq_k0_pay23, eq_k0_pay24, eq_k0_pay25, eq_k0_pay26, eq_k0_pay27, eq_k0_pay28, eq_k0_pay29, eq_k0_pay30, eq_k0_pay31, eq_k0_pay33, eq_k0_pay34, eq_k0_pay35, eq_k0_pay36, eq_k0_pay37, eq_k0_pay38, eq_k0_pay39, eq_k0_pay40, eq_k0_pay41, eq_k0_pay42, eq_k0_pay44, eq_k0_pay45, eq_k0_pay46, eq_k0_pay47, eq_k0_pay48, eq_k0_pay49, eq_k0_pay50, eq_k0_pay51, eq_k0_pay52, eq_k0_pay54, eq_k0_pay56, eq_k0_pay57, eq_k0_pay58, eq_k0_pay61, eq_k0_pay63, eq_k0_pay65, eq_k0_pay66, eq_k0_pay67, eq_k0_pay68, eq_k0_pay69, eq_k0_pay70, eq_k0_pay71, eq_k0_pay73, eq_k0_pay75, eq_k0_pay76, eq_k0_pay78, eq_k0_pay79, eq_k0_pay81, eq_k0_pay82, eq_k0_pay85, eq_k0_pay86, eq_k0_pay88, eq_k0_pay89, eq_k0_pay90, eq_k0_pay92, eq_k0_pay93, eq_k0_pay95, eq_k0_pay97, eq_k0_pay99, eq_k0_pay101, eq_k0_pay102, eq_k0_pay103, eq_k0_pay104, eq_k0_pay106, eq_k0_pay108, eq_k0_pay109, eq_k0_pay110, eq_k0_pay111, eq_k0_pay112, eq_k0_pay115, eq_k0_pay116, eq_k0_pay118, eq_k0_pay119, eq_k0_pay120, eq_k0_pay121, eq_k0_pay1, eq_k0_pay2, eq_k0_pay3, eq_k0_pay4, eq_k0_pay5, shapeCast_self]

/-- The keys' carry at a later point. -/
theorem sout0_B_0_eq (hc0 : ¬cond0_0 i) (s0 s1 : Vec Ideal S128x256 .f32) :
    sout0_B_0 c i arg2 harg2 arg3 harg3 arg4 harg4 arg5 harg5 arg6 harg6 arg7 harg7 arg8 harg8 arg9 harg9 hc0 x0 x1 x2 x3 x4 s0 s1 = nextK (k0_pay11 x0) (k0_pay12 x0) (k0_pay13 x0) (k0_pay7 x1) (k0_pay8 x2) (k0_pay14 i) k0_pay15 (k0_pay9 x3) (k0_pay10 x4) := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 x4 s0 s1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S128x256) hz2, View.ld_unit_zero (S := S1x128x256) hz3, View.ld_unit_zero (S := S1x128x768) hz3, View.ld_unit_zero (S := S1x1x128x256) hz4, View.readCov_unit_zero (S := S128x256) _ hz2, shapeCast_self]
  try rw [eq_k0_pay18]
  try rw [eq_k0_pay19]
  try rw [eq_k0_pay20]
  try rw [eq_k0_pay21]
  try rw [eq_k0_pay22]
  try rw [eq_k0_pay23]
  try rw [eq_k0_pay24]
  simp only [eq_k0_pay18, eq_k0_pay19, eq_k0_pay20, eq_k0_pay21, eq_k0_pay22, eq_k0_pay23, eq_k0_pay24, eq_k0_pay25, eq_k0_pay26, eq_k0_pay27, eq_k0_pay28, eq_k0_pay29, eq_k0_pay30, eq_k0_pay31, eq_k0_pay33, eq_k0_pay34, eq_k0_pay35, eq_k0_pay36, eq_k0_pay37, eq_k0_pay38, eq_k0_pay39, eq_k0_pay40, eq_k0_pay41, eq_k0_pay42, eq_k0_pay44, eq_k0_pay45, eq_k0_pay46, eq_k0_pay47, eq_k0_pay48, eq_k0_pay49, eq_k0_pay50, eq_k0_pay51, eq_k0_pay52, eq_k0_pay54, eq_k0_pay56, eq_k0_pay57, eq_k0_pay58, eq_k0_pay61, eq_k0_pay63, eq_k0_pay65, eq_k0_pay66, eq_k0_pay67, eq_k0_pay68, eq_k0_pay69, eq_k0_pay70, eq_k0_pay71, eq_k0_pay73, eq_k0_pay75, eq_k0_pay76, eq_k0_pay78, eq_k0_pay79, eq_k0_pay81, eq_k0_pay82, eq_k0_pay85, eq_k0_pay86, eq_k0_pay88, eq_k0_pay89, eq_k0_pay90, eq_k0_pay92, eq_k0_pay93, eq_k0_pay95, eq_k0_pay97, eq_k0_pay99, eq_k0_pay101, eq_k0_pay102, eq_k0_pay103, eq_k0_pay104, eq_k0_pay106, eq_k0_pay108, eq_k0_pay109, eq_k0_pay110, eq_k0_pay111, eq_k0_pay112, eq_k0_pay115, eq_k0_pay116, eq_k0_pay118, eq_k0_pay119, eq_k0_pay120, eq_k0_pay121, eq_k0_pay1, eq_k0_pay2, eq_k0_pay3, eq_k0_pay4, eq_k0_pay5, shapeCast_self]

/-- The values' carry at a later point. -/
theorem sout0_B_1_eq (hc0 : ¬cond0_0 i) (s0 s1 : Vec Ideal S128x256 .f32) :
    sout0_B_1 c i arg2 harg2 arg3 harg3 arg4 harg4 arg5 harg5 arg6 harg6 arg7 harg7 arg8 harg8 arg9 harg9 hc0 x0 x1 x2 x3 x4 s0 s1 = nextV (k0_pay11 x0) (k0_pay12 x0) (k0_pay7 x1) (k0_pay14 i) k0_pay15 (k0_pay9 x3) := by
  unfold sout0_B_1
  rw [View.read_writes_eq_canon _ _ _ (scover0_B_1 c i arg2 harg2 arg3 harg3 arg4 harg4 arg5 harg5 arg6 harg6 arg7 harg7 arg8 harg8 arg9 harg9 hc0 x0 x1 x2 x3 x4 s0 s1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S128x256) hz2, View.ld_unit_zero (S := S1x128x256) hz3, View.ld_unit_zero (S := S1x128x768) hz3, View.ld_unit_zero (S := S1x1x128x256) hz4, View.readCov_unit_zero (S := S128x256) _ hz2, shapeCast_self]
  try rw [eq_k0_pay18]
  try rw [eq_k0_pay19]
  try rw [eq_k0_pay20]
  try rw [eq_k0_pay21]
  try rw [eq_k0_pay22]
  try rw [eq_k0_pay23]
  try rw [eq_k0_pay24]
  simp only [eq_k0_pay18, eq_k0_pay19, eq_k0_pay20, eq_k0_pay21, eq_k0_pay22, eq_k0_pay23, eq_k0_pay24, eq_k0_pay25, eq_k0_pay26, eq_k0_pay27, eq_k0_pay28, eq_k0_pay29, eq_k0_pay30, eq_k0_pay31, eq_k0_pay33, eq_k0_pay34, eq_k0_pay35, eq_k0_pay36, eq_k0_pay37, eq_k0_pay38, eq_k0_pay39, eq_k0_pay40, eq_k0_pay41, eq_k0_pay42, eq_k0_pay44, eq_k0_pay45, eq_k0_pay46, eq_k0_pay47, eq_k0_pay48, eq_k0_pay49, eq_k0_pay50, eq_k0_pay51, eq_k0_pay52, eq_k0_pay54, eq_k0_pay56, eq_k0_pay57, eq_k0_pay58, eq_k0_pay61, eq_k0_pay63, eq_k0_pay65, eq_k0_pay66, eq_k0_pay67, eq_k0_pay68, eq_k0_pay69, eq_k0_pay70, eq_k0_pay71, eq_k0_pay73, eq_k0_pay75, eq_k0_pay76, eq_k0_pay78, eq_k0_pay79, eq_k0_pay81, eq_k0_pay82, eq_k0_pay85, eq_k0_pay86, eq_k0_pay88, eq_k0_pay89, eq_k0_pay90, eq_k0_pay92, eq_k0_pay93, eq_k0_pay95, eq_k0_pay97, eq_k0_pay99, eq_k0_pay101, eq_k0_pay102, eq_k0_pay103, eq_k0_pay104, eq_k0_pay106, eq_k0_pay108, eq_k0_pay109, eq_k0_pay110, eq_k0_pay111, eq_k0_pay112, eq_k0_pay115, eq_k0_pay116, eq_k0_pay118, eq_k0_pay119, eq_k0_pay120, eq_k0_pay121, eq_k0_pay1, eq_k0_pay2, eq_k0_pay3, eq_k0_pay4, eq_k0_pay5, shapeCast_self]

end Cert.Attn.Outs

end
-- ==== Proof.Attn.Blocks.lean ====
/-
  What the kernel's grid points read: the blocks of the projections, of the saved keys and values of the block before, and of
  the two cotangents, each at a place of its array. The grid runs from the last block to the first.
-/
module

public import proofs.«01_k».proof.Proof.Attn.Spec
public import proofs.«01_k».proof.Proof.Attn.Point
public import proofs.«01_k».proof.Proof.Attn.Outs
public import proofs.«01_k».proof.Proof.Gen.KernelIdeal.Value
public import Idealize.ShloMosaic.Lib.Pipeline.ValueKit

@[expose] public section

set_option maxRecDepth 16384

noncomputable section

namespace Cert.Attn.Blocks

open Idealize.ShloMosaic Idealize.ShloMosaic.TcCoe Idealize.SL.Sem
open Idealize.ShloMosaic.Pipeline (Dat)
open Cert.KernelIdeal Cert.KernelIdeal.Gen Cert.Attn Cert.Attn.Vec

variable (m : (ℓ : Loc nD τ sig) → Buf (Elt Ideal) ℓ)

/-- The projections, row by row. -/
def X (c : Dev nD) (g : Fin 4096) (j : Fin 768) : EReal := m ((c : Thread nD τ).loc main_arg0) (ix3 0 g j)
/-- The output's cotangent, row by row. -/
def D (c : Dev nD) (g : Fin 4096) (j : Fin 256) : EReal := m ((c : Thread nD τ).loc main_arg1) (ix3 0 g j)
/-- The log-sum-exp's cotangent, row by row. -/
def T (c : Dev nD) (g : Fin 4096) (j : Fin 256) : EReal := m ((c : Thread nD τ).loc main_arg2) (ix3 0 g j)

theorem N32 (t : Fin cfg0.N) : t.val < 32 := lt_of_lt_of_eq t.isLt (show cfg0.N = 32 from N_0)

/-- The block a grid point works on. -/
def rev (t : Fin cfg0.N) : Fin 32 := ⟨31 - t.val, by omega⟩

theorem idx : ∀ t : Fin cfg0.N, win0_0.index t = ![0, 31 - t.val, 0] ∧ win0_1.index t = ![0, 31 - t.val, 0, 0]
    ∧ win0_2.index t = ![0, 31 - t.val, 0, 0] ∧ win0_3.index t = ![0, 31 - t.val, 0] ∧ win0_4.index t = ![0, 31 - t.val, 0]
    ∧ win0_5.index t = ![0, 31 - t.val, 0] :=
  (by decide +kernel : ∀ t : Fin grid0.N, win0_0.index t = ![0, 31 - t.val, 0] ∧ win0_1.index t = ![0, 31 - t.val, 0, 0]
    ∧ win0_2.index t = ![0, 31 - t.val, 0, 0] ∧ win0_3.index t = ![0, 31 - t.val, 0] ∧ win0_4.index t = ![0, 31 - t.val, 0]
    ∧ win0_5.index t = ![0, 31 - t.val, 0])

theorem coord : ∀ t : Fin cfg0.N, (grid0.coords t 1).val = t.val :=
  (by decide +kernel : ∀ t : Fin grid0.N, (grid0.coords t 1).val = t.val)

/-- The projections' block, at its place in the array. -/
theorem in0 (c : Dev nD) (t : Fin cfg0.N) (r : Fin 128) (j : Fin 768) :
    iblk m c 0 t (ix3 0 r j) = X m c (tok (rev t) r) j := by
  unfold X
  rw [← V_main_arg0 m c]
  have := N32 t
  unfold rev tok
  blk_ext [iblk, idx t]

theorem in3 (c : Dev nD) (t : Fin cfg0.N) (r : Fin 128) (j : Fin 256) :
    iblk m c 3 t (ix3 0 r j) = D m c (tok (rev t) r) j := by
  unfold D
  rw [← V_main_arg1 m c]
  have := N32 t
  unfold rev tok
  blk_ext [iblk, idx t]

theorem in4 (c : Dev nD) (t : Fin cfg0.N) (r : Fin 128) (j : Fin 256) :
    iblk m c 4 t (ix3 0 r j) = T m c (tok (rev t) r) j := by
  unfold T
  rw [← V_main_arg2 m c]
  have := N32 t
  unfold rev tok
  blk_ext [iblk, idx t]

theorem q_apply (c : Dev nD) (t : Fin cfg0.N) (r : Fin 128) (l : Fin 256) :
    k0_pay11 (F := Ideal) (iblk m c 0 t) (ix2 r l) = blk (X m c) 0 (rev t) r l := by
  pointwise [k0_pay11, k0_pay6]
  rw [in0]
  unfold blk col
  congr 1
  apply Fin.ext
  simp

theorem k_apply (c : Dev nD) (t : Fin cfg0.N) (r : Fin 128) (l : Fin 256) :
    k0_pay12 (F := Ideal) (iblk m c 0 t) (ix2 r l) = blk (X m c) 1 (rev t) r l := by
  pointwise [k0_pay12, k0_pay6]
  rw [in0]
  rfl

theorem v_apply (c : Dev nD) (t : Fin cfg0.N) (r : Fin 128) (l : Fin 256) :
    k0_pay13 (F := Ideal) (iblk m c 0 t) (ix2 r l) = blk (X m c) 2 (rev t) r l := by
  pointwise [k0_pay13, k0_pay6]
  rw [in0]
  rfl

theorem d_apply (c : Dev nD) (t : Fin cfg0.N) (r : Fin 128) (l : Fin 256) :
    k0_pay9 (F := Ideal) (iblk m c 3 t) (ix2 r l) = D m c (tok (rev t) r) l := by
  pointwise [k0_pay9]
  exact in3 m c t r l

theorem t_apply (c : Dev nD) (t : Fin cfg0.N) (r : Fin 128) (l : Fin 256) :
    k0_pay10 (F := Ideal) (iblk m c 4 t) (ix2 r l) = T m c (tok (rev t) r) l := by
  pointwise [k0_pay10]
  exact in4 m c t r l

theorem bit_iff (p : Prop) [Decidable p] : BitVec.ofBool (decide p) = 1#1 ↔ p := by
  by_cases h : p <;> simp [h]

/-- The mask against the own block. -/
theorem cok_apply (n : Fin 32) (r c : Fin 128) : k0_pay15 (ix2 r c) = 1#1 ↔ okRow n r (own c) := by
  pointwise [k0_pay15]
  rw [WordCmp.cmpi_sge_ofNat (by omega) (by omega), bit_iff]
  unfold okRow own
  simp only [Fin.val_natAdd]
  omega

theorem later (n : Fin 32) : Scalar.cmpi .sgt (Scalar.subi (31#32) (BitVec.ofNat 32 n.val)) 0#32
    = BitVec.ofBool (decide (0 < 31 - n.val)) := by
  revert n; decide

theorem andi_bits (p q : Prop) [Decidable p] [Decidable q] :
    IntOp.andi (BitVec.ofBool (decide p)) (BitVec.ofBool (decide q)) = 1#1 ↔ p ∧ q := by
  by_cases hp : p <;> by_cases hq : q <;> simp [hp, hq, IntOp.andi]

/-- The mask against the block before. -/
theorem pok_apply (t : Fin cfg0.N) (r c : Fin 128) : k0_pay14 (grid0.coords t) (ix2 r c) = 1#1 ↔ okRow (rev t) r (before c) := by
  pointwise [k0_pay14]
  rw [coord, WordCmp.cmpi_sge_ofNat (by omega) (by omega), later ⟨t.val, N32 t⟩, andi_bits]
  unfold okRow before rev
  simp only [Fin.val_castAdd]
  omega

end Cert.Attn.Blocks

end
-- ==== Proof.Attn.Saved.lean ====
/-
  The keys and values of the block before each block, as the host lays them out for the kernel.
-/
module

public import proofs.«01_k».proof.Proof.Attn.Blocks

@[expose] public section

set_option maxRecDepth 16384

noncomputable section

namespace Cert.Attn.Blocks

open Idealize.ShloMosaic Idealize.ShloMosaic.TcCoe Idealize.SL.Sem
open Cert.KernelIdeal Cert.KernelIdeal.Gen Cert.Attn Cert.Attn.Vec

variable (m : (ℓ : Loc nD τ sig) → Buf (Elt Ideal) ℓ)

/-- Projections by block, a block of zeros put first and the last block dropped. -/
def shifted (x : FVec Ideal S1x4096x768 .f32) : FVec Ideal S3x1x32x128x256 .f32 :=
  concatenate S3x1x32x128x256 2 [⟨S3x1x1x128x256, broadcastInDim S3x1x1x128x256 ![] bcast_S_S3x1x1x128x256 (constant S_ .f32 0x00000000#32)⟩,
    ⟨S3x1x31x128x256, extractStridedSlice S3x1x31x128x256 ![0, 0, 0, 0, 0]
      (transpose S3x1x32x128x256 [3, 2, 0, 1, 4] (shapeCast S32x128x1x3x256 x shapeCasts_S1x4096x768_S32x128x1x3x256) transposes_S32x128x1x3x256_S3x1x32x128x256_3_2_0_1_4)
      slices_S3x1x32x128x256_S3x1x31x128x256_0_0_0_0_0⟩] concatenates_S3x1x1x128x256_S3x1x31x128x256_S3x1x32x128x256_d2

theorem read1 (A : FVec Ideal S1x32x128x256 .f32) (t : Fin cfg0.N) (r : Fin 128) (l : Fin 256) :
    View.read (Elt Ideal) ((cfg0.win 1).blk t).view A (ix4 0 0 r l) = A (ix4 0 (rev t) r l) := by
  have := N32 t
  unfold rev
  blk_ext [idx t]

theorem read2 (A : FVec Ideal S1x32x128x256 .f32) (t : Fin cfg0.N) (r : Fin 128) (l : Fin 256) :
    View.read (Elt Ideal) ((cfg0.win 2).blk t).view A (ix4 0 0 r l) = A (ix4 0 (rev t) r l) := by
  have := N32 t
  unfold rev
  blk_ext [idx t]

theorem V6_eq (c : Dev nD) : (V m c main_v6 : FVec Ideal S1x32x128x256 .f32) = shapeCast S1x32x128x256
    (extractStridedSlice S1x1x32x128x256 ![1, 0, 0, 0, 0] (shifted (m ((c : Thread nD τ).loc main_arg0))) slices_S3x1x32x128x256_S1x1x32x128x256_1_0_0_0_0)
    shapeCasts_S1x1x32x128x256_S1x32x128x256 := by
  entry_read
  rfl

theorem V8_eq (c : Dev nD) : V m c main_v8 = shapeCast S1x32x128x256
    (extractStridedSlice S1x1x32x128x256 ![2, 0, 0, 0, 0] (shifted (m ((c : Thread nD τ).loc main_arg0))) slices_S3x1x32x128x256_S1x1x32x128x256_2_0_0_0_0)
    shapeCasts_S1x1x32x128x256_S1x32x128x256 := by
  entry_read
  rfl

theorem in1 (c : Dev nD) (t : Fin cfg0.N) (r : Fin 128) (l : Fin 256) :
    iblk m c 1 t (ix4 0 0 r l) = V m c main_v6 (ix4 0 (rev t) r l) := read1 (V m c main_v6) t r l

theorem in2 (c : Dev nD) (t : Fin cfg0.N) (r : Fin 128) (l : Fin 256) :
    iblk m c 2 t (ix4 0 0 r l) = V m c main_v8 (ix4 0 (rev t) r l) := read2 (V m c main_v8) t r l

theorem kp_apply (c : Dev nD) (t : Fin cfg0.N) (r : Fin 128) (l : Fin 256) :
    k0_pay7 (F := Ideal) (iblk m c 1 t) (ix2 r l) = pre (X m c) 1 (rev t) r l := by
  pointwise [k0_pay7]
  rw [in1, V6_eq]
  unfold pre X
  generalize m ((c : Thread nD τ).loc main_arg0) = x
  generalize rev t = n
  pointwise [shifted]
  by_cases h : 0 < n.val
  · rw [if_pos h, dif_neg (by omega)]
    congr 2
    apply Fin.ext
    show (n.val - 1) * 128 + r.val = 128 * (n.val - 1) + r.val
    omega
  · rw [if_neg h, dif_pos (by omega)]

theorem vp_apply (c : Dev nD) (t : Fin cfg0.N) (r : Fin 128) (l : Fin 256) :
    k0_pay8 (F := Ideal) (iblk m c 2 t) (ix2 r l) = pre (X m c) 2 (rev t) r l := by
  pointwise [k0_pay8]
  rw [in2, V8_eq]
  unfold pre X
  generalize m ((c : Thread nD τ).loc main_arg0) = x
  generalize rev t = n
  pointwise [shifted]
  by_cases h : 0 < n.val
  · rw [if_pos h, dif_neg (by omega)]
    congr 2
    apply Fin.ext
    show (n.val - 1) * 128 + r.val = 128 * (n.val - 1) + r.val
    omega
  · rw [if_neg h, dif_pos (by omega)]

end Cert.Attn.Blocks

end
-- ==== Proof.Attn.Final.lean ====
/-
  The kernel's result array over the reals: at every row and column the gradient of the banded attention.
-/
module

public import proofs.«01_k».proof.Proof.Attn.Saved

@[expose] public section

set_option maxRecDepth 16384

noncomputable section

namespace Cert.Attn.Blocks

open Idealize.ShloMosaic Idealize.ShloMosaic.TcCoe Idealize.SL.Sem
open Idealize.ShloMosaic.Pipeline (Dat)
open Cert.KernelIdeal Cert.KernelIdeal.Gen Cert.Attn Cert.Attn.Vec Cert.Attn.Pays Cert.Attn.Outs

variable (m : (ℓ : Loc nD τ sig) → Buf (Elt Ideal) ℓ) (c : Dev nD) (t : Fin cfg0.N)

/-- The queries, keys, values, the keys and values before, and the cotangents of a point. -/
abbrev Q : FVec Ideal S128x256 .f32 := k0_pay11 (iblk m c 0 t)
abbrev K : FVec Ideal S128x256 .f32 := k0_pay12 (iblk m c 0 t)
abbrev W : FVec Ideal S128x256 .f32 := k0_pay13 (iblk m c 0 t)
abbrev KP : FVec Ideal S128x256 .f32 := k0_pay7 (iblk m c 1 t)
abbrev WP : FVec Ideal S128x256 .f32 := k0_pay8 (iblk m c 2 t)
abbrev DD : FVec Ideal S128x256 .f32 := k0_pay9 (iblk m c 3 t)
abbrev TT : FVec Ideal S128x256 .f32 := k0_pay10 (iblk m c 4 t)

theorem part_q (h : Fin 4) (r : Fin 128) : part (Q m c t) h r = qRow (X m c) h (rev t) r :=
  funext fun e => q_apply m c t r (lane h e)

theorem band_k (h : Fin 4) : band (part (KP m c t) h) (part (K m c t) h) = kBand (X m c) h (rev t) := by
  unfold kBand
  congr 1
  · exact funext fun r => funext fun e => kp_apply m c t r (lane h e)
  · exact funext fun r => funext fun e => k_apply m c t r (lane h e)

theorem band_v (h : Fin 4) : band (part (WP m c t) h) (part (W m c t) h) = vBand (X m c) h (rev t) := by
  unfold vBand
  congr 1
  · exact funext fun r => funext fun e => vp_apply m c t r (lane h e)
  · exact funext fun r => funext fun e => v_apply m c t r (lane h e)

theorem part_d (h : Fin 4) (r : Fin 128) : part (DD m c t) h r = fun e => D m c (tok (rev t) r) (lane h e) :=
  funext fun e => d_apply m c t r (lane h e)

theorem part_t (h : Fin 4) (r : Fin 128) : part (TT m c t) h r = fun e => T m c (tok (rev t) r) (lane h e) :=
  funext fun e => t_apply m c t r (lane h e)

theorem S_eq (h : Fin 4) (r : Fin 128) : S (Q m c t) (K m c t) (KP m c t) h (okRow (rev t)) r = sRow (X m c) h (rev t) r := by
  unfold S sRow
  rw [part_q, band_k]

theorem DS_eq (h : Fin 4) (r : Fin 128) (j : Fin 256) :
    DS (Q m c t) (K m c t) (W m c t) (KP m c t) (WP m c t) (okRow (rev t)) (DD m c t) (TT m c t) h r j
      = dScore (X m c) (D m c) (T m c) h (rev t) r j := by
  unfold DS dScore
  rw [S_eq, band_v, part_d, part_t]

theorem WN_eq (h : Fin 4) (r : Fin 128) (j : Fin 256) (e : Fin 64) :
    WN (Q m c t) (K m c t) (KP m c t) (okRow (rev t)) (DD m c t) h r j e = wNum (X m c) (D m c) h (rev t) r j e := by
  unfold WN wNum
  rw [S_eq, part_d]

variable (hX : ∀ g j, ∃ a : ℝ, X m c g j = a)

include hX in
theorem total_ne (h : Fin 4) (r : Fin 128) :
    rowTotal (S (Q m c t) (K m c t) (KP m c t) h (okRow (rev t)) r) ≠ 0 := by
  rw [S_eq]
  exact sRow_total (X m c) hX h (rev t) r

include hX in
/-- What a point hands to the keys of the block before. -/
theorem carryK (r : Fin 128) (l : Fin 256) :
    (outsAt0 m c t.val t.isLt).2.1 (ix2 r l) = backK (X m c) (D m c) (T m c) (headOf l) (rev t) r (placeOf l) := by
  have key : nextK (Q m c t) (K m c t) (W m c t) (KP m c t) (WP m c t) (k0_pay14 (grid0.coords t)) k0_pay15 (DD m c t) (TT m c t) (ix2 r l)
      = backK (X m c) (D m c) (T m c) (headOf l) (rev t) r (placeOf l) := by
    rw [nextK_apply _ _ _ _ _ _ _ (okRow (rev t)) _ _ (pok_apply t) (cok_apply (rev t)) (total_ne m c t hX)]
    unfold backK
    simp only [DS_eq, part_q]
  by_cases h0 : t.val % 32 = 0
  · rw [outsAt0_A m c t h0]
    dsimp only
    rw [sout0_A_0_eq]
    exact key
  · rw [outsAt0_B m c t h0]
    dsimp only
    rw [sout0_B_0_eq]
    exact key

include hX in
/-- What a point hands to the values of the block before. -/
theorem carryV (r : Fin 128) (l : Fin 256) :
    (outsAt0 m c t.val t.isLt).2.2 (ix2 r l) = backV (X m c) (D m c) (headOf l) (rev t) r (placeOf l) := by
  have key : nextV (Q m c t) (K m c t) (KP m c t) (k0_pay14 (grid0.coords t)) k0_pay15 (DD m c t) (ix2 r l)
      = backV (X m c) (D m c) (headOf l) (rev t) r (placeOf l) := by
    rw [nextV_apply _ _ _ _ _ (okRow (rev t)) _ (pok_apply t) (cok_apply (rev t)) (total_ne m c t hX)]
    unfold backV
    simp only [WN_eq]
  by_cases h0 : t.val % 32 = 0
  · rw [outsAt0_A m c t h0]
    dsimp only
    rw [sout0_A_1_eq]
    exact key
  · rw [outsAt0_B m c t h0]
    dsimp only
    rw [sout0_B_1_eq]
    exact key

/-- The three blocks side by side, by part. -/
theorem outBlock_apply (q k v kp vp ck cv d u : FVec Ideal S128x256 .f32) (pok cok : IVec S128x128 1) (r : Fin 128) (j : Fin 768) :
    outBlock q k v kp vp ck cv d u pok cok (ix3 0 r j)
      = if partOf j = 0 then outQ q k v kp vp pok cok d u (ix2 r (laneOf j))
        else if partOf j = 1 then outK q k v kp vp pok cok d u ck (ix2 r (laneOf j))
        else outV q k kp pok cok d cv (ix2 r (laneOf j)) := by
  pointwise [outBlock]
  generalize outQ q k v kp vp pok cok d u = a
  generalize outK q k v kp vp pok cok d u ck = b
  generalize outV q k kp pok cok d cv = e
  have hj := j.isLt
  have h3 : (partOf j).val = j.val / 256 := rfl
  have e0 : partOf j = 0 ↔ j.val < 256 := by rw [Fin.ext_iff, h3]; show j.val / 256 = 0 ↔ _; omega
  have e1 : partOf j = 1 ↔ 256 ≤ j.val ∧ j.val < 512 := by rw [Fin.ext_iff, h3]; show j.val / 256 = 1 ↔ _; omega
  simp only [e0, e1]
  unfold laneOf
  by_cases h0 : j.val < 256
  · refine (dif_pos h0).trans (Eq.trans (congrArg (fun z => a (ix2 r z)) (Fin.ext ?_)) (if_pos h0).symm)
    show j.val = j.val % 256
    omega
  · refine (dif_neg h0).trans (Eq.trans ?_ (if_neg h0).symm)
    by_cases h1 : j.val < 512
    · have h2 : j.val - 256 < 256 := by omega
      have h3 : 256 ≤ j.val ∧ j.val < 512 := by omega
      refine (dif_pos h2).trans (Eq.trans (congrArg (fun z => b (ix2 r z)) (Fin.ext ?_)) (if_pos h3).symm)
      show j.val - 256 = j.val % 256
      omega
    · have h2 : ¬ j.val - 256 < 256 := by omega
      have h3 : ¬ (256 ≤ j.val ∧ j.val < 512) := by omega
      refine (dif_neg h2).trans (Eq.trans (congrArg (fun z => e (ix2 r z)) (Fin.ext ?_)) (if_neg h3).symm)
      show j.val - 256 - 256 = j.val % 256
      omega

include hX in
/-- A point's block of the result. -/
theorem point (r : Fin 128) (j : Fin 768) :
    (outsAt0 m c t.val t.isLt).1 (ix3 0 r j) = grad (X m c) (D m c) (T m c) (tok (rev t) r) j := by
  have key : ∀ ck cv : FVec Ideal S128x256 .f32,
      (∀ r l, ck (ix2 r l) = if g : (rev t).val + 1 < 32 then backK (X m c) (D m c) (T m c) (headOf l) ⟨(rev t).val + 1, g⟩ r (placeOf l) else 0) →
      (∀ r l, cv (ix2 r l) = if g : (rev t).val + 1 < 32 then backV (X m c) (D m c) (headOf l) ⟨(rev t).val + 1, g⟩ r (placeOf l) else 0) →
      outBlock (Q m c t) (K m c t) (W m c t) (KP m c t) (WP m c t) ck cv (DD m c t) (TT m c t) (k0_pay14 (grid0.coords t)) k0_pay15 (ix3 0 r j)
        = grad (X m c) (D m c) (T m c) (tok (rev t) r) j := by
    intro ck cv hk hv
    rw [outBlock_apply,
      outQ_apply _ _ _ _ _ _ _ (okRow (rev t)) _ _ (pok_apply t) (cok_apply (rev t)) (total_ne m c t hX),
      outK_apply _ _ _ _ _ _ _ (okRow (rev t)) _ _ _ (pok_apply t) (cok_apply (rev t)) (total_ne m c t hX),
      outV_apply _ _ _ _ _ (okRow (rev t)) _ _ (pok_apply t) (cok_apply (rev t)) (total_ne m c t hX), hk, hv]
    unfold grad gradQ gradK gradV ownK ownV
    simp only [DS_eq, WN_eq, part_q, band_k, blockOf_tok, rowOf_tok]
  have hN := N32 t
  by_cases h0 : t.val % 32 = 0
  · have hn : ¬ (rev t).val + 1 < 32 := by unfold rev; simp only; omega
    rw [outsAt0_A m c t h0]
    dsimp only
    rw [out0_A_5_eq]
    refine key _ _ ?_ ?_
    · intro r l; rw [dif_neg hn]; pointwise [zeros]
    · intro r l; rw [dif_neg hn]; pointwise [zeros]
  · have hn : (rev t).val + 1 < 32 := by unfold rev; simp only; omega
    have hlt : t.val - 1 < cfg0.N := Nat.lt_of_le_of_lt (Nat.sub_le _ _) t.isLt
    have hr : rev ⟨t.val - 1, hlt⟩ = ⟨(rev t).val + 1, hn⟩ := by
      apply Fin.ext; unfold rev; simp only; omega
    rw [outsAt0_B m c t h0]
    dsimp only
    rw [out0_B_5_eq]
    refine key _ _ ?_ ?_
    · intro r l; rw [dif_pos hn, ← hr]; exact carryK m c ⟨t.val - 1, hlt⟩ hX r l
    · intro r l; rw [dif_pos hn, ← hr]; exact carryV m c ⟨t.val - 1, hlt⟩ hX r l

include hX in
/-- The result array. -/
theorem result : (dats m 0 c).arrAt 5 cfg0.N = fun i : S1x4096x768.Idx => grad (X m c) (D m c) (T m c) (i 1) (i 2) := by
  refine (dats m 0 c).arrAt_eq_of_covers 5 _ (by decide +kernel) fun t hf y => ?_
  blk_simp
  rw [after0_5]
  have hN := N32 t
  have hy : y = (ix3 0 (y 1) (y 2) : S1x128x768.Idx) := by
    funext a
    match a with
    | ⟨0, _⟩ => exact Fin.ext (by have : (y 0).val < 1 := (y 0).isLt; show (y 0).val = 0; omega)
    | ⟨1, _⟩ => rfl
    | ⟨2, _⟩ => rfl
  have e1 : (win0_5.blk t).view.emb y 1 = tok (rev t) (y 1) := by
    apply Fin.ext
    blk_simp [idx t]
    show (31 - t.val) * 128 + (y 1).val = 128 * (31 - t.val) + (y 1).val
    omega
  have e2 : (win0_5.blk t).view.emb y 2 = y 2 := by
    apply Fin.ext
    blk_simp [idx t]
  rw [e1, e2]
  exact (congrArg _ hy).trans (point m c t hX (y 1) (y 2))

end Cert.Attn.Blocks

end
-- ==== Proof.Attn.Words.lean ====
/-
  The mask's word comparisons as comparisons of numbers.
-/
module

public import Idealize.ShloMosaic.Lib.Pointwise

@[expose] public section

set_option maxRecDepth 16384

noncomputable section

namespace Cert.Attn.Ref

open Idealize.ShloMosaic Idealize.SL.Sem

theorem near_word (r : Fin 128) (c : Fin 256) :
    IntOp.andi (IntOp.cmpi .sge (IntOp.subi (IntOp.addi (BitVec.ofNat 32 r.val) 128#32) (BitVec.ofNat 32 c.val)) 0#32)
      (IntOp.cmpi .sle (IntOp.subi (IntOp.addi (BitVec.ofNat 32 r.val) 128#32) (BitVec.ofNat 32 c.val)) 128#32)
      = if r.val ≤ c.val ∧ c.val ≤ r.val + 128 then 1#1 else 0#1 := by
  revert r c
  decide +kernel

theorem inside_word (n : Fin 32) (c : Fin 256) :
    IntOp.cmpi .sge (IntOp.subi (IntOp.addi (IntOp.muli (BitVec.ofNat 32 n.val) 128#32) (BitVec.ofNat 32 c.val)) 128#32) 0#32
      = if 128 ≤ c.val ∨ 0 < n.val then 1#1 else 0#1 := by
  revert n c
  decide +kernel

end Cert.Attn.Ref

end
-- ==== Proof.Attn.R1.lean ====
/-
  The reference's queries, keys, values, cotangents and mask read at an index.
-/
module

public import proofs.«01_k».proof.Proof.Gen.ReferenceIdeal.Read
public import proofs.«01_k».proof.Proof.Attn.Spec
public import proofs.«01_k».proof.Proof.Attn.Words
public import Idealize.ShloMosaic.Lib.Pointwise

@[expose] public section

set_option maxRecDepth 16384

noncomputable section

namespace Cert.Attn.Ref

open Idealize.ShloMosaic Idealize.SL.Sem
open Cert.ReferenceIdeal Cert.ReferenceIdeal.Gen Cert.ReferenceIdeal.Read

/-- The joined array's contents. -/
abbrev A0 : Type := (⟨S1x4096x768, .f32⟩ : BufTy).Contents (Elt Ideal)

/-- A cotangent's contents. -/
abbrev A1 : Type := (⟨S1x4096x256, .f32⟩ : BufTy).Contents (Elt Ideal)

/-- The joined queries, keys and values as rows and columns. -/
def rows (x0 : A0) (g : Fin 4096) (j : Fin 768) : EReal := x0 (ix3 0 g j)

/-- A cotangent as rows and lanes. -/
def lanes (x1 : A1) (g : Fin 4096) (l : Fin 256) : EReal := x1 (ix3 0 g l)

variable (x0 : A0) (x1 x2 : A1)

theorem rows_eq (g g' : Fin 4096) (j j' : Fin 768) (hg : g.val = g'.val) (hj : j.val = j'.val) : x0 (ix3 0 g j) = rows x0 g' j' := by
  rw [Fin.ext hg, Fin.ext hj]; rfl

theorem lanes_eq (g g' : Fin 4096) (l l' : Fin 256) (hg : g.val = g'.val) (hl : l.val = l'.val) : x1 (ix3 0 g l) = lanes x1 g' l' := by
  rw [Fin.ext hg, Fin.ext hl]; rfl

theorem q_apply (h : Fin 4) (n : Fin 32) (r : Fin 128) (e : Fin 64) :
    val_main_v11 (F := Ideal) x0 (ix5 0 h n r e) = qRow (rows x0) h n r e := by
  pointwise [val_main_v11, val_main_v10, val_main_v9, val_main_v2, val_main_v1, val_main_v0]
  exact rows_eq x0 _ _ _ _ (by simp only [tok]; omega) (by simp only [col, lane, Fin.val_zero]; omega)

theorem k_apply (h : Fin 4) (n : Fin 32) (r : Fin 128) (e : Fin 64) :
    val_main_v14 (F := Ideal) x0 (ix5 0 h n r e) = blk (rows x0) 1 n r (lane h e) := by
  pointwise [val_main_v14, val_main_v13, val_main_v12, val_main_v5, val_main_v4, val_main_v3]
  exact rows_eq x0 _ _ _ _ (by simp only [tok]; omega) (by simp only [col, lane, Fin.val_one]; omega)

theorem v_apply (h : Fin 4) (n : Fin 32) (r : Fin 128) (e : Fin 64) :
    val_main_v17 (F := Ideal) x0 (ix5 0 h n r e) = blk (rows x0) 2 n r (lane h e) := by
  pointwise [val_main_v17, val_main_v16, val_main_v15, val_main_v8, val_main_v7, val_main_v6]
  exact rows_eq x0 _ _ _ _ (by simp only [tok]; omega) (by simp only [col, lane, Fin.val_two]; omega)

theorem do_apply (h : Fin 4) (n : Fin 32) (r : Fin 128) (e : Fin 64) :
    val_main_v104 (F := Ideal) x1 (ix5 0 h n r e) = lanes x1 (tok n r) (lane h e) := by
  pointwise [val_main_v104, val_main_v103, val_main_v102, val_main_v98]
  exact lanes_eq x1 _ _ _ _ (by simp only [tok]; omega) (by simp only [lane]; omega)

theorem dl_apply (h : Fin 4) (n : Fin 32) (r : Fin 128) :
    val_main_v101 (F := Ideal) x2 (ix4 0 h n r) = ∑ e, lanes x2 (tok n r) (lane h e) := by
  pointwise [val_main_v101, val_main_v100, val_main_v99, val_main_v97, val_main_v96, val_main_v95, val_main_cst_14]
  exact Finset.sum_congr rfl fun e _ => lanes_eq x2 _ _ _ _ (by simp only [tok]; omega) (by simp only [lane]; omega)

theorem and_bits (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem mask_apply (n : Fin 32) (r : Fin 128) (c : Fin 256) :
    val_main_v62 (F := Ideal) (ix3 n r c) = if okRow n r c then 1#1 else 0#1 := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_c, val_main_c_4, val_main_c_5, val_main_c_6, val_main_c_7, val_main_c_8]
  rw [near_word, inside_word, and_bits]
  exact if_congr (by unfold okRow; rw [and_assoc]) rfl rfl

theorem kPad_apply (h : Fin 4) (m : Fin 33) (r : Fin 128) (e : Fin 64) :
    val_main_v19 (F := Ideal) x0 (ix5 0 h m r e) = if g : m.val < 1 then 0 else blk (rows x0) 1 ⟨m.val - 1, by omega⟩ r (lane h e) := by
  pointwise [val_main_v19, val_main_v18, val_main_cst]
  simp only [k_apply]

theorem vPad_apply (h : Fin 4) (m : Fin 33) (r : Fin 128) (e : Fin 64) :
    val_main_v25 (F := Ideal) x0 (ix5 0 h m r e) = if g : m.val < 1 then 0 else blk (rows x0) 2 ⟨m.val - 1, by omega⟩ r (lane h e) := by
  pointwise [val_main_v25, val_main_v24, val_main_cst_1]
  simp only [v_apply]

theorem pre_eq (X : Fin 4096 → Fin 768 → EReal) (p : Fin 3) (n : Fin 32) (r : Fin 128) (l : Fin 256) :
    (if g : n.val < 1 then 0 else blk X p ⟨n.val - 1, by omega⟩ r l) = pre X p n r l := by
  unfold pre
  by_cases g : n.val < 1
  · rw [dif_pos g, if_neg (by omega)]
  · rw [dif_neg g, if_pos (by omega)]; rfl

theorem kBand_apply (h : Fin 4) (n : Fin 32) (c : Fin 256) (e : Fin 64) :
    val_main_v23 (F := Ideal) x0 (ix5 0 h n c e) = kBand (rows x0) h n c e := by
  pointwise [val_main_v23, val_main_v22, val_main_v21]
  simp only [kPad_apply]
  unfold kBand band
  by_cases g : c.val < 128
  · rw [dif_pos g, dif_pos g]
    exact pre_eq (rows x0) 1 n _ _
  · rw [dif_neg g, dif_neg g, dif_neg (by omega)]
    exact congrArg (fun m => blk (rows x0) 1 m _ _) (Fin.ext (by show 1 + n.val - 1 = n.val; omega))

theorem vBand_apply (h : Fin 4) (n : Fin 32) (c : Fin 256) (e : Fin 64) :
    val_main_v29 (F := Ideal) x0 (ix5 0 h n c e) = vBand (rows x0) h n c e := by
  pointwise [val_main_v29, val_main_v28, val_main_v27]
  simp only [vPad_apply]
  unfold vBand band
  by_cases g : c.val < 128
  · rw [dif_pos g, dif_pos g]
    exact pre_eq (rows x0) 2 n _ _
  · rw [dif_neg g, dif_neg g, dif_neg (by omega)]
    exact congrArg (fun m => blk (rows x0) 2 m _ _) (Fin.ext (by show 1 + n.val - 1 = n.val; omega))

theorem product_apply (h : Fin 4) (n : Fin 32) (r : Fin 128) (c : Fin 256) :
    val_main_v32 (F := Ideal) x0 (ix5 0 h n r c) = (∑ e, qRow (rows x0) h n r e * kBand (rows x0) h n c e) * eighth := by
  pointwise [val_main_v32, val_main_v31, val_main_v30, val_main_cst_3]
  simp only [q_apply, kBand_apply]
  rfl

theorem bot_bits : Ideal.ofBits .f32 0xFF800000#32 = ⊥ := by simp [Ideal.ofBits, Ideal.ieee]

theorem select_ok (p : Prop) [Decidable p] (a b : EReal) : Scalar.select (if p then 1#1 else 0#1) a b = if p then a else b := by
  by_cases hp : p
  · rw [if_pos hp, if_pos hp]; rfl
  · rw [if_neg hp, if_neg hp]; rfl

theorem score_apply (h : Fin 4) (n : Fin 32) (r : Fin 128) (c : Fin 256) :
    val_main_v63_0 (F := Ideal) x0 (ix5 0 h n r c) = sRow (rows x0) h n r c := by
  pointwise [val_main_v63_0, val_main_v63_1, val_main_call0_v2, val_main_call0_v0, val_main_cst_9]
  rw [mask_apply, product_apply, show (id (constant (F := Ideal) S_ .f32 0xFF800000#32) ix0 : EReal) = ⊥ from bot_bits, select_ok]
  rfl

end Cert.Attn.Ref

end
-- ==== Proof.Attn.R2.lean ====
/-
  The reference's weights, their cotangents and the cotangents of the scores read at an index.
-/
module

public import proofs.«01_k».proof.Proof.Attn.R1

@[expose] public section

set_option maxRecDepth 16384

noncomputable section

namespace Cert.Attn.Ref

open Idealize.ShloMosaic Idealize.SL.Sem
open Cert.ReferenceIdeal Cert.ReferenceIdeal.Gen Cert.ReferenceIdeal.Read

variable (x0 : A0) (x1 x2 : A1)

/-- A sum over two axes of length one is its one term. -/
theorem unit_sum (x : S1x4x32x128x1.Idx → EReal) (h : Fin 4) (n : Fin 32) (r : Fin 128) :
    Ideal.hostReduceAdd reducesTo_S1x4x32x128x1_S4x32x128_d0_4 x 0 (ix3 h n r) = x (ix5 0 h n r 0) := by
  unfold Ideal.hostReduceAdd
  rw [zero_add]
  have e : (Finset.univ.filter fun i => reducesTo_S1x4x32x128x1_S4x32x128_d0_4.drop i = ix3 h n r) = {ix5 0 h n r 0} := by
    ext i
    simp only [Finset.mem_filter, Finset.mem_univ, true_and, Finset.mem_singleton]
    have e0 : ((reducesTo_S1x4x32x128x1_S4x32x128_d0_4.drop i 0 : Fin _) : Nat) = (i 1).val := Shape.ReducesTo.drop_apply_val _ i 0
    have e1 : ((reducesTo_S1x4x32x128x1_S4x32x128_d0_4.drop i 1 : Fin _) : Nat) = (i 2).val := Shape.ReducesTo.drop_apply_val _ i 1
    have e2 : ((reducesTo_S1x4x32x128x1_S4x32x128_d0_4.drop i 2 : Fin _) : Nat) = (i 3).val := Shape.ReducesTo.drop_apply_val _ i 2
    constructor
    · intro hj
      rw [hj] at e0 e1 e2
      have h0 : (i 0).val < 1 := (i 0).isLt
      have h4 : (i 4).val < 1 := (i 4).isLt
      funext a
      match a with
      | ⟨0, _⟩ => exact Fin.ext (by show (i 0).val = 0; omega)
      | ⟨1, _⟩ => exact Fin.ext e0.symm
      | ⟨2, _⟩ => exact Fin.ext e1.symm
      | ⟨3, _⟩ => exact Fin.ext e2.symm
      | ⟨4, _⟩ => exact Fin.ext (by show (i 4).val = 0; omega)
    · intro hi
      subst hi
      funext a
      match a with
      | ⟨0, _⟩ => exact Fin.ext e0
      | ⟨1, _⟩ => exact Fin.ext e1
      | ⟨2, _⟩ => exact Fin.ext e2
  rw [e, Finset.sum_singleton]

theorem bit_value (p : Prop) [Decidable p] : (FloatOps.uitofp (F := Ideal) .f32 (BitVec.ofBool (decide p)) : EReal) = if p then 1 else 0 := by
  show (((BitVec.ofBool (decide p)).toNat : ℝ) : EReal) = _
  by_cases hp : p <;> simp [hp]

theorem top_apply (h : Fin 4) (n : Fin 32) (r : Fin 128) :
    val_main_v64 (F := Ideal) x0 (ix4 0 h n r) = rowTop (sRow (rows x0) h n r) := by
  pointwise [val_main_v64, val_main_cst_10]
  rw [bot_bits]
  simp only [score_apply]
  rfl

theorem hit_apply (h : Fin 4) (n : Fin 32) (r : Fin 128) (c : Fin 256) :
    val_main_v68 (F := Ideal) x0 (ix5 0 h n r c) = if sRow (rows x0) h n r c = rowTop (sRow (rows x0) h n r) then 1 else 0 := by
  pointwise [val_main_v68, val_main_v67, val_main_v66, val_main_v65]
  rw [score_apply, top_apply]
  exact bit_value _

theorem hits_apply (h : Fin 4) (n : Fin 32) (r : Fin 128) :
    val_main_v69 (F := Ideal) x0 (ix4 0 h n r) = ∑ c, if sRow (rows x0) h n r c = rowTop (sRow (rows x0) h n r) then 1 else 0 := by
  pointwise [val_main_v69, val_main_cst_11]
  simp only [hit_apply]

theorem weight_apply (h : Fin 4) (n : Fin 32) (r : Fin 128) (c : Fin 256) :
    val_main_v73 (F := Ideal) x0 (ix5 0 h n r c) = rowWeight (sRow (rows x0) h n r) c := by
  pointwise [val_main_v73, val_main_v72, val_main_v71, val_main_v70]
  rw [score_apply, top_apply]
  rfl

theorem total_apply (h : Fin 4) (n : Fin 32) (r : Fin 128) :
    val_main_v74 (F := Ideal) x0 (ix4 0 h n r) = rowTotal (sRow (rows x0) h n r) := by
  pointwise [val_main_v74, val_main_cst_12]
  simp only [weight_apply]
  rfl

theorem num_apply (h : Fin 4) (n : Fin 32) (r : Fin 128) (e : Fin 64) :
    val_main_v75 (F := Ideal) x0 (ix5 0 h n r e) = rowNum (sRow (rows x0) h n r) (vBand (rows x0) h n) e := by
  pointwise [val_main_v75]
  simp only [weight_apply, vBand_apply]
  rfl

theorem dNum_apply (h : Fin 4) (n : Fin 32) (r : Fin 128) (e : Fin 64) :
    val_main_v114 (F := Ideal) x0 x1 (ix5 0 h n r e) = rowDNum (sRow (rows x0) h n r) (fun e => lanes x1 (tok n r) (lane h e)) e := by
  pointwise [val_main_v114, val_main_v113, val_main_v76]
  simp only [do_apply, total_apply]
  rfl

theorem inner_apply (h : Fin 4) (n : Fin 32) (r : Fin 128) :
    val_main_v110 (F := Ideal) x0 x1 (ix4 0 h n r) = ∑ e, lanes x1 (tok n r) (lane h e) * Ideal.div 1 (rowTotal (sRow (rows x0) h n r) * rowTotal (sRow (rows x0) h n r)) * rowNum (sRow (rows x0) h n r) (vBand (rows x0) h n) e := by
  pointwise [val_main_v110, val_main_v109, val_main_v108, val_main_v107, val_main_v81, val_main_v80, val_main_v79, val_main_v76, val_main_cst_13, val_main_cst_15]
  simp only [do_apply, total_apply, num_apply]

theorem dTotal_apply (h : Fin 4) (n : Fin 32) (r : Fin 128) :
    val_main_v117 (F := Ideal) x0 x1 x2 (ix4 0 h n r) = rowDTotal (sRow (rows x0) h n r) (vBand (rows x0) h n) (fun e => lanes x1 (tok n r) (lane h e)) (∑ e, lanes x2 (tok n r) (lane h e)) := by
  pointwise [val_main_v117, val_main_v116, val_main_v115, val_main_v112, val_main_v111, val_main_v105, val_main_cst_16]
  rw [unit_sum]
  pointwise []
  rw [dl_apply, total_apply, inner_apply]
  rfl

theorem dWeight_apply (h : Fin 4) (n : Fin 32) (r : Fin 128) (c : Fin 256) :
    val_main_v122 (F := Ideal) x0 x1 x2 (ix5 0 h n r c) = rowDWeight (sRow (rows x0) h n r) (vBand (rows x0) h n) (fun e => lanes x1 (tok n r) (lane h e)) (∑ e, lanes x2 (tok n r) (lane h e)) c := by
  pointwise [val_main_v122, val_main_v121, val_main_v120]
  simp only [dNum_apply, vBand_apply, dTotal_apply]
  rfl

theorem dTop_apply (h : Fin 4) (n : Fin 32) (r : Fin 128) :
    val_main_v129 (F := Ideal) x0 x1 x2 (ix4 0 h n r) = (∑ e, lanes x2 (tok n r) (lane h e)) + ∑ c, -(rowDWeight (sRow (rows x0) h n r) (vBand (rows x0) h n) (fun e => lanes x1 (tok n r) (lane h e)) (∑ e, lanes x2 (tok n r) (lane h e)) c * rowWeight (sRow (rows x0) h n r) c) := by
  pointwise [val_main_v129, val_main_v128, val_main_v127, val_main_v126, val_main_v125, val_main_v124, val_main_v123, val_main_v106, val_main_cst_17, val_main_cst_18]
  rw [unit_sum]
  pointwise []
  simp only [dl_apply, dWeight_apply, weight_apply]

theorem hits_ne (s : Fin 256 → EReal) : (∑ c, if s c = rowTop s then (1 : EReal) else 0) ≠ 0 := by
  have hc : ∃ c, s c = rowTop s := by
    rcases rowTop_attained s with hb | ⟨c, hc⟩
    · exact ⟨0, by rw [hb]; exact le_bot_iff.mp (hb ▸ le_rowTop s 0)⟩
    · exact ⟨c, hc.symm⟩
  obtain ⟨c, hc⟩ := hc
  have h1 : (if s c = rowTop s then (1 : EReal) else 0) ≤ ∑ c, if s c = rowTop s then (1 : EReal) else 0 :=
    Finset.single_le_sum (f := fun c => if s c = rowTop s then (1 : EReal) else 0) (fun c _ => by
      show (0 : EReal) ≤ if s c = rowTop s then 1 else 0
      split
      · exact zero_le_one
      · exact le_refl _) (Finset.mem_univ c)
  rw [if_pos hc] at h1
  exact ne_of_gt (lt_of_lt_of_le zero_lt_one h1)

theorem sum_real {n : Nat} (f : Fin n → EReal) (hf : ∀ i, ∃ a : ℝ, f i = a) : ∃ a : ℝ, ∑ i, f i = a := by
  choose g hg using hf
  exact ⟨∑ i, g i, by simp only [hg]; exact sum_coe _ g⟩

theorem dScore_apply (hX : ∀ g j, ∃ a : ℝ, rows x0 g j = a) (hD : ∀ g j, ∃ a : ℝ, lanes x1 g j = a) (hT : ∀ g j, ∃ a : ℝ, lanes x2 g j = a)
    (h : Fin 4) (n : Fin 32) (r : Fin 128) (c : Fin 256) :
    val_main_v136 (F := Ideal) x0 x1 x2 (ix5 0 h n r c) = dScore (rows x0) (lanes x1) (lanes x2) h n r c := by
  have hz : (∑ e, lanes x2 (tok n r) (lane h e)) + ∑ c, -(rowDWeight (sRow (rows x0) h n r) (vBand (rows x0) h n) (fun e => lanes x1 (tok n r) (lane h e)) (∑ e, lanes x2 (tok n r) (lane h e)) c * rowWeight (sRow (rows x0) h n r) c) = 0 :=
    rowDTop_zero _ _ _ _ _ _ (fun _ => blk_real (rows x0) hX _ _ _ _) (kBand_real (rows x0) hX h n) ⟨own r, ok_own n r⟩ (vBand_real (rows x0) hX h n) (fun _ => hD _ _) (sum_real _ fun _ => hT _ _)
  pointwise [val_main_v136, val_main_v135, val_main_v134, val_main_v133, val_main_v132, val_main_v131, val_main_v130, val_main_v123, val_main_call1_v0, val_main_call1_cst, val_main_cst_19, val_main_v63_1]
  rw [mask_apply, select_ok, dTop_apply, hz, hits_apply, Ideal.zero_div (hits_ne _), dWeight_apply, weight_apply]
  simp only [zero_mul, add_zero]
  unfold dScore rowDScore
  split <;> simp [eighth]

end Cert.Attn.Ref

end
-- ==== Proof.Attn.R3.lean ====
/-
  The reference's result is the gradient of the branch.
-/
module

public import proofs.«01_k».proof.Proof.Attn.R2

@[expose] public section

set_option maxRecDepth 16384

noncomputable section

namespace Cert.Attn.Ref

open Idealize.ShloMosaic Idealize.SL.Sem
open Cert.ReferenceIdeal Cert.ReferenceIdeal.Gen Cert.ReferenceIdeal.Read

variable (x0 : A0) (x1 x2 : A1)

theorem dq_apply (h : Fin 4) (n : Fin 32) (r : Fin 128) (e : Fin 64) (hd : ∀ h n r c, val_main_v136 (F := Ideal) x0 x1 x2 (ix5 0 h n r c) = dScore (rows x0) (lanes x1) (lanes x2) h n r c) :
    val_main_v138 (F := Ideal) x0 x1 x2 (ix5 0 h n r e) = gradQ (rows x0) (lanes x1) (lanes x2) h n r e := by
  pointwise [val_main_v138]
  simp only [hd, kBand_apply]
  rfl

theorem dkBand_apply (h : Fin 4) (n : Fin 32) (c : Fin 256) (e : Fin 64) (hd : ∀ h n r c, val_main_v136 (F := Ideal) x0 x1 x2 (ix5 0 h n r c) = dScore (rows x0) (lanes x1) (lanes x2) h n r c) :
    val_main_v137 (F := Ideal) x0 x1 x2 (ix5 0 h n c e) = ∑ r, dScore (rows x0) (lanes x1) (lanes x2) h n r c * qRow (rows x0) h n r e := by
  pointwise [val_main_v137]
  simp only [hd, q_apply]

theorem dvBand_apply (h : Fin 4) (n : Fin 32) (c : Fin 256) (e : Fin 64) :
    val_main_v119 (F := Ideal) x0 x1 (ix5 0 h n c e) = ∑ r, wNum (rows x0) (lanes x1) h n r c e := by
  pointwise [val_main_v119, val_main_v118]
  simp only [dNum_apply, weight_apply]
  exact Finset.sum_congr rfl fun r _ => mul_comm _ _

theorem dk_apply (h : Fin 4) (n : Fin 32) (r : Fin 128) (e : Fin 64) (hd : ∀ h n r c, val_main_v136 (F := Ideal) x0 x1 x2 (ix5 0 h n r c) = dScore (rows x0) (lanes x1) (lanes x2) h n r c) :
    val_main_v152 (F := Ideal) x0 x1 x2 (ix5 0 h n r e) = gradK (rows x0) (lanes x1) (lanes x2) h n r e := by
  pointwise [val_main_v152, val_main_v150, val_main_v149, val_main_v148, val_main_v147, val_main_v146, val_main_cst_22, val_main_cst_23]
  simp only [dkBand_apply x0 x1 x2 _ _ _ _ hd]
  unfold gradK ownK backK
  rw [add_comm]
  refine congrArg₂ (· + ·) ?_ rfl
  by_cases g : n.val + 1 < 32
  · rw [dif_pos g, dif_pos (by omega)]
    have e : (⟨1 + n.val, by omega⟩ : Fin 32) = ⟨n.val + 1, g⟩ := Fin.ext (Nat.add_comm _ _)
    rw [e]; rfl
  · rw [dif_neg g, dif_neg (by omega)]

theorem dv_apply (h : Fin 4) (n : Fin 32) (r : Fin 128) (e : Fin 64) :
    val_main_v145 (F := Ideal) x0 x1 (ix5 0 h n r e) = gradV (rows x0) (lanes x1) h n r e := by
  pointwise [val_main_v145, val_main_v143, val_main_v142, val_main_v141, val_main_v140, val_main_v139, val_main_cst_20, val_main_cst_21]
  simp only [dvBand_apply]
  unfold gradV ownV backV
  rw [add_comm]
  refine congrArg₂ (· + ·) ?_ rfl
  by_cases g : n.val + 1 < 32
  · rw [dif_pos g, dif_pos (by omega)]
    have e : (⟨1 + n.val, by omega⟩ : Fin 32) = ⟨n.val + 1, g⟩ := Fin.ext (Nat.add_comm _ _)
    rw [e]; rfl
  · rw [dif_neg g, dif_neg (by omega)]

theorem grad_apply (g : Fin 4096) (j : Fin 768) (hd : ∀ h n r c, val_main_v136 (F := Ideal) x0 x1 x2 (ix5 0 h n r c) = dScore (rows x0) (lanes x1) (lanes x2) h n r c) :
    val_main_v172 (F := Ideal) x0 x1 x2 (ix3 0 g j) = grad (rows x0) (lanes x1) (lanes x2) g j := by
  pointwise [val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_cst_24, val_main_cst_25, val_main_cst_26]
  simp only [dv_apply, dk_apply x0 x1 x2 _ _ _ _ hd, dq_apply x0 x1 x2 _ _ _ _ hd]
  unfold grad
  have hj := j.isLt
  by_cases h0 : j.val < 256
  · have p : partOf j = 0 := Fin.ext (by show j.val / 256 = 0; omega)
    rw [if_pos p, dif_neg (by omega), dif_neg (by omega), dif_pos h0, zero_add, zero_add]
    have e1 : (⟨j.val / 64, by omega⟩ : Fin 4) = headOf (laneOf j) := Fin.ext (by show j.val / 64 = j.val % 256 / 64; omega)
    have e2 : (⟨j.val % 64, by omega⟩ : Fin 64) = placeOf (laneOf j) := Fin.ext (by show j.val % 64 = j.val % 256 % 64; omega)
    rw [e1, e2]; rfl
  · by_cases h1 : j.val < 512
    · have p : partOf j = 1 := Fin.ext (by show j.val / 256 = 1; omega)
      have p0 : partOf j ≠ 0 := by rw [p]; decide
      rw [if_neg p0, if_pos p, dif_neg (by omega), dif_pos (by omega), dif_neg h0, zero_add, add_zero]
      have e1 : (⟨(j.val - 256) / 64, by omega⟩ : Fin 4) = headOf (laneOf j) := Fin.ext (by show (j.val - 256) / 64 = j.val % 256 / 64; omega)
      have e2 : (⟨(j.val - 256) % 64, by omega⟩ : Fin 64) = placeOf (laneOf j) := Fin.ext (by show (j.val - 256) % 64 = j.val % 256 % 64; omega)
      rw [e1, e2]; rfl
    · have p : partOf j = 2 := Fin.ext (by show j.val / 256 = 2; omega)
      have p0 : partOf j ≠ 0 := by rw [p]; decide
      have p1 : partOf j ≠ 1 := by rw [p]; decide
      rw [if_neg p0, if_neg p1, dif_pos (by omega), dif_neg (by omega), dif_neg h0, add_zero, add_zero]
      have e1 : (⟨(j.val - 512) / 64, by omega⟩ : Fin 4) = headOf (laneOf j) := Fin.ext (by show (j.val - 512) / 64 = j.val % 256 / 64; omega)
      have e2 : (⟨(j.val - 512) % 64, by omega⟩ : Fin 64) = placeOf (laneOf j) := Fin.ext (by show (j.val - 512) % 64 = j.val % 256 % 64; omega)
      rw [e1, e2]; rfl

/-- The reference's result over finite arrays is the gradient of the branch. -/
theorem result (hX : ∀ g j, ∃ a : ℝ, rows x0 g j = a) (hD : ∀ g j, ∃ a : ℝ, lanes x1 g j = a) (hT : ∀ g j, ∃ a : ℝ, lanes x2 g j = a) :
    val_main_v172 (F := Ideal) x0 x1 x2 = fun i : S1x4096x768.Idx => grad (rows x0) (lanes x1) (lanes x2) (i 1) (i 2) := by
  funext i
  have h0 : (i 0).val < 1 := (i 0).isLt
  have e : i = ix3 0 (i 1) (i 2) := by
    funext a
    match a with
    | ⟨0, _⟩ => exact Fin.ext (by show (i 0).val = 0; omega)
    | ⟨1, _⟩ => rfl
    | ⟨2, _⟩ => rfl
  exact (congrArg (val_main_v172 (F := Ideal) x0 x1 x2) e).trans (grad_apply x0 x1 x2 _ _ (dScore_apply x0 x1 x2 hX hD hT))

end Cert.Attn.Ref

end
-- ==== Proof.Attn.Finite.lean ====
/-
  What the precondition says: every entry of the three arrays is a real number.
-/
module

public import proofs.«01_k».proof.Pre_finite
public import proofs.«01_k».proof.Proof.Attn.Row
public import Idealize.ShloMosaic.Lib.Pointwise

@[expose] public section

set_option maxRecDepth 16384

noncomputable section

namespace Cert.Attn.Finite

open Idealize.ShloMosaic Idealize.SL.Sem
open Cert.Pre_finite

instance facts : Cert.Pre_finite.Facts where
  concatenates_S1x4096x768_S1x4096x256_S1x4096x256_S1x4096x1280_d2 := by decide
  bcast_S_S1x4096x1280 := by decide

theorem top_bits : Ideal.ofBits .f32 0x7F800000#32 = ⊤ := by simp [Ideal.ofBits, Ideal.ieee]

theorem real_of_abs (x : EReal) (h : BitVec.ofBool (decide (FloatOps.absf (F := Ideal) (φ := .f32) x < (⊤ : EReal))) = 1#1) : ∃ a : ℝ, x = a := by
  by_cases hx : FloatOps.absf (F := Ideal) (φ := .f32) x < (⊤ : EReal)
  · refine real_of_finite ⟨fun ht => ?_, fun hb => ?_⟩
    · rw [ht] at hx; exact absurd hx (by show ¬ max (⊤ : EReal) (-⊤) < ⊤; simp)
    · rw [hb] at hx; exact absurd hx (by show ¬ max (⊥ : EReal) (-⊥) < ⊤; simp)
  · rw [decide_eq_false hx] at h; exact absurd h (by decide)

theorem entry_real (a0 : FVec Ideal S1x4096x768 .f32) (a1 a2 : FVec Ideal S1x4096x256 .f32)
    (h : Cert.Pre_finite.fn (F := Ideal) a0 a1 a2 = fun _ => 1#1) (g : Fin 4096) (k : Fin 1280) :
    ∃ a : ℝ, (if h : k.val < 768 then a0 (ix3 0 g ⟨k.val, h⟩)
      else if h' : k.val - 768 < 256 then a1 (ix3 0 g ⟨k.val - 768, h'⟩) else a2 (ix3 0 g ⟨k.val - 768 - 256, by omega⟩)) = (a : EReal) := by
  have h1 := congrFun h (ix3 0 g k)
  unfold Cert.Pre_finite.fn at h1
  pointwise [] at h1
  rw [top_bits] at h1
  exact real_of_abs _ h1

variable (a0 : FVec Ideal S1x4096x768 .f32) (a1 a2 : FVec Ideal S1x4096x256 .f32)
  (h : Cert.Pre_finite.fn (F := Ideal) a0 a1 a2 = fun _ => 1#1)

include h in
theorem real0 (g : Fin 4096) (j : Fin 768) : ∃ a : ℝ, a0 (ix3 0 g j) = (a : EReal) := by
  obtain ⟨a, ha⟩ := entry_real a0 a1 a2 h g ⟨j.val, by omega⟩
  refine ⟨a, ?_⟩
  rw [dif_pos (show j.val < 768 from j.isLt)] at ha
  exact ha

include h in
theorem real1 (g : Fin 4096) (j : Fin 256) : ∃ a : ℝ, a1 (ix3 0 g j) = (a : EReal) := by
  obtain ⟨a, ha⟩ := entry_real a0 a1 a2 h g ⟨768 + j.val, by omega⟩
  refine ⟨a, ?_⟩
  rw [dif_neg (show ¬ 768 + j.val < 768 by omega), dif_pos (show 768 + j.val - 768 < 256 by omega)] at ha
  exact (congrArg (fun z => a1 (ix3 0 g z)) (Fin.ext (by show j.val = 768 + j.val - 768; omega))).trans ha

include h in
theorem real2 (g : Fin 4096) (j : Fin 256) : ∃ a : ℝ, a2 (ix3 0 g j) = (a : EReal) := by
  obtain ⟨a, ha⟩ := entry_real a0 a1 a2 h g ⟨1024 + j.val, by omega⟩
  refine ⟨a, ?_⟩
  rw [dif_neg (show ¬ 1024 + j.val < 768 by omega), dif_neg (show ¬ 1024 + j.val - 768 < 256 by omega)] at ha
  exact (congrArg (fun z => a2 (ix3 0 g z)) (Fin.ext (by show j.val = 1024 + j.val - 768 - 256; omega))).trans ha

end Cert.Attn.Finite

end
-- ==== Proof.Attn.Claims.lean ====
/-
  The claims about the kernel and its reference.
-/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal
public import proofs.«01_k».proof.Proof.Attn.Final
public import proofs.«01_k».proof.Proof.Attn.R3
public import proofs.«01_k».proof.Proof.Attn.Finite
public import Idealize.ShloMosaic.Adequacy
public import Idealize.ShloMosaic.Init

@[expose] public section

noncomputable section

namespace Cert.Attn.Claims

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri_finite : Cert.quiescent_ReferenceIdeal_pre_finite := fun m ρ _ => frame_ri m ρ trivial

theorem preserves : Cert.preserves_Kernel_KernelIdeal :=
  IdealRules.named_const.statement Cert.KernelIdeal.κ "mask" .f32 0xF149F2CA#32 ⊥ rfl

/-- Both programs end at the gradient of the branch. -/
theorem algebraic : Cert.algebraic_KernelIdeal_ReferenceIdeal_pre_finite := by
  intro m g m' g' hpre hargs
  have h0 := fun c => Finite.real0 _ _ _ (hpre c)
  have h1 := fun c => Finite.real1 _ _ _ (hpre c)
  have h2 := fun c => Finite.real2 _ _ _ (hpre c)
  refine ⟨fun c => (fun i : Cert.KernelIdeal.S1x4096x768.Idx => grad (Blocks.X m c) (Blocks.D m c) (Blocks.T m c) (i 1) (i 2)), ?_, ?_⟩
  · exact (θ_run Cert.KernelIdeal.defs _ _).mono
      (fun r h c => ⟨(h c).1.trans (Blocks.result m c (h0 c)), (h c).2⟩) (Cert.KernelIdeal.Value.run_blocks m g)
  · refine (θ_run Cert.ReferenceIdeal.defs _ _).mono (fun r h c => ⟨(h c).1.trans ?_, (h c).2⟩) (Cert.ReferenceIdeal.Value.run m' g')
    obtain ⟨e0, e1, e2⟩ := hargs c
    refine (Cert.ReferenceIdeal.Read.val_main_v172_eq (Idealize.ShloMosaic.StableHlo.launchContents m' c)).trans ?_
    refine (congr (congrArg₂ (Cert.ReferenceIdeal.Read.val_main_v172 (F := Ideal)) e0 e1) e2).trans ?_
    exact Ref.result _ _ _ (h0 c) (h1 c) (h2 c)

end Cert.Attn.Claims

end
-- ==== Proof.Mm.Common.lean ====
/-
  A product summed tile by tile along the contracted axis is the whole sum.
-/
module

public import Idealize.ShloMosaic.Lib.Pointwise
public import Idealize.ShloMosaic.Lib.Pipeline.ValueKit

@[expose] public section

noncomputable section

namespace Cert.Mm

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- The sum of the first `n` terms. -/
def head {K : ℕ} (f : Fin K → EReal) (n : ℕ) : EReal := ∑ k ∈ Finset.range n, if h : k < K then f ⟨k, h⟩ else 0

theorem head_all {K : ℕ} (f : Fin K → EReal) : head f K = ∑ k, f k := by
  unfold head
  rw [Finset.sum_range]
  exact Finset.sum_congr rfl fun k _ => dif_pos k.isLt

/-- A tile of terms more. -/
theorem head_step {K T : ℕ} (f : Fin K → EReal) (q : ℕ) (g : Fin T → EReal) (hq : q * T + T ≤ K)
    (hg : ∀ z : Fin T, g z = f ⟨q * T + z.val, by have := z.isLt; omega⟩) :
    head f (q * T) + ∑ z, g z = head f (q * T + T) := by
  unfold head
  rw [Finset.sum_range_add, Finset.sum_range (n := T)]
  congr 1
  refine Finset.sum_congr rfl fun z _ => ?_
  have := z.isLt
  rw [dif_pos (by omega), hg]

/-- The first tile of terms. -/
theorem head_first {K T : ℕ} (f : Fin K → EReal) (g : Fin T → EReal) (hq : T ≤ K)
    (hg : ∀ z : Fin T, g z = f ⟨z.val, by have := z.isLt; omega⟩) :
    0 + ∑ z, g z = head f T := by
  unfold head
  rw [Finset.sum_range (n := T), zero_add]
  refine Finset.sum_congr rfl fun z _ => ?_
  have := z.isLt
  rw [dif_pos (by omega), hg]

/-- A point that does not begin a run of `n` points has the point before it in its run. -/
theorem mod_pred {a n : ℕ} (hn : 0 < n) (h : a % n ≠ 0) : (a - 1) % n + 1 = a % n := by
  have e := Nat.div_add_mod a n
  have hlt := Nat.mod_lt a hn
  have e1 : a - 1 = n * (a / n) + (a % n - 1) := by omega
  rw [e1, Nat.mul_add_mod, Nat.mod_eq_of_lt (by omega)]
  omega

section Tiled
variable {N nk K T : ℕ} {R S : Type} (out : (n : ℕ) → n < N → R → S → EReal) (f : (n : ℕ) → n < N → R → S → Fin K → EReal)
  (g : (n : ℕ) → n < N → R → S → Fin T → EReal)

/-- An accumulator over the points of a grid: in each run of `nk` points the first starts it from zero with its tile of terms, every
other point adds its own tile; after a point it is the sum of the terms up to the point's tile. -/
theorem tiled (hK : nk * T = K) (hnk : 0 < nk)
    (hg : ∀ n hn r s (z : Fin T) (k : Fin K), k.val = n % nk * T + z.val → g n hn r s z = f n hn r s k)
    (same : ∀ n hn hn' r s, n % nk ≠ 0 → f (n - 1) hn' r s = f n hn r s)
    (first : ∀ n hn r s, n % nk = 0 → out n hn r s = 0 + ∑ z, g n hn r s z)
    (next : ∀ n hn hn' r s, n % nk ≠ 0 → out n hn r s = out (n - 1) hn' r s + ∑ z, g n hn r s z) (n : ℕ) :
    ∀ hn r s, out n hn r s = head (f n hn r s) (n % nk * T + T) := by
  induction n using Nat.strong_induction_on with
  | _ n ih =>
    intro hn r s
    have hq : n % nk * T + T ≤ K := by
      rw [← hK, ← Nat.succ_mul]
      exact Nat.mul_le_mul_right _ (Nat.mod_lt n hnk)
    by_cases h : n % nk = 0
    · rw [first n hn r s h, h]
      rw [h] at hq
      simp only [Nat.zero_mul, Nat.zero_add] at hq ⊢
      exact head_first _ _ hq fun z => hg n hn r s z _ (by rw [h]; simp)
    · have hn0 : n ≠ 0 := fun h0 => h (by rw [h0]; exact Nat.zero_mod nk)
      have hn' : n - 1 < N := by omega
      rw [next n hn hn' r s h, ih (n - 1) (by omega) hn' r s, same n hn hn' r s h]
      have e : (n - 1) % nk * T + T = n % nk * T := by rw [← mod_pred hnk h, Nat.succ_mul]
      rw [e]
      exact head_step _ _ _ hq fun z => hg n hn r s z _ rfl

/-- After the last point of a run it is the sum of all the terms. -/
theorem tiled_last (hK : nk * T = K) (hnk : 0 < nk)
    (hg : ∀ n hn r s (z : Fin T) (k : Fin K), k.val = n % nk * T + z.val → g n hn r s z = f n hn r s k)
    (same : ∀ n hn hn' r s, n % nk ≠ 0 → f (n - 1) hn' r s = f n hn r s)
    (first : ∀ n hn r s, n % nk = 0 → out n hn r s = 0 + ∑ z, g n hn r s z)
    (next : ∀ n hn hn' r s, n % nk ≠ 0 → out n hn r s = out (n - 1) hn' r s + ∑ z, g n hn r s z)
    (n : ℕ) (hn : n < N) (r : R) (s : S) (hl : n % nk = nk - 1) : out n hn r s = ∑ k, f n hn r s k := by
  rw [tiled out f g hK hnk hg same first next n hn r s, hl, ← head_all]
  congr 1
  rw [← hK, ← Nat.succ_mul]
  congr 1
  omega
end Tiled

end Cert.Mm

end
-- ==== Proof.Mm.Val2.lean ====
/-
  The gradient of the up-projection's product in its left factor, entry by entry.
-/
module

public import proofs.«01_k».proof.Proof.Mm.Common
public import proofs.«01_k».proof.Proof.Gen.Kernel2Ideal.Value

@[expose] public section

set_option maxRecDepth 65536

noncomputable section

namespace Cert.Mm2

open Idealize.ShloMosaic Idealize.ShloMosaic.TcCoe Idealize.SL.Sem
open Idealize.ShloMosaic.Pipeline (Dat)
open Cert.Kernel2Ideal Cert.Kernel2Ideal.Gen Cert.Mm

section Outs
variable (c : Dev nD) (i : grid0.Coords) (arg3 : Memref sig .tc .vmem S1024x1408 .bf16) (harg3 : arg3.IsWhole) (arg4 : Memref sig .tc .vmem S1024x1408 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1408 .bf16) (x1 : Vec Ideal S1024x1408 .bf16) (xs : Vec Ideal S1024x1024 .f32)

/-- The first tile: the accumulator from zero. -/
theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz2]
  simp only [View.readAt_eq_ld, harg3.read_unread, harg4.read_unread, harg5.read_unread, harg6.read_unread, View.ld_unit_zero (S := S1024x1024) hz2, View.ld_unit_zero (S := S1024x1408) hz2, View.readCov_unit_zero (S := S1024x1024) _ hz2]

/-- A middle tile: the accumulator from what the point before left. -/
theorem sout_B (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x1408) hz2, View.readCov_unit_zero (S := S1024x1024) _ hz2]

/-- The last tile. -/
theorem sout_C (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x1408) hz2, View.readCov_unit_zero (S := S1024x1024) _ hz2]

/-- The output block after the last tile. -/
theorem out_C (hc0 : ¬cond0_0 i) (hc1 : cond0_1 i) :
    out0_C_2 c i arg3 harg3 arg4 harg4 arg5 harg5 arg6 harg6 hc0 hc1 x0 x1 xs = k0_pay2 xs x0 x1 := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x1408) hz2, View.readCov_unit_zero (S := S1024x1024) _ hz2]
end Outs

variable (m : (ℓ : Loc nD τ sig) → Buf (Elt Ideal) ℓ) (c : Dev nD)

/-- The two factors, entry by entry. -/
def A (r : Fin 4096) (k : Fin 5632) : EReal := m ((c : Thread nD τ).loc main_arg0) (ix2 r k)
def B (k : Fin 5632) (s : Fin 1024) : EReal := m ((c : Thread nD τ).loc main_arg1) (ix2 s k)

/-- The terms of an entry of the product. -/
def term (r : Fin 4096) (s : Fin 1024) (k : Fin 5632) : EReal := A m c r k * B m c k s

theorem bound (t : Fin cfg0.N) : t.val < 16 := lt_of_lt_of_eq t.isLt (show cfg0.N = 16 from N_0)

theorem idx : ∀ t : Fin cfg0.N, win0_0.index t = ![t.val / 4, t.val % 4] ∧ win0_1.index t = ![t.val / 4 % 1, t.val % 4] ∧ win0_2.index t = ![t.val / 4, t.val / 4 % 1] :=
  (by decide +kernel : ∀ t : Fin grid0.N, win0_0.index t = ![t.val / 4, t.val % 4] ∧ win0_1.index t = ![t.val / 4 % 1, t.val % 4] ∧ win0_2.index t = ![t.val / 4, t.val / 4 % 1])

/-- The rows, columns and contracted entries a grid point works on. -/
def row (t : Fin cfg0.N) (r : Fin 1024) : Fin 4096 := ⟨t.val / 4 * 1024 + r.val, by have := bound t; have := r.isLt; omega⟩
def col (t : Fin cfg0.N) (s : Fin 1024) : Fin 1024 := ⟨t.val / 4 % 1 * 1024 + s.val, by have := bound t; have := s.isLt; omega⟩
def con (t : Fin cfg0.N) (z : Fin 1408) : Fin 5632 := ⟨t.val % 4 * 1408 + z.val, by have := bound t; have := z.isLt; omega⟩

theorem in0 (t : Fin cfg0.N) (r : Fin 1024) (z : Fin 1408) : iblk m c 0 t (ix2 r z) = A m c (row t r) (con t z) := by
  unfold A
  rw [← V_main_arg0 m c]
  have := bound t
  unfold con row
  blk_ext [iblk, idx t]

theorem in1 (t : Fin cfg0.N) (z : Fin 1408) (s : Fin 1024) : iblk m c 1 t (ix2 s z) = B m c (con t z) (col t s) := by
  unfold B
  rw [← V_main_arg1 m c]
  have := bound t
  unfold con col
  blk_ext [iblk, idx t]

/-- What a tile adds. -/
theorem step_apply (t : Fin cfg0.N) (acc : Vec Ideal S1024x1024 .f32) (r : Fin 1024) (s : Fin 1024) :
    k0_pay2 acc (iblk m c 0 t) (iblk m c 1 t) (ix2 r s) = acc (ix2 r s) + ∑ z : Fin 1408, A m c (row t r) (con t z) * B m c (con t z) (col t s) := by
  have e0 := in0 m c t r
  have e1 := fun z => in1 m c t z s
  pointwise [k0_pay2]
  exact congrArg _ (Finset.sum_congr rfl fun z _ => congrArg₂ _ (e0 z) (e1 z))

theorem zero_apply (r : Fin 1024) (s : Fin 1024) : (k0_pay1 : FVec Ideal S1024x1024 .f32) (ix2 r s) = 0 := by
  pointwise [k0_pay1]

/-- The accumulator after the last tile: the whole sum. -/
theorem acc_apply (t : Fin cfg0.N) (h1 : t.val % 4 = 3) (r : Fin 1024) (s : Fin 1024) :
    (outsAt0 m c t.val t.isLt).2 (ix2 r s) = ∑ k, term m c (row t r) (col t s) k := by
  refine tiled_last (nk := 4) (fun n hn r s => (outsAt0 m c n hn).2 (ix2 r s)) (fun n hn r s => term m c (row ⟨n, hn⟩ r) (col ⟨n, hn⟩ s))
    (fun n hn r s z => term m c (row ⟨n, hn⟩ r) (col ⟨n, hn⟩ s) (con ⟨n, hn⟩ z)) rfl (by decide) ?_ ?_ ?_ ?_ t.val t.isLt r s h1
  · exact fun n hn r s z k hk => congrArg _ (Fin.ext hk.symm)
  · intro n hn hn' r s h
    have e : (n - 1) / 4 = n / 4 := by omega
    have ei : (n - 1) / 4 = n / 4 := by omega
    simp only [row, col, e, ei]
  · intro n hn r s h
    rw [show outsAt0 m c n hn = _ from outsAt0_A m c ⟨n, hn⟩ h (by show ¬ n % 4 = 3; omega)]
    dsimp only
    rw [sout_A, step_apply, zero_apply]
    rfl
  · intro n hn hn' r s h
    by_cases h1 : n % 4 = 3
    · rw [show outsAt0 m c n hn = _ from outsAt0_C m c ⟨n, hn⟩ h h1]
      dsimp only
      rw [sout_C, step_apply]
      rfl
    · rw [show outsAt0 m c n hn = _ from outsAt0_B m c ⟨n, hn⟩ h h1]
      dsimp only
      rw [sout_B, step_apply]
      rfl

/-- A block of the result. -/
theorem point (t : Fin cfg0.N) (h1 : t.val % 4 = 3) (r : Fin 1024) (s : Fin 1024) :
    (outsAt0 m c t.val t.isLt).1 (ix2 r s) = ∑ k, term m c (row t r) (col t s) k := by
  have h0 : ¬ t.val % 4 = 0 := by omega
  have ha := acc_apply m c t h1 r s
  rw [outsAt0_C m c t h0 h1] at ha ⊢
  dsimp only at ha ⊢
  rw [sout_C] at ha
  rw [out_C]
  exact ha

/-- The result array. -/
theorem result : (dats m 0 c).arrAt 2 cfg0.N = fun i : S4096x1024.Idx => ∑ k, term m c (i 0) (i 1) k := by
  refine (dats m 0 c).arrAt_eq_of_covers 2 _ (by decide +kernel) fun t hf y => ?_
  have h1 := (flush0_2 t).mp hf
  blk_simp
  rw [after0_2]
  have hN := bound t
  have er : (win0_2.blk t).view.emb y 0 = row t (y 0) := by
    apply Fin.ext
    blk_simp [idx t] <;> rfl
  have es : (win0_2.blk t).view.emb y 1 = col t (y 1) := by
    apply Fin.ext
    blk_simp [idx t] <;> rfl
  rw [er, es]
  exact (congrArg _ (eq_ix2 y)).trans (point m c t h1 (y 0) (y 1))

end Cert.Mm2

end
-- ==== Proof.Mm.Claims2.lean ====
/-
  The claims about the gradient of the up-projection's product in its left factor.
-/
module

public import proofs.«01_k».proof.Defs
public import proofs.«01_k».proof.Proof.Gen.Kernel2
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Read
public import proofs.«01_k».proof.Proof.Mm.Val2
public import Idealize.ShloMosaic.Adequacy
public import Idealize.ShloMosaic.Init

@[expose] public section

set_option maxRecDepth 16384

noncomputable section

namespace Cert.Mm2.Claims

open Idealize.ShloMosaic Idealize.SL.Sem
open Cert.Reference2Ideal.Read

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

/-- The reference's result, entry by entry. -/
theorem reference (x0 : Cert.Reference2Ideal.S4096x5632.Idx → EReal) (x1 : Cert.Reference2Ideal.S1024x5632.Idx → EReal) (r : Fin 4096) (s : Fin 1024) :
    (val_main_v4 (F := Ideal) x0 x1) (ix2 r s) = ∑ k : Fin 5632, x0 (ix2 r k) * x1 (ix2 s k) := by
  pointwise [val_main_v0, val_main_v1, val_main_cst, val_main_v2, val_main_v3, val_main_v4]

/-- Both programs end at the same array. -/
theorem algebraic : Cert.algebraic_Kernel2Ideal_Reference2Ideal := by
  intro m g m' g' _ hargs
  refine ⟨fun c => (fun i : Cert.Kernel2Ideal.S4096x1024.Idx => (∑ k, term m c (i 0) (i 1) k : EReal)), ?_, ?_⟩
  · exact (θ_run Cert.Kernel2Ideal.defs _ _).mono
      (fun r h c => ⟨(h c).1.trans (result m c), (h c).2⟩) (Cert.Kernel2Ideal.Value.run_blocks m g)
  · refine (θ_run Cert.Reference2Ideal.defs _ _).mono (fun r h c => ⟨(h c).1.trans ?_, (h c).2⟩) (Cert.Reference2Ideal.Value.run m' g')
    obtain ⟨e0, e1⟩ := hargs c
    refine (Cert.Reference2Ideal.Read.val_main_v4_eq _ _).trans ?_
    refine (congrArg₂ (Cert.Reference2Ideal.Read.val_main_v4 (F := Ideal)) e0 e1).trans ?_
    exact funext fun i => (congrArg _ (eq_ix2 i)).trans (reference _ _ (i 0) (i 1))

end Cert.Mm2.Claims

end
-- ==== Proof.Mm.Val3.lean ====
/-
  The gradient of the up-projection's product in its right factor, entry by entry, each chip's columns apart.
-/
module

public import proofs.«01_k».proof.Proof.Mm.Common
public import proofs.«01_k».proof.Proof.Gen.Kernel3Ideal.Value

@[expose] public section

set_option maxRecDepth 65536

noncomputable section

namespace Cert.Mm3

open Idealize.ShloMosaic Idealize.ShloMosaic.TcCoe Idealize.SL.Sem
open Idealize.ShloMosaic.Pipeline (Dat)
open Cert.Kernel3Ideal Cert.Kernel3Ideal.Gen Cert.Mm

section Outs
variable (c : Dev nD) (i : grid0.Coords) (arg3 : Memref sig .tc .vmem S1024x1024 .bf16) (harg3 : arg3.IsWhole) (arg4 : Memref sig .tc .vmem S1024x1408 .bf16) (harg4 : arg4.IsWhole) (arg5 : Memref sig .tc .vmem S1x1024x1408 .bf16) (harg5 : arg5.IsWhole) (arg6 : Memref sig .tc .vmem S1024x1408 .f32) (harg6 : arg6.IsWhole)
  (x0 : Vec Ideal S1024x1024 .bf16) (x1 : Vec Ideal S1024x1408 .bf16) (xs : Vec Ideal S1024x1408 .f32)

/-- The first tile: the accumulator from zero. -/
theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz2]
  simp only [View.readAt_eq_ld, harg3.read_unread, harg4.read_unread, harg5.read_unread, harg6.read_unread, View.ld_unit_zero (S := S1024x1024) hz2, View.ld_unit_zero (S := S1024x1408) hz2, View.readCov_unit_zero (S := S1024x1408) _ hz2]

/-- A middle tile: the accumulator from what the point before left. -/
theorem sout_B (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x1408) hz2, View.readCov_unit_zero (S := S1024x1408) _ hz2]

/-- The last tile. -/
theorem sout_C (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x1408) hz2, View.readCov_unit_zero (S := S1024x1408) _ hz2]

/-- The output block after the last tile. -/
theorem out_C (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero hz3]
  simp only [View.readAt_eq_ld, harg3.read_unread, harg4.read_unread, harg5.read_unread, harg6.read_unread, View.ld_unit_zero (S := S1024x1024) hz2, View.ld_unit_zero (S := S1024x1408) hz2, View.readCov_unit_zero (S := S1024x1408) _ hz2]
end Outs

/-- The column of the whole matrix that column `s` of chip `j`'s part is: the parts lie in the order 0, 2, 1, 3. -/
def chipCol (j : Fin 4) (s : Fin 1408) : Fin 5632 := ⟨(j.val % 2 * 2 + j.val / 2) * 1408 + s.val, by have := j.isLt; have := s.isLt; omega⟩

variable (m : (ℓ : Loc nD τ sig) → Buf (Elt Ideal) ℓ) (c : Dev nD)

/-- The two factors, entry by entry. -/
def A (r : Fin 1024) (k : Fin 4096) : EReal := m ((c : Thread nD τ).loc main_arg0) (ix2 k r)
def B (k : Fin 4096) (s : Fin 5632) : EReal := m ((c : Thread nD τ).loc main_arg1) (ix2 k s)

/-- The terms of an entry of the product. -/
def term (r : Fin 1024) (s : Fin 5632) (k : Fin 4096) : EReal := A m c r k * B m c k s

theorem bound (t : Fin cfg0.N) : t.val < 16 := lt_of_lt_of_eq t.isLt (show cfg0.N = 16 from N_0)

theorem idx : ∀ t : Fin cfg0.N, win0_0.index t = ![t.val % 4, t.val / 16] ∧ win0_1.index t = ![t.val % 4, t.val / 4 % 4] ∧ win0_2.index t = ![t.val / 4 % 4 % 2 * 2 + t.val / 4 % 4 / 2, t.val / 16, 0] :=
  (by decide +kernel : ∀ t : Fin grid0.N, win0_0.index t = ![t.val % 4, t.val / 16] ∧ win0_1.index t = ![t.val % 4, t.val / 4 % 4] ∧ win0_2.index t = ![t.val / 4 % 4 % 2 * 2 + t.val / 4 % 4 / 2, t.val / 16, 0])

/-- The rows, columns and contracted entries a grid point works on. -/
def row (t : Fin cfg0.N) (r : Fin 1024) : Fin 1024 := ⟨t.val / 16 * 1024 + r.val, by have := bound t; have := r.isLt; omega⟩
def col (t : Fin cfg0.N) (s : Fin 1408) : Fin 5632 := ⟨t.val / 4 % 4 * 1408 + s.val, by have := bound t; have := s.isLt; omega⟩
def con (t : Fin cfg0.N) (z : Fin 1024) : Fin 4096 := ⟨t.val % 4 * 1024 + z.val, by have := bound t; have := z.isLt; omega⟩

theorem in0 (t : Fin cfg0.N) (r : Fin 1024) (z : Fin 1024) : iblk m c 0 t (ix2 z r) = A m c (row t r) (con t z) := by
  unfold A
  rw [← V_main_arg0 m c]
  have := bound t
  unfold con row
  blk_ext [iblk, idx t]

theorem in1 (t : Fin cfg0.N) (z : Fin 1024) (s : Fin 1408) : iblk m c 1 t (ix2 z s) = B m c (con t z) (col t s) := by
  unfold B
  rw [← V_main_arg1 m c]
  have := bound t
  unfold con col
  blk_ext [iblk, idx t]

/-- What a tile adds. -/
theorem step_apply (t : Fin cfg0.N) (acc : Vec Ideal S1024x1408 .f32) (r : Fin 1024) (s : Fin 1408) :
    k0_pay2 acc (iblk m c 0 t) (iblk m c 1 t) (ix2 r s) = acc (ix2 r s) + ∑ z : Fin 1024, A m c (row t r) (con t z) * B m c (con t z) (col t s) := by
  have e0 := in0 m c t r
  have e1 := fun z => in1 m c t z s
  pointwise [k0_pay2]
  exact congrArg _ (Finset.sum_congr rfl fun z _ => congrArg₂ _ (e0 z) (e1 z))

theorem zero_apply (r : Fin 1024) (s : Fin 1408) : (k0_pay1 : FVec Ideal S1024x1408 .f32) (ix2 r s) = 0 := by
  pointwise [k0_pay1]

/-- The accumulator after the last tile: the whole sum. -/
theorem acc_apply (t : Fin cfg0.N) (h1 : t.val % 4 = 3) (r : Fin 1024) (s : Fin 1408) :
    (outsAt0 m c t.val t.isLt).2 (ix2 r s) = ∑ k, term m c (row t r) (col t s) k := by
  refine tiled_last (nk := 4) (fun n hn r s => (outsAt0 m c n hn).2 (ix2 r s)) (fun n hn r s => term m c (row ⟨n, hn⟩ r) (col ⟨n, hn⟩ s))
    (fun n hn r s z => term m c (row ⟨n, hn⟩ r) (col ⟨n, hn⟩ s) (con ⟨n, hn⟩ z)) rfl (by decide) ?_ ?_ ?_ ?_ t.val t.isLt r s h1
  · exact fun n hn r s z k hk => congrArg _ (Fin.ext hk.symm)
  · intro n hn hn' r s h
    have e : (n - 1) / 4 = n / 4 := by omega
    have ei : (n - 1) / 16 = n / 16 := by omega
    simp only [row, col, e, ei]
  · intro n hn r s h
    rw [show outsAt0 m c n hn = _ from outsAt0_A m c ⟨n, hn⟩ h (by show ¬ n % 4 = 3; omega)]
    dsimp only
    rw [sout_A, step_apply, zero_apply]
    rfl
  · intro n hn hn' r s h
    by_cases h1 : n % 4 = 3
    · rw [show outsAt0 m c n hn = _ from outsAt0_C m c ⟨n, hn⟩ h h1]
      dsimp only
      rw [sout_C, step_apply]
      rfl
    · rw [show outsAt0 m c n hn = _ from outsAt0_B m c ⟨n, hn⟩ h h1]
      dsimp only
      rw [sout_B, step_apply]
      rfl

/-- A block of the result. -/
theorem point (t : Fin cfg0.N) (h1 : t.val % 4 = 3) (r : Fin 1024) (s : Fin 1408) :
    (outsAt0 m c t.val t.isLt).1 (ix3 0 r s) = ∑ k, term m c (row t r) (col t s) k := by
  have h0 : ¬ t.val % 4 = 0 := by omega
  have ha := acc_apply m c t h1 r s
  rw [outsAt0_C m c t h0 h1] at ha ⊢
  dsimp only at ha ⊢
  rw [sout_C] at ha
  rw [out_C]
  pointwise [k0_pay3]
  exact ha

/-- The result array. -/
theorem result : (dats m 0 c).arrAt 2 cfg0.N = fun i : S4x1024x1408.Idx => ∑ k, term m c (i 1) (chipCol (i 0) (i 2)) k := by
  refine (dats m 0 c).arrAt_eq_of_covers 2 _ (by decide +kernel) fun t hf y => ?_
  have h1 := (flush0_2 t).mp hf
  blk_simp
  rw [after0_2]
  have hN := bound t
  have er : (win0_2.blk t).view.emb y 1 = row t (y 1) := by
    apply Fin.ext
    blk_simp [idx t] <;> rfl
  have es : chipCol ((win0_2.blk t).view.emb y 0) ((win0_2.blk t).view.emb y 2) = col t (y 2) := by
    apply Fin.ext
    unfold chipCol col
    have h0 : (y 0).val < 1 := (y 0).isLt
    blk_simp [idx t]
    show ((t.val / 4 % 4 % 2 * 2 + t.val / 4 % 4 / 2) % 2 * 2 + (t.val / 4 % 4 % 2 * 2 + t.val / 4 % 4 / 2) / 2) * 1408 + (y 2).val = t.val / 4 % 4 * 1408 + (y 2).val
    omega
  have hy : y = (ix3 0 (y 1) (y 2) : S1x1024x1408.Idx) := by
    funext a
    match a with
    | ⟨0, _⟩ => exact Fin.ext (by have : (y 0).val < 1 := (y 0).isLt; show (y 0).val = 0; omega)
    | ⟨1, _⟩ => rfl
    | ⟨2, _⟩ => rfl
  rw [er, es]
  exact (congrArg _ hy).trans (point m c t h1 (y 1) (y 2))

end Cert.Mm3

end
-- ==== Proof.Mm.Claims3.lean ====
/-
  The claims about the gradient of the up-projection's product in its right factor.
-/
module

public import proofs.«01_k».proof.Defs
public import proofs.«01_k».proof.Proof.Gen.Kernel3
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Read
public import proofs.«01_k».proof.Proof.Mm.Val3
public import Idealize.ShloMosaic.Adequacy
public import Idealize.ShloMosaic.Init

@[expose] public section

set_option maxRecDepth 16384

noncomputable section

namespace Cert.Mm3.Claims

open Idealize.ShloMosaic Idealize.SL.Sem
open Cert.Reference3Ideal.Read

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

/-- The reference's result, entry by entry. -/
theorem reference (x0 : Cert.Reference3Ideal.S4096x1024.Idx → EReal) (x1 : Cert.Reference3Ideal.S4096x5632.Idx → EReal) (j : Fin 4) (r : Fin 1024) (s : Fin 1408) :
    (val_main_v30 (F := Ideal) x0 x1) (ix3 j r s) = ∑ k : Fin 4096, x0 (ix2 k r) * x1 (ix2 k (chipCol j s)) := by
  pointwise [val_main_cst, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst_0, val_main_v20, val_main_v21, val_main_cst_1, val_main_v22, val_main_v23, val_main_v24, val_main_cst_2, val_main_v25, val_main_v26, val_main_v27, val_main_cst_3, val_main_v28, val_main_v29, val_main_v30]
  have e : ∀ s' : Fin 5632, s' = chipCol j s → ∑ x, x1 (ix2 x s') * x0 (ix2 x r) = ∑ k, x0 (ix2 k r) * x1 (ix2 k (chipCol j s)) := by
    rintro s' rfl
    exact Finset.sum_congr rfl fun k _ => mul_comm _ _
  have hj := j.isLt
  split_ifs <;> first
    | (exfalso; omega)
    | (simp only [zero_add, add_zero]; refine e _ (Fin.ext ?_); simp only [chipCol]; omega)

/-- Both programs end at the same array. -/
theorem algebraic : Cert.algebraic_Kernel3Ideal_Reference3Ideal := by
  intro m g m' g' _ hargs
  refine ⟨fun c => (fun i : Cert.Kernel3Ideal.S4x1024x1408.Idx => (∑ k, term m c (i 1) (chipCol (i 0) (i 2)) k : EReal)), ?_, ?_⟩
  · exact (θ_run Cert.Kernel3Ideal.defs _ _).mono
      (fun r h c => ⟨(h c).1.trans (result m c), (h c).2⟩) (Cert.Kernel3Ideal.Value.run_blocks m g)
  · refine (θ_run Cert.Reference3Ideal.defs _ _).mono (fun r h c => ⟨(h c).1.trans ?_, (h c).2⟩) (Cert.Reference3Ideal.Value.run m' g')
    obtain ⟨e0, e1⟩ := hargs c
    refine (Cert.Reference3Ideal.Read.val_main_v30_eq _ _).trans ?_
    refine (congrArg₂ (Cert.Reference3Ideal.Read.val_main_v30 (F := Ideal)) e0 e1).trans ?_
    exact funext fun i => (congrArg _ (eq_ix3 i)).trans (reference _ _ (i 0) (i 1) (i 2))

end Cert.Mm3.Claims

end
-- ==== Proof.Mm.Val4.lean ====
/-
  The gradient of the down-projection's product in its left factor, entry by entry.
-/
module

public import proofs.«01_k».proof.Proof.Mm.Common
public import proofs.«01_k».proof.Proof.Gen.Kernel4Ideal.Value

@[expose] public section

set_option maxRecDepth 65536

noncomputable section

namespace Cert.Mm4

open Idealize.ShloMosaic Idealize.ShloMosaic.TcCoe Idealize.SL.Sem
open Idealize.ShloMosaic.Pipeline (Dat)
open Cert.Kernel4Ideal Cert.Kernel4Ideal.Gen Cert.Mm

section Outs
variable (c : Dev nD) (i : grid0.Coords) (arg3 : Memref sig .tc .vmem S1024x1024 .bf16) (harg3 : arg3.IsWhole) (arg4 : Memref sig .tc .vmem S1408x1024 .bf16) (harg4 : arg4.IsWhole) (arg5 : Memref sig .tc .vmem S1024x1408 .f32) (harg5 : arg5.IsWhole) (arg6 : Memref sig .tc .vmem S1024x1408 .f32) (harg6 : arg6.IsWhole)
  (x0 : Vec Ideal S1024x1024 .bf16) (x1 : Vec Ideal S1408x1024 .bf16) (xs : Vec Ideal S1024x1408 .f32)

/-- The output block of a point: the product of the two blocks. -/
theorem out_A (hc0 : cond0_0 i) (hc1 : cond0_1 i) :
    out0_A_2 c i arg3 harg3 arg4 harg4 arg5 harg5 arg6 harg6 hc0 hc1 x0 x1 = k0_pay2 k0_pay1 x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x1408) hz2, View.ld_unit_zero (S := S1408x1024) hz2, View.readCov_unit_zero (S := S1024x1408) _ hz2]
  exact View.readCov_cons_toLoadRect _ _ _ _
end Outs

variable (m : (ℓ : Loc nD τ sig) → Buf (Elt Ideal) ℓ) (c : Dev nD)

/-- The two factors, entry by entry. -/
def A (r : Fin 4096) (k : Fin 1024) : EReal := m ((c : Thread nD τ).loc main_arg0) (ix2 r k)
def B (k : Fin 1024) (s : Fin 2816) : EReal := m ((c : Thread nD τ).loc main_arg1) (ix2 s k)

/-- The terms of an entry of the product. -/
def term (r : Fin 4096) (s : Fin 2816) (k : Fin 1024) : EReal := A m c r k * B m c k s

theorem bound (t : Fin cfg0.N) : t.val < 8 := lt_of_lt_of_eq t.isLt (show cfg0.N = 8 from N_0)

theorem idx : ∀ t : Fin cfg0.N, win0_0.index t = ![t.val / 2, t.val % 1] ∧ win0_1.index t = ![t.val / 1 % 2, t.val % 1] ∧ win0_2.index t = ![t.val / 2, t.val / 1 % 2] :=
  (by decide +kernel : ∀ t : Fin grid0.N, win0_0.index t = ![t.val / 2, t.val % 1] ∧ win0_1.index t = ![t.val / 1 % 2, t.val % 1] ∧ win0_2.index t = ![t.val / 2, t.val / 1 % 2])

/-- The rows, columns and contracted entries a grid point works on. -/
def row (t : Fin cfg0.N) (r : Fin 1024) : Fin 4096 := ⟨t.val / 2 * 1024 + r.val, by have := bound t; have := r.isLt; omega⟩
def col (t : Fin cfg0.N) (s : Fin 1408) : Fin 2816 := ⟨t.val / 1 % 2 * 1408 + s.val, by have := bound t; have := s.isLt; omega⟩
def con (t : Fin cfg0.N) (z : Fin 1024) : Fin 1024 := ⟨t.val % 1 * 1024 + z.val, by have := bound t; have := z.isLt; omega⟩

theorem in0 (t : Fin cfg0.N) (r : Fin 1024) (z : Fin 1024) : iblk m c 0 t (ix2 r z) = A m c (row t r) (con t z) := by
  unfold A
  rw [← V_main_arg0 m c]
  have := bound t
  unfold con row
  blk_ext [iblk, idx t]

theorem in1 (t : Fin cfg0.N) (z : Fin 1024) (s : Fin 1408) : iblk m c 1 t (ix2 s z) = B m c (con t z) (col t s) := by
  unfold B
  rw [← V_main_arg1 m c]
  have := bound t
  unfold con col
  blk_ext [iblk, idx t]

/-- What a tile adds. -/
theorem step_apply (t : Fin cfg0.N) (acc : Vec Ideal S1024x1408 .f32) (r : Fin 1024) (s : Fin 1408) :
    k0_pay2 acc (iblk m c 0 t) (iblk m c 1 t) (ix2 r s) = acc (ix2 r s) + ∑ z : Fin 1024, A m c (row t r) (con t z) * B m c (con t z) (col t s) := by
  have e0 := in0 m c t r
  have e1 := fun z => in1 m c t z s
  pointwise [k0_pay2]
  exact congrArg _ (Finset.sum_congr rfl fun z _ => congrArg₂ _ (e0 z) (e1 z))

theorem zero_apply (r : Fin 1024) (s : Fin 1408) : (k0_pay1 : FVec Ideal S1024x1408 .f32) (ix2 r s) = 0 := by
  pointwise [k0_pay1]

/-- A block of the result. -/
theorem point (t : Fin cfg0.N) (r : Fin 1024) (s : Fin 1408) :
    outsAt0 m c t (ix2 r s) = ∑ k, term m c (row t r) (col t s) k := by
  unfold outsAt0
  rw [out_A, step_apply, zero_apply, zero_add]
  refine Finset.sum_congr rfl fun z _ => ?_
  have ez : con t z = z := by
    apply Fin.ext
    show t.val % 1 * 1024 + z.val = z.val
    omega
  rw [ez]
  rfl

/-- The result array. -/
theorem result : (dats m 0 c).arrAt 2 cfg0.N = fun i : S4096x2816.Idx => ∑ k, term m c (i 0) (i 1) k := by
  refine (dats m 0 c).arrAt_eq_of_covers 2 _ (by decide +kernel) fun t hf y => ?_
  blk_simp
  rw [after0_2]
  have hN := bound t
  have er : (win0_2.blk t).view.emb y 0 = row t (y 0) := by
    apply Fin.ext
    blk_simp [idx t] <;> rfl
  have es : (win0_2.blk t).view.emb y 1 = col t (y 1) := by
    apply Fin.ext
    blk_simp [idx t] <;> rfl
  rw [er, es]
  exact (congrArg _ (eq_ix2 y)).trans (point m c t (y 0) (y 1))

end Cert.Mm4

end
-- ==== Proof.Mm.Claims4.lean ====
/-
  The claims about the gradient of the down-projection's product in its left factor.
-/
module

public import proofs.«01_k».proof.Defs
public import proofs.«01_k».proof.Proof.Gen.Kernel4
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Read
public import proofs.«01_k».proof.Proof.Mm.Val4
public import Idealize.ShloMosaic.Adequacy
public import Idealize.ShloMosaic.Init

@[expose] public section

set_option maxRecDepth 16384

noncomputable section

namespace Cert.Mm4.Claims

open Idealize.ShloMosaic Idealize.SL.Sem
open Cert.Reference4Ideal.Read

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

/-- The reference's result, entry by entry. -/
theorem reference (x0 : Cert.Reference4Ideal.S4096x1024.Idx → EReal) (x1 : Cert.Reference4Ideal.S2816x1024.Idx → EReal) (r : Fin 4096) (s : Fin 2816) :
    (val_main_v4 (F := Ideal) x0 x1) (ix2 r s) = ∑ k : Fin 1024, x0 (ix2 r k) * x1 (ix2 s k) := by
  pointwise [val_main_v0, val_main_v1, val_main_cst, val_main_v2, val_main_v3, val_main_v4]

/-- Both programs end at the same array. -/
theorem algebraic : Cert.algebraic_Kernel4Ideal_Reference4Ideal := by
  intro m g m' g' _ hargs
  refine ⟨fun c => (fun i : Cert.Kernel4Ideal.S4096x2816.Idx => (∑ k, term m c (i 0) (i 1) k : EReal)), ?_, ?_⟩
  · exact (θ_run Cert.Kernel4Ideal.defs _ _).mono
      (fun r h c => ⟨(h c).1.trans (result m c), (h c).2⟩) (Cert.Kernel4Ideal.Value.run_blocks m g)
  · refine (θ_run Cert.Reference4Ideal.defs _ _).mono (fun r h c => ⟨(h c).1.trans ?_, (h c).2⟩) (Cert.Reference4Ideal.Value.run m' g')
    obtain ⟨e0, e1⟩ := hargs c
    refine (Cert.Reference4Ideal.Read.val_main_v4_eq _ _).trans ?_
    refine (congrArg₂ (Cert.Reference4Ideal.Read.val_main_v4 (F := Ideal)) e0 e1).trans ?_
    exact funext fun i => (congrArg _ (eq_ix2 i)).trans (reference _ _ (i 0) (i 1))

end Cert.Mm4.Claims

end
-- ==== Proof.Mm.Val5.lean ====
/-
  The gradient of the down-projection's product in its right factor, entry by entry.
-/
module

public import proofs.«01_k».proof.Proof.Mm.Common
public import proofs.«01_k».proof.Proof.Gen.Kernel5Ideal.Value

@[expose] public section

set_option maxRecDepth 65536

noncomputable section

namespace Cert.Mm5

open Idealize.ShloMosaic Idealize.ShloMosaic.TcCoe Idealize.SL.Sem
open Idealize.ShloMosaic.Pipeline (Dat)
open Cert.Kernel5Ideal Cert.Kernel5Ideal.Gen Cert.Mm

section Outs
variable (c : Dev nD) (i : grid0.Coords) (arg3 : Memref sig .tc .vmem S1024x1408 .bf16) (harg3 : arg3.IsWhole) (arg4 : Memref sig .tc .vmem S1024x1024 .bf16) (harg4 : arg4.IsWhole) (arg5 : Memref sig .tc .vmem S1408x1024 .bf16) (harg5 : arg5.IsWhole) (arg6 : Memref sig .tc .vmem S1408x1024 .f32) (harg6 : arg6.IsWhole)
  (x0 : Vec Ideal S1024x1408 .bf16) (x1 : Vec Ideal S1024x1024 .bf16) (xs : Vec Ideal S1408x1024 .f32)

/-- The first tile: the accumulator from zero. -/
theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz2]
  simp only [View.readAt_eq_ld, harg3.read_unread, harg4.read_unread, harg5.read_unread, harg6.read_unread, View.ld_unit_zero (S := S1024x1024) hz2, View.ld_unit_zero (S := S1024x1408) hz2, View.ld_unit_zero (S := S1408x1024) hz2, View.readCov_unit_zero (S := S1408x1024) _ hz2]

/-- A middle tile: the accumulator from what the point before left. -/
theorem sout_B (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x1408) hz2, View.ld_unit_zero (S := S1408x1024) hz2, View.readCov_unit_zero (S := S1408x1024) _ hz2]

/-- The last tile. -/
theorem sout_C (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x1408) hz2, View.ld_unit_zero (S := S1408x1024) hz2, View.readCov_unit_zero (S := S1408x1024) _ hz2]

/-- The output block after the last tile. -/
theorem out_C (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x1408) hz2, View.ld_unit_zero (S := S1408x1024) hz2, View.readCov_unit_zero (S := S1408x1024) _ hz2]
end Outs

variable (m : (ℓ : Loc nD τ sig) → Buf (Elt Ideal) ℓ) (c : Dev nD)

/-- The two factors, entry by entry. -/
def A (r : Fin 2816) (k : Fin 4096) : EReal := m ((c : Thread nD τ).loc main_arg0) (ix2 k r)
def B (k : Fin 4096) (s : Fin 1024) : EReal := m ((c : Thread nD τ).loc main_arg1) (ix2 k s)

/-- The terms of an entry of the product. -/
def term (r : Fin 2816) (s : Fin 1024) (k : Fin 4096) : EReal := A m c r k * B m c k s

theorem bound (t : Fin cfg0.N) : t.val < 8 := lt_of_lt_of_eq t.isLt (show cfg0.N = 8 from N_0)

theorem idx : ∀ t : Fin cfg0.N, win0_0.index t = ![t.val % 4, t.val / 4] ∧ win0_1.index t = ![t.val % 4, t.val / 4 % 1] ∧ win0_2.index t = ![t.val / 4, t.val / 4 % 1] :=
  (by decide +kernel : ∀ t : Fin grid0.N, win0_0.index t = ![t.val % 4, t.val / 4] ∧ win0_1.index t = ![t.val % 4, t.val / 4 % 1] ∧ win0_2.index t = ![t.val / 4, t.val / 4 % 1])

/-- The rows, columns and contracted entries a grid point works on. -/
def row (t : Fin cfg0.N) (r : Fin 1408) : Fin 2816 := ⟨t.val / 4 * 1408 + r.val, by have := bound t; have := r.isLt; omega⟩
def col (t : Fin cfg0.N) (s : Fin 1024) : Fin 1024 := ⟨t.val / 4 % 1 * 1024 + s.val, by have := bound t; have := s.isLt; omega⟩
def con (t : Fin cfg0.N) (z : Fin 1024) : Fin 4096 := ⟨t.val % 4 * 1024 + z.val, by have := bound t; have := z.isLt; omega⟩

theorem in0 (t : Fin cfg0.N) (r : Fin 1408) (z : Fin 1024) : iblk m c 0 t (ix2 z r) = A m c (row t r) (con t z) := by
  unfold A
  rw [← V_main_arg0 m c]
  have := bound t
  unfold con row
  blk_ext [iblk, idx t]

theorem in1 (t : Fin cfg0.N) (z : Fin 1024) (s : Fin 1024) : iblk m c 1 t (ix2 z s) = B m c (con t z) (col t s) := by
  unfold B
  rw [← V_main_arg1 m c]
  have := bound t
  unfold con col
  blk_ext [iblk, idx t]

/-- What a tile adds. -/
theorem step_apply (t : Fin cfg0.N) (acc : Vec Ideal S1408x1024 .f32) (r : Fin 1408) (s : Fin 1024) :
    k0_pay2 acc (iblk m c 0 t) (iblk m c 1 t) (ix2 r s) = acc (ix2 r s) + ∑ z : Fin 1024, A m c (row t r) (con t z) * B m c (con t z) (col t s) := by
  have e0 := in0 m c t r
  have e1 := fun z => in1 m c t z s
  pointwise [k0_pay2]
  exact congrArg _ (Finset.sum_congr rfl fun z _ => congrArg₂ _ (e0 z) (e1 z))

theorem zero_apply (r : Fin 1408) (s : Fin 1024) : (k0_pay1 : FVec Ideal S1408x1024 .f32) (ix2 r s) = 0 := by
  pointwise [k0_pay1]

/-- The accumulator after the last tile: the whole sum. -/
theorem acc_apply (t : Fin cfg0.N) (h1 : t.val % 4 = 3) (r : Fin 1408) (s : Fin 1024) :
    (outsAt0 m c t.val t.isLt).2 (ix2 r s) = ∑ k, term m c (row t r) (col t s) k := by
  refine tiled_last (nk := 4) (fun n hn r s => (outsAt0 m c n hn).2 (ix2 r s)) (fun n hn r s => term m c (row ⟨n, hn⟩ r) (col ⟨n, hn⟩ s))
    (fun n hn r s z => term m c (row ⟨n, hn⟩ r) (col ⟨n, hn⟩ s) (con ⟨n, hn⟩ z)) rfl (by decide) ?_ ?_ ?_ ?_ t.val t.isLt r s h1
  · exact fun n hn r s z k hk => congrArg _ (Fin.ext hk.symm)
  · intro n hn hn' r s h
    have e : (n - 1) / 4 = n / 4 := by omega
    have ei : (n - 1) / 4 = n / 4 := by omega
    simp only [row, col, e, ei]
  · intro n hn r s h
    rw [show outsAt0 m c n hn = _ from outsAt0_A m c ⟨n, hn⟩ h (by show ¬ n % 4 = 3; omega)]
    dsimp only
    rw [sout_A, step_apply, zero_apply]
    rfl
  · intro n hn hn' r s h
    by_cases h1 : n % 4 = 3
    · rw [show outsAt0 m c n hn = _ from outsAt0_C m c ⟨n, hn⟩ h h1]
      dsimp only
      rw [sout_C, step_apply]
      rfl
    · rw [show outsAt0 m c n hn = _ from outsAt0_B m c ⟨n, hn⟩ h h1]
      dsimp only
      rw [sout_B, step_apply]
      rfl

/-- A block of the result. -/
theorem point (t : Fin cfg0.N) (h1 : t.val % 4 = 3) (r : Fin 1408) (s : Fin 1024) :
    (outsAt0 m c t.val t.isLt).1 (ix2 r s) = ∑ k, term m c (row t r) (col t s) k := by
  have h0 : ¬ t.val % 4 = 0 := by omega
  have ha := acc_apply m c t h1 r s
  rw [outsAt0_C m c t h0 h1] at ha ⊢
  dsimp only at ha ⊢
  rw [sout_C] at ha
  rw [out_C]
  pointwise [k0_pay3]
  exact ha

/-- The result array. -/
theorem result : (dats m 0 c).arrAt 2 cfg0.N = fun i : S2816x1024.Idx => ∑ k, term m c (i 0) (i 1) k := by
  refine (dats m 0 c).arrAt_eq_of_covers 2 _ (by decide +kernel) fun t hf y => ?_
  have h1 := (flush0_2 t).mp hf
  blk_simp
  rw [after0_2]
  have hN := bound t
  have er : (win0_2.blk t).view.emb y 0 = row t (y 0) := by
    apply Fin.ext
    blk_simp [idx t] <;> rfl
  have es : (win0_2.blk t).view.emb y 1 = col t (y 1) := by
    apply Fin.ext
    blk_simp [idx t] <;> rfl
  rw [er, es]
  exact (congrArg _ (eq_ix2 y)).trans (point m c t h1 (y 0) (y 1))

end Cert.Mm5

end
-- ==== Proof.Mm.Claims5.lean ====
/-
  The claims about the gradient of the down-projection's product in its right factor.
-/
module

public import proofs.«01_k».proof.Defs
public import proofs.«01_k».proof.Proof.Gen.Kernel5
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Read
public import proofs.«01_k».proof.Proof.Mm.Val5
public import Idealize.ShloMosaic.Adequacy
public import Idealize.ShloMosaic.Init

@[expose] public section

set_option maxRecDepth 16384

noncomputable section

namespace Cert.Mm5.Claims

open Idealize.ShloMosaic Idealize.SL.Sem
open Cert.Reference5Ideal.Read

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem preserves : Cert.preserves_Kernel5_Kernel5Ideal := trivial

/-- The reference's result, entry by entry. -/
theorem reference (x0 : Cert.Reference5Ideal.S4096x2816.Idx → EReal) (x1 : Cert.Reference5Ideal.S4096x1024.Idx → EReal) (r : Fin 2816) (s : Fin 1024) :
    (val_main_v6 (F := Ideal) x0 x1) (ix2 r s) = ∑ k : Fin 4096, x0 (ix2 k r) * x1 (ix2 k s) := by
  pointwise [val_main_v0, val_main_v1, val_main_cst, val_main_v2, val_main_v3, val_main_v4, val_main_v5, val_main_v6]
  exact Finset.sum_congr rfl fun k _ => mul_comm _ _

/-- Both programs end at the same array. -/
theorem algebraic : Cert.algebraic_Kernel5Ideal_Reference5Ideal := by
  intro m g m' g' _ hargs
  refine ⟨fun c => (fun i : Cert.Kernel5Ideal.S2816x1024.Idx => (∑ k, term m c (i 0) (i 1) k : EReal)), ?_, ?_⟩
  · exact (θ_run Cert.Kernel5Ideal.defs _ _).mono
      (fun r h c => ⟨(h c).1.trans (result m c), (h c).2⟩) (Cert.Kernel5Ideal.Value.run_blocks m g)
  · refine (θ_run Cert.Reference5Ideal.defs _ _).mono (fun r h c => ⟨(h c).1.trans ?_, (h c).2⟩) (Cert.Reference5Ideal.Value.run m' g')
    obtain ⟨e0, e1⟩ := hargs c
    refine (Cert.Reference5Ideal.Read.val_main_v6_eq _ _).trans ?_
    refine (congrArg₂ (Cert.Reference5Ideal.Read.val_main_v6 (F := Ideal)) e0 e1).trans ?_
    exact funext fun i => (congrArg _ (eq_ix2 i)).trans (reference _ _ (i 0) (i 1))

end Cert.Mm5.Claims

end
-- ==== Proof.Mm.Val6.lean ====
/-
  The gradient of the mixers' output product in its left factor, entry by entry.
-/
module

public import proofs.«01_k».proof.Proof.Mm.Common
public import proofs.«01_k».proof.Proof.Gen.Kernel6Ideal.Value

@[expose] public section

set_option maxRecDepth 65536

noncomputable section

namespace Cert.Mm6

open Idealize.ShloMosaic Idealize.ShloMosaic.TcCoe Idealize.SL.Sem
open Idealize.ShloMosaic.Pipeline (Dat)
open Cert.Kernel6Ideal Cert.Kernel6Ideal.Gen Cert.Mm

section Outs
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1024x1024 .bf16) (xs : Vec Ideal S1024x1024 .f32)

/-- The output block of a point: the product of the two blocks. -/
theorem out_A (hc0 : cond0_0 i) (hc1 : cond0_1 i) :
    out0_A_2 c i arg3 harg3 arg4 harg4 arg5 harg5 arg6 harg6 hc0 hc1 x0 x1 = k0_pay2 k0_pay1 x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz2]
  simp only [View.readAt_eq_ld, harg3.read_unread, harg4.read_unread, harg5.read_unread, harg6.read_unread, View.ld_unit_zero (S := S1024x1024) hz2, View.readCov_unit_zero (S := S1024x1024) _ hz2]
  exact View.readCov_cons_toLoadRect _ _ _ _
end Outs

variable (m : (ℓ : Loc nD τ sig) → Buf (Elt Ideal) ℓ) (c : Dev nD)

/-- The two factors, entry by entry. -/
def A (r : Fin 4096) (k : Fin 1024) : EReal := m ((c : Thread nD τ).loc main_arg0) (ix2 r k)
def B (k : Fin 1024) (s : Fin 1024) : EReal := m ((c : Thread nD τ).loc main_arg1) (ix2 s k)

/-- The terms of an entry of the product. -/
def term (r : Fin 4096) (s : Fin 1024) (k : Fin 1024) : EReal := A m c r k * B m c k s

theorem bound (t : Fin cfg0.N) : t.val < 4 := lt_of_lt_of_eq t.isLt (show cfg0.N = 4 from N_0)

theorem idx : ∀ t : Fin cfg0.N, win0_0.index t = ![t.val / 1, t.val % 1] ∧ win0_1.index t = ![t.val / 1 % 1, t.val % 1] ∧ win0_2.index t = ![t.val / 1, t.val / 1 % 1] :=
  (by decide +kernel : ∀ t : Fin grid0.N, win0_0.index t = ![t.val / 1, t.val % 1] ∧ win0_1.index t = ![t.val / 1 % 1, t.val % 1] ∧ win0_2.index t = ![t.val / 1, t.val / 1 % 1])

/-- The rows, columns and contracted entries a grid point works on. -/
def row (t : Fin cfg0.N) (r : Fin 1024) : Fin 4096 := ⟨t.val / 1 * 1024 + r.val, by have := bound t; have := r.isLt; omega⟩
def col (t : Fin cfg0.N) (s : Fin 1024) : Fin 1024 := ⟨t.val / 1 % 1 * 1024 + s.val, by have := bound t; have := s.isLt; omega⟩
def con (t : Fin cfg0.N) (z : Fin 1024) : Fin 1024 := ⟨t.val % 1 * 1024 + z.val, by have := bound t; have := z.isLt; omega⟩

theorem in0 (t : Fin cfg0.N) (r : Fin 1024) (z : Fin 1024) : iblk m c 0 t (ix2 r z) = A m c (row t r) (con t z) := by
  unfold A
  rw [← V_main_arg0 m c]
  have := bound t
  unfold con row
  blk_ext [iblk, idx t]

theorem in1 (t : Fin cfg0.N) (z : Fin 1024) (s : Fin 1024) : iblk m c 1 t (ix2 s z) = B m c (con t z) (col t s) := by
  unfold B
  rw [← V_main_arg1 m c]
  have := bound t
  unfold con col
  blk_ext [iblk, idx t]

/-- What a tile adds. -/
theorem step_apply (t : Fin cfg0.N) (acc : Vec Ideal S1024x1024 .f32) (r : Fin 1024) (s : Fin 1024) :
    k0_pay2 acc (iblk m c 0 t) (iblk m c 1 t) (ix2 r s) = acc (ix2 r s) + ∑ z : Fin 1024, A m c (row t r) (con t z) * B m c (con t z) (col t s) := by
  have e0 := in0 m c t r
  have e1 := fun z => in1 m c t z s
  pointwise [k0_pay2]
  exact congrArg _ (Finset.sum_congr rfl fun z _ => congrArg₂ _ (e0 z) (e1 z))

theorem zero_apply (r : Fin 1024) (s : Fin 1024) : (k0_pay1 : FVec Ideal S1024x1024 .f32) (ix2 r s) = 0 := by
  pointwise [k0_pay1]

/-- A block of the result. -/
theorem point (t : Fin cfg0.N) (r : Fin 1024) (s : Fin 1024) :
    outsAt0 m c t (ix2 r s) = ∑ k, term m c (row t r) (col t s) k := by
  unfold outsAt0
  rw [out_A, step_apply, zero_apply, zero_add]
  refine Finset.sum_congr rfl fun z _ => ?_
  have ez : con t z = z := by
    apply Fin.ext
    show t.val % 1 * 1024 + z.val = z.val
    omega
  rw [ez]
  rfl

/-- The result array. -/
theorem result : (dats m 0 c).arrAt 2 cfg0.N = fun i : S4096x1024.Idx => ∑ k, term m c (i 0) (i 1) k := by
  refine (dats m 0 c).arrAt_eq_of_covers 2 _ (by decide +kernel) fun t hf y => ?_
  blk_simp
  rw [after0_2]
  have hN := bound t
  have er : (win0_2.blk t).view.emb y 0 = row t (y 0) := by
    apply Fin.ext
    blk_simp [idx t] <;> rfl
  have es : (win0_2.blk t).view.emb y 1 = col t (y 1) := by
    apply Fin.ext
    blk_simp [idx t] <;> rfl
  rw [er, es]
  exact (congrArg _ (eq_ix2 y)).trans (point m c t (y 0) (y 1))

end Cert.Mm6

end
-- ==== Proof.Mm.Claims6.lean ====
/-
  The claims about the gradient of the mixers' output product in its left factor.
-/
module

public import proofs.«01_k».proof.Defs
public import proofs.«01_k».proof.Proof.Gen.Kernel6
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Read
public import proofs.«01_k».proof.Proof.Mm.Val6
public import Idealize.ShloMosaic.Adequacy
public import Idealize.ShloMosaic.Init

@[expose] public section

set_option maxRecDepth 16384

noncomputable section

namespace Cert.Mm6.Claims

open Idealize.ShloMosaic Idealize.SL.Sem
open Cert.Reference6Ideal.Read

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem preserves : Cert.preserves_Kernel6_Kernel6Ideal := trivial

/-- The reference's result, entry by entry. -/
theorem reference (x0 : Cert.Reference6Ideal.S4096x1024.Idx → EReal) (x1 : Cert.Reference6Ideal.S1024x1024.Idx → EReal) (r : Fin 4096) (s : Fin 1024) :
    (val_main_v4 (F := Ideal) x0 x1) (ix2 r s) = ∑ k : Fin 1024, x0 (ix2 r k) * x1 (ix2 s k) := by
  pointwise [val_main_v0, val_main_v1, val_main_cst, val_main_v2, val_main_v3, val_main_v4]

/-- Both programs end at the same array. -/
theorem algebraic : Cert.algebraic_Kernel6Ideal_Reference6Ideal := by
  intro m g m' g' _ hargs
  refine ⟨fun c => (fun i : Cert.Kernel6Ideal.S4096x1024.Idx => (∑ k, term m c (i 0) (i 1) k : EReal)), ?_, ?_⟩
  · exact (θ_run Cert.Kernel6Ideal.defs _ _).mono
      (fun r h c => ⟨(h c).1.trans (result m c), (h c).2⟩) (Cert.Kernel6Ideal.Value.run_blocks m g)
  · refine (θ_run Cert.Reference6Ideal.defs _ _).mono (fun r h c => ⟨(h c).1.trans ?_, (h c).2⟩) (Cert.Reference6Ideal.Value.run m' g')
    obtain ⟨e0, e1⟩ := hargs c
    refine (Cert.Reference6Ideal.Read.val_main_v4_eq _ _).trans ?_
    refine (congrArg₂ (Cert.Reference6Ideal.Read.val_main_v4 (F := Ideal)) e0 e1).trans ?_
    exact funext fun i => (congrArg _ (eq_ix2 i)).trans (reference _ _ (i 0) (i 1))

end Cert.Mm6.Claims

end
-- ==== Proof.Mm.Val7.lean ====
/-
  The gradient of the mixers' output product in its right factor, entry by entry.
-/
module

public import proofs.«01_k».proof.Proof.Mm.Common
public import proofs.«01_k».proof.Proof.Gen.Kernel7Ideal.Value

@[expose] public section

set_option maxRecDepth 65536

noncomputable section

namespace Cert.Mm7

open Idealize.ShloMosaic Idealize.ShloMosaic.TcCoe Idealize.SL.Sem
open Idealize.ShloMosaic.Pipeline (Dat)
open Cert.Kernel7Ideal Cert.Kernel7Ideal.Gen Cert.Mm

section Outs
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .bf16) (xs : Vec Ideal S1024x1024 .f32)

/-- The first tile: the accumulator from zero. -/
theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz2]
  simp only [View.readAt_eq_ld, harg3.read_unread, harg4.read_unread, harg5.read_unread, harg6.read_unread, View.ld_unit_zero (S := S1024x1024) hz2, View.readCov_unit_zero (S := S1024x1024) _ hz2]

/-- A middle tile: the accumulator from what the point before left. -/
theorem sout_B (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero hz2]
  simp only [View.readAt_eq_ld, harg3.read_unread, harg4.read_unread, harg5.read_unread, harg6.read_unread, View.ld_unit_zero (S := S1024x1024) hz2, View.readCov_unit_zero (S := S1024x1024) _ hz2]

/-- The last tile. -/
theorem sout_C (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero hz2]
  simp only [View.readAt_eq_ld, harg3.read_unread, harg4.read_unread, harg5.read_unread, harg6.read_unread, View.ld_unit_zero (S := S1024x1024) hz2, View.readCov_unit_zero (S := S1024x1024) _ hz2]

/-- The output block after the last tile. -/
theorem out_C (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero hz2]
  simp only [View.readAt_eq_ld, harg3.read_unread, harg4.read_unread, harg5.read_unread, harg6.read_unread, View.ld_unit_zero (S := S1024x1024) hz2, View.readCov_unit_zero (S := S1024x1024) _ hz2]
end Outs

variable (m : (ℓ : Loc nD τ sig) → Buf (Elt Ideal) ℓ) (c : Dev nD)

/-- The two factors, entry by entry. -/
def A (r : Fin 1024) (k : Fin 4096) : EReal := m ((c : Thread nD τ).loc main_arg0) (ix2 k r)
def B (k : Fin 4096) (s : Fin 1024) : EReal := m ((c : Thread nD τ).loc main_arg1) (ix2 k s)

/-- The terms of an entry of the product. -/
def term (r : Fin 1024) (s : Fin 1024) (k : Fin 4096) : EReal := A m c r k * B m c k s

theorem bound (t : Fin cfg0.N) : t.val < 4 := lt_of_lt_of_eq t.isLt (show cfg0.N = 4 from N_0)

theorem idx : ∀ t : Fin cfg0.N, win0_0.index t = ![t.val % 4, t.val / 4] ∧ win0_1.index t = ![t.val % 4, t.val / 4 % 1] ∧ win0_2.index t = ![t.val / 4, t.val / 4 % 1] :=
  (by decide +kernel : ∀ t : Fin grid0.N, win0_0.index t = ![t.val % 4, t.val / 4] ∧ win0_1.index t = ![t.val % 4, t.val / 4 % 1] ∧ win0_2.index t = ![t.val / 4, t.val / 4 % 1])

/-- The rows, columns and contracted entries a grid point works on. -/
def row (t : Fin cfg0.N) (r : Fin 1024) : Fin 1024 := ⟨t.val / 4 * 1024 + r.val, by have := bound t; have := r.isLt; omega⟩
def col (t : Fin cfg0.N) (s : Fin 1024) : Fin 1024 := ⟨t.val / 4 % 1 * 1024 + s.val, by have := bound t; have := s.isLt; omega⟩
def con (t : Fin cfg0.N) (z : Fin 1024) : Fin 4096 := ⟨t.val % 4 * 1024 + z.val, by have := bound t; have := z.isLt; omega⟩

theorem in0 (t : Fin cfg0.N) (r : Fin 1024) (z : Fin 1024) : iblk m c 0 t (ix2 z r) = A m c (row t r) (con t z) := by
  unfold A
  rw [← V_main_arg0 m c]
  have := bound t
  unfold con row
  blk_ext [iblk, idx t]

theorem in1 (t : Fin cfg0.N) (z : Fin 1024) (s : Fin 1024) : iblk m c 1 t (ix2 z s) = B m c (con t z) (col t s) := by
  unfold B
  rw [← V_main_arg1 m c]
  have := bound t
  unfold con col
  blk_ext [iblk, idx t]

/-- What a tile adds. -/
theorem step_apply (t : Fin cfg0.N) (acc : Vec Ideal S1024x1024 .f32) (r : Fin 1024) (s : Fin 1024) :
    k0_pay2 acc (iblk m c 0 t) (iblk m c 1 t) (ix2 r s) = acc (ix2 r s) + ∑ z : Fin 1024, A m c (row t r) (con t z) * B m c (con t z) (col t s) := by
  have e0 := in0 m c t r
  have e1 := fun z => in1 m c t z s
  pointwise [k0_pay2]
  exact congrArg _ (Finset.sum_congr rfl fun z _ => congrArg₂ _ (e0 z) (e1 z))

theorem zero_apply (r : Fin 1024) (s : Fin 1024) : (k0_pay1 : FVec Ideal S1024x1024 .f32) (ix2 r s) = 0 := by
  pointwise [k0_pay1]

/-- The accumulator after the last tile: the whole sum. -/
theorem acc_apply (t : Fin cfg0.N) (h1 : t.val % 4 = 3) (r : Fin 1024) (s : Fin 1024) :
    (outsAt0 m c t.val t.isLt).2 (ix2 r s) = ∑ k, term m c (row t r) (col t s) k := by
  refine tiled_last (nk := 4) (fun n hn r s => (outsAt0 m c n hn).2 (ix2 r s)) (fun n hn r s => term m c (row ⟨n, hn⟩ r) (col ⟨n, hn⟩ s))
    (fun n hn r s z => term m c (row ⟨n, hn⟩ r) (col ⟨n, hn⟩ s) (con ⟨n, hn⟩ z)) rfl (by decide) ?_ ?_ ?_ ?_ t.val t.isLt r s h1
  · exact fun n hn r s z k hk => congrArg _ (Fin.ext hk.symm)
  · intro n hn hn' r s h
    have e : (n - 1) / 4 = n / 4 := by omega
    have ei : (n - 1) / 4 = n / 4 := by omega
    simp only [row, col, e, ei]
  · intro n hn r s h
    rw [show outsAt0 m c n hn = _ from outsAt0_A m c ⟨n, hn⟩ h (by show ¬ n % 4 = 3; omega)]
    dsimp only
    rw [sout_A, step_apply, zero_apply]
    rfl
  · intro n hn hn' r s h
    by_cases h1 : n % 4 = 3
    · rw [show outsAt0 m c n hn = _ from outsAt0_C m c ⟨n, hn⟩ h h1]
      dsimp only
      rw [sout_C, step_apply]
      rfl
    · rw [show outsAt0 m c n hn = _ from outsAt0_B m c ⟨n, hn⟩ h h1]
      dsimp only
      rw [sout_B, step_apply]
      rfl

/-- A block of the result. -/
theorem point (t : Fin cfg0.N) (h1 : t.val % 4 = 3) (r : Fin 1024) (s : Fin 1024) :
    (outsAt0 m c t.val t.isLt).1 (ix2 r s) = ∑ k, term m c (row t r) (col t s) k := by
  have h0 : ¬ t.val % 4 = 0 := by omega
  have ha := acc_apply m c t h1 r s
  rw [outsAt0_C m c t h0 h1] at ha ⊢
  dsimp only at ha ⊢
  rw [sout_C] at ha
  rw [out_C]
  pointwise [k0_pay3]
  exact ha

/-- The result array. -/
theorem result : (dats m 0 c).arrAt 2 cfg0.N = fun i : S1024x1024.Idx => ∑ k, term m c (i 0) (i 1) k := by
  refine (dats m 0 c).arrAt_eq_of_covers 2 _ (by decide +kernel) fun t hf y => ?_
  have h1 := (flush0_2 t).mp hf
  blk_simp
  rw [after0_2]
  have hN := bound t
  have er : (win0_2.blk t).view.emb y 0 = row t (y 0) := by
    apply Fin.ext
    blk_simp [idx t] <;> rfl
  have es : (win0_2.blk t).view.emb y 1 = col t (y 1) := by
    apply Fin.ext
    blk_simp [idx t] <;> rfl
  rw [er, es]
  exact (congrArg _ (eq_ix2 y)).trans (point m c t h1 (y 0) (y 1))

end Cert.Mm7

end
-- ==== Proof.Mm.Claims7.lean ====
/-
  The claims about the gradient of the mixers' output product in its right factor.
-/
module

public import proofs.«01_k».proof.Defs
public import proofs.«01_k».proof.Proof.Gen.Kernel7
public import proofs.«01_k».proof.Proof.Gen.Kernel7.Frame
public import proofs.«01_k».proof.Proof.Gen.Kernel7Ideal.Frame
public import proofs.«01_k».proof.Proof.Gen.Reference7Ideal
public import proofs.«01_k».proof.Proof.Gen.Reference7Ideal.Read
public import proofs.«01_k».proof.Proof.Mm.Val7
public import Idealize.ShloMosaic.Adequacy
public import Idealize.ShloMosaic.Init

@[expose] public section

set_option maxRecDepth 16384

noncomputable section

namespace Cert.Mm7.Claims

open Idealize.ShloMosaic Idealize.SL.Sem
open Cert.Reference7Ideal.Read

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem preserves : Cert.preserves_Kernel7_Kernel7Ideal := trivial

/-- The reference's result, entry by entry. -/
theorem reference (x0 : Cert.Reference7Ideal.S4096x1024.Idx → EReal) (x1 : Cert.Reference7Ideal.S4096x1024.Idx → EReal) (r : Fin 1024) (s : Fin 1024) :
    (val_main_v6 (F := Ideal) x0 x1) (ix2 r s) = ∑ k : Fin 4096, x0 (ix2 k r) * x1 (ix2 k s) := by
  pointwise [val_main_v0, val_main_v1, val_main_cst, val_main_v2, val_main_v3, val_main_v4, val_main_v5, val_main_v6]
  exact Finset.sum_congr rfl fun k _ => mul_comm _ _

/-- Both programs end at the same array. -/
theorem algebraic : Cert.algebraic_Kernel7Ideal_Reference7Ideal := by
  intro m g m' g' _ hargs
  refine ⟨fun c => (fun i : Cert.Kernel7Ideal.S1024x1024.Idx => (∑ k, term m c (i 0) (i 1) k : EReal)), ?_, ?_⟩
  · exact (θ_run Cert.Kernel7Ideal.defs _ _).mono
      (fun r h c => ⟨(h c).1.trans (result m c), (h c).2⟩) (Cert.Kernel7Ideal.Value.run_blocks m g)
  · refine (θ_run Cert.Reference7Ideal.defs _ _).mono (fun r h c => ⟨(h c).1.trans ?_, (h c).2⟩) (Cert.Reference7Ideal.Value.run m' g')
    obtain ⟨e0, e1⟩ := hargs c
    refine (Cert.Reference7Ideal.Read.val_main_v6_eq _ _).trans ?_
    refine (congrArg₂ (Cert.Reference7Ideal.Read.val_main_v6 (F := Ideal)) e0 e1).trans ?_
    exact funext fun i => (congrArg _ (eq_ix2 i)).trans (reference _ _ (i 0) (i 1))

end Cert.Mm7.Claims

end
-- ==== Proof.Mm.Val8.lean ====
/-
  The gradient of the mixers' input product in its left factor, entry by entry.
-/
module

public import proofs.«01_k».proof.Proof.Mm.Common
public import proofs.«01_k».proof.Proof.Gen.Kernel8Ideal.Value

@[expose] public section

set_option maxRecDepth 65536

noncomputable section

namespace Cert.Mm8

open Idealize.ShloMosaic Idealize.ShloMosaic.TcCoe Idealize.SL.Sem
open Idealize.ShloMosaic.Pipeline (Dat)
open Cert.Kernel8Ideal Cert.Kernel8Ideal.Gen Cert.Mm

section Outs
variable (c : Dev nD) (i : grid0.Coords) (arg3 : Memref sig .tc .vmem S1024x896 .bf16) (harg3 : arg3.IsWhole) (arg4 : Memref sig .tc .vmem S1024x896 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x896 .bf16) (x1 : Vec Ideal S1024x896 .bf16) (xs : Vec Ideal S1024x1024 .f32)

/-- The first tile: the accumulator from zero. -/
theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz2]
  simp only [View.readAt_eq_ld, harg3.read_unread, harg4.read_unread, harg5.read_unread, harg6.read_unread, View.ld_unit_zero (S := S1024x1024) hz2, View.ld_unit_zero (S := S1024x896) hz2, View.readCov_unit_zero (S := S1024x1024) _ hz2]

/-- A middle tile: the accumulator from what the point before left. -/
theorem sout_B (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x896) hz2, View.readCov_unit_zero (S := S1024x1024) _ hz2]

/-- The last tile. -/
theorem sout_C (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x896) hz2, View.readCov_unit_zero (S := S1024x1024) _ hz2]

/-- The output block after the last tile. -/
theorem out_C (hc0 : ¬cond0_0 i) (hc1 : cond0_1 i) :
    out0_C_2 c i arg3 harg3 arg4 harg4 arg5 harg5 arg6 harg6 hc0 hc1 x0 x1 xs = k0_pay2 xs x0 x1 := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x896) hz2, View.readCov_unit_zero (S := S1024x1024) _ hz2]
end Outs

variable (m : (ℓ : Loc nD τ sig) → Buf (Elt Ideal) ℓ) (c : Dev nD)

/-- The two factors, entry by entry. -/
def A (r : Fin 4096) (k : Fin 2688) : EReal := m ((c : Thread nD τ).loc main_arg0) (ix2 r k)
def B (k : Fin 2688) (s : Fin 1024) : EReal := m ((c : Thread nD τ).loc main_arg1) (ix2 s k)

/-- The terms of an entry of the product. -/
def term (r : Fin 4096) (s : Fin 1024) (k : Fin 2688) : EReal := A m c r k * B m c k s

theorem bound (t : Fin cfg0.N) : t.val < 12 := lt_of_lt_of_eq t.isLt (show cfg0.N = 12 from N_0)

theorem idx : ∀ t : Fin cfg0.N, win0_0.index t = ![t.val / 3, t.val % 3] ∧ win0_1.index t = ![t.val / 3 % 1, t.val % 3] ∧ win0_2.index t = ![t.val / 3, t.val / 3 % 1] :=
  (by decide +kernel : ∀ t : Fin grid0.N, win0_0.index t = ![t.val / 3, t.val % 3] ∧ win0_1.index t = ![t.val / 3 % 1, t.val % 3] ∧ win0_2.index t = ![t.val / 3, t.val / 3 % 1])

/-- The rows, columns and contracted entries a grid point works on. -/
def row (t : Fin cfg0.N) (r : Fin 1024) : Fin 4096 := ⟨t.val / 3 * 1024 + r.val, by have := bound t; have := r.isLt; omega⟩
def col (t : Fin cfg0.N) (s : Fin 1024) : Fin 1024 := ⟨t.val / 3 % 1 * 1024 + s.val, by have := bound t; have := s.isLt; omega⟩
def con (t : Fin cfg0.N) (z : Fin 896) : Fin 2688 := ⟨t.val % 3 * 896 + z.val, by have := bound t; have := z.isLt; omega⟩

theorem in0 (t : Fin cfg0.N) (r : Fin 1024) (z : Fin 896) : iblk m c 0 t (ix2 r z) = A m c (row t r) (con t z) := by
  unfold A
  rw [← V_main_arg0 m c]
  have := bound t
  unfold con row
  blk_ext [iblk, idx t]

theorem in1 (t : Fin cfg0.N) (z : Fin 896) (s : Fin 1024) : iblk m c 1 t (ix2 s z) = B m c (con t z) (col t s) := by
  unfold B
  rw [← V_main_arg1 m c]
  have := bound t
  unfold con col
  blk_ext [iblk, idx t]

/-- What a tile adds. -/
theorem step_apply (t : Fin cfg0.N) (acc : Vec Ideal S1024x1024 .f32) (r : Fin 1024) (s : Fin 1024) :
    k0_pay2 acc (iblk m c 0 t) (iblk m c 1 t) (ix2 r s) = acc (ix2 r s) + ∑ z : Fin 896, A m c (row t r) (con t z) * B m c (con t z) (col t s) := by
  have e0 := in0 m c t r
  have e1 := fun z => in1 m c t z s
  pointwise [k0_pay2]
  exact congrArg _ (Finset.sum_congr rfl fun z _ => congrArg₂ _ (e0 z) (e1 z))

theorem zero_apply (r : Fin 1024) (s : Fin 1024) : (k0_pay1 : FVec Ideal S1024x1024 .f32) (ix2 r s) = 0 := by
  pointwise [k0_pay1]

/-- The accumulator after the last tile: the whole sum. -/
theorem acc_apply (t : Fin cfg0.N) (h1 : t.val % 3 = 2) (r : Fin 1024) (s : Fin 1024) :
    (outsAt0 m c t.val t.isLt).2 (ix2 r s) = ∑ k, term m c (row t r) (col t s) k := by
  refine tiled_last (nk := 3) (fun n hn r s => (outsAt0 m c n hn).2 (ix2 r s)) (fun n hn r s => term m c (row ⟨n, hn⟩ r) (col ⟨n, hn⟩ s))
    (fun n hn r s z => term m c (row ⟨n, hn⟩ r) (col ⟨n, hn⟩ s) (con ⟨n, hn⟩ z)) rfl (by decide) ?_ ?_ ?_ ?_ t.val t.isLt r s h1
  · exact fun n hn r s z k hk => congrArg _ (Fin.ext hk.symm)
  · intro n hn hn' r s h
    have e : (n - 1) / 3 = n / 3 := by omega
    have ei : (n - 1) / 3 = n / 3 := by omega
    simp only [row, col, e, ei]
  · intro n hn r s h
    rw [show outsAt0 m c n hn = _ from outsAt0_A m c ⟨n, hn⟩ h (by show ¬ n % 3 = 2; omega)]
    dsimp only
    rw [sout_A, step_apply, zero_apply]
    rfl
  · intro n hn hn' r s h
    by_cases h1 : n % 3 = 2
    · rw [show outsAt0 m c n hn = _ from outsAt0_C m c ⟨n, hn⟩ h h1]
      dsimp only
      rw [sout_C, step_apply]
      rfl
    · rw [show outsAt0 m c n hn = _ from outsAt0_B m c ⟨n, hn⟩ h h1]
      dsimp only
      rw [sout_B, step_apply]
      rfl

/-- A block of the result. -/
theorem point (t : Fin cfg0.N) (h1 : t.val % 3 = 2) (r : Fin 1024) (s : Fin 1024) :
    (outsAt0 m c t.val t.isLt).1 (ix2 r s) = ∑ k, term m c (row t r) (col t s) k := by
  have h0 : ¬ t.val % 3 = 0 := by omega
  have ha := acc_apply m c t h1 r s
  rw [outsAt0_C m c t h0 h1] at ha ⊢
  dsimp only at ha ⊢
  rw [sout_C] at ha
  rw [out_C]
  exact ha

/-- The result array. -/
theorem result : (dats m 0 c).arrAt 2 cfg0.N = fun i : S4096x1024.Idx => ∑ k, term m c (i 0) (i 1) k := by
  refine (dats m 0 c).arrAt_eq_of_covers 2 _ (by decide +kernel) fun t hf y => ?_
  have h1 := (flush0_2 t).mp hf
  blk_simp
  rw [after0_2]
  have hN := bound t
  have er : (win0_2.blk t).view.emb y 0 = row t (y 0) := by
    apply Fin.ext
    blk_simp [idx t] <;> rfl
  have es : (win0_2.blk t).view.emb y 1 = col t (y 1) := by
    apply Fin.ext
    blk_simp [idx t] <;> rfl
  rw [er, es]
  exact (congrArg _ (eq_ix2 y)).trans (point m c t h1 (y 0) (y 1))

end Cert.Mm8

end
-- ==== Proof.Mm.Claims8.lean ====
/-
  The claims about the gradient of the mixers' input product in its left factor.
-/
module

public import proofs.«01_k».proof.Defs
public import proofs.«01_k».proof.Proof.Gen.Kernel8
public import proofs.«01_k».proof.Proof.Gen.Kernel8.Frame
public import proofs.«01_k».proof.Proof.Gen.Kernel8Ideal.Frame
public import proofs.«01_k».proof.Proof.Gen.Reference8Ideal
public import proofs.«01_k».proof.Proof.Gen.Reference8Ideal.Read
public import proofs.«01_k».proof.Proof.Mm.Val8
public import Idealize.ShloMosaic.Adequacy
public import Idealize.ShloMosaic.Init

@[expose] public section

set_option maxRecDepth 16384

noncomputable section

namespace Cert.Mm8.Claims

open Idealize.ShloMosaic Idealize.SL.Sem
open Cert.Reference8Ideal.Read

theorem frame_p : Cert.quiescent_Kernel8 := fun m ρ _ => Cert.Kernel8.Gen.frame m ρ

theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem preserves : Cert.preserves_Kernel8_Kernel8Ideal := trivial

/-- The reference's result, entry by entry. -/
theorem reference (x0 : Cert.Reference8Ideal.S4096x2688.Idx → EReal) (x1 : Cert.Reference8Ideal.S1024x2688.Idx → EReal) (r : Fin 4096) (s : Fin 1024) :
    (val_main_v4 (F := Ideal) x0 x1) (ix2 r s) = ∑ k : Fin 2688, x0 (ix2 r k) * x1 (ix2 s k) := by
  pointwise [val_main_v0, val_main_v1, val_main_cst, val_main_v2, val_main_v3, val_main_v4]

/-- Both programs end at the same array. -/
theorem algebraic : Cert.algebraic_Kernel8Ideal_Reference8Ideal := by
  intro m g m' g' _ hargs
  refine ⟨fun c => (fun i : Cert.Kernel8Ideal.S4096x1024.Idx => (∑ k, term m c (i 0) (i 1) k : EReal)), ?_, ?_⟩
  · exact (θ_run Cert.Kernel8Ideal.defs _ _).mono
      (fun r h c => ⟨(h c).1.trans (result m c), (h c).2⟩) (Cert.Kernel8Ideal.Value.run_blocks m g)
  · refine (θ_run Cert.Reference8Ideal.defs _ _).mono (fun r h c => ⟨(h c).1.trans ?_, (h c).2⟩) (Cert.Reference8Ideal.Value.run m' g')
    obtain ⟨e0, e1⟩ := hargs c
    refine (Cert.Reference8Ideal.Read.val_main_v4_eq _ _).trans ?_
    refine (congrArg₂ (Cert.Reference8Ideal.Read.val_main_v4 (F := Ideal)) e0 e1).trans ?_
    exact funext fun i => (congrArg _ (eq_ix2 i)).trans (reference _ _ (i 0) (i 1))

end Cert.Mm8.Claims

end
-- ==== Proof.Mm.Val9.lean ====
/-
  The gradient of the mixers' input product in its right factor, entry by entry.
-/
module

public import proofs.«01_k».proof.Proof.Mm.Common
public import proofs.«01_k».proof.Proof.Gen.Kernel9Ideal.Value

@[expose] public section

set_option maxRecDepth 65536

noncomputable section

namespace Cert.Mm9

open Idealize.ShloMosaic Idealize.ShloMosaic.TcCoe Idealize.SL.Sem
open Idealize.ShloMosaic.Pipeline (Dat)
open Cert.Kernel9Ideal Cert.Kernel9Ideal.Gen Cert.Mm

section Outs
variable (c : Dev nD) (i : grid0.Coords) (arg3 : Memref sig .tc .vmem S1024x1024 .bf16) (harg3 : arg3.IsWhole) (arg4 : Memref sig .tc .vmem S1024x896 .bf16) (harg4 : arg4.IsWhole) (arg5 : Memref sig .tc .vmem S1024x896 .bf16) (harg5 : arg5.IsWhole) (arg6 : Memref sig .tc .vmem S1024x896 .f32) (harg6 : arg6.IsWhole)
  (x0 : Vec Ideal S1024x1024 .bf16) (x1 : Vec Ideal S1024x896 .bf16) (xs : Vec Ideal S1024x896 .f32)

/-- The first tile: the accumulator from zero. -/
theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz2]
  simp only [View.readAt_eq_ld, harg3.read_unread, harg4.read_unread, harg5.read_unread, harg6.read_unread, View.ld_unit_zero (S := S1024x1024) hz2, View.ld_unit_zero (S := S1024x896) hz2, View.readCov_unit_zero (S := S1024x896) _ hz2]

/-- A middle tile: the accumulator from what the point before left. -/
theorem sout_B (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x896) hz2, View.readCov_unit_zero (S := S1024x896) _ hz2]

/-- The last tile. -/
theorem sout_C (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x896) hz2, View.readCov_unit_zero (S := S1024x896) _ hz2]

/-- The output block after the last tile. -/
theorem out_C (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x896) hz2, View.readCov_unit_zero (S := S1024x896) _ hz2]
end Outs

variable (m : (ℓ : Loc nD τ sig) → Buf (Elt Ideal) ℓ) (c : Dev nD)

/-- The two factors, entry by entry. -/
def A (r : Fin 1024) (k : Fin 4096) : EReal := m ((c : Thread nD τ).loc main_arg0) (ix2 k r)
def B (k : Fin 4096) (s : Fin 2688) : EReal := m ((c : Thread nD τ).loc main_arg1) (ix2 k s)

/-- The terms of an entry of the product. -/
def term (r : Fin 1024) (s : Fin 2688) (k : Fin 4096) : EReal := A m c r k * B m c k s

theorem bound (t : Fin cfg0.N) : t.val < 12 := lt_of_lt_of_eq t.isLt (show cfg0.N = 12 from N_0)

theorem idx : ∀ t : Fin cfg0.N, win0_0.index t = ![t.val % 4, t.val / 12] ∧ win0_1.index t = ![t.val % 4, t.val / 4 % 3] ∧ win0_2.index t = ![t.val / 12, t.val / 4 % 3] :=
  (by decide +kernel : ∀ t : Fin grid0.N, win0_0.index t = ![t.val % 4, t.val / 12] ∧ win0_1.index t = ![t.val % 4, t.val / 4 % 3] ∧ win0_2.index t = ![t.val / 12, t.val / 4 % 3])

/-- The rows, columns and contracted entries a grid point works on. -/
def row (t : Fin cfg0.N) (r : Fin 1024) : Fin 1024 := ⟨t.val / 12 * 1024 + r.val, by have := bound t; have := r.isLt; omega⟩
def col (t : Fin cfg0.N) (s : Fin 896) : Fin 2688 := ⟨t.val / 4 % 3 * 896 + s.val, by have := bound t; have := s.isLt; omega⟩
def con (t : Fin cfg0.N) (z : Fin 1024) : Fin 4096 := ⟨t.val % 4 * 1024 + z.val, by have := bound t; have := z.isLt; omega⟩

theorem in0 (t : Fin cfg0.N) (r : Fin 1024) (z : Fin 1024) : iblk m c 0 t (ix2 z r) = A m c (row t r) (con t z) := by
  unfold A
  rw [← V_main_arg0 m c]
  have := bound t
  unfold con row
  blk_ext [iblk, idx t]

theorem in1 (t : Fin cfg0.N) (z : Fin 1024) (s : Fin 896) : iblk m c 1 t (ix2 z s) = B m c (con t z) (col t s) := by
  unfold B
  rw [← V_main_arg1 m c]
  have := bound t
  unfold con col
  blk_ext [iblk, idx t]

/-- What a tile adds. -/
theorem step_apply (t : Fin cfg0.N) (acc : Vec Ideal S1024x896 .f32) (r : Fin 1024) (s : Fin 896) :
    k0_pay2 acc (iblk m c 0 t) (iblk m c 1 t) (ix2 r s) = acc (ix2 r s) + ∑ z : Fin 1024, A m c (row t r) (con t z) * B m c (con t z) (col t s) := by
  have e0 := in0 m c t r
  have e1 := fun z => in1 m c t z s
  pointwise [k0_pay2]
  exact congrArg _ (Finset.sum_congr rfl fun z _ => congrArg₂ _ (e0 z) (e1 z))

theorem zero_apply (r : Fin 1024) (s : Fin 896) : (k0_pay1 : FVec Ideal S1024x896 .f32) (ix2 r s) = 0 := by
  pointwise [k0_pay1]

/-- The accumulator after the last tile: the whole sum. -/
theorem acc_apply (t : Fin cfg0.N) (h1 : t.val % 4 = 3) (r : Fin 1024) (s : Fin 896) :
    (outsAt0 m c t.val t.isLt).2 (ix2 r s) = ∑ k, term m c (row t r) (col t s) k := by
  refine tiled_last (nk := 4) (fun n hn r s => (outsAt0 m c n hn).2 (ix2 r s)) (fun n hn r s => term m c (row ⟨n, hn⟩ r) (col ⟨n, hn⟩ s))
    (fun n hn r s z => term m c (row ⟨n, hn⟩ r) (col ⟨n, hn⟩ s) (con ⟨n, hn⟩ z)) rfl (by decide) ?_ ?_ ?_ ?_ t.val t.isLt r s h1
  · exact fun n hn r s z k hk => congrArg _ (Fin.ext hk.symm)
  · intro n hn hn' r s h
    have e : (n - 1) / 4 = n / 4 := by omega
    have ei : (n - 1) / 12 = n / 12 := by omega
    simp only [row, col, e, ei]
  · intro n hn r s h
    rw [show outsAt0 m c n hn = _ from outsAt0_A m c ⟨n, hn⟩ h (by show ¬ n % 4 = 3; omega)]
    dsimp only
    rw [sout_A, step_apply, zero_apply]
    rfl
  · intro n hn hn' r s h
    by_cases h1 : n % 4 = 3
    · rw [show outsAt0 m c n hn = _ from outsAt0_C m c ⟨n, hn⟩ h h1]
      dsimp only
      rw [sout_C, step_apply]
      rfl
    · rw [show outsAt0 m c n hn = _ from outsAt0_B m c ⟨n, hn⟩ h h1]
      dsimp only
      rw [sout_B, step_apply]
      rfl

/-- A block of the result. -/
theorem point (t : Fin cfg0.N) (h1 : t.val % 4 = 3) (r : Fin 1024) (s : Fin 896) :
    (outsAt0 m c t.val t.isLt).1 (ix2 r s) = ∑ k, term m c (row t r) (col t s) k := by
  have h0 : ¬ t.val % 4 = 0 := by omega
  have ha := acc_apply m c t h1 r s
  rw [outsAt0_C m c t h0 h1] at ha ⊢
  dsimp only at ha ⊢
  rw [sout_C] at ha
  rw [out_C]
  pointwise [k0_pay3]
  exact ha

/-- The result array. -/
theorem result : (dats m 0 c).arrAt 2 cfg0.N = fun i : S1024x2688.Idx => ∑ k, term m c (i 0) (i 1) k := by
  refine (dats m 0 c).arrAt_eq_of_covers 2 _ (by decide +kernel) fun t hf y => ?_
  have h1 := (flush0_2 t).mp hf
  blk_simp
  rw [after0_2]
  have hN := bound t
  have er : (win0_2.blk t).view.emb y 0 = row t (y 0) := by
    apply Fin.ext
    blk_simp [idx t] <;> rfl
  have es : (win0_2.blk t).view.emb y 1 = col t (y 1) := by
    apply Fin.ext
    blk_simp [idx t] <;> rfl
  rw [er, es]
  exact (congrArg _ (eq_ix2 y)).trans (point m c t h1 (y 0) (y 1))

end Cert.Mm9

end
-- ==== Proof.Mm.Claims9.lean ====
/-
  The claims about the gradient of the mixers' input product in its right factor.
-/
module

public import proofs.«01_k».proof.Defs
public import proofs.«01_k».proof.Proof.Gen.Kernel9
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Read
public import proofs.«01_k».proof.Proof.Mm.Val9
public import Idealize.ShloMosaic.Adequacy
public import Idealize.ShloMosaic.Init

@[expose] public section

set_option maxRecDepth 16384

noncomputable section

namespace Cert.Mm9.Claims

open Idealize.ShloMosaic Idealize.SL.Sem
open Cert.Reference9Ideal.Read

theorem frame_p : Cert.quiescent_Kernel9 := fun m ρ _ => Cert.Kernel9.Gen.frame m ρ

theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem preserves : Cert.preserves_Kernel9_Kernel9Ideal := trivial

/-- The reference's result, entry by entry. -/
theorem reference (x0 : Cert.Reference9Ideal.S4096x1024.Idx → EReal) (x1 : Cert.Reference9Ideal.S4096x2688.Idx → EReal) (r : Fin 1024) (s : Fin 2688) :
    (val_main_v6 (F := Ideal) x0 x1) (ix2 r s) = ∑ k : Fin 4096, x0 (ix2 k r) * x1 (ix2 k s) := by
  pointwise [val_main_v0, val_main_v1, val_main_cst, val_main_v2, val_main_v3, val_main_v4, val_main_v5, val_main_v6]
  exact Finset.sum_congr rfl fun k _ => mul_comm _ _

/-- Both programs end at the same array. -/
theorem algebraic : Cert.algebraic_Kernel9Ideal_Reference9Ideal := by
  intro m g m' g' _ hargs
  refine ⟨fun c => (fun i : Cert.Kernel9Ideal.S1024x2688.Idx => (∑ k, term m c (i 0) (i 1) k : EReal)), ?_, ?_⟩
  · exact (θ_run Cert.Kernel9Ideal.defs _ _).mono
      (fun r h c => ⟨(h c).1.trans (result m c), (h c).2⟩) (Cert.Kernel9Ideal.Value.run_blocks m g)
  · refine (θ_run Cert.Reference9Ideal.defs _ _).mono (fun r h c => ⟨(h c).1.trans ?_, (h c).2⟩) (Cert.Reference9Ideal.Value.run m' g')
    obtain ⟨e0, e1⟩ := hargs c
    refine (Cert.Reference9Ideal.Read.val_main_v6_eq _ _).trans ?_
    refine (congrArg₂ (Cert.Reference9Ideal.Read.val_main_v6 (F := Ideal)) e0 e1).trans ?_
    exact funext fun i => (congrArg _ (eq_ix2 i)).trans (reference _ _ (i 0) (i 1))

end Cert.Mm9.Claims

end
-- ==== Proof.Mm.Val10.lean ====
/-
  The mixers' input product at the state-space and pooling columns, entry by entry.
-/
module

public import proofs.«01_k».proof.Proof.Mm.Common
public import proofs.«01_k».proof.Proof.Gen.Kernel10Ideal.Value

@[expose] public section

set_option maxRecDepth 65536

noncomputable section

namespace Cert.Mm10

open Idealize.ShloMosaic Idealize.ShloMosaic.TcCoe Idealize.SL.Sem
open Idealize.ShloMosaic.Pipeline (Dat)
open Cert.Kernel10Ideal Cert.Kernel10Ideal.Gen Cert.Mm

section Outs
variable (c : Dev nD) (i : grid0.Coords) (arg3 : Memref sig .tc .vmem S1024x1024 .bf16) (harg3 : arg3.IsWhole) (arg4 : Memref sig .tc .vmem S1024x640 .bf16) (harg4 : arg4.IsWhole) (arg5 : Memref sig .tc .vmem S1024x640 .f32) (harg5 : arg5.IsWhole) (arg6 : Memref sig .tc .vmem S1024x640 .f32) (harg6 : arg6.IsWhole)
  (x0 : Vec Ideal S1024x1024 .bf16) (x1 : Vec Ideal S1024x640 .bf16) (xs : Vec Ideal S1024x640 .f32)

/-- The output block of a point: the product of the two blocks. -/
theorem out_A (hc0 : cond0_0 i) (hc1 : cond0_1 i) :
    out0_A_2 c i arg3 harg3 arg4 harg4 arg5 harg5 arg6 harg6 hc0 hc1 x0 x1 = k0_pay2 k0_pay1 x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x640) hz2, View.readCov_unit_zero (S := S1024x640) _ hz2]
  exact View.readCov_cons_toLoadRect _ _ _ _
end Outs

variable (m : (ℓ : Loc nD τ sig) → Buf (Elt Ideal) ℓ) (c : Dev nD)

/-- The two factors, entry by entry. -/
def A (r : Fin 4096) (k : Fin 1024) : EReal := m ((c : Thread nD τ).loc main_arg0) (ix2 r k)
def B (k : Fin 1024) (s : Fin 1920) : EReal := m ((c : Thread nD τ).loc main_arg1) (ix2 k s)

/-- The terms of an entry of the product. -/
def term (r : Fin 4096) (s : Fin 1920) (k : Fin 1024) : EReal := A m c r k * B m c k s

theorem bound (t : Fin cfg0.N) : t.val < 12 := lt_of_lt_of_eq t.isLt (show cfg0.N = 12 from N_0)

theorem idx : ∀ t : Fin cfg0.N, win0_0.index t = ![t.val / 3, t.val % 1] ∧ win0_1.index t = ![t.val % 1, t.val / 1 % 3] ∧ win0_2.index t = ![t.val / 3, t.val / 1 % 3] :=
  (by decide +kernel : ∀ t : Fin grid0.N, win0_0.index t = ![t.val / 3, t.val % 1] ∧ win0_1.index t = ![t.val % 1, t.val / 1 % 3] ∧ win0_2.index t = ![t.val / 3, t.val / 1 % 3])

/-- The rows, columns and contracted entries a grid point works on. -/
def row (t : Fin cfg0.N) (r : Fin 1024) : Fin 4096 := ⟨t.val / 3 * 1024 + r.val, by have := bound t; have := r.isLt; omega⟩
def col (t : Fin cfg0.N) (s : Fin 640) : Fin 1920 := ⟨t.val / 1 % 3 * 640 + s.val, by have := bound t; have := s.isLt; omega⟩
def con (t : Fin cfg0.N) (z : Fin 1024) : Fin 1024 := ⟨t.val % 1 * 1024 + z.val, by have := bound t; have := z.isLt; omega⟩

theorem in0 (t : Fin cfg0.N) (r : Fin 1024) (z : Fin 1024) : iblk m c 0 t (ix2 r z) = A m c (row t r) (con t z) := by
  unfold A
  rw [← V_main_arg0 m c]
  have := bound t
  unfold con row
  blk_ext [iblk, idx t]

theorem in1 (t : Fin cfg0.N) (z : Fin 1024) (s : Fin 640) : iblk m c 1 t (ix2 z s) = B m c (con t z) (col t s) := by
  unfold B
  rw [← V_main_arg1 m c]
  have := bound t
  unfold con col
  blk_ext [iblk, idx t]

/-- What a tile adds. -/
theorem step_apply (t : Fin cfg0.N) (acc : Vec Ideal S1024x640 .f32) (r : Fin 1024) (s : Fin 640) :
    k0_pay2 acc (iblk m c 0 t) (iblk m c 1 t) (ix2 r s) = acc (ix2 r s) + ∑ z : Fin 1024, A m c (row t r) (con t z) * B m c (con t z) (col t s) := by
  have e0 := in0 m c t r
  have e1 := fun z => in1 m c t z s
  pointwise [k0_pay2]
  exact congrArg _ (Finset.sum_congr rfl fun z _ => congrArg₂ _ (e0 z) (e1 z))

theorem zero_apply (r : Fin 1024) (s : Fin 640) : (k0_pay1 : FVec Ideal S1024x640 .f32) (ix2 r s) = 0 := by
  pointwise [k0_pay1]

/-- A block of the result. -/
theorem point (t : Fin cfg0.N) (r : Fin 1024) (s : Fin 640) :
    outsAt0 m c t (ix2 r s) = ∑ k, term m c (row t r) (col t s) k := by
  unfold outsAt0
  rw [out_A, step_apply, zero_apply, zero_add]
  refine Finset.sum_congr rfl fun z _ => ?_
  have ez : con t z = z := by
    apply Fin.ext
    show t.val % 1 * 1024 + z.val = z.val
    omega
  rw [ez]
  rfl

/-- The result array. -/
theorem result : (dats m 0 c).arrAt 2 cfg0.N = fun i : S4096x1920.Idx => ∑ k, term m c (i 0) (i 1) k := by
  refine (dats m 0 c).arrAt_eq_of_covers 2 _ (by decide +kernel) fun t hf y => ?_
  blk_simp
  rw [after0_2]
  have hN := bound t
  have er : (win0_2.blk t).view.emb y 0 = row t (y 0) := by
    apply Fin.ext
    blk_simp [idx t] <;> rfl
  have es : (win0_2.blk t).view.emb y 1 = col t (y 1) := by
    apply Fin.ext
    blk_simp [idx t] <;> rfl
  rw [er, es]
  exact (congrArg _ (eq_ix2 y)).trans (point m c t (y 0) (y 1))

end Cert.Mm10

end
-- ==== Proof.Mm.Claims10.lean ====
/-
  The claims about the mixers' input product at the state-space and pooling columns.
-/
module

public import proofs.«01_k».proof.Defs
public import proofs.«01_k».proof.Proof.Gen.Kernel10
public import proofs.«01_k».proof.Proof.Gen.Kernel10.Frame
public import proofs.«01_k».proof.Proof.Gen.Kernel10Ideal.Frame
public import proofs.«01_k».proof.Proof.Gen.Reference10Ideal
public import proofs.«01_k».proof.Proof.Gen.Reference10Ideal.Read
public import proofs.«01_k».proof.Proof.Mm.Val10
public import Idealize.ShloMosaic.Adequacy
public import Idealize.ShloMosaic.Init

@[expose] public section

set_option maxRecDepth 16384

noncomputable section

namespace Cert.Mm10.Claims

open Idealize.ShloMosaic Idealize.SL.Sem
open Cert.Reference10Ideal.Read

theorem frame_p : Cert.quiescent_Kernel10 := fun m ρ _ => Cert.Kernel10.Gen.frame m ρ

theorem frame_pi : Cert.quiescent_Kernel10Ideal := fun m ρ _ => Cert.Kernel10Ideal.Gen.frame m ρ

theorem frame_ri : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

theorem preserves : Cert.preserves_Kernel10_Kernel10Ideal := trivial

/-- The reference's result, entry by entry. -/
theorem reference (x0 : Cert.Reference10Ideal.S4096x1024.Idx → EReal) (x1 : Cert.Reference10Ideal.S1024x1920.Idx → EReal) (r : Fin 4096) (s : Fin 1920) :
    (val_main_v2 (F := Ideal) x0 x1) (ix2 r s) = ∑ k : Fin 1024, x0 (ix2 r k) * x1 (ix2 k s) := by
  pointwise [val_main_v0, val_main_v1, val_main_v2]

/-- Both programs end at the same array. -/
theorem algebraic : Cert.algebraic_Kernel10Ideal_Reference10Ideal := by
  intro m g m' g' _ hargs
  refine ⟨fun c => (fun i : Cert.Kernel10Ideal.S4096x1920.Idx => (∑ k, term m c (i 0) (i 1) k : EReal)), ?_, ?_⟩
  · exact (θ_run Cert.Kernel10Ideal.defs _ _).mono
      (fun r h c => ⟨(h c).1.trans (result m c), (h c).2⟩) (Cert.Kernel10Ideal.Value.run_blocks m g)
  · refine (θ_run Cert.Reference10Ideal.defs _ _).mono (fun r h c => ⟨(h c).1.trans ?_, (h c).2⟩) (Cert.Reference10Ideal.Value.run m' g')
    obtain ⟨e0, e1⟩ := hargs c
    refine (Cert.Reference10Ideal.Read.val_main_v2_eq _ _).trans ?_
    refine (congrArg₂ (Cert.Reference10Ideal.Read.val_main_v2 (F := Ideal)) e0 e1).trans ?_
    exact funext fun i => (congrArg _ (eq_ix2 i)).trans (reference _ _ (i 0) (i 1))

end Cert.Mm10.Claims

end
-- ==== Proof.Mm.Val11.lean ====
/-
  The mixers' input product at the attention columns, entry by entry.
-/
module

public import proofs.«01_k».proof.Proof.Mm.Common
public import proofs.«01_k».proof.Proof.Gen.Kernel11Ideal.Value

@[expose] public section

set_option maxRecDepth 65536

noncomputable section

namespace Cert.Mm11

open Idealize.ShloMosaic Idealize.ShloMosaic.TcCoe Idealize.SL.Sem
open Idealize.ShloMosaic.Pipeline (Dat)
open Cert.Kernel11Ideal Cert.Kernel11Ideal.Gen Cert.Mm

section Outs
variable (c : Dev nD) (i : grid0.Coords) (arg3 : Memref sig .tc .vmem S1024x1024 .bf16) (harg3 : arg3.IsWhole) (arg4 : Memref sig .tc .vmem S1024x768 .bf16) (harg4 : arg4.IsWhole) (arg5 : Memref sig .tc .vmem S1024x768 .f32) (harg5 : arg5.IsWhole) (arg6 : Memref sig .tc .vmem S1024x768 .f32) (harg6 : arg6.IsWhole)
  (x0 : Vec Ideal S1024x1024 .bf16) (x1 : Vec Ideal S1024x768 .bf16) (xs : Vec Ideal S1024x768 .f32)

/-- The output block of a point: the product of the two blocks. -/
theorem out_A (hc0 : cond0_0 i) (hc1 : cond0_1 i) :
    out0_A_2 c i arg3 harg3 arg4 harg4 arg5 harg5 arg6 harg6 hc0 hc1 x0 x1 = k0_pay2 k0_pay1 x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x768) hz2, View.readCov_unit_zero (S := S1024x768) _ hz2]
  exact View.readCov_cons_toLoadRect _ _ _ _
end Outs

variable (m : (ℓ : Loc nD τ sig) → Buf (Elt Ideal) ℓ) (c : Dev nD)

/-- The two factors, entry by entry. -/
def A (r : Fin 4096) (k : Fin 1024) : EReal := m ((c : Thread nD τ).loc main_arg0) (ix2 r k)
def B (k : Fin 1024) (s : Fin 768) : EReal := m ((c : Thread nD τ).loc main_arg1) (ix2 k s)

/-- The terms of an entry of the product. -/
def term (r : Fin 4096) (s : Fin 768) (k : Fin 1024) : EReal := A m c r k * B m c k s

theorem bound (t : Fin cfg0.N) : t.val < 4 := lt_of_lt_of_eq t.isLt (show cfg0.N = 4 from N_0)

theorem idx : ∀ t : Fin cfg0.N, win0_0.index t = ![t.val / 1, t.val % 1] ∧ win0_1.index t = ![t.val % 1, t.val / 1 % 1] ∧ win0_2.index t = ![t.val / 1, t.val / 1 % 1] :=
  (by decide +kernel : ∀ t : Fin grid0.N, win0_0.index t = ![t.val / 1, t.val % 1] ∧ win0_1.index t = ![t.val % 1, t.val / 1 % 1] ∧ win0_2.index t = ![t.val / 1, t.val / 1 % 1])

/-- The rows, columns and contracted entries a grid point works on. -/
def row (t : Fin cfg0.N) (r : Fin 1024) : Fin 4096 := ⟨t.val / 1 * 1024 + r.val, by have := bound t; have := r.isLt; omega⟩
def col (t : Fin cfg0.N) (s : Fin 768) : Fin 768 := ⟨t.val / 1 % 1 * 768 + s.val, by have := bound t; have := s.isLt; omega⟩
def con (t : Fin cfg0.N) (z : Fin 1024) : Fin 1024 := ⟨t.val % 1 * 1024 + z.val, by have := bound t; have := z.isLt; omega⟩

theorem in0 (t : Fin cfg0.N) (r : Fin 1024) (z : Fin 1024) : iblk m c 0 t (ix2 r z) = A m c (row t r) (con t z) := by
  unfold A
  rw [← V_main_arg0 m c]
  have := bound t
  unfold con row
  blk_ext [iblk, idx t]

theorem in1 (t : Fin cfg0.N) (z : Fin 1024) (s : Fin 768) : iblk m c 1 t (ix2 z s) = B m c (con t z) (col t s) := by
  unfold B
  rw [← V_main_arg1 m c]
  have := bound t
  unfold con col
  blk_ext [iblk, idx t]

/-- What a tile adds. -/
theorem step_apply (t : Fin cfg0.N) (acc : Vec Ideal S1024x768 .f32) (r : Fin 1024) (s : Fin 768) :
    k0_pay2 acc (iblk m c 0 t) (iblk m c 1 t) (ix2 r s) = acc (ix2 r s) + ∑ z : Fin 1024, A m c (row t r) (con t z) * B m c (con t z) (col t s) := by
  have e0 := in0 m c t r
  have e1 := fun z => in1 m c t z s
  pointwise [k0_pay2]
  exact congrArg _ (Finset.sum_congr rfl fun z _ => congrArg₂ _ (e0 z) (e1 z))

theorem zero_apply (r : Fin 1024) (s : Fin 768) : (k0_pay1 : FVec Ideal S1024x768 .f32) (ix2 r s) = 0 := by
  pointwise [k0_pay1]

/-- A block of the result. -/
theorem point (t : Fin cfg0.N) (r : Fin 1024) (s : Fin 768) :
    outsAt0 m c t (ix2 r s) = ∑ k, term m c (row t r) (col t s) k := by
  unfold outsAt0
  rw [out_A, step_apply, zero_apply, zero_add]
  refine Finset.sum_congr rfl fun z _ => ?_
  have ez : con t z = z := by
    apply Fin.ext
    show t.val % 1 * 1024 + z.val = z.val
    omega
  rw [ez]
  rfl

/-- The result array. -/
theorem result : (dats m 0 c).arrAt 2 cfg0.N = fun i : S4096x768.Idx => ∑ k, term m c (i 0) (i 1) k := by
  refine (dats m 0 c).arrAt_eq_of_covers 2 _ (by decide +kernel) fun t hf y => ?_
  blk_simp
  rw [after0_2]
  have hN := bound t
  have er : (win0_2.blk t).view.emb y 0 = row t (y 0) := by
    apply Fin.ext
    blk_simp [idx t] <;> rfl
  have es : (win0_2.blk t).view.emb y 1 = col t (y 1) := by
    apply Fin.ext
    blk_simp [idx t] <;> rfl
  rw [er, es]
  exact (congrArg _ (eq_ix2 y)).trans (point m c t (y 0) (y 1))

end Cert.Mm11

end
-- ==== Proof.Mm.Claims11.lean ====
/-
  The claims about the mixers' input product at the attention columns.
-/
module

public import proofs.«01_k».proof.Defs
public import proofs.«01_k».proof.Proof.Gen.Kernel11
public import proofs.«01_k».proof.Proof.Gen.Kernel11.Frame
public import proofs.«01_k».proof.Proof.Gen.Kernel11Ideal.Frame
public import proofs.«01_k».proof.Proof.Gen.Reference11Ideal
public import proofs.«01_k».proof.Proof.Gen.Reference11Ideal.Read
public import proofs.«01_k».proof.Proof.Mm.Val11
public import Idealize.ShloMosaic.Adequacy
public import Idealize.ShloMosaic.Init

@[expose] public section

set_option maxRecDepth 16384

noncomputable section

namespace Cert.Mm11.Claims

open Idealize.ShloMosaic Idealize.SL.Sem
open Cert.Reference11Ideal.Read

theorem frame_p : Cert.quiescent_Kernel11 := fun m ρ _ => Cert.Kernel11.Gen.frame m ρ

theorem frame_pi : Cert.quiescent_Kernel11Ideal := fun m ρ _ => Cert.Kernel11Ideal.Gen.frame m ρ

theorem frame_ri : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

theorem preserves : Cert.preserves_Kernel11_Kernel11Ideal := trivial

/-- The reference's result, entry by entry. -/
theorem reference (x0 : Cert.Reference11Ideal.S4096x1024.Idx → EReal) (x1 : Cert.Reference11Ideal.S1024x768.Idx → EReal) (r : Fin 4096) (s : Fin 768) :
    (val_main_v2 (F := Ideal) x0 x1) (ix2 r s) = ∑ k : Fin 1024, x0 (ix2 r k) * x1 (ix2 k s) := by
  pointwise [val_main_v0, val_main_v1, val_main_v2]

/-- Both programs end at the same array. -/
theorem algebraic : Cert.algebraic_Kernel11Ideal_Reference11Ideal := by
  intro m g m' g' _ hargs
  refine ⟨fun c => (fun i : Cert.Kernel11Ideal.S4096x768.Idx => (∑ k, term m c (i 0) (i 1) k : EReal)), ?_, ?_⟩
  · exact (θ_run Cert.Kernel11Ideal.defs _ _).mono
      (fun r h c => ⟨(h c).1.trans (result m c), (h c).2⟩) (Cert.Kernel11Ideal.Value.run_blocks m g)
  · refine (θ_run Cert.Reference11Ideal.defs _ _).mono (fun r h c => ⟨(h c).1.trans ?_, (h c).2⟩) (Cert.Reference11Ideal.Value.run m' g')
    obtain ⟨e0, e1⟩ := hargs c
    refine (Cert.Reference11Ideal.Read.val_main_v2_eq _ _).trans ?_
    refine (congrArg₂ (Cert.Reference11Ideal.Read.val_main_v2 (F := Ideal)) e0 e1).trans ?_
    exact funext fun i => (congrArg _ (eq_ix2 i)).trans (reference _ _ (i 0) (i 1))

end Cert.Mm11.Claims

end
-- ==== Proof.Mm.Val12.lean ====
/-
  The up-projection's product, entry by entry.
-/
module

public import proofs.«01_k».proof.Proof.Mm.Common
public import proofs.«01_k».proof.Proof.Gen.Kernel12Ideal.Value

@[expose] public section

set_option maxRecDepth 65536

noncomputable section

namespace Cert.Mm12

open Idealize.ShloMosaic Idealize.ShloMosaic.TcCoe Idealize.SL.Sem
open Idealize.ShloMosaic.Pipeline (Dat)
open Cert.Kernel12Ideal Cert.Kernel12Ideal.Gen Cert.Mm

section Outs
variable (c : Dev nD) (i : grid0.Coords) (arg3 : Memref sig .tc .vmem S1024x1024 .bf16) (harg3 : arg3.IsWhole) (arg4 : Memref sig .tc .vmem S1024x1408 .bf16) (harg4 : arg4.IsWhole) (arg5 : Memref sig .tc .vmem S1024x1408 .f32) (harg5 : arg5.IsWhole) (arg6 : Memref sig .tc .vmem S1024x1408 .f32) (harg6 : arg6.IsWhole)
  (x0 : Vec Ideal S1024x1024 .bf16) (x1 : Vec Ideal S1024x1408 .bf16) (xs : Vec Ideal S1024x1408 .f32)

/-- The output block of a point: the product of the two blocks. -/
theorem out_A (hc0 : cond0_0 i) (hc1 : cond0_1 i) :
    out0_A_2 c i arg3 harg3 arg4 harg4 arg5 harg5 arg6 harg6 hc0 hc1 x0 x1 = k0_pay2 k0_pay1 x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1024x1408) hz2, View.readCov_unit_zero (S := S1024x1408) _ hz2]
  exact View.readCov_cons_toLoadRect _ _ _ _
end Outs

variable (m : (ℓ : Loc nD τ sig) → Buf (Elt Ideal) ℓ) (c : Dev nD)

/-- The two factors, entry by entry. -/
def A (r : Fin 4096) (k : Fin 1024) : EReal := m ((c : Thread nD τ).loc main_arg0) (ix2 r k)
def B (k : Fin 1024) (s : Fin 5632) : EReal := m ((c : Thread nD τ).loc main_arg1) (ix2 k s)

/-- The terms of an entry of the product. -/
def term (r : Fin 4096) (s : Fin 5632) (k : Fin 1024) : EReal := A m c r k * B m c k s

theorem bound (t : Fin cfg0.N) : t.val < 16 := lt_of_lt_of_eq t.isLt (show cfg0.N = 16 from N_0)

theorem idx : ∀ t : Fin cfg0.N, win0_0.index t = ![t.val / 4, t.val % 1] ∧ win0_1.index t = ![t.val % 1, t.val / 1 % 4] ∧ win0_2.index t = ![t.val / 4, t.val / 1 % 4] :=
  (by decide +kernel : ∀ t : Fin grid0.N, win0_0.index t = ![t.val / 4, t.val % 1] ∧ win0_1.index t = ![t.val % 1, t.val / 1 % 4] ∧ win0_2.index t = ![t.val / 4, t.val / 1 % 4])

/-- The rows, columns and contracted entries a grid point works on. -/
def row (t : Fin cfg0.N) (r : Fin 1024) : Fin 4096 := ⟨t.val / 4 * 1024 + r.val, by have := bound t; have := r.isLt; omega⟩
def col (t : Fin cfg0.N) (s : Fin 1408) : Fin 5632 := ⟨t.val / 1 % 4 * 1408 + s.val, by have := bound t; have := s.isLt; omega⟩
def con (t : Fin cfg0.N) (z : Fin 1024) : Fin 1024 := ⟨t.val % 1 * 1024 + z.val, by have := bound t; have := z.isLt; omega⟩

theorem in0 (t : Fin cfg0.N) (r : Fin 1024) (z : Fin 1024) : iblk m c 0 t (ix2 r z) = A m c (row t r) (con t z) := by
  unfold A
  rw [← V_main_arg0 m c]
  have := bound t
  unfold con row
  blk_ext [iblk, idx t]

theorem in1 (t : Fin cfg0.N) (z : Fin 1024) (s : Fin 1408) : iblk m c 1 t (ix2 z s) = B m c (con t z) (col t s) := by
  unfold B
  rw [← V_main_arg1 m c]
  have := bound t
  unfold con col
  blk_ext [iblk, idx t]

/-- What a tile adds. -/
theorem step_apply (t : Fin cfg0.N) (acc : Vec Ideal S1024x1408 .f32) (r : Fin 1024) (s : Fin 1408) :
    k0_pay2 acc (iblk m c 0 t) (iblk m c 1 t) (ix2 r s) = acc (ix2 r s) + ∑ z : Fin 1024, A m c (row t r) (con t z) * B m c (con t z) (col t s) := by
  have e0 := in0 m c t r
  have e1 := fun z => in1 m c t z s
  pointwise [k0_pay2]
  exact congrArg _ (Finset.sum_congr rfl fun z _ => congrArg₂ _ (e0 z) (e1 z))

theorem zero_apply (r : Fin 1024) (s : Fin 1408) : (k0_pay1 : FVec Ideal S1024x1408 .f32) (ix2 r s) = 0 := by
  pointwise [k0_pay1]

/-- A block of the result. -/
theorem point (t : Fin cfg0.N) (r : Fin 1024) (s : Fin 1408) :
    outsAt0 m c t (ix2 r s) = ∑ k, term m c (row t r) (col t s) k := by
  unfold outsAt0
  rw [out_A, step_apply, zero_apply, zero_add]
  refine Finset.sum_congr rfl fun z _ => ?_
  have ez : con t z = z := by
    apply Fin.ext
    show t.val % 1 * 1024 + z.val = z.val
    omega
  rw [ez]
  rfl

/-- The result array. -/
theorem result : (dats m 0 c).arrAt 2 cfg0.N = fun i : S4096x5632.Idx => ∑ k, term m c (i 0) (i 1) k := by
  refine (dats m 0 c).arrAt_eq_of_covers 2 _ (by decide +kernel) fun t hf y => ?_
  blk_simp
  rw [after0_2]
  have hN := bound t
  have er : (win0_2.blk t).view.emb y 0 = row t (y 0) := by
    apply Fin.ext
    blk_simp [idx t] <;> rfl
  have es : (win0_2.blk t).view.emb y 1 = col t (y 1) := by
    apply Fin.ext
    blk_simp [idx t] <;> rfl
  rw [er, es]
  exact (congrArg _ (eq_ix2 y)).trans (point m c t (y 0) (y 1))

end Cert.Mm12

end
-- ==== Proof.Mm.Claims12.lean ====
/-
  The claims about the up-projection's product.
-/
module

public import proofs.«01_k».proof.Defs
public import proofs.«01_k».proof.Proof.Gen.Kernel12
public import proofs.«01_k».proof.Proof.Gen.Kernel12.Frame
public import proofs.«01_k».proof.Proof.Gen.Kernel12Ideal.Frame
public import proofs.«01_k».proof.Proof.Gen.Reference12Ideal
public import proofs.«01_k».proof.Proof.Gen.Reference12Ideal.Read
public import proofs.«01_k».proof.Proof.Mm.Val12
public import Idealize.ShloMosaic.Adequacy
public import Idealize.ShloMosaic.Init

@[expose] public section

set_option maxRecDepth 16384

noncomputable section

namespace Cert.Mm12.Claims

open Idealize.ShloMosaic Idealize.SL.Sem
open Cert.Reference12Ideal.Read

theorem frame_p : Cert.quiescent_Kernel12 := fun m ρ _ => Cert.Kernel12.Gen.frame m ρ

theorem frame_pi : Cert.quiescent_Kernel12Ideal := fun m ρ _ => Cert.Kernel12Ideal.Gen.frame m ρ

theorem frame_ri : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem preserves : Cert.preserves_Kernel12_Kernel12Ideal := trivial

/-- The reference's result, entry by entry. -/
theorem reference (x0 : Cert.Reference12Ideal.S4096x1024.Idx → EReal) (x1 : Cert.Reference12Ideal.S1024x5632.Idx → EReal) (r : Fin 4096) (s : Fin 5632) :
    (val_main_v2 (F := Ideal) x0 x1) (ix2 r s) = ∑ k : Fin 1024, x0 (ix2 r k) * x1 (ix2 k s) := by
  pointwise [val_main_v0, val_main_v1, val_main_v2]

/-- Both programs end at the same array. -/
theorem algebraic : Cert.algebraic_Kernel12Ideal_Reference12Ideal := by
  intro m g m' g' _ hargs
  refine ⟨fun c => (fun i : Cert.Kernel12Ideal.S4096x5632.Idx => (∑ k, term m c (i 0) (i 1) k : EReal)), ?_, ?_⟩
  · exact (θ_run Cert.Kernel12Ideal.defs _ _).mono
      (fun r h c => ⟨(h c).1.trans (result m c), (h c).2⟩) (Cert.Kernel12Ideal.Value.run_blocks m g)
  · refine (θ_run Cert.Reference12Ideal.defs _ _).mono (fun r h c => ⟨(h c).1.trans ?_, (h c).2⟩) (Cert.Reference12Ideal.Value.run m' g')
    obtain ⟨e0, e1⟩ := hargs c
    refine (Cert.Reference12Ideal.Read.val_main_v2_eq _ _).trans ?_
    refine (congrArg₂ (Cert.Reference12Ideal.Read.val_main_v2 (F := Ideal)) e0 e1).trans ?_
    exact funext fun i => (congrArg _ (eq_ix2 i)).trans (reference _ _ (i 0) (i 1))

end Cert.Mm12.Claims

end
-- ==== Proof.Row.Common.lean ====
/-
  Sums over rows that a kernel visits chunk by chunk, from the last chunk to the first.
-/
module

public import proofs.«01_k».proof.Proof.Mm.Common

@[expose] public section

noncomputable section

namespace Cert.Row

open Idealize.ShloMosaic Cert.Mm

/-- Of 4096 rows in eight chunks, the row that is visited `k`-th. -/
def back (k : Fin 4096) : Fin 4096 := ⟨(7 - k.val / 512) * 512 + k.val % 512, by have := k.isLt; omega⟩

theorem back_back : Function.Involutive back := fun k => Fin.ext (by have := k.isLt; simp only [back]; omega)

theorem sum_back (f : Fin 4096 → EReal) : ∑ k, f (back k) = ∑ k, f k := Equiv.sum_comp back_back.toPerm f

/-- The rows of the chunk that is visited `n`-th. -/
def place (n : ℕ) (z : Fin 512) : Fin 4096 := ⟨(7 - n) * 512 + z.val, by have := z.isLt; omega⟩

/-- A sum over the rows, a chunk at a time: after the last chunk it is the sum over all rows. -/
theorem chunks {N : ℕ} (hN : N = 8) {S : Type} (out : (n : ℕ) → n < N → S → EReal) (f : S → Fin 4096 → EReal)
    (first : ∀ hn s, out 0 hn s = ∑ z, f s (place 0 z))
    (next : ∀ n hn hn' s, n ≠ 0 → out n hn s = out (n - 1) hn' s + ∑ z, f s (place n z)) (n : ℕ) (hn : n < N) (h : n % 8 = 7) (s : S) :
    out n hn s = ∑ k, f s k := by
  subst hN
  rw [← sum_back]
  refine tiled_last (nk := 8) (R := Fin 1) (fun n hn _ s => out n hn s) (fun n hn _ s k => f s (back k))
    (fun n hn _ s z => f s (place n z)) rfl (by decide) ?_ ?_ ?_ ?_ n hn 0 s h
  · intro n hn _ s z k hk
    refine congrArg (f s) (Fin.ext ?_)
    have := z.isLt
    simp only [place, back]
    omega
  · exact fun _ _ _ _ _ _ => rfl
  · intro n hn _ s h
    obtain rfl : n = 0 := by omega
    rw [zero_add]
    exact first hn s
  · exact fun n hn hn' _ s h => next n hn hn' s fun h0 => h (by rw [h0])

/-- The same for sixteen chunks of 256 rows, the grid running over the chunks more than once. -/
def back16 (k : Fin 4096) : Fin 4096 := ⟨(15 - k.val / 256) * 256 + k.val % 256, by have := k.isLt; omega⟩

theorem back16_back16 : Function.Involutive back16 := fun k => Fin.ext (by have := k.isLt; simp only [back16]; omega)

theorem sum_back16 (f : Fin 4096 → EReal) : ∑ k, f (back16 k) = ∑ k, f k := Equiv.sum_comp back16_back16.toPerm f

def place16 (n : ℕ) (z : Fin 256) : Fin 4096 := ⟨(15 - n % 16) * 256 + z.val, by have := z.isLt; omega⟩

theorem chunks16 {N : ℕ} {S : Type} (out : (n : ℕ) → n < N → S → EReal) (f : ℕ → S → Fin 4096 → EReal)
    (same : ∀ n s k, n % 16 ≠ 0 → f (n - 1) s k = f n s k)
    (first : ∀ n hn s, n % 16 = 0 → out n hn s = ∑ z, f n s (place16 n z))
    (next : ∀ n hn hn' s, n % 16 ≠ 0 → out n hn s = out (n - 1) hn' s + ∑ z, f n s (place16 n z)) (n : ℕ) (hn : n < N) (h : n % 16 = 15) (s : S) :
    out n hn s = ∑ k, f n s k := by
  rw [← sum_back16]
  refine tiled_last (nk := 16) (R := Fin 1) (fun n hn _ s => out n hn s) (fun n hn _ s k => f n s (back16 k))
    (fun n hn _ s z => f n s (place16 n z)) rfl (by decide) ?_ ?_ ?_ ?_ n hn 0 s h
  · intro n hn _ s z k hk
    refine congrArg (f n s) (Fin.ext ?_)
    have := z.isLt
    simp only [place16, back16]
    omega
  · exact fun n _ _ _ s h => funext fun k => same n s (back16 k) h
  · intro n hn _ s h
    rw [zero_add]
    exact first n hn s h
  · exact fun n hn hn' _ s h => next n hn hn' s h

end Cert.Row

end
-- ==== Proof.Row.Gate.lean ====
/-
  The gradient of the residual's gate `o * g`, entry by entry.
-/
module

public import proofs.«01_k».proof.Proof.Row.Common
public import proofs.«01_k».proof.Proof.Gen.Kernel13Ideal.Value

@[expose] public section

set_option maxRecDepth 65536

noncomputable section

namespace Cert.Gate

open Idealize.ShloMosaic Idealize.ShloMosaic.TcCoe Idealize.SL.Sem
open Idealize.ShloMosaic.Pipeline (Dat)
open Cert.Kernel13Ideal Cert.Kernel13Ideal.Gen Cert.Mm Cert.Row

section Outs
variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x1024 .f32) (harg6 : arg6.IsWhole)
  (x0 : Vec Ideal S1x512x1024 .f32) (x1 : Vec Ideal S1x1024 .f32) (x2 : Vec Ideal S1x512x1024 .f32) (xo : Vec Ideal S1x1024 .f32)

theorem out_A3 (hc0 : cond0_0 i) (hc1 : ¬cond0_1 i) :
    out0_A_3 c i arg2 harg2 arg3 harg3 arg4 harg4 arg5 harg5 arg6 harg6 hc0 hc1 x0 x1 x2 = k0_pay3 x1 x2 := by
  unfold out0_A_3
  rw [View.read_writes_eq_canon _ _ _ (cover0_A_3 c i arg2 harg2 arg3 harg3 arg4 harg4 arg5 harg5 arg6 harg6 hc0 hc1 x0 x1 x2)]
  unfold kernelRun0_A
  dsimp only
  sl_unfold_words
  rw [View.canon_unit_zero hz3]
  simp only [View.readAt_eq_ld, harg2.read_unread, harg3.read_unread, harg4.read_unread, View.ld_unit_zero (S := S1x512x1024) hz3, View.ld_unit_zero (S := S1x1024) hz2]

theorem out_B3 (hc0 : ¬cond0_0 i) (hc1 : cond0_1 i) :
    out0_B_3 c i arg2 harg2 arg3 harg3 arg4 harg4 arg5 harg5 arg6 harg6 hc0 hc1 x0 x1 x2 xo = k0_pay3 x1 x2 := by
  unfold out0_B_3
  rw [View.read_writes_eq_canon _ _ _ (cover0_B_3 c i arg2 harg2 arg3 harg3 arg4 harg4 arg5 harg5 arg6 harg6 hc0 hc1 x0 x1 x2 xo)]
  unfold kernelRun0_B
  dsimp only
  sl_unfold_words
  rw [View.canon_unit_zero hz3]
  simp only [View.readAt_eq_ld, harg2.read_unread, harg3.read_unread, harg4.read_unread, View.ld_unit_zero (S := S1x512x1024) hz3, View.ld_unit_zero (S := S1x1024) hz2]

theorem out_A4 (hc0 : cond0_0 i) (hc1 : ¬cond0_1 i) :
    out0_A_4 c i arg2 harg2 arg3 harg3 arg4 harg4 arg5 harg5 arg6 harg6 hc0 hc1 x0 x1 x2 = k0_pay2 x0 x2 := by
  unfold out0_A_4
  rw [View.read_writes_eq_canon _ _ _ (cover0_A_4 c i arg2 harg2 arg3 harg3 arg4 harg4 arg5 harg5 arg6 harg6 hc0 hc1 x0 x1 x2)]
  unfold kernelRun0_A
  dsimp only
  sl_unfold_words
  rw [View.canon_unit_zero hz2]
  simp only [View.readAt_eq_ld, harg2.read_unread, harg3.read_unread, harg4.read_unread, View.ld_unit_zero (S := S1x512x1024) hz3, View.ld_unit_zero (S := S1x1024) hz2]

theorem out_B4 (hc0 : ¬cond0_0 i) (hc1 : cond0_1 i) :
    out0_B_4 c i arg2 harg2 arg3 harg3 arg4 harg4 arg5 harg5 arg6 harg6 hc0 hc1 x0 x1 x2 xo = k0_pay4 x0 x2 xo := by
  unfold out0_B_4
  rw [View.read_writes_eq_canon _ _ _ (cover0_B_4 c i arg2 harg2 arg3 harg3 arg4 harg4 arg5 harg5 arg6 harg6 hc0 hc1 x0 x1 x2 xo)]
  unfold kernelRun0_B
  dsimp only
  sl_unfold_words
  rw [View.canon_unit_zero hz2]
  simp only [View.readAt_eq_ld, harg2.read_unread, harg3.read_unread, harg4.read_unread, harg6.read_unread, View.ld_unit_zero (S := S1x512x1024) hz3, View.ld_unit_zero (S := S1x1024) hz2]
end Outs

variable (m : (ℓ : Loc nD τ sig) → Buf (Elt Ideal) ℓ) (c : Dev nD)

/-- The arguments, entry by entry. -/
def O (r : Fin 4096) (s : Fin 1024) : EReal := m ((c : Thread nD τ).loc main_arg0) (ix3 0 r s)
def G (s : Fin 1024) : EReal := m ((c : Thread nD τ).loc main_arg1) (ix2 0 s)
def D (r : Fin 4096) (s : Fin 1024) : EReal := m ((c : Thread nD τ).loc main_arg2) (ix3 0 r s)

theorem bound (t : Fin cfg0.N) : t.val < 8 := lt_of_lt_of_eq t.isLt (show cfg0.N = 8 from N_0)

theorem idx : ∀ t : Fin cfg0.N, win0_0.index t = ![0, 7 - t.val, 0] ∧ win0_1.index t = ![0, 0] ∧ win0_2.index t = ![0, 7 - t.val, 0] ∧ win0_3.index t = ![0, 7 - t.val, 0] ∧ win0_4.index t = ![0, 0] :=
  (by decide +kernel : ∀ t : Fin grid0.N, win0_0.index t = ![0, 7 - t.val, 0] ∧ win0_1.index t = ![0, 0] ∧ win0_2.index t = ![0, 7 - t.val, 0] ∧ win0_3.index t = ![0, 7 - t.val, 0] ∧ win0_4.index t = ![0, 0])

/-- The rows a grid point works on. -/
def row (t : Fin cfg0.N) (r : Fin 512) : Fin 4096 := place t.val r

theorem in0 (t : Fin cfg0.N) (r : Fin 512) (s : Fin 1024) : iblk m c 0 t (ix3 0 r s) = O m c (row t r) s := by
  unfold O
  rw [← V_main_arg0 m c]
  have := bound t
  unfold row place
  blk_ext [iblk, idx t]

theorem in1 (t : Fin cfg0.N) (s : Fin 1024) : iblk m c 1 t (ix2 0 s) = G m c s := by
  unfold G
  rw [← V_main_arg1 m c]
  have := bound t
  blk_ext [iblk, idx t]

theorem in2 (t : Fin cfg0.N) (r : Fin 512) (s : Fin 1024) : iblk m c 2 t (ix3 0 r s) = D m c (row t r) s := by
  unfold D
  rw [← V_main_arg2 m c]
  have := bound t
  unfold row place
  blk_ext [iblk, idx t]

/-- The gradient in `o`, block by block. -/
theorem do_apply (t : Fin cfg0.N) (r : Fin 512) (s : Fin 1024) :
    k0_pay3 (iblk m c 1 t) (iblk m c 2 t) (ix3 0 r s) = D m c (row t r) s * G m c s := by
  have e1 := in1 m c t s
  have e2 := in2 m c t r s
  pointwise [k0_pay3, k0_pay1]
  exact congrArg₂ _ e2 e1

theorem point_do (t : Fin cfg0.N) (r : Fin 512) (s : Fin 1024) :
    (outsAt0 m c t.val t.isLt).1 (ix3 0 r s) = D m c (row t r) s * G m c s := by
  have hN := bound t
  by_cases h : t.val % 8 = 0
  · rw [outsAt0_A m c t h (by omega)]
    dsimp only
    rw [out_A3, do_apply]
  · rw [outsAt0_B m c t h (by omega)]
    dsimp only
    rw [out_B3, do_apply]

/-- What a chunk of rows adds to the gradient in `g`. -/
theorem chunk_apply (t : Fin cfg0.N) (s : Fin 1024) :
    k0_pay2 (iblk m c 0 t) (iblk m c 2 t) (ix2 0 s) = ∑ z : Fin 512, O m c (row t z) s * D m c (row t z) s := by
  have e0 := fun z => in0 m c t z s
  have e2 := fun z => in2 m c t z s
  pointwise [k0_pay2, k0_pay1]
  exact Finset.sum_congr rfl fun z _ => congrArg₂ _ (e0 z) (e2 z)

theorem step_apply (t : Fin cfg0.N) (acc : Vec Ideal S1x1024 .f32) (s : Fin 1024) :
    k0_pay4 (iblk m c 0 t) (iblk m c 2 t) acc (ix2 0 s) = acc (ix2 0 s) + k0_pay2 (iblk m c 0 t) (iblk m c 2 t) (ix2 0 s) := by
  pointwise [k0_pay4]

/-- After the last chunk the gradient in `g` is the whole sum. -/
theorem point_dg (t : Fin cfg0.N) (h : t.val % 8 = 7) (s : Fin 1024) :
    (outsAt0 m c t.val t.isLt).2 (ix2 0 s) = ∑ k, O m c k s * D m c k s := by
  refine chunks N_0 (fun n hn s => (outsAt0 m c n hn).2 (ix2 0 s)) (fun s k => O m c k s * D m c k s) ?_ ?_ t.val t.isLt h s
  · intro hn s
    rw [show outsAt0 m c 0 hn = _ from outsAt0_A m c ⟨0, hn⟩ rfl (by show ¬ 1 ≤ 0; omega)]
    dsimp only
    rw [out_A4, chunk_apply]
    rfl
  · intro n hn hn' s h
    have : n < 8 := bound ⟨n, hn⟩
    rw [show outsAt0 m c n hn = _ from outsAt0_B m c ⟨n, hn⟩ (by show ¬ n % 8 = 0; omega) (by show 1 ≤ n; omega)]
    dsimp only
    rw [out_B4, step_apply, chunk_apply]
    rfl

/-- The two result arrays. -/
theorem result_do : (dats m 0 c).arrAt 3 cfg0.N = fun i : S1x4096x1024.Idx => D m c (i 1) (i 2) * G m c (i 2) := by
  refine (dats m 0 c).arrAt_eq_of_covers 3 _ (by decide +kernel) fun t hf y => ?_
  blk_simp
  rw [after0_3]
  have hN := bound t
  have e1 : (win0_3.blk t).view.emb y 1 = row t (y 1) := by
    apply Fin.ext
    blk_simp [idx t] <;> rfl
  have e2 : (win0_3.blk t).view.emb y 2 = y 2 := by
    apply Fin.ext
    blk_simp [idx t]
  have hy : y = (ix3 0 (y 1) (y 2) : S1x512x1024.Idx) := by
    refine (eq_ix3 y).trans ?_
    rw [show y 0 = (0 : Fin 1) from Fin.ext (by have : (y 0).val < 1 := (y 0).isLt; show (y 0).val = 0; omega)]
  rw [e1, e2]
  exact (congrArg _ hy).trans (point_do m c t (y 1) (y 2))

theorem result_dg : (dats m 0 c).arrAt 4 cfg0.N = fun i : S1x1024.Idx => (∑ k, O m c k (i 1) * D m c k (i 1) : EReal) := by
  refine (dats m 0 c).arrAt_eq_of_covers 4 _ (by decide +kernel) fun t hf y => ?_
  have h := (flush0_4 t).mp hf
  blk_simp
  rw [after0_4]
  have hN := bound t
  have e1 : (win0_4.blk t).view.emb y 1 = y 1 := by
    apply Fin.ext
    blk_simp [idx t]
  have hy : y = (ix2 0 (y 1) : S1x1024.Idx) := by
    refine (eq_ix2 y).trans ?_
    rw [show y 0 = (0 : Fin 1) from Fin.ext (by have : (y 0).val < 1 := (y 0).isLt; show (y 0).val = 0; omega)]
  rw [e1]
  exact (congrArg _ hy).trans (point_dg m c t h (y 1))

end Cert.Gate

end
-- ==== Proof.Row.GateClaims.lean ====
/-
  The claims about the gradient of the residual's gate.
-/
module

public import proofs.«01_k».proof.Defs
public import proofs.«01_k».proof.Proof.Gen.Kernel13
public import proofs.«01_k».proof.Proof.Gen.Kernel13.Frame
public import proofs.«01_k».proof.Proof.Gen.Kernel13Ideal.Frame
public import proofs.«01_k».proof.Proof.Gen.Reference13Ideal
public import proofs.«01_k».proof.Proof.Gen.Reference13Ideal.Read
public import proofs.«01_k».proof.Proof.Row.Gate
public import Idealize.ShloMosaic.Adequacy
public import Idealize.ShloMosaic.Init

@[expose] public section

set_option maxRecDepth 16384

noncomputable section

namespace Cert.Gate.Claims

open Idealize.ShloMosaic Idealize.SL.Sem
open Cert.Reference13Ideal.Read

theorem frame_p : Cert.quiescent_Kernel13 := fun m ρ _ => Cert.Kernel13.Gen.frame m ρ

theorem frame_pi : Cert.quiescent_Kernel13Ideal := fun m ρ _ => Cert.Kernel13Ideal.Gen.frame m ρ

theorem frame_ri : Cert.quiescent_Reference13Ideal := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)

theorem preserves : Cert.preserves_Kernel13_Kernel13Ideal := trivial

/-- The reference's results, entry by entry. -/
theorem reference_do (x1 : Cert.Reference13Ideal.S1x1024.Idx → EReal) (x2 : Cert.Reference13Ideal.S1x4096x1024.Idx → EReal) (z : Fin 1) (r : Fin 4096) (s : Fin 1024) :
    (val_main_v11 (F := Ideal) x1 x2) (ix3 z r s) = x2 (ix3 0 r s) * x1 (ix2 0 s) := by
  pointwise [val_main_cst, val_main_v4, val_main_v5, val_main_v6, val_main_v10, val_main_v11]
  simp only [Finset.univ_unique, Finset.sum_singleton, zero_add]
  exact mul_comm _ _

theorem reference_dg (x0 x2 : Cert.Reference13Ideal.S1x4096x1024.Idx → EReal) (z : Fin 1) (s : Fin 1024) :
    (val_main_v9 (F := Ideal) x0 x2) (ix2 z s) = ∑ k : Fin 4096, x0 (ix3 0 k s) * x2 (ix3 0 k s) := by
  pointwise [val_main_cst, val_main_cst_0, val_main_v0, val_main_v4, val_main_v7, val_main_v8, val_main_v9]
  simp only [Finset.univ_unique, Finset.sum_singleton, zero_add]
  exact Finset.sum_congr rfl fun k _ => mul_comm _ _

/-- Both programs end at the same two arrays. -/
theorem algebraic : Cert.algebraic_Kernel13Ideal_Reference13Ideal := by
  intro m g m' g' _ hargs
  refine ⟨fun c => (fun i : Cert.Kernel13Ideal.S1x4096x1024.Idx => D m c (i 1) (i 2) * G m c (i 2)),
    fun c => (fun i : Cert.Kernel13Ideal.S1x1024.Idx => (∑ k, O m c k (i 1) * D m c k (i 1) : EReal)), ?_, ?_⟩
  · exact (θ_run Cert.Kernel13Ideal.defs _ _).mono
      (fun r h c => ⟨(h c).1.trans (result_do m c), (h c).2.1.trans (result_dg m c), (h c).2.2⟩) (Cert.Kernel13Ideal.Value.run_blocks m g)
  · refine (θ_run Cert.Reference13Ideal.defs _ _).mono (fun r h c => ⟨(h c).1.trans ?_, (h c).2.1.trans ?_, (h c).2.2⟩) (Cert.Reference13Ideal.Value.run m' g')
    · obtain ⟨e0, e1, e2⟩ := hargs c
      refine (val_main_v11_eq _ _).trans ?_
      refine (congrArg₂ (val_main_v11 (F := Ideal)) e1 e2).trans ?_
      exact funext fun i => (congrArg _ (eq_ix3 i)).trans (reference_do _ _ (i 0) (i 1) (i 2))
    · obtain ⟨e0, e1, e2⟩ := hargs c
      refine (val_main_v9_eq _ _).trans ?_
      refine (congrArg₂ (val_main_v9 (F := Ideal)) e0 e2).trans ?_
      exact funext fun i => (congrArg _ (eq_ix2 i)).trans (reference_dg _ _ (i 0) (i 1))

end Cert.Gate.Claims

end
-- ==== Proof.Row.Norm.lean ====
/-
  The gradient of the modulated norm, entry by entry.
-/
module

public import proofs.«01_k».proof.Proof.Row.Common
public import proofs.«01_k».proof.Proof.Gen.Kernel14Ideal.Value

@[expose] public section

set_option maxRecDepth 65536

noncomputable section

namespace Cert.Norm

open Idealize.ShloMosaic Idealize.ShloMosaic.TcCoe Idealize.SL.Sem
open Idealize.ShloMosaic.Pipeline (Dat)
open Cert.Kernel14Ideal Cert.Kernel14Ideal.Gen Cert.Mm Cert.Row

/-- A row's mean square, and what the norm multiplies the row by. -/
def ms (x : Fin 1024 → EReal) : EReal := Ideal.div (∑ s, x s * x s) (Ideal.ofBits FTy.f32 1149239296#32) + Ideal.ofBits FTy.f32 897988541#32
def inv (x : Fin 1024 → EReal) : EReal := Ideal.rsqrt (ms x)

/-- What the mean square takes of a row's gradient. -/
def pull (x g w d : Fin 1024 → EReal) : EReal :=
  Ideal.div ((∑ s, x s * (d s * (1 + w s) * g s)) * (Ideal.ofBits FTy.f32 3204448256#32 * Ideal.div (inv x) (ms x))) (Ideal.ofBits FTy.f32 1149239296#32)

/-- The gradient in the row, in its weight and in its scale. -/
def dx (x g w d e : Fin 1024 → EReal) (s : Fin 1024) : EReal := d s * (1 + w s) * g s * inv x + x s * pull x g w d + pull x g w d * x s + e s
def dg (x w d : Fin 1024 → EReal) (s : Fin 1024) : EReal := x s * inv x * (d s * (1 + w s))
def dw (x g d : Fin 1024 → EReal) (s : Fin 1024) : EReal := x s * inv x * g s * d s

section Outs
variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
  (x0 : Vec Ideal S1x512x1024 .f32) (x1 x2 x3 : Vec Ideal S1x1024 .f32) (x4 x5 : Vec Ideal S1x512x1024 .f32) (xo7 xo8 xo9 : Vec Ideal S1x1024 .f32)

theorem out_A6 (hc0 : cond0_0 i) (hc1 : ¬cond0_1 i) (hc2 : cond0_2 i) (hc3 : ¬cond0_3 i) (hc4 : cond0_4 i) (hc5 : ¬cond0_5 i) :
    out0_A_6 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 = k0_pay15 (k0_pay2 x0) (k0_pay5 x0) (k0_pay6 x0) (k0_pay13 x1 x2 x4) (k0_pay14 x0 x1 x2 x4) x5 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 hc1 hc2 hc3 hc4 hc5 x0 x1 x2 x3 x4 x5)]
  unfold kernelRun0_A
  dsimp only
  sl_unfold_words
  rw [View.canon_unit_zero hz3]
  simp only [View.readAt_eq_ld, harg2.read_unread, harg3.read_unread, harg4.read_unread, harg6.read_unread, harg7.read_unread, harg9.read_unread, harg10.read_unread, harg11.read_unread, View.ld_unit_zero (S := S1x512x1024) hz3, View.ld_unit_zero (S := S1x1024) hz2]

theorem out_A7 (hc0 : cond0_0 i) (hc1 : ¬cond0_1 i) (hc2 : cond0_2 i) (hc3 : ¬cond0_3 i) (hc4 : cond0_4 i) (hc5 : ¬cond0_5 i) :
    out0_A_7 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 = k0_pay12 x0 x2 x4 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 hc2 hc3 hc4 hc5 x0 x1 x2 x3 x4 x5)]
  unfold kernelRun0_A
  dsimp only
  sl_unfold_words
  rw [View.canon_unit_zero hz2]
  simp only [View.readAt_eq_ld, harg2.read_unread, harg3.read_unread, harg4.read_unread, harg6.read_unread, harg7.read_unread, harg9.read_unread, harg10.read_unread, harg11.read_unread, View.ld_unit_zero (S := S1x512x1024) hz3, View.ld_unit_zero (S := S1x1024) hz2]

theorem out_A8 (hc0 : cond0_0 i) (hc1 : ¬cond0_1 i) (hc2 : cond0_2 i) (hc3 : ¬cond0_3 i) (hc4 : cond0_4 i) (hc5 : ¬cond0_5 i) :
    out0_A_8 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 = k0_pay10 x0 x1 x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 hc1 hc2 hc3 hc4 hc5 x0 x1 x2 x3 x4 x5)]
  unfold kernelRun0_A
  dsimp only
  sl_unfold_words
  rw [View.canon_unit_zero hz2]
  simp only [View.readAt_eq_ld, harg2.read_unread, harg3.read_unread, harg4.read_unread, harg6.read_unread, harg7.read_unread, harg9.read_unread, harg10.read_unread, harg11.read_unread, View.ld_unit_zero (S := S1x512x1024) hz3, View.ld_unit_zero (S := S1x1024) hz2]

theorem out_A9 (hc0 : cond0_0 i) (hc1 : ¬cond0_1 i) (hc2 : cond0_2 i) (hc3 : ¬cond0_3 i) (hc4 : cond0_4 i) (hc5 : ¬cond0_5 i) :
    out0_A_9 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 = k0_pay9 x4 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 hc1 hc2 hc3 hc4 hc5 x0 x1 x2 x3 x4 x5)]
  unfold kernelRun0_A
  dsimp only
  sl_unfold_words
  rw [View.canon_unit_zero hz2]
  simp only [View.readAt_eq_ld, harg2.read_unread, harg3.read_unread, harg4.read_unread, harg6.read_unread, harg7.read_unread, harg9.read_unread, harg10.read_unread, harg11.read_unread, View.ld_unit_zero (S := S1x512x1024) hz3, View.ld_unit_zero (S := S1x1024) hz2]

theorem out_B6 (hc0 : ¬cond0_0 i) (hc1 : cond0_1 i) (hc2 : ¬cond0_2 i) (hc3 : cond0_3 i) (hc4 : ¬cond0_4 i) (hc5 : cond0_5 i) :
    out0_B_6 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9 = k0_pay15 (k0_pay2 x0) (k0_pay5 x0) (k0_pay6 x0) (k0_pay13 x1 x2 x4) (k0_pay14 x0 x1 x2 x4) x5 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9)]
  unfold kernelRun0_B
  dsimp only
  sl_unfold_words
  rw [View.canon_unit_zero hz3]
  simp only [View.readAt_eq_ld, harg2.read_unread, harg3.read_unread, harg4.read_unread, harg6.read_unread, harg7.read_unread, harg9.read_unread, harg10.read_unread, harg11.read_unread, View.ld_unit_zero (S := S1x512x1024) hz3, View.ld_unit_zero (S := S1x1024) hz2]

theorem out_B7 (hc0 : ¬cond0_0 i) (hc1 : cond0_1 i) (hc2 : ¬cond0_2 i) (hc3 : cond0_3 i) (hc4 : ¬cond0_4 i) (hc5 : cond0_5 i) :
    out0_B_7 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9 = k0_pay16 (k0_pay12 x0 x2 x4) xo7 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9)]
  unfold kernelRun0_B
  dsimp only
  sl_unfold_words
  rw [View.canon_unit_zero hz2]
  simp only [View.readAt_eq_ld, harg2.read_unread, harg3.read_unread, harg4.read_unread, harg6.read_unread, harg7.read_unread, harg9.read_unread, harg10.read_unread, harg11.read_unread, View.ld_unit_zero (S := S1x512x1024) hz3, View.ld_unit_zero (S := S1x1024) hz2]

theorem out_B8 (hc0 : ¬cond0_0 i) (hc1 : cond0_1 i) (hc2 : ¬cond0_2 i) (hc3 : cond0_3 i) (hc4 : ¬cond0_4 i) (hc5 : cond0_5 i) :
    out0_B_8 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9 = k0_pay17 (k0_pay10 x0 x1 x4) xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9)]
  unfold kernelRun0_B
  dsimp only
  sl_unfold_words
  rw [View.canon_unit_zero hz2]
  simp only [View.readAt_eq_ld, harg2.read_unread, harg3.read_unread, harg4.read_unread, harg6.read_unread, harg7.read_unread, harg9.read_unread, harg10.read_unread, harg11.read_unread, View.ld_unit_zero (S := S1x512x1024) hz3, View.ld_unit_zero (S := S1x1024) hz2]

theorem out_B9 (hc0 : ¬cond0_0 i) (hc1 : cond0_1 i) (hc2 : ¬cond0_2 i) (hc3 : cond0_3 i) (hc4 : ¬cond0_4 i) (hc5 : cond0_5 i) :
    out0_B_9 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9 = k0_pay1 (k0_pay9 x4) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9)]
  unfold kernelRun0_B
  dsimp only
  sl_unfold_words
  rw [View.canon_unit_zero hz2]
  simp only [View.readAt_eq_ld, harg2.read_unread, harg3.read_unread, harg4.read_unread, harg6.read_unread, harg7.read_unread, harg9.read_unread, harg10.read_unread, harg11.read_unread, View.ld_unit_zero (S := S1x512x1024) hz3, View.ld_unit_zero (S := S1x1024) hz2]
end Outs

variable (m : (ℓ : Loc nD τ sig) → Buf (Elt Ideal) ℓ) (c : Dev nD)

/-- The arguments, entry by entry. -/
def X (r : Fin 4096) (s : Fin 1024) : EReal := m ((c : Thread nD τ).loc main_arg0) (ix3 0 r s)
def G (s : Fin 1024) : EReal := m ((c : Thread nD τ).loc main_arg1) (ix2 0 s)
def W (s : Fin 1024) : EReal := m ((c : Thread nD τ).loc main_arg2) (ix2 0 s)
def D (r : Fin 4096) (s : Fin 1024) : EReal := m ((c : Thread nD τ).loc main_arg4) (ix3 0 r s)
def E (r : Fin 4096) (s : Fin 1024) : EReal := m ((c : Thread nD τ).loc main_arg5) (ix3 0 r s)

theorem bound (t : Fin cfg0.N) : t.val < 8 := lt_of_lt_of_eq t.isLt (show cfg0.N = 8 from N_0)

theorem idx : ∀ t : Fin cfg0.N, win0_0.index t = ![0, 7 - t.val, 0] ∧ win0_1.index t = ![0, 0] ∧ win0_2.index t = ![0, 0] ∧ win0_3.index t = ![0, 0] ∧ win0_4.index t = ![0, 7 - t.val, 0] ∧ win0_5.index t = ![0, 7 - t.val, 0] ∧ win0_6.index t = ![0, 7 - t.val, 0] ∧ win0_7.index t = ![0, 0] ∧ win0_8.index t = ![0, 0] ∧ win0_9.index t = ![0, 0] :=
  (by decide +kernel : ∀ t : Fin grid0.N, win0_0.index t = ![0, 7 - t.val, 0] ∧ win0_1.index t = ![0, 0] ∧ win0_2.index t = ![0, 0] ∧ win0_3.index t = ![0, 0] ∧ win0_4.index t = ![0, 7 - t.val, 0] ∧ win0_5.index t = ![0, 7 - t.val, 0] ∧ win0_6.index t = ![0, 7 - t.val, 0] ∧ win0_7.index t = ![0, 0] ∧ win0_8.index t = ![0, 0] ∧ win0_9.index t = ![0, 0])

/-- The rows a grid point works on. -/
def row (t : Fin cfg0.N) (r : Fin 512) : Fin 4096 := place t.val r

theorem in0 (t : Fin cfg0.N) (r : Fin 512) (s : Fin 1024) : iblk m c 0 t (ix3 0 r s) = X m c (row t r) s := by
  unfold X
  rw [← V_main_arg0 m c]
  have := bound t
  unfold row place
  blk_ext [iblk, idx t]

theorem in1 (t : Fin cfg0.N) (s : Fin 1024) : iblk m c 1 t (ix2 0 s) = G m c s := by
  unfold G
  rw [← V_main_arg1 m c]
  have := bound t
  blk_ext [iblk, idx t]

theorem in2 (t : Fin cfg0.N) (s : Fin 1024) : iblk m c 2 t (ix2 0 s) = W m c s := by
  unfold W
  rw [← V_main_arg2 m c]
  have := bound t
  blk_ext [iblk, idx t]

theorem in4 (t : Fin cfg0.N) (r : Fin 512) (s : Fin 1024) : iblk m c 4 t (ix3 0 r s) = D m c (row t r) s := by
  unfold D
  rw [← V_main_arg4 m c]
  have := bound t
  unfold row place
  blk_ext [iblk, idx t]

theorem in5 (t : Fin cfg0.N) (r : Fin 512) (s : Fin 1024) : iblk m c 5 t (ix3 0 r s) = E m c (row t r) s := by
  unfold E
  rw [← V_main_arg5 m c]
  have := bound t
  unfold row place
  blk_ext [iblk, idx t]

/-- The gradient in the input, block by block. -/
theorem dx_apply (t : Fin cfg0.N) (r : Fin 512) (s : Fin 1024) :
    k0_pay15 (k0_pay2 (iblk m c 0 t)) (k0_pay5 (iblk m c 0 t)) (k0_pay6 (iblk m c 0 t)) (k0_pay13 (iblk m c 1 t) (iblk m c 2 t) (iblk m c 4 t)) (k0_pay14 (iblk m c 0 t) (iblk m c 1 t) (iblk m c 2 t) (iblk m c 4 t)) (iblk m c 5 t) (ix3 0 r s)
      = dx (X m c (row t r)) (G m c) (W m c) (D m c (row t r)) (E m c (row t r)) s := by
  pointwise [k0_pay2, k0_pay3, k0_pay4, k0_pay5, k0_pay6, k0_pay8, k0_pay11, k0_pay13, k0_pay14, k0_pay15]
  simp only [Finset.univ_unique, Finset.sum_singleton, in0 m c t, in1 m c t, in2 m c t, in4 m c t, in5 m c t]
  rfl

/-- What a chunk of rows adds to the gradients in the weight, the scale and the shift. -/
theorem dg_apply (t : Fin cfg0.N) (s : Fin 1024) :
    k0_pay12 (iblk m c 0 t) (iblk m c 2 t) (iblk m c 4 t) (ix2 0 s) = ∑ z : Fin 512, dg (X m c (row t z)) (W m c) (D m c (row t z)) s := by
  pointwise [k0_pay2, k0_pay3, k0_pay4, k0_pay5, k0_pay7, k0_pay8, k0_pay11, k0_pay12]
  simp only [Finset.univ_unique, Finset.sum_singleton, in0 m c t, in1 m c t, in2 m c t, in4 m c t, in5 m c t]
  rfl

theorem dw_apply (t : Fin cfg0.N) (s : Fin 1024) :
    k0_pay10 (iblk m c 0 t) (iblk m c 1 t) (iblk m c 4 t) (ix2 0 s) = ∑ z : Fin 512, dw (X m c (row t z)) (G m c) (D m c (row t z)) s := by
  pointwise [k0_pay2, k0_pay3, k0_pay4, k0_pay5, k0_pay7, k0_pay8, k0_pay10]
  simp only [Finset.univ_unique, Finset.sum_singleton, in0 m c t, in1 m c t, in2 m c t, in4 m c t, in5 m c t]
  rfl

theorem dh_apply (t : Fin cfg0.N) (s : Fin 1024) : k0_pay9 (iblk m c 4 t) (ix2 0 s) = ∑ z : Fin 512, D m c (row t z) s := by
  pointwise [k0_pay3, k0_pay9]
  simp only [Finset.univ_unique, Finset.sum_singleton, in0 m c t, in1 m c t, in2 m c t, in4 m c t, in5 m c t]

theorem add_apply (v acc : Vec Ideal S1x1024 .f32) (s : Fin 1024) :
    k0_pay16 v acc (ix2 0 s) = acc (ix2 0 s) + v (ix2 0 s) ∧ k0_pay17 v acc (ix2 0 s) = acc (ix2 0 s) + v (ix2 0 s) ∧ k0_pay1 v acc (ix2 0 s) = acc (ix2 0 s) + v (ix2 0 s) := by
  refine ⟨?_, ?_, ?_⟩
  · pointwise [k0_pay16]
  · pointwise [k0_pay17]
  · pointwise [k0_pay1]

/-- A grid point is the first or a later one. -/
theorem first_eq (t : Fin cfg0.N) (h : t.val = 0) : t.val % 8 = 0 ∧ ¬1 ≤ t.val := by omega
theorem later_eq (t : Fin cfg0.N) (h : t.val ≠ 0) : ¬t.val % 8 = 0 ∧ 1 ≤ t.val := by have := bound t; omega

/-- The blocks of a grid point. -/
theorem point_dx (t : Fin cfg0.N) (r : Fin 512) (s : Fin 1024) :
    (outsAt0 m c t.val t.isLt).1 (ix3 0 r s) = dx (X m c (row t r)) (G m c) (W m c) (D m c (row t r)) (E m c (row t r)) s := by
  by_cases h : t.val = 0
  · obtain ⟨h0, h1⟩ := first_eq t h
    rw [outsAt0_A m c t h0 h1 h0 h1 h0 h1]
    dsimp only
    rw [out_A6, dx_apply]
  · obtain ⟨h0, h1⟩ := later_eq t h
    rw [outsAt0_B m c t h0 h1 h0 h1 h0 h1]
    dsimp only
    rw [out_B6, dx_apply]

theorem point_dg (t : Fin cfg0.N) (h : t.val % 8 = 7) (s : Fin 1024) : (outsAt0 m c t.val t.isLt).2.1 (ix2 0 s) = ∑ k, dg (X m c k) (W m c) (D m c k) s := by
  refine chunks N_0 (fun n hn s => (outsAt0 m c n hn).2.1 (ix2 0 s)) (fun s k => dg (X m c k) (W m c) (D m c k) s) ?_ ?_ t.val t.isLt h s
  · intro hn s
    obtain ⟨h0, h1⟩ := first_eq ⟨0, hn⟩ rfl
    rw [show outsAt0 m c 0 hn = _ from outsAt0_A m c ⟨0, hn⟩ h0 h1 h0 h1 h0 h1]
    dsimp only
    rw [out_A7, dg_apply]
    rfl
  · intro n hn hn' s h
    obtain ⟨h0, h1⟩ := later_eq ⟨n, hn⟩ h
    rw [show outsAt0 m c n hn = _ from outsAt0_B m c ⟨n, hn⟩ h0 h1 h0 h1 h0 h1]
    dsimp only
    rw [out_B7, (add_apply _ _ s).1, dg_apply]
    rfl

theorem point_dw (t : Fin cfg0.N) (h : t.val % 8 = 7) (s : Fin 1024) : (outsAt0 m c t.val t.isLt).2.2.1 (ix2 0 s) = ∑ k, dw (X m c k) (G m c) (D m c k) s := by
  refine chunks N_0 (fun n hn s => (outsAt0 m c n hn).2.2.1 (ix2 0 s)) (fun s k => dw (X m c k) (G m c) (D m c k) s) ?_ ?_ t.val t.isLt h s
  · intro hn s
    obtain ⟨h0, h1⟩ := first_eq ⟨0, hn⟩ rfl
    rw [show outsAt0 m c 0 hn = _ from outsAt0_A m c ⟨0, hn⟩ h0 h1 h0 h1 h0 h1]
    dsimp only
    rw [out_A8, dw_apply]
    rfl
  · intro n hn hn' s h
    obtain ⟨h0, h1⟩ := later_eq ⟨n, hn⟩ h
    rw [show outsAt0 m c n hn = _ from outsAt0_B m c ⟨n, hn⟩ h0 h1 h0 h1 h0 h1]
    dsimp only
    rw [out_B8, (add_apply _ _ s).2.1, dw_apply]
    rfl

theorem point_dh (t : Fin cfg0.N) (h : t.val % 8 = 7) (s : Fin 1024) : (outsAt0 m c t.val t.isLt).2.2.2 (ix2 0 s) = ∑ k, D m c k s := by
  refine chunks N_0 (fun n hn s => (outsAt0 m c n hn).2.2.2 (ix2 0 s)) (fun s k => D m c k s) ?_ ?_ t.val t.isLt h s
  · intro hn s
    obtain ⟨h0, h1⟩ := first_eq ⟨0, hn⟩ rfl
    rw [show outsAt0 m c 0 hn = _ from outsAt0_A m c ⟨0, hn⟩ h0 h1 h0 h1 h0 h1]
    dsimp only
    rw [out_A9, dh_apply]
    rfl
  · intro n hn hn' s h
    obtain ⟨h0, h1⟩ := later_eq ⟨n, hn⟩ h
    rw [show outsAt0 m c n hn = _ from outsAt0_B m c ⟨n, hn⟩ h0 h1 h0 h1 h0 h1]
    dsimp only
    rw [out_B9, (add_apply _ _ s).2.2, dh_apply]
    rfl

/-- The four result arrays. -/
theorem result_dx : (dats m 0 c).arrAt 6 cfg0.N = fun i : S1x4096x1024.Idx => dx (X m c (i 1)) (G m c) (W m c) (D m c (i 1)) (E m c (i 1)) (i 2) := by
  refine (dats m 0 c).arrAt_eq_of_covers 6 _ (by decide +kernel) fun t hf y => ?_
  blk_simp
  rw [after0_6]
  have hN := bound t
  have e1 : (win0_6.blk t).view.emb y 1 = row t (y 1) := by
    apply Fin.ext
    blk_simp [idx t] <;> rfl
  have e2 : (win0_6.blk t).view.emb y 2 = y 2 := by
    apply Fin.ext
    blk_simp [idx t]
  have hy : y = (ix3 0 (y 1) (y 2) : S1x512x1024.Idx) := by
    refine (eq_ix3 y).trans ?_
    rw [show y 0 = (0 : Fin 1) from Fin.ext (by have : (y 0).val < 1 := (y 0).isLt; show (y 0).val = 0; omega)]
  rw [e1, e2]
  exact (congrArg _ hy).trans (point_dx m c t (y 1) (y 2))

theorem result_dg : (dats m 0 c).arrAt 7 cfg0.N = fun i : S1x1024.Idx => (∑ k, dg (X m c k) (W m c) (D m c k) (i 1) : EReal) := by
  refine (dats m 0 c).arrAt_eq_of_covers 7 _ (by decide +kernel) fun t hf y => ?_
  have h := (flush0_7 t).mp hf
  blk_simp
  rw [after0_7]
  have hN := bound t
  have e1 : (win0_7.blk t).view.emb y 1 = y 1 := by
    apply Fin.ext
    blk_simp [idx t]
  have hy : y = (ix2 0 (y 1) : S1x1024.Idx) := by
    refine (eq_ix2 y).trans ?_
    rw [show y 0 = (0 : Fin 1) from Fin.ext (by have : (y 0).val < 1 := (y 0).isLt; show (y 0).val = 0; omega)]
  rw [e1]
  exact (congrArg _ hy).trans (point_dg m c t h (y 1))

theorem result_dw : (dats m 0 c).arrAt 8 cfg0.N = fun i : S1x1024.Idx => (∑ k, dw (X m c k) (G m c) (D m c k) (i 1) : EReal) := by
  refine (dats m 0 c).arrAt_eq_of_covers 8 _ (by decide +kernel) fun t hf y => ?_
  have h := (flush0_8 t).mp hf
  blk_simp
  rw [after0_8]
  have hN := bound t
  have e1 : (win0_8.blk t).view.emb y 1 = y 1 := by
    apply Fin.ext
    blk_simp [idx t]
  have hy : y = (ix2 0 (y 1) : S1x1024.Idx) := by
    refine (eq_ix2 y).trans ?_
    rw [show y 0 = (0 : Fin 1) from Fin.ext (by have : (y 0).val < 1 := (y 0).isLt; show (y 0).val = 0; omega)]
  rw [e1]
  exact (congrArg _ hy).trans (point_dw m c t h (y 1))

theorem result_dh : (dats m 0 c).arrAt 9 cfg0.N = fun i : S1x1024.Idx => (∑ k, D m c k (i 1) : EReal) := by
  refine (dats m 0 c).arrAt_eq_of_covers 9 _ (by decide +kernel) fun t hf y => ?_
  have h := (flush0_9 t).mp hf
  blk_simp
  rw [after0_9]
  have hN := bound t
  have e1 : (win0_9.blk t).view.emb y 1 = y 1 := by
    apply Fin.ext
    blk_simp [idx t]
  have hy : y = (ix2 0 (y 1) : S1x1024.Idx) := by
    refine (eq_ix2 y).trans ?_
    rw [show y 0 = (0 : Fin 1) from Fin.ext (by have : (y 0).val < 1 := (y 0).isLt; show (y 0).val = 0; omega)]
  rw [e1]
  exact (congrArg _ hy).trans (point_dh m c t h (y 1))

end Cert.Norm

end
-- ==== Proof.Row.NormClaims.lean ====
/-
  The claims about the gradient of the modulated norm.
-/
module

public import proofs.«01_k».proof.Defs
public import proofs.«01_k».proof.Proof.Gen.Kernel14
public import proofs.«01_k».proof.Proof.Gen.Kernel14.Frame
public import proofs.«01_k».proof.Proof.Gen.Kernel14Ideal.Frame
public import proofs.«01_k».proof.Proof.Gen.Reference14Ideal
public import proofs.«01_k».proof.Proof.Gen.Reference14Ideal.Read
public import proofs.«01_k».proof.Proof.Row.Norm
public import Idealize.ShloMosaic.Adequacy
public import Idealize.ShloMosaic.Init

@[expose] public section

set_option maxRecDepth 16384

noncomputable section

namespace Cert.Norm.Claims

open Idealize.ShloMosaic Idealize.SL.Sem
open Cert.Reference14Ideal.Read

theorem frame_p : Cert.quiescent_Kernel14 := fun m ρ _ => Cert.Kernel14.Gen.frame m ρ

theorem frame_pi : Cert.quiescent_Kernel14Ideal := fun m ρ _ => Cert.Kernel14Ideal.Gen.frame m ρ

theorem frame_ri : Cert.quiescent_Reference14Ideal := fun m ρ _ =>
  (θ_run Cert.Reference14Ideal.defs _ _).mono (fun r h => ⟨fun c => (h c).2.2.2.2,
      Idealize.ShloMosaic.sem_eq_zero_of_no_sems (by decide) r.2⟩)
    (Cert.Reference14Ideal.Value.run (F := Ideal) m ρ)

theorem preserves : Cert.preserves_Kernel14_Kernel14Ideal := trivial

/-- The reference's results, entry by entry. -/
theorem reference_dx (x0 : Cert.Reference14Ideal.S1x4096x1024.Idx → EReal) (x1 x2 : Cert.Reference14Ideal.S1x1024.Idx → EReal) (x4 x5 : Cert.Reference14Ideal.S1x4096x1024.Idx → EReal) (z : Fin 1) (r : Fin 4096) (s : Fin 1024) :
    (val_main_v51 (F := Ideal) x0 x1 x2 x4 x5) (ix3 z r s)
      = dx (fun s => x0 (ix3 0 r s)) (fun s => x1 (ix2 0 s)) (fun s => x2 (ix2 0 s)) (fun s => x4 (ix3 0 r s)) (fun s => x5 (ix3 0 r s)) s := by
  obtain rfl : z = 0 := Subsingleton.elim _ _
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_cst_3, val_main_v16, val_main_v17, val_main_v18, val_main_v19, val_main_v20, val_main_v21, val_main_v22, val_main_cst_4, val_main_v23, val_main_cst_5, val_main_v24, val_main_v25, val_main_v26, val_main_cst_6, val_main_v27, val_main_v28, val_main_v29, val_main_v30, val_main_v31, val_main_cst_7, val_main_v32, val_main_v33, val_main_v34, val_main_v35, val_main_v36, val_main_cst_8, val_main_v37, val_main_v38, val_main_v39, val_main_v40, val_main_v41, val_main_cst_9, val_main_v42, val_main_v43, val_main_cst_10, val_main_v44, val_main_v45, val_main_v46, val_main_v47, val_main_v48, val_main_v49, val_main_v50, val_main_v51]
  simp only [Finset.univ_unique, Finset.sum_singleton, zero_add]
  exact add_comm _ _

theorem reference_dg (x0 : Cert.Reference14Ideal.S1x4096x1024.Idx → EReal) (x2 : Cert.Reference14Ideal.S1x1024.Idx → EReal) (x4 : Cert.Reference14Ideal.S1x4096x1024.Idx → EReal) (z : Fin 1) (s : Fin 1024) :
    (val_main_v33 (F := Ideal) x0 x2 x4) (ix2 z s)
      = ∑ k : Fin 4096, dg (fun s => x0 (ix3 0 k s)) (fun s => x2 (ix2 0 s)) (fun s => x4 (ix3 0 k s)) s := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_cst_3, val_main_v16, val_main_v17, val_main_v18, val_main_v19, val_main_v20, val_main_v21, val_main_v22, val_main_cst_4, val_main_v23, val_main_cst_5, val_main_v24, val_main_v25, val_main_v26, val_main_cst_6, val_main_v27, val_main_v28, val_main_v29, val_main_v30, val_main_v31, val_main_cst_7, val_main_v32, val_main_v33, val_main_v34, val_main_v35, val_main_v36, val_main_cst_8, val_main_v37, val_main_v38, val_main_v39, val_main_v40, val_main_v41, val_main_cst_9, val_main_v42, val_main_v43, val_main_cst_10, val_main_v44, val_main_v45, val_main_v46, val_main_v47, val_main_v48, val_main_v49, val_main_v50, val_main_v51]
  simp only [Finset.univ_unique, Finset.sum_singleton, zero_add]
  rfl

theorem reference_dw (x0 : Cert.Reference14Ideal.S1x4096x1024.Idx → EReal) (x1 : Cert.Reference14Ideal.S1x1024.Idx → EReal) (x4 : Cert.Reference14Ideal.S1x4096x1024.Idx → EReal) (z : Fin 1) (s : Fin 1024) :
    (val_main_v28 (F := Ideal) x0 x1 x4) (ix2 z s)
      = ∑ k : Fin 4096, dw (fun s => x0 (ix3 0 k s)) (fun s => x1 (ix2 0 s)) (fun s => x4 (ix3 0 k s)) s := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_cst_3, val_main_v16, val_main_v17, val_main_v18, val_main_v19, val_main_v20, val_main_v21, val_main_v22, val_main_cst_4, val_main_v23, val_main_cst_5, val_main_v24, val_main_v25, val_main_v26, val_main_cst_6, val_main_v27, val_main_v28, val_main_v29, val_main_v30, val_main_v31, val_main_cst_7, val_main_v32, val_main_v33, val_main_v34, val_main_v35, val_main_v36, val_main_cst_8, val_main_v37, val_main_v38, val_main_v39, val_main_v40, val_main_v41, val_main_cst_9, val_main_v42, val_main_v43, val_main_cst_10, val_main_v44, val_main_v45, val_main_v46, val_main_v47, val_main_v48, val_main_v49, val_main_v50, val_main_v51]
  simp only [Finset.univ_unique, Finset.sum_singleton, zero_add]
  rfl

theorem reference_dh (x4 : Cert.Reference14Ideal.S1x4096x1024.Idx → EReal) (z : Fin 1) (s : Fin 1024) :
    (val_main_v25 (F := Ideal) x4) (ix2 z s) = ∑ k : Fin 4096, x4 (ix3 0 k s) := by
  pointwise [val_main_cst_4, val_main_v23, val_main_cst_5, val_main_v24, val_main_v25]
  simp only [Finset.univ_unique, Finset.sum_singleton, zero_add]
  rfl

/-- Both programs end at the same four arrays. -/
theorem algebraic : Cert.algebraic_Kernel14Ideal_Reference14Ideal := by
  intro m g m' g' _ hargs
  refine ⟨fun c => (fun i : Cert.Kernel14Ideal.S1x4096x1024.Idx => dx (X m c (i 1)) (G m c) (W m c) (D m c (i 1)) (E m c (i 1)) (i 2)),
    fun c => (fun i : Cert.Kernel14Ideal.S1x1024.Idx => (∑ k, dg (X m c k) (W m c) (D m c k) (i 1) : EReal)),
    fun c => (fun i : Cert.Kernel14Ideal.S1x1024.Idx => (∑ k, dw (X m c k) (G m c) (D m c k) (i 1) : EReal)),
    fun c => (fun i : Cert.Kernel14Ideal.S1x1024.Idx => (∑ k, D m c k (i 1) : EReal)), ?_, ?_⟩
  · exact (θ_run Cert.Kernel14Ideal.defs _ _).mono
      (fun r h c => ⟨(h c).1.trans (result_dx m c), (h c).2.1.trans (result_dg m c), (h c).2.2.1.trans (result_dw m c), (h c).2.2.2.1.trans (result_dh m c), (h c).2.2.2.2⟩)
      (Cert.Kernel14Ideal.Value.run_blocks m g)
  · refine (θ_run Cert.Reference14Ideal.defs _ _).mono
      (fun r h c => ⟨(h c).1.trans ?_, (h c).2.1.trans ?_, (h c).2.2.1.trans ?_, (h c).2.2.2.1.trans ?_, (h c).2.2.2.2⟩) (Cert.Reference14Ideal.Value.run m' g')
    · obtain ⟨e0, e1, e2, e3, e4, e5⟩ := hargs c
      refine (val_main_v51_eq m' c).trans ?_
      rw [e0, e1, e2, e4, e5]
      exact funext fun i => (congrArg _ (eq_ix3 i)).trans (reference_dx _ _ _ _ _ (i 0) (i 1) (i 2))
    · obtain ⟨e0, e1, e2, e3, e4, e5⟩ := hargs c
      refine (val_main_v33_eq _ _ _).trans ?_
      rw [e0, e2, e4]
      exact funext fun i => (congrArg _ (eq_ix2 i)).trans (reference_dg _ _ _ (i 0) (i 1))
    · obtain ⟨e0, e1, e2, e3, e4, e5⟩ := hargs c
      refine (val_main_v28_eq _ _ _).trans ?_
      rw [e0, e1, e4]
      exact funext fun i => (congrArg _ (eq_ix2 i)).trans (reference_dw _ _ _ (i 0) (i 1))
    · obtain ⟨e0, e1, e2, e3, e4, e5⟩ := hargs c
      refine (val_main_v25_eq _).trans ?_
      rw [e4]
      exact funext fun i => (congrArg _ (eq_ix2 i)).trans (reference_dh _ (i 0) (i 1))

end Cert.Norm.Claims

end
-- ==== Proof.Row.FfnSpec.lean ====
/-
  The gradient of the causal convolution and the gate between the feed-forward layer's projections: what it is, entry by entry.
  The columns lie in two halves of 2816, each a gate block of 1408 columns and then the block it gates.
-/
module

public import proofs.«01_k».proof.Proof.Row.Common

@[expose] public section

noncomputable section

namespace Cert.Ffn

open Idealize.ShloMosaic

/-- The gate column and the gated column a column belongs with, and the column of their product. -/
def gate (p : Fin 5632) : Fin 5632 := ⟨p.val / 2816 * 2816 + p.val % 1408, by have := p.isLt; omega⟩
def gated (p : Fin 5632) : Fin 5632 := ⟨p.val / 2816 * 2816 + 1408 + p.val % 1408, by have := p.isLt; omega⟩
def prod (p : Fin 5632) : Fin 2816 := ⟨p.val / 2816 * 1408 + p.val % 1408, by have := p.isLt; omega⟩

section Spec
variable (U : Fin 4096 → Fin 5632 → EReal) (W : Fin 3 → Fin 5632 → EReal) (B : Fin 5632 → EReal) (D : Fin 4096 → Fin 2816 → EReal)

/-- The rows with two rows of zeros before them. -/
def above (n : ℕ) (p : Fin 5632) : EReal := if h : 2 ≤ n ∧ n < 4098 then U ⟨n - 2, by omega⟩ p else 0

theorem above_two (r : Fin 4096) (p : Fin 5632) : above U (r.val + 2) p = U r p := by
  have := r.isLt
  unfold above
  rw [dif_pos (by omega)]
  rfl

/-- The convolution over a row and the two before it. -/
def conv (r : Fin 4096) (p : Fin 5632) : EReal := B p + W 0 p * above U r.val p + W 1 p * above U (r.val + 1) p + W 2 p * U r p

/-- The gradient in the convolution's result. -/
def dz (r : Fin 4096) (p : Fin 5632) : EReal :=
  if p.val % 2816 < 1408 then
    D r (prod p) * conv U W B r (gated p) * Ideal.logistic (conv U W B r (gate p))
      + conv U W B r (gate p) * (D r (prod p) * conv U W B r (gated p))
        * (Ideal.logistic (conv U W B r (gate p)) * (1 - Ideal.logistic (conv U W B r (gate p))))
  else conv U W B r (gate p) * Ideal.logistic (conv U W B r (gate p)) * D r (prod p)

/-- A tap's share of a row's gradient; zero past the last row. -/
def tap (k : Fin 3) (n : ℕ) (p : Fin 5632) : EReal := if h : n < 4096 then W k p * dz U W B D ⟨n, h⟩ p else 0

/-- The gradients in the rows, in the taps and in the bias. -/
def dup (r : Fin 4096) (p : Fin 5632) : EReal := tap U W B D 2 r.val p + tap U W B D 1 (r.val + 1) p + tap U W B D 0 (r.val + 2) p
def dcw (k : Fin 3) (p : Fin 5632) : EReal := ∑ r : Fin 4096, dz U W B D r p * above U (r.val + k.val) p
def dcb (p : Fin 5632) : EReal := ∑ r : Fin 4096, dz U W B D r p
end Spec

/-- The logistic function from the hyperbolic tangent, and its slope, at the infinities too. -/
theorem half_bits : Ideal.ofBits FTy.f32 1056964608#32 = ((1 / 2 : ℝ) : EReal) := by
  simp [Ideal.ofBits, Ideal.ieee, -EReal.coe_mul]
  norm_num

theorem real_half (r : ℝ) : 1 / 2 * Real.tanh (1 / 2 * r) + 1 / 2 = (1 + Real.exp (-r))⁻¹ := by
  have h : Real.exp (-r) = Real.exp (-(1 / 2 * r)) * Real.exp (-(1 / 2 * r)) := by
    rw [← Real.exp_add]
    congr 1
    ring
  rw [h, Real.tanh_eq_sinh_div_cosh, Real.sinh_eq, Real.cosh_eq, Real.exp_neg]
  have := Real.exp_pos (1 / 2 * r)
  field_simp
  ring

theorem half_tanh (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, show (-1 : EReal) = ((-1 : ℝ) : EReal) from rfl,
      ← EReal.coe_mul, ← EReal.coe_add]
    norm_num
  | coe r =>
    rw [← EReal.coe_mul, Ideal.tanh_coe, Ideal.logistic_coe, ← EReal.coe_mul, ← EReal.coe_add, real_half]
  | top =>
    rw [EReal.coe_mul_top_of_pos (by norm_num), Ideal.tanh_top, Ideal.logistic_top, show (1 : EReal) = ((1 : ℝ) : EReal) from rfl,
      ← EReal.coe_mul, ← EReal.coe_add]
    norm_num

theorem slope (x : EReal) : ((1 / 2 : ℝ) : EReal) * (((1 / 2 : ℝ) : EReal) * ((1 + Ideal.tanh (((1 / 2 : ℝ) : EReal) * x)) * (1 - Ideal.tanh (((1 / 2 : ℝ) : EReal) * x))))
    = Ideal.logistic x * (1 - Ideal.logistic x) := by
  rw [← half_tanh, show (1 : EReal) = ((1 : ℝ) : EReal) from rfl]
  obtain ⟨t, ht⟩ : ∃ t : ℝ, Ideal.tanh (((1 / 2 : ℝ) : EReal) * x) = (t : EReal) := by
    induction x with
    | bot => exact ⟨-1, by rw [EReal.coe_mul_bot_of_pos (by norm_num), Ideal.tanh_bot]; rfl⟩
    | coe r => exact ⟨_, by rw [← EReal.coe_mul, Ideal.tanh_coe]⟩
    | top => exact ⟨1, by rw [EReal.coe_mul_top_of_pos (by norm_num), Ideal.tanh_top]; rfl⟩
  rw [ht]
  simp only [← EReal.coe_mul, ← EReal.coe_add, ← EReal.coe_sub]
  congr 1
  ring

/-- The gradient through the gate as the kernel groups it. -/
theorem gate_slope (h x g : EReal) (hh : h = ((1 / 2 : ℝ) : EReal)) :
    x * (h * Ideal.tanh (h * g) + h) + h * (h * (g * x) * ((1 + Ideal.tanh (h * g)) * (1 - Ideal.tanh (h * g))))
      = x * Ideal.logistic g + g * x * (Ideal.logistic g * (1 - Ideal.logistic g)) := by
  subst hh
  rw [half_tanh, ← slope]
  congr 1
  ac_rfl

theorem gate_value (h g : EReal) (hh : h = ((1 / 2 : ℝ) : EReal)) : g * (h * Ideal.tanh (h * g) + h) = g * Ideal.logistic g := by
  subst hh
  rw [half_tanh]

end Cert.Ffn

end
-- ==== Proof.Row.Ffn.lean ====
/-
  The gradient of the causal convolution and the gate between the feed-forward layer's projections: the blocks the grid points
  read, and what they make of them.
-/
module

public import proofs.«01_k».proof.Proof.Row.FfnSpec
public import proofs.«01_k».proof.Proof.Gen.Kernel15Ideal.Value

@[expose] public section

set_option maxRecDepth 65536

noncomputable section

namespace Cert.Ffn

open Idealize.ShloMosaic Idealize.ShloMosaic.TcCoe Idealize.SL.Sem
open Idealize.ShloMosaic.Pipeline (Dat)
open Cert.Kernel15Ideal Cert.Kernel15Ideal.Gen Cert.Mm Cert.Row

variable (m : (ℓ : Loc nD τ sig) → Buf (Elt Ideal) ℓ) (c : Dev nD)

/-- The arguments, entry by entry. -/
def U (r : Fin 4096) (p : Fin 5632) : EReal := m ((c : Thread nD τ).loc main_arg0) (ix3 0 r p)
def W (k : Fin 3) (p : Fin 5632) : EReal := m ((c : Thread nD τ).loc main_arg1) (ix2 k p)
def B (p : Fin 5632) : EReal := m ((c : Thread nD τ).loc main_arg2) (ix2 0 p)
def D (r : Fin 4096) (x : Fin 2816) : EReal := m ((c : Thread nD τ).loc main_arg3) (ix3 0 r x)

theorem bound (t : Fin cfg0.N) : t.val < 32 := lt_of_lt_of_eq t.isLt (show cfg0.N = 32 from N_0)

theorem idx : ∀ t : Fin cfg0.N, win0_0.index t = ![0, 15 - t.val % 16, t.val / 16] ∧ win0_1.index t = ![0, t.val / 16] ∧ win0_2.index t = ![0, t.val / 16]
    ∧ win0_3.index t = ![t.val / 16, 15 - t.val % 16, 0, 0] ∧ win0_4.index t = ![0, 15 - t.val % 16, t.val / 16]
    ∧ win0_5.index t = ![0, 15 - t.val % 16, t.val / 16] ∧ win0_6.index t = ![0, t.val / 16] ∧ win0_7.index t = ![0, t.val / 16] :=
  (by decide +kernel : ∀ t : Fin grid0.N, win0_0.index t = ![0, 15 - t.val % 16, t.val / 16] ∧ win0_1.index t = ![0, t.val / 16] ∧ win0_2.index t = ![0, t.val / 16]
    ∧ win0_3.index t = ![t.val / 16, 15 - t.val % 16, 0, 0] ∧ win0_4.index t = ![0, 15 - t.val % 16, t.val / 16]
    ∧ win0_5.index t = ![0, 15 - t.val % 16, t.val / 16] ∧ win0_6.index t = ![0, t.val / 16] ∧ win0_7.index t = ![0, t.val / 16])

/-- The rows and the columns a grid point works on. -/
def row (n : ℕ) (i : Fin 256) : Fin 4096 := ⟨(15 - n % 16) * 256 + i.val, by have := i.isLt; omega⟩
def col (n : ℕ) (q : Fin 2816) : Fin 5632 := ⟨n / 16 % 2 * 2816 + q.val, by have := q.isLt; omega⟩
def half (n : ℕ) (x : Fin 1408) : Fin 2816 := ⟨n / 16 % 2 * 1408 + x.val, by have := x.isLt; omega⟩

theorem in0 (t : Fin cfg0.N) (i : Fin 256) (q : Fin 2816) : iblk m c 0 t (ix3 0 i q) = U m c (row t.val i) (col t.val q) := by
  unfold U
  rw [← V_main_arg0 m c]
  have := bound t
  have h2 : t.val / 16 % 2 = t.val / 16 := by omega
  unfold row col
  simp only [h2]
  blk_ext [iblk, idx t]

theorem in1 (t : Fin cfg0.N) (k : Fin 3) (q : Fin 2816) : iblk m c 1 t (ix2 k q) = W m c k (col t.val q) := by
  unfold W
  rw [← V_main_arg1 m c]
  have := bound t
  have h2 : t.val / 16 % 2 = t.val / 16 := by omega
  unfold col
  simp only [h2]
  blk_ext [iblk, idx t]

theorem in2 (t : Fin cfg0.N) (q : Fin 2816) : iblk m c 2 t (ix2 0 q) = B m c (col t.val q) := by
  unfold B
  rw [← V_main_arg2 m c]
  have := bound t
  have h2 : t.val / 16 % 2 = t.val / 16 := by omega
  unfold col
  simp only [h2]
  blk_ext [iblk, idx t]

theorem in4 (t : Fin cfg0.N) (i : Fin 256) (x : Fin 1408) : iblk m c 4 t (ix3 0 i x) = D m c (row t.val i) (half t.val x) := by
  unfold D
  rw [← V_main_arg3 m c]
  have := bound t
  have h2 : t.val / 16 % 2 = t.val / 16 := by omega
  unfold row half
  simp only [h2]
  blk_ext [iblk, idx t]

/-- The eight rows before each chunk, as the host lays them out: zeros, then all chunks' last rows but the last's. -/
def before (x : FVec Ideal S1x4096x5632 .f32) : FVec Ideal S2x16x8x2816 .f32 :=
  concatenate S2x16x8x2816 1 [⟨S2x1x8x2816, broadcastInDim S2x1x8x2816 ![] bcast_S_S2x1x8x2816 (constant S_ .f32 0x00000000#32)⟩,
    ⟨S2x15x8x2816, extractStridedSlice S2x15x8x2816 ![0, 0, 0, 0]
      (transpose S2x16x8x2816 [2, 0, 1, 3] (extractStridedSlice S16x8x2x2816 ![0, 248, 0, 0]
        (shapeCast S16x256x2x2816 (shapeCast S4096x5632 x shapeCasts_S1x4096x5632_S4096x5632) shapeCasts_S4096x5632_S16x256x2x2816)
        slices_S16x256x2x2816_S16x8x2x2816_0_248_0_0) transposes_S16x8x2x2816_S2x16x8x2816_2_0_1_3)
      slices_S2x16x8x2816_S2x15x8x2816_0_0_0_0⟩] concatenates_S2x1x8x2816_S2x15x8x2816_S2x16x8x2816_d1

theorem V6_eq : V m c main_v6 = before (m ((c : Thread nD τ).loc main_arg0)) := by
  entry_read
  rfl

theorem read3 (A : FVec Ideal S2x16x8x2816 .f32) (t : Fin cfg0.N) (j : Fin 8) (q : Fin 2816) :
    View.read (Elt Ideal) ((cfg0.win 3).blk t).view A (ix4 0 0 j q)
      = A (ix4 ⟨t.val / 16 % 2, by omega⟩ ⟨15 - t.val % 16, by omega⟩ j q) := by
  have := bound t
  have h2 : t.val / 16 % 2 = t.val / 16 := by omega
  simp only [h2]
  blk_ext [idx t]

theorem in3 (t : Fin cfg0.N) (j : Fin 8) (q : Fin 2816) :
    iblk m c 3 t (ix4 0 0 j q) = above (U m c) ((15 - t.val % 16) * 256 + j.val - 6) (col t.val q) := by
  refine (read3 (V m c main_v6) t j q).trans ?_
  rw [V6_eq]
  unfold U above col
  generalize m ((c : Thread nD τ).loc main_arg0) = x
  pointwise [before]
  have := bound t
  have hj := j.isLt
  by_cases h : 15 - t.val % 16 < 1
  · rw [dif_pos h, dif_neg (by omega)]
  · rw [dif_neg h, dif_pos (by omega)]
    congr 2
    apply Fin.ext
    show (15 - t.val % 16 - 1) * 256 + (248 + j.val) = (15 - t.val % 16) * 256 + j.val - 6 - 2
    omega

/-- A choice by a comparison of small numbers. -/
theorem pick (P : Prop) [Decidable P] (a b : EReal) : Scalar.select (if P then 1#1 else 0#1) a b = if P then a else b := by
  unfold Scalar.select
  by_cases h : P
  · rw [if_pos h, if_pos h]
    exact if_pos rfl
  · rw [if_neg h, if_neg h, if_neg (by decide)]

theorem word_lt (i : Fin 256) : IntOp.cmpi .slt (BitVec.ofNat 32 i.val) 255#32 = (if i.val < 255 then 1#1 else 0#1)
    ∧ IntOp.cmpi .slt (BitVec.ofNat 32 i.val) 254#32 = (if i.val < 254 then 1#1 else 0#1) := by
  revert i
  decide +kernel

theorem word_ge (j : Fin 8) : IntOp.cmpi .sge (BitVec.ofNat 32 j.val) 7#32 = (if 7 ≤ j.val then 1#1 else 0#1)
    ∧ IntOp.cmpi .sge (BitVec.ofNat 32 j.val) 6#32 = (if 6 ≤ j.val then 1#1 else 0#1) := by
  revert j
  decide +kernel

theorem word_eq (k : Fin 3) : IntOp.cmpi .eq (BitVec.ofNat 32 k.val) 0#32 = (if k = 0 then 1#1 else 0#1)
    ∧ IntOp.cmpi .eq (BitVec.ofNat 32 k.val) 1#32 = (if k = 1 then 1#1 else 0#1)
    ∧ IntOp.cmpi .eq (BitVec.ofNat 32 k.val) 2#32 = (if k = 2 then 1#1 else 0#1) := by
  revert k
  decide +kernel

/-- The three taps, each picked out of its row. -/
theorem pay7_apply (w : Vec Ideal S3x2816 .f32) (q : Fin 2816) : k0_pay7 w (ix2 0 q) = w (ix2 0 q) := by
  pointwise [k0_pay7, k0_pay6]
  simp only [(word_eq _).1, pick, Finset.sum_ite_eq', Finset.mem_univ, if_true]

theorem pay11_apply (w : Vec Ideal S3x2816 .f32) (q : Fin 2816) : k0_pay12 (k0_pay11 w) (ix2 0 q) = w (ix2 1 q) := by
  pointwise [k0_pay12, k0_pay11, k0_pay10]
  simp only [(word_eq _).2.1, pick, Finset.sum_ite_eq', Finset.mem_univ, if_true]

theorem pay15_apply (w : Vec Ideal S3x2816 .f32) (q : Fin 2816) : k0_pay15 w (ix2 0 q) = w (ix2 2 q) := by
  pointwise [k0_pay15, k0_pay14]
  simp only [(word_eq _).2.2, pick, Finset.sum_ite_eq', Finset.mem_univ, if_true]

/-- The rows two and one before a row. -/
theorem pay8_apply (t : Fin cfg0.N) (i : Fin 256) (q : Fin 2816) :
    k0_pay8 (iblk m c 0 t) (iblk m c 3 t) (ix2 i q) = above (U m c) (row t.val i).val (col t.val q) := by
  pointwise [k0_pay8, k0_pay4, k0_pay3]
  have := bound t
  have hi := i.isLt
  by_cases h : i.val < 2
  · rw [dif_pos (by omega), in3]
    congr 1
    show _ = (15 - t.val % 16) * 256 + i.val
    dsimp only
    omega
  · rw [dif_neg (by omega), in0]
    unfold above
    rw [dif_pos (by simp only [row]; omega)]
    congr 1
    apply Fin.ext
    simp only [row]
    omega

theorem pay13_apply (t : Fin cfg0.N) (i : Fin 256) (q : Fin 2816) :
    k0_pay13 (k0_pay3 (iblk m c 0 t)) (k0_pay4 (iblk m c 3 t)) (ix2 i q) = above (U m c) ((row t.val i).val + 1) (col t.val q) := by
  pointwise [k0_pay13, k0_pay4, k0_pay3]
  have := bound t
  have hi := i.isLt
  by_cases h : i.val < 1
  · rw [dif_pos (by omega), in3]
    congr 1
    show _ = (15 - t.val % 16) * 256 + i.val + 1
    dsimp only
    omega
  · rw [dif_neg (by omega), in0]
    unfold above
    rw [dif_pos (by simp only [row]; omega)]
    congr 1
    apply Fin.ext
    simp only [row]
    omega

theorem pay9_apply (t : Fin cfg0.N) (i : Fin 256) (q : Fin 2816) :
    k0_pay9 (iblk m c 0 t) (iblk m c 1 t) (iblk m c 2 t) (iblk m c 3 t) (ix2 i q)
      = B m c (col t.val q) + W m c 0 (col t.val q) * above (U m c) (row t.val i).val (col t.val q) := by
  have e1 := pay7_apply (iblk m c 1 t) q
  have e2 := pay8_apply m c t i q
  pointwise [k0_pay9]
  rw [e1, e2, in1, in2]

/-- The gradient in the convolution's result, at the rows and columns of a grid point. -/
def chunkDz (t : Fin cfg0.N) : FVec Ideal S256x2816 .f32 :=
  k0_pay17 (k0_pay3 (iblk m c 0 t)) (iblk m c 1 t) (k0_pay4 (iblk m c 3 t)) (k0_pay5 (iblk m c 4 t))
    (k0_pay9 (iblk m c 0 t) (iblk m c 1 t) (iblk m c 2 t) (iblk m c 3 t)) (k0_pay11 (iblk m c 1 t))

/-- That gradient over the whole arrays. -/
def DZ : Fin 4096 → Fin 5632 → EReal := dz (U m c) (W m c) (B m c) (D m c)

theorem pay3_apply (t : Fin cfg0.N) (i : Fin 256) (q : Fin 2816) : k0_pay3 (iblk m c 0 t) (ix2 i q) = U m c (row t.val i) (col t.val q) := by
  pointwise [k0_pay3]
  exact in0 m c t i q

theorem pay5_apply (t : Fin cfg0.N) (i : Fin 256) (x : Fin 1408) : k0_pay5 (iblk m c 4 t) (ix2 i x) = D m c (row t.val i) (half t.val x) := by
  pointwise [k0_pay5]
  exact in4 m c t i x

theorem chunkDz_apply (t : Fin cfg0.N) (i : Fin 256) (q : Fin 2816) : chunkDz m c t (ix2 i q) = DZ m c (row t.val i) (col t.val q) := by
  have := bound t
  have hq := q.isLt
  unfold chunkDz DZ dz
  pointwise [k0_pay17]
  simp only [pay3_apply, pay5_apply, pay9_apply, pay11_apply, pay13_apply, pay15_apply, in1]
  by_cases h : q.val < 1408
  · rw [dif_pos h, if_pos (by simp only [col]; omega), gate_slope _ _ _ half_bits]
    have e0 : col t.val q = gate (col t.val q) := Fin.ext (by simp only [col, gate]; omega)
    have e1 : col t.val ⟨1408 + q.val, by omega⟩ = gated (col t.val q) := Fin.ext (by simp only [col, gated]; omega)
    have e2 : half t.val ⟨q.val, h⟩ = prod (col t.val q) := Fin.ext (by simp only [col, half, prod]; omega)
    rw [e1, e2, ← e0]
    rfl
  · have hg : ¬(col t.val q).val % 2816 < 1408 := by simp only [col]; omega
    have hx : q.val - 1408 < 2816 := by omega
    have hy : q.val - 1408 < 1408 := by omega
    have e0 : col t.val ⟨q.val - 1408, hx⟩ = gate (col t.val q) := Fin.ext (by simp only [col, gate]; omega)
    have e2 : half t.val ⟨q.val - 1408, hy⟩ = prod (col t.val q) := Fin.ext (by simp only [col, half, prod]; omega)
    refine (dif_neg h).trans (Eq.trans ?_ (if_neg hg).symm)
    refine (congrArg (· * _) (gate_value _ _ half_bits)).trans ?_
    rw [← e0, ← e2]
    rfl

/-- The rows' gradient: what a grid point writes, from what the one before carries to it. -/
def chunkDup (t : Fin cfg0.N) (car : Vec Ideal S8x2816 .f32) : FVec Ideal S1x256x2816 .bf16 :=
  k0_pay30 (k0_pay22 (k0_pay12 (k0_pay11 (iblk m c 1 t))) (k0_pay16 car) (chunkDz m c t)
    (k0_pay18 (k0_pay3 (iblk m c 0 t)) (iblk m c 1 t) (k0_pay4 (iblk m c 3 t)) (k0_pay5 (iblk m c 4 t))
      (k0_pay9 (iblk m c 0 t) (iblk m c 1 t) (iblk m c 2 t) (iblk m c 3 t)) (k0_pay11 (iblk m c 1 t))))
    (k0_pay25 (k0_pay7 (iblk m c 1 t)) (chunkDz m c t)) (iota .tc S256x2816 32 [0] iota_S256x2816_d0_w32) k0_pay27

/-- What it carries to the next grid point. -/
def chunkCar (t : Fin cfg0.N) : FVec Ideal S8x2816 .f32 :=
  k0_pay29 (k0_pay21 (k0_pay12 (k0_pay11 (iblk m c 1 t))) (chunkDz m c t)) (k0_pay25 (k0_pay7 (iblk m c 1 t)) (chunkDz m c t))

/-- What it adds to the gradients in the taps and in the bias. -/
def chunkDcw (t : Fin cfg0.N) : FVec Ideal S3x2816 .f32 :=
  k0_pay28 k0_pay6 (k0_pay23 k0_pay10 (k0_pay13 (k0_pay3 (iblk m c 0 t)) (k0_pay4 (iblk m c 3 t))) k0_pay14 (chunkDz m c t)
    (k0_pay19 (k0_pay3 (iblk m c 0 t)) (iblk m c 1 t) (k0_pay4 (iblk m c 3 t)) (k0_pay5 (iblk m c 4 t))
      (k0_pay9 (iblk m c 0 t) (iblk m c 1 t) (iblk m c 2 t) (iblk m c 3 t)) (k0_pay11 (iblk m c 1 t))))
    (k0_pay26 (k0_pay8 (iblk m c 0 t) (iblk m c 3 t)) (chunkDz m c t))

def chunkDcb (t : Fin cfg0.N) : FVec Ideal S1x2816 .f32 := k0_pay24 (chunkDz m c t)

theorem fold18 (t : Fin cfg0.N) (i : Fin 256) (q : Fin 2816) :
    k0_pay18 (k0_pay3 (iblk m c 0 t)) (iblk m c 1 t) (k0_pay4 (iblk m c 3 t)) (k0_pay5 (iblk m c 4 t))
      (k0_pay9 (iblk m c 0 t) (iblk m c 1 t) (iblk m c 2 t) (iblk m c 3 t)) (k0_pay11 (iblk m c 1 t)) (ix2 i q)
      = W m c 2 (col t.val q) * DZ m c (row t.val i) (col t.val q) := by
  have e := chunkDz_apply m c t i q
  unfold chunkDz at e
  pointwise [k0_pay18]
  rw [e, pay15_apply, in1]

theorem fold19 (t : Fin cfg0.N) (i : Fin 256) (q : Fin 2816) :
    k0_pay19 (k0_pay3 (iblk m c 0 t)) (iblk m c 1 t) (k0_pay4 (iblk m c 3 t)) (k0_pay5 (iblk m c 4 t))
      (k0_pay9 (iblk m c 0 t) (iblk m c 1 t) (iblk m c 2 t) (iblk m c 3 t)) (k0_pay11 (iblk m c 1 t)) (ix2 i q)
      = DZ m c (row t.val i) (col t.val q) * above (U m c) ((row t.val i).val + 2) (col t.val q) := by
  have e := chunkDz_apply m c t i q
  unfold chunkDz at e
  pointwise [k0_pay19]
  rw [e, pay3_apply, above_two]

/-- The rows a carry holds, as the rows it is added to. -/
def TAP (k : Fin 3) (n : ℕ) (p : Fin 5632) : EReal := tap (U m c) (W m c) (B m c) (D m c) k n p

theorem TAP_row (k : Fin 3) (n : ℕ) (h : n < 4096) (p : Fin 5632) : TAP m c k n p = W m c k p * DZ m c ⟨n, h⟩ p := dif_pos h

theorem TAP_past (k : Fin 3) (n : ℕ) (h : ¬ n < 4096) (p : Fin 5632) : TAP m c k n p = 0 := dif_neg h

/-- The share of the chunk after in the row `j` of a chunk's last eight. -/
def share (n j : ℕ) (p : Fin 5632) : EReal := (if 7 ≤ j then TAP m c 1 (n + j - 7) p else 0) + (if 6 ≤ j then TAP m c 0 (n + j - 6) p else 0)

theorem chunkCar_apply (t : Fin cfg0.N) (j : Fin 8) (q : Fin 2816) :
    chunkCar m c t (ix2 j q) = share m c ((15 - t.val % 16) * 256) j.val (col t.val q) := by
  have := bound t
  have hj := j.isLt
  unfold chunkCar share
  pointwise [k0_pay29, k0_pay21, k0_pay20, k0_pay25]
  simp only [(word_ge _).1, (word_ge _).2, pick, chunkDz_apply, pay7_apply, pay11_apply, in1]
  congr 1
  · by_cases h : 7 ≤ j.val
    · rw [if_pos h, if_pos h, TAP_row _ _ _ _ (by omega)]
      congr 2
      apply Fin.ext
      simp only [row]
      omega
    · rw [if_neg h, if_neg h]
  · by_cases h : 6 ≤ j.val
    · rw [if_pos h, if_pos h, TAP_row _ _ _ _ (by omega)]
      congr 2
      apply Fin.ext
      simp only [row]
      omega
    · rw [if_neg h, if_neg h]

theorem pay16_apply (t : Fin cfg0.N) (car : Vec Ideal S8x2816 .f32)
    (hcar : ∀ j q, car (ix2 j q) = share m c ((16 - t.val % 16) * 256) j.val (col t.val q)) (i : Fin 256) (q : Fin 2816) :
    k0_pay16 car (ix2 i q) = if i.val < 248 then 0 else share m c ((16 - t.val % 16) * 256) (i.val - 248) (col t.val q) := by
  pointwise [k0_pay16]
  by_cases h : i.val < 248
  · exact (dif_pos h).trans (if_pos h).symm
  · exact (dif_neg h).trans ((hcar _ _).trans (if_neg h).symm)

theorem chunkDup_apply (t : Fin cfg0.N) (car : Vec Ideal S8x2816 .f32)
    (hcar : ∀ j q, car (ix2 j q) = share m c ((16 - t.val % 16) * 256) j.val (col t.val q)) (i : Fin 256) (q : Fin 2816) :
    chunkDup m c t car (ix3 0 i q) = dup (U m c) (W m c) (B m c) (D m c) (row t.val i) (col t.val q) := by
  have := bound t
  have hi := i.isLt
  have e18 := fold18 m c t i q
  unfold chunkDup
  have e16 := pay16_apply m c t car hcar i q
  pointwise [k0_pay30, k0_pay22, k0_pay20, k0_pay25, k0_pay27]
  rw [e18, e16]
  simp only [(word_lt _).1, (word_lt _).2, pick, chunkDz_apply, pay7_apply, pay11_apply, in1, hcar]
  have e2 : tap (U m c) (W m c) (B m c) (D m c) 2 (row t.val i).val (col t.val q) = W m c 2 (col t.val q) * DZ m c (row t.val i) (col t.val q) :=
    dif_pos (row t.val i).isLt
  have next : ∀ (k : Fin 3) (z : Fin 256) (d : ℕ), z.val = i.val + d →
      W m c k (col t.val q) * DZ m c (row t.val z) (col t.val q) = TAP m c k ((row t.val i).val + d) (col t.val q) := by
    intro k z d hz
    have := z.isLt
    have hv : (row t.val i).val + d = (row t.val z).val := by simp only [row]; omega
    rw [hv, TAP_row _ _ _ _ (row t.val z).isLt]
  have after : ∀ (d : ℕ), (row t.val i).val + d = (15 - t.val % 16) * 256 + i.val + d := fun d => rfl
  unfold dup
  rw [e2]
  show _ = W m c 2 (col t.val q) * DZ m c (row t.val i) (col t.val q) + TAP m c 1 ((row t.val i).val + 1) (col t.val q) + TAP m c 0 ((row t.val i).val + 2) (col t.val q)
  by_cases h : i.val < 254
  · rw [if_pos (by omega : i.val < 255), if_pos h, next 1 _ 1 (by show (i.val + 256 - 255) % 256 = _; omega), next 0 _ 2 (by show (i.val + 256 - 254) % 256 = _; omega)]
    by_cases h8 : i.val < 248
    · rw [if_pos h8, zero_add]
    · rw [if_neg h8]
      unfold share
      rw [if_neg (by omega : ¬7 ≤ i.val - 248), if_neg (by omega : ¬6 ≤ i.val - 248), zero_add, zero_add]
  · rw [if_neg (by omega : ¬ i.val < 248), if_neg h, add_zero]
    unfold share
    rw [if_pos (by omega : 6 ≤ i.val - 248), show (16 - t.val % 16) * 256 + (i.val - 248) - 6 = (row t.val i).val + 2 by rw [after]; omega]
    by_cases h7 : i.val < 255
    · rw [if_neg (by omega : ¬7 ≤ i.val - 248), if_pos h7, zero_add, next 1 _ 1 (by show (i.val + 256 - 255) % 256 = _; omega)]
      ac_rfl
    · rw [if_pos (by omega : 7 ≤ i.val - 248), if_neg h7, add_zero, show (16 - t.val % 16) * 256 + (i.val - 248) - 7 = (row t.val i).val + 1 by rw [after]; omega]
      ac_rfl

theorem chunkDcb_apply (t : Fin cfg0.N) (q : Fin 2816) :
    chunkDcb m c t (ix2 0 q) = ∑ i : Fin 256, DZ m c (row t.val i) (col t.val q) := by
  unfold chunkDcb
  pointwise [k0_pay24]
  simp only [chunkDz_apply]

theorem chunkDcw_apply (t : Fin cfg0.N) (k : Fin 3) (q : Fin 2816) :
    chunkDcw m c t (ix2 k q) = ∑ i : Fin 256, DZ m c (row t.val i) (col t.val q) * above (U m c) ((row t.val i).val + k.val) (col t.val q) := by
  have e19 := fun i => fold19 m c t i q
  unfold chunkDcw
  pointwise [k0_pay28, k0_pay23, k0_pay26, k0_pay6, k0_pay10, k0_pay14]
  simp only [e19, (word_eq _).1, (word_eq _).2.1, (word_eq _).2.2, pick, chunkDz_apply, pay8_apply, pay13_apply, Finset.univ_unique, Finset.sum_const, Finset.card_singleton, one_smul]
  fin_cases k <;> simp

end Cert.Ffn

end
-- ==== Proof.Row.FfnOuts.lean ====
/-
  What a grid point of the feed-forward gate's gradient writes, as functions of the blocks it reads.
-/
module

public import proofs.«01_k».proof.Proof.Row.Common
public import proofs.«01_k».proof.Proof.Gen.Kernel15Ideal.Value

@[expose] public section

set_option maxRecDepth 65536

noncomputable section

namespace Cert.Ffn

open Idealize.ShloMosaic Idealize.ShloMosaic.TcCoe Idealize.SL.Sem
open Cert.Kernel15Ideal Cert.Kernel15Ideal.Gen Cert.Mm

section Of
variable (x0 : Vec Ideal S1x256x2816 .f32) (x1 : Vec Ideal S3x2816 .f32) (x2 : Vec Ideal S1x2816 .f32) (x3 : Vec Ideal S1x1x8x2816 .f32) (x4 : Vec Ideal S1x256x1408 .f32)

/-- A grid point's results from the blocks it reads. -/
def dzOf : FVec Ideal S256x2816 .f32 := k0_pay17 (k0_pay3 x0) x1 (k0_pay4 x3) (k0_pay5 x4) (k0_pay9 x0 x1 x2 x3) (k0_pay11 x1)
def dupOf (car : Vec Ideal S8x2816 .f32) : FVec Ideal S1x256x2816 .bf16 :=
  k0_pay30 (k0_pay22 (k0_pay12 (k0_pay11 x1)) (k0_pay16 car) (dzOf x0 x1 x2 x3 x4) (k0_pay18 (k0_pay3 x0) x1 (k0_pay4 x3) (k0_pay5 x4) (k0_pay9 x0 x1 x2 x3) (k0_pay11 x1)))
    (k0_pay25 (k0_pay7 x1) (dzOf x0 x1 x2 x3 x4)) (iota .tc S256x2816 32 [0] iota_S256x2816_d0_w32) k0_pay27
def carOf : FVec Ideal S8x2816 .f32 :=
  k0_pay29 (k0_pay21 (k0_pay12 (k0_pay11 x1)) (dzOf x0 x1 x2 x3 x4)) (k0_pay25 (k0_pay7 x1) (dzOf x0 x1 x2 x3 x4))
def tapsOf : FVec Ideal S3x2816 .f32 :=
  k0_pay23 k0_pay10 (k0_pay13 (k0_pay3 x0) (k0_pay4 x3)) k0_pay14 (dzOf x0 x1 x2 x3 x4) (k0_pay19 (k0_pay3 x0) x1 (k0_pay4 x3) (k0_pay5 x4) (k0_pay9 x0 x1 x2 x3) (k0_pay11 x1))
def tap0Of : FVec Ideal S1x2816 .f32 := k0_pay26 (k0_pay8 x0 x3) (dzOf x0 x1 x2 x3 x4)
end Of

section Outs
variable (c : Dev nD) (i : grid0.Coords) (arg2 : Memref sig .tc .vmem S1x256x2816 .f32) (harg2 : arg2.IsWhole) (arg3 : Memref sig .tc .vmem S3x2816 .f32) (harg3 : arg3.IsWhole) (arg4 : Memref sig .tc .vmem S1x2816 .f32) (harg4 : arg4.IsWhole) (arg5 : Memref sig .tc .vmem S1x1x8x2816 .f32) (harg5 : arg5.IsWhole) (arg6 : Memref sig .tc .vmem S1x256x1408 .f32) (harg6 : arg6.IsWhole) (arg7 : Memref sig .tc .vmem S1x256x2816 .bf16) (harg7 : arg7.IsWhole) (arg8 : Memref sig .tc .vmem S3x2816 .f32) (harg8 : arg8.IsWhole) (arg9 : Memref sig .tc .vmem S1x2816 .f32) (harg9 : arg9.IsWhole) (arg10 : Memref sig .tc .vmem S8x2816 .f32) (harg10 : arg10.IsWhole)
  (x0 : Vec Ideal S1x256x2816 .f32) (x1 : Vec Ideal S3x2816 .f32) (x2 : Vec Ideal S1x2816 .f32) (x3 : Vec Ideal S1x1x8x2816 .f32) (x4 : Vec Ideal S1x256x1408 .f32)
  (xo6 : Vec Ideal S3x2816 .f32) (xo7 : Vec Ideal S1x2816 .f32) (xs0 : Vec Ideal S8x2816 .f32)

theorem hz4 : (![0, 0, 0, 0] : Fin 4 → ℕ) = fun _ => 0 := by decide

theorem out_A5 (hc0 : cond0_0 i) (hc1 : cond0_1 i) (hc2 : ¬cond0_2 i) (hc3 : cond0_3 i) (hc4 : ¬cond0_4 i) :
    out0_A_5 c i arg2 harg2 arg3 harg3 arg4 harg4 arg5 harg5 arg6 harg6 arg7 harg7 arg8 harg8 arg9 harg9 arg10 harg10 hc0 hc1 hc2 hc3 hc4 x0 x1 x2 x3 x4 = dupOf x0 x1 x2 x3 x4 (k0_pay2 (F := Ideal)) := by
  unfold out0_A_5
  rw [View.read_writes_eq_canon _ _ _ (cover0_A_5 c i arg2 harg2 arg3 harg3 arg4 harg4 arg5 harg5 arg6 harg6 arg7 harg7 arg8 harg8 arg9 harg9 arg10 harg10 hc0 hc1 hc2 hc3 hc4 x0 x1 x2 x3 x4)]
  unfold kernelRun0_A
  dsimp only
  sl_unfold_words
  rw [View.canon_unit_zero hz3]
  simp only [View.readCov_unit_zero (S := S8x2816) _ hz2, View.readAt_eq_ld, harg2.read_unread, harg3.read_unread, harg4.read_unread, harg5.read_unread, harg6.read_unread, harg8.read_unread, harg9.read_unread, harg10.read_unread,
    View.ld_unit_zero (S := S1x256x2816) hz3, View.ld_unit_zero (S := S1x256x1408) hz3, View.ld_unit_zero (S := S3x2816) hz2, View.ld_unit_zero (S := S1x2816) hz2, View.ld_unit_zero (S := S8x2816) hz2, View.ld_unit_zero (S := S1x1x8x2816) hz4]
  rfl

theorem out_B5 (hc0 : ¬cond0_0 i) (hc1 : ¬cond0_1 i) (hc2 : cond0_2 i) (hc3 : ¬cond0_3 i) (hc4 : cond0_4 i) :
    out0_B_5 c i arg2 harg2 arg3 harg3 arg4 harg4 arg5 harg5 arg6 harg6 arg7 harg7 arg8 harg8 arg9 harg9 arg10 harg10 hc0 hc1 hc2 hc3 hc4 x0 x1 x2 x3 x4 xo6 xo7 xs0 = dupOf x0 x1 x2 x3 x4 xs0 := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 hc2 hc3 hc4 x0 x1 x2 x3 x4 xo6 xo7 xs0)]
  unfold kernelRun0_B
  dsimp only
  sl_unfold_words
  rw [View.canon_unit_zero hz3]
  simp only [View.readAt_eq_ld, harg2.read_unread, harg3.read_unread, harg4.read_unread, harg5.read_unread, harg6.read_unread, harg8.read_unread, harg9.read_unread, harg10.read_unread,
    View.ld_unit_zero (S := S1x256x2816) hz3, View.ld_unit_zero (S := S1x256x1408) hz3, View.ld_unit_zero (S := S3x2816) hz2, View.ld_unit_zero (S := S1x2816) hz2, View.ld_unit_zero (S := S8x2816) hz2, View.ld_unit_zero (S := S1x1x8x2816) hz4]
  rfl

theorem out_A6 (hc0 : cond0_0 i) (hc1 : cond0_1 i) (hc2 : ¬cond0_2 i) (hc3 : cond0_3 i) (hc4 : ¬cond0_4 i) :
    out0_A_6 c i arg2 harg2 arg3 harg3 arg4 harg4 arg5 harg5 arg6 harg6 arg7 harg7 arg8 harg8 arg9 harg9 arg10 harg10 hc0 hc1 hc2 hc3 hc4 x0 x1 x2 x3 x4 = k0_pay28 k0_pay6 (tapsOf x0 x1 x2 x3 x4) (tap0Of x0 x1 x2 x3 x4) := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 hc2 hc3 hc4 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread,
    View.ld_unit_zero (S := S1x256x2816) hz3, View.ld_unit_zero (S := S1x256x1408) hz3, View.ld_unit_zero (S := S3x2816) hz2, View.ld_unit_zero (S := S1x2816) hz2, View.ld_unit_zero (S := S8x2816) hz2, View.ld_unit_zero (S := S1x1x8x2816) hz4]
  rfl

theorem out_B6 (hc0 : ¬cond0_0 i) (hc1 : ¬cond0_1 i) (hc2 : cond0_2 i) (hc3 : ¬cond0_3 i) (hc4 : cond0_4 i) :
    out0_B_6 c i arg2 harg2 arg3 harg3 arg4 harg4 arg5 harg5 arg6 harg6 arg7 harg7 arg8 harg8 arg9 harg9 arg10 harg10 hc0 hc1 hc2 hc3 hc4 x0 x1 x2 x3 x4 xo6 xo7 xs0 = k0_pay31 k0_pay6 (tapsOf x0 x1 x2 x3 x4) (tap0Of x0 x1 x2 x3 x4) xo6 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 hc2 hc3 hc4 x0 x1 x2 x3 x4 xo6 xo7 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread,
    View.ld_unit_zero (S := S1x256x2816) hz3, View.ld_unit_zero (S := S1x256x1408) hz3, View.ld_unit_zero (S := S3x2816) hz2, View.ld_unit_zero (S := S1x2816) hz2, View.ld_unit_zero (S := S8x2816) hz2, View.ld_unit_zero (S := S1x1x8x2816) hz4]
  rfl

theorem out_A7 (hc0 : cond0_0 i) (hc1 : cond0_1 i) (hc2 : ¬cond0_2 i) (hc3 : cond0_3 i) (hc4 : ¬cond0_4 i) :
    out0_A_7 c i arg2 harg2 arg3 harg3 arg4 harg4 arg5 harg5 arg6 harg6 arg7 harg7 arg8 harg8 arg9 harg9 arg10 harg10 hc0 hc1 hc2 hc3 hc4 x0 x1 x2 x3 x4 = k0_pay24 (dzOf x0 x1 x2 x3 x4) := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 hc2 hc3 hc4 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread,
    View.ld_unit_zero (S := S1x256x2816) hz3, View.ld_unit_zero (S := S1x256x1408) hz3, View.ld_unit_zero (S := S3x2816) hz2, View.ld_unit_zero (S := S1x2816) hz2, View.ld_unit_zero (S := S8x2816) hz2, View.ld_unit_zero (S := S1x1x8x2816) hz4]
  rfl

theorem out_B7 (hc0 : ¬cond0_0 i) (hc1 : ¬cond0_1 i) (hc2 : cond0_2 i) (hc3 : ¬cond0_3 i) (hc4 : cond0_4 i) :
    out0_B_7 c i arg2 harg2 arg3 harg3 arg4 harg4 arg5 harg5 arg6 harg6 arg7 harg7 arg8 harg8 arg9 harg9 arg10 harg10 hc0 hc1 hc2 hc3 hc4 x0 x1 x2 x3 x4 xo6 xo7 xs0 = k0_pay1 (k0_pay24 (dzOf x0 x1 x2 x3 x4)) xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 hc2 hc3 hc4 x0 x1 x2 x3 x4 xo6 xo7 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread,
    View.ld_unit_zero (S := S1x256x2816) hz3, View.ld_unit_zero (S := S1x256x1408) hz3, View.ld_unit_zero (S := S3x2816) hz2, View.ld_unit_zero (S := S1x2816) hz2, View.ld_unit_zero (S := S8x2816) hz2, View.ld_unit_zero (S := S1x1x8x2816) hz4]
  rfl

theorem out_As (hc0 : cond0_0 i) (hc1 : cond0_1 i) (hc2 : ¬cond0_2 i) (hc3 : cond0_3 i) (hc4 : ¬cond0_4 i) :
    sout0_A_0 c i arg2 harg2 arg3 harg3 arg4 harg4 arg5 harg5 arg6 harg6 arg7 harg7 arg8 harg8 arg9 harg9 arg10 harg10 hc0 hc1 hc2 hc3 hc4 x0 x1 x2 x3 x4 = carOf x0 x1 x2 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 hc3 hc4 x0 x1 x2 x3 x4)]
  unfold kernelRun0_A
  dsimp only
  sl_unfold_words
  rw [View.canon_cons_unit_zero hz2]
  simp only [View.readAt_eq_ld, harg2.read_unread, harg3.read_unread, harg4.read_unread, harg5.read_unread, harg6.read_unread, harg8.read_unread, harg9.read_unread, harg10.read_unread,
    View.ld_unit_zero (S := S1x256x2816) hz3, View.ld_unit_zero (S := S1x256x1408) hz3, View.ld_unit_zero (S := S3x2816) hz2, View.ld_unit_zero (S := S1x2816) hz2, View.ld_unit_zero (S := S8x2816) hz2, View.ld_unit_zero (S := S1x1x8x2816) hz4]
  rfl

theorem out_Bs (hc0 : ¬cond0_0 i) (hc1 : ¬cond0_1 i) (hc2 : cond0_2 i) (hc3 : ¬cond0_3 i) (hc4 : cond0_4 i) :
    sout0_B_0 c i arg2 harg2 arg3 harg3 arg4 harg4 arg5 harg5 arg6 harg6 arg7 harg7 arg8 harg8 arg9 harg9 arg10 harg10 hc0 hc1 hc2 hc3 hc4 x0 x1 x2 x3 x4 xo6 xo7 xs0 = carOf x0 x1 x2 x3 x4 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 hc2 hc3 hc4 x0 x1 x2 x3 x4 xo6 xo7 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread,
    View.ld_unit_zero (S := S1x256x2816) hz3, View.ld_unit_zero (S := S1x256x1408) hz3, View.ld_unit_zero (S := S3x2816) hz2, View.ld_unit_zero (S := S1x2816) hz2, View.ld_unit_zero (S := S8x2816) hz2, View.ld_unit_zero (S := S1x1x8x2816) hz4]
  rfl

end Outs

end Cert.Ffn

end
-- ==== Proof.Row.FfnPoints.lean ====
/-
  The feed-forward gate's gradient: what the kernel leaves in its three result arrays.
-/
module

public import proofs.«01_k».proof.Proof.Row.Ffn
public import proofs.«01_k».proof.Proof.Row.FfnOuts

@[expose] public section

set_option maxRecDepth 65536

noncomputable section

namespace Cert.Ffn

open Idealize.ShloMosaic Idealize.ShloMosaic.TcCoe Idealize.SL.Sem
open Cert.Kernel15Ideal Cert.Kernel15Ideal.Gen Cert.Mm Cert.Row

variable (m : (ℓ : Loc nD τ sig) → Buf (Elt Ideal) ℓ) (c : Dev nD)

theorem col_pred (n : ℕ) (h : n % 16 ≠ 0) (q : Fin 2816) : col (n - 1) q = col n q := by
  apply Fin.ext
  show (n - 1) / 16 % 2 * 2816 + q.val = n / 16 % 2 * 2816 + q.val
  rw [show (n - 1) / 16 = n / 16 by omega]

/-- What a chunk of rows leaves for the chunk above it. -/
theorem point_car (t : Fin cfg0.N) (j : Fin 8) (q : Fin 2816) :
    (outsAt0 m c t.val t.isLt).2.2.2 (ix2 j q) = share m c ((15 - t.val % 16) * 256) j.val (col t.val q) := by
  have hN := bound t
  by_cases h : t.val % 16 = 0
  · rw [outsAt0_A m c t h h (by omega) h (by omega)]
    dsimp only
    rw [out_As]
    exact chunkCar_apply m c t j q
  · rw [outsAt0_B m c t h h (by omega) h (by omega)]
    dsimp only
    rw [out_Bs]
    exact chunkCar_apply m c t j q

theorem point_dup (t : Fin cfg0.N) (i : Fin 256) (q : Fin 2816) :
    (outsAt0 m c t.val t.isLt).1 (ix3 0 i q) = dup (U m c) (W m c) (B m c) (D m c) (row t.val i) (col t.val q) := by
  have hN := bound t
  by_cases h : t.val % 16 = 0
  · rw [outsAt0_A m c t h h (by omega) h (by omega)]
    dsimp only
    rw [out_A5]
    refine chunkDup_apply m c t _ (fun j q => ?_) i q
    have := j.isLt
    have hz : share m c ((16 - t.val % 16) * 256) j.val (col t.val q) = 0 := by
      unfold share
      have z1 : 7 ≤ j.val → TAP m c 1 ((16 - t.val % 16) * 256 + j.val - 7) (col t.val q) = 0 := fun h7 => TAP_past m c 1 _ (by omega) _
      have z0 : 6 ≤ j.val → TAP m c 0 ((16 - t.val % 16) * 256 + j.val - 6) (col t.val q) = 0 := fun h6 => TAP_past m c 0 _ (by omega) _
      rw [show (if 7 ≤ j.val then TAP m c 1 ((16 - t.val % 16) * 256 + j.val - 7) (col t.val q) else 0) = 0 from ite_eq_right_iff.mpr z1,
        show (if 6 ≤ j.val then TAP m c 0 ((16 - t.val % 16) * 256 + j.val - 6) (col t.val q) else 0) = 0 from ite_eq_right_iff.mpr z0, add_zero]
    rw [hz]
    pointwise [k0_pay2]
  · rw [outsAt0_B m c t h h (by omega) h (by omega)]
    dsimp only
    rw [out_B5]
    refine chunkDup_apply m c t _ (fun j q => ?_) i q
    refine (point_car m c ⟨t.val - 1, by have := t.isLt; omega⟩ j q).trans ?_
    show share m c ((15 - (t.val - 1) % 16) * 256) j.val (col (t.val - 1) q) = _
    rw [col_pred t.val h, show 15 - (t.val - 1) % 16 = 16 - t.val % 16 by omega]

theorem step6 (t : Fin cfg0.N) (acc : Vec Ideal S3x2816 .f32) (k : Fin 3) (q : Fin 2816) :
    k0_pay31 k0_pay6 (tapsOf (iblk m c 0 t) (iblk m c 1 t) (iblk m c 2 t) (iblk m c 3 t) (iblk m c 4 t)) (tap0Of (iblk m c 0 t) (iblk m c 1 t) (iblk m c 2 t) (iblk m c 3 t) (iblk m c 4 t)) acc (ix2 k q)
      = acc (ix2 k q) + chunkDcw m c t (ix2 k q) := by
  refine Eq.trans (b := acc (ix2 k q) + k0_pay28 k0_pay6 (tapsOf (iblk m c 0 t) (iblk m c 1 t) (iblk m c 2 t) (iblk m c 3 t) (iblk m c 4 t)) (tap0Of (iblk m c 0 t) (iblk m c 1 t) (iblk m c 2 t) (iblk m c 3 t) (iblk m c 4 t)) (ix2 k q)) ?_ rfl
  generalize tapsOf (iblk m c 0 t) (iblk m c 1 t) (iblk m c 2 t) (iblk m c 3 t) (iblk m c 4 t) = a
  generalize tap0Of (iblk m c 0 t) (iblk m c 1 t) (iblk m c 2 t) (iblk m c 3 t) (iblk m c 4 t) = b
  pointwise [k0_pay31]

theorem step7 (a acc : Vec Ideal S1x2816 .f32) (q : Fin 2816) : k0_pay1 a acc (ix2 0 q) = acc (ix2 0 q) + a (ix2 0 q) := by
  pointwise [k0_pay1]

/-- After the last chunk the gradients in the taps and in the shift are the whole sums. -/
theorem point_dcw (t : Fin cfg0.N) (h : t.val % 16 = 15) (k : Fin 3) (q : Fin 2816) :
    (outsAt0 m c t.val t.isLt).2.1 (ix2 k q) = dcw (U m c) (W m c) (B m c) (D m c) k (col t.val q) := by
  refine chunks16 (S := Fin 3 × Fin 2816) (fun n hn s => (outsAt0 m c n hn).2.1 (ix2 s.1 s.2))
    (fun n s r => DZ m c r (col n s.2) * above (U m c) (r.val + s.1.val) (col n s.2)) ?_ ?_ ?_ t.val t.isLt h (k, q)
  · intro n s r hn
    rw [col_pred n hn]
  · intro n hn s h
    rw [show outsAt0 m c n hn = _ from outsAt0_A m c ⟨n, hn⟩ h h (by show ¬ 1 ≤ n % 16; omega) h (by show ¬ 1 ≤ n % 16; omega)]
    dsimp only
    rw [out_A6]
    exact chunkDcw_apply m c ⟨n, hn⟩ s.1 s.2
  · intro n hn hn' s h
    rw [show outsAt0 m c n hn = _ from outsAt0_B m c ⟨n, hn⟩ h h (by show 1 ≤ n % 16; omega) h (by show 1 ≤ n % 16; omega)]
    dsimp only
    rw [out_B6, step6, chunkDcw_apply]
    rfl

theorem point_dcb (t : Fin cfg0.N) (h : t.val % 16 = 15) (q : Fin 2816) :
    (outsAt0 m c t.val t.isLt).2.2.1 (ix2 0 q) = dcb (U m c) (W m c) (B m c) (D m c) (col t.val q) := by
  refine chunks16 (fun n hn s => (outsAt0 m c n hn).2.2.1 (ix2 0 s)) (fun n s r => DZ m c r (col n s)) ?_ ?_ ?_ t.val t.isLt h q
  · intro n s r hn
    rw [col_pred n hn]
  · intro n hn s h
    rw [show outsAt0 m c n hn = _ from outsAt0_A m c ⟨n, hn⟩ h h (by show ¬ 1 ≤ n % 16; omega) h (by show ¬ 1 ≤ n % 16; omega)]
    dsimp only
    rw [out_A7]
    exact chunkDcb_apply m c ⟨n, hn⟩ s
  · intro n hn hn' s h
    rw [show outsAt0 m c n hn = _ from outsAt0_B m c ⟨n, hn⟩ h h (by show 1 ≤ n % 16; omega) h (by show 1 ≤ n % 16; omega)]
    dsimp only
    rw [out_B7, step7]
    exact congrArg _ (chunkDcb_apply m c ⟨n, hn⟩ s)

/-- The three result arrays. -/
theorem result_dup : (dats m 0 c).arrAt 5 cfg0.N = fun i : S1x4096x5632.Idx => dup (U m c) (W m c) (B m c) (D m c) (i 1) (i 2) := by
  refine (dats m 0 c).arrAt_eq_of_covers 5 _ (by decide +kernel) fun t hf y => ?_
  blk_simp
  rw [after0_5]
  have hN := bound t
  have e1 : (win0_5.blk t).view.emb y 1 = row t.val (y 1) := by
    apply Fin.ext
    blk_simp [idx t] <;> rfl
  have e2 : (win0_5.blk t).view.emb y 2 = col t.val (y 2) := by
    apply Fin.ext
    have hm : t.val / 16 % 2 = t.val / 16 := by omega
    show _ = t.val / 16 % 2 * 2816 + (y 2).val
    rw [hm]
    blk_simp [idx t] <;> rfl
  have hy : y = (ix3 0 (y 1) (y 2) : S1x256x2816.Idx) := by
    refine (eq_ix3 y).trans ?_
    rw [show y 0 = (0 : Fin 1) from Fin.ext (by have : (y 0).val < 1 := (y 0).isLt; show (y 0).val = 0; omega)]
  rw [e1, e2]
  exact (congrArg _ hy).trans (point_dup m c t (y 1) (y 2))

theorem result_dcw : (dats m 0 c).arrAt 6 cfg0.N = fun i : S3x5632.Idx => dcw (U m c) (W m c) (B m c) (D m c) (i 0) (i 1) := by
  refine (dats m 0 c).arrAt_eq_of_covers 6 _ (by decide +kernel) fun t hf y => ?_
  have h := (flush0_6 t).mp hf
  blk_simp
  rw [after0_6]
  have hN := bound t
  have e0 : (win0_6.blk t).view.emb y 0 = y 0 := by
    apply Fin.ext
    blk_simp [idx t]
  have e1 : (win0_6.blk t).view.emb y 1 = col t.val (y 1) := by
    apply Fin.ext
    have hm : t.val / 16 % 2 = t.val / 16 := by omega
    show _ = t.val / 16 % 2 * 2816 + (y 1).val
    rw [hm]
    blk_simp [idx t] <;> rfl
  rw [e0, e1]
  exact (congrArg _ (eq_ix2 y)).trans (point_dcw m c t h (y 0) (y 1))

theorem result_dcb : (dats m 0 c).arrAt 7 cfg0.N = fun i : S1x5632.Idx => dcb (U m c) (W m c) (B m c) (D m c) (i 1) := by
  refine (dats m 0 c).arrAt_eq_of_covers 7 _ (by decide +kernel) fun t hf y => ?_
  have h := (flush0_7 t).mp hf
  blk_simp
  rw [after0_7]
  have hN := bound t
  have e1 : (win0_7.blk t).view.emb y 1 = col t.val (y 1) := by
    apply Fin.ext
    have hm : t.val / 16 % 2 = t.val / 16 := by omega
    show _ = t.val / 16 % 2 * 2816 + (y 1).val
    rw [hm]
    blk_simp [idx t] <;> rfl
  have hy : y = (ix2 0 (y 1) : S1x2816.Idx) := by
    refine (eq_ix2 y).trans ?_
    rw [show y 0 = (0 : Fin 1) from Fin.ext (by have : (y 0).val < 1 := (y 0).isLt; show (y 0).val = 0; omega)]
  rw [e1]
  exact (congrArg _ hy).trans (point_dcb m c t h (y 1))

end Cert.Ffn

end
-- ==== Proof.Row.FfnReference.lean ====
/-
  The claims about the gradient of the feed-forward layer's convolution and gate.
-/
module

public import proofs.«01_k».proof.Defs
public import proofs.«01_k».proof.Proof.Gen.Reference15Ideal
public import proofs.«01_k».proof.Proof.Gen.Reference15Ideal.Read
public import proofs.«01_k».proof.Proof.Row.FfnSpec
public import Idealize.ShloMosaic.Lib.KernelVsHost
public import Idealize.ShloMosaic.Init

@[expose] public section

set_option maxRecDepth 8192

noncomputable section

namespace Cert.Ffn

open Idealize.ShloMosaic Idealize.SL.Sem
open Cert.Reference15Ideal Cert.Reference15Ideal.Read Cert.Mm

/-- The stored column of a column in the order of the plain layer: the two blocks in the middle change places. -/
def stored (p : Fin 5632) : Fin 5632 := ⟨if p.val < 1408 then p.val else if p.val < 2816 then p.val + 1408 else if p.val < 4224 then p.val - 1408 else p.val,
  by have := p.isLt; split_ifs <;> omega⟩

theorem stored_val (p : Fin 5632) : (stored p).val = if p.val < 1408 then p.val else if p.val < 2816 then p.val + 1408 else if p.val < 4224 then p.val - 1408 else p.val := rfl

theorem stored_stored (p : Fin 5632) : stored (stored p) = p := Fin.ext (by have := p.isLt; rw [stored_val, stored_val]; split_ifs <;> omega)

section Ref
variable (x0 : S1x4096x5632.Idx → EReal) (x1 : S3x5632.Idx → EReal) (x2 : S1x5632.Idx → EReal) (x3 : S1x4096x2816.Idx → EReal)

/-- The arguments, entry by entry. -/
def UU (r : Fin 4096) (p : Fin 5632) : EReal := x0 (ix3 0 r p)
def WW (k : Fin 3) (p : Fin 5632) : EReal := x1 (ix2 k p)
def BB (p : Fin 5632) : EReal := x2 (ix2 0 p)
def DD (r : Fin 4096) (x : Fin 2816) : EReal := x3 (ix3 0 r x)

theorem plain_up (r : Fin 4096) (p : Fin 5632) : (val_main_v5 (F := Ideal) x0) (ix2 r p) = UU x0 r (stored p) := by
  pointwise [val_main_v0, val_main_v1, val_main_v2, val_main_v3, val_main_v4, val_main_v5]
  unfold UU
  split_ifs <;> refine congrArg x0 (congrArg (ix3 0 r) (Fin.ext ?_)) <;> dsimp only [stored] <;> split_ifs <;> omega

theorem plain_w (k : Fin 3) (p : Fin 5632) : (val_main_v10 (F := Ideal) x1) (ix2 k p) = WW x1 k (stored p) := by
  pointwise [val_main_v6, val_main_v7, val_main_v8, val_main_v9, val_main_v10]
  unfold WW
  split_ifs <;> refine congrArg x1 (congrArg (ix2 k) (Fin.ext ?_)) <;> dsimp only [stored] <;> split_ifs <;> omega

theorem plain_b (p : Fin 5632) : (val_main_v16 (F := Ideal) x2) (ix1 p) = BB x2 (stored p) := by
  pointwise [val_main_v11, val_main_v12, val_main_v13, val_main_v14, val_main_v15, val_main_v16]
  unfold BB
  split_ifs <;> refine congrArg x2 (congrArg (ix2 0) (Fin.ext ?_)) <;> dsimp only [stored] <;> split_ifs <;> omega

theorem plain_above (n : Fin 4098) (p : Fin 5632) : (val_main_v18 (F := Ideal) x0) (ix2 n p) = above (UU x0) n.val (stored p) := by
  have e := fun r => plain_up x0 r p
  have := n.isLt
  pointwise [val_main_cst, val_main_v17, val_main_v18]
  unfold above
  by_cases h : n.val < 2
  · rw [dif_neg (fun h' => by omega : ¬(2 ≤ n.val ∧ n.val < 4098))]
    exact dif_pos h
  · refine (dif_neg h).trans (Eq.trans ?_ (dif_pos (by omega)).symm)
    exact e _

theorem conv_plain (r : Fin 4096) (p : Fin 5632) : (val_main_v44 (F := Ideal) x0 x1 x2) (ix2 r p) = conv (UU x0) (WW x1) (BB x2) r (stored p) := by
  have a0 := plain_above x0 ⟨r.val, by omega⟩ p
  have a1 := plain_above x0 ⟨1 + r.val, by omega⟩ p
  have a2 := plain_above x0 ⟨2 + r.val, by omega⟩ p
  have ew := fun k => plain_w x1 k p
  have eb := plain_b x2 p
  pointwise [val_main_cst_1, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44]
  rw [ew, ew, ew, eb, a0, a1, a2]
  dsimp only
  unfold conv
  rw [Nat.add_comm 2 r.val, above_two, Nat.add_comm 1 r.val]
  exact (fun a b c d => by ac_rfl : ∀ a b c d : EReal, a + b + c + d = d + a + b + c) _ _ _ _

/-- The column of a product's first and second factor in the order of the plain layer. -/
def lo (q : Fin 2816) : Fin 5632 := ⟨q.val, by have := q.isLt; omega⟩
def hi (q : Fin 2816) : Fin 5632 := ⟨2816 + q.val, by have := q.isLt; omega⟩

theorem stored_lo_val (q : Fin 2816) : (stored (lo q)).val = if q.val < 1408 then q.val else q.val + 1408 := by
  have := q.isLt
  show (if q.val < 1408 then q.val else if q.val < 2816 then q.val + 1408 else if q.val < 4224 then q.val - 1408 else q.val) = _
  by_cases h : q.val < 1408
  · rw [if_pos h, if_pos h]
  · rw [if_neg h, if_neg h, if_pos this]

theorem stored_hi_val (q : Fin 2816) : (stored (hi q)).val = if q.val < 1408 then q.val + 1408 else q.val + 2816 := by
  have := q.isLt
  show (if 2816 + q.val < 1408 then 2816 + q.val else if 2816 + q.val < 2816 then 2816 + q.val + 1408 else if 2816 + q.val < 4224 then 2816 + q.val - 1408 else 2816 + q.val) = _
  rw [if_neg (by omega : ¬2816 + q.val < 1408), if_neg (by omega : ¬2816 + q.val < 2816)]
  by_cases h : q.val < 1408
  · rw [if_pos h, if_pos (by omega : 2816 + q.val < 4224)]
    omega
  · rw [if_neg h, if_neg (by omega : ¬2816 + q.val < 4224)]
    omega

theorem stored_lo (q : Fin 2816) : (stored (lo q)).val % 2816 < 1408 ∧ gate (stored (lo q)) = stored (lo q) ∧ gated (stored (lo q)) = stored (hi q) ∧ prod (stored (lo q)) = q := by
  have := q.isLt
  have e1 := stored_lo_val q
  have e2 := stored_hi_val q
  refine ⟨?_, Fin.ext ?_, Fin.ext ?_, Fin.ext ?_⟩
  · split_ifs at e1 <;> omega
  · show (stored (lo q)).val / 2816 * 2816 + (stored (lo q)).val % 1408 = _
    split_ifs at e1 <;> omega
  · show (stored (lo q)).val / 2816 * 2816 + 1408 + (stored (lo q)).val % 1408 = _
    split_ifs at e1 e2 <;> omega
  · show (stored (lo q)).val / 2816 * 1408 + (stored (lo q)).val % 1408 = _
    split_ifs at e1 <;> omega

theorem stored_hi (q : Fin 2816) : ¬ (stored (hi q)).val % 2816 < 1408 ∧ gate (stored (hi q)) = stored (lo q) ∧ gated (stored (hi q)) = stored (hi q) ∧ prod (stored (hi q)) = q := by
  have := q.isLt
  have e1 := stored_lo_val q
  have e2 := stored_hi_val q
  refine ⟨?_, Fin.ext ?_, Fin.ext ?_, Fin.ext ?_⟩
  · split_ifs at e2 <;> omega
  · show (stored (hi q)).val / 2816 * 2816 + (stored (hi q)).val % 1408 = _
    split_ifs at e1 e2 <;> omega
  · show (stored (hi q)).val / 2816 * 2816 + 1408 + (stored (hi q)).val % 1408 = _
    split_ifs at e2 <;> omega
  · show (stored (hi q)).val / 2816 * 1408 + (stored (hi q)).val % 1408 = _
    split_ifs at e2 <;> omega

theorem gate_plain (r : Fin 4096) (q : Fin 2816) : (val_main_v45 (F := Ideal) x0 x1 x2) (ix2 r q) = conv (UU x0) (WW x1) (BB x2) r (stored (lo q)) := by
  have e := conv_plain x0 x1 x2 r (lo q)
  pointwise [val_main_v45]
  exact e

theorem gated_plain (r : Fin 4096) (q : Fin 2816) : (val_main_v46 (F := Ideal) x0 x1 x2) (ix2 r q) = conv (UU x0) (WW x1) (BB x2) r (stored (hi q)) := by
  have e := conv_plain x0 x1 x2 r (hi q)
  pointwise [val_main_v46]
  exact e

theorem logistic_plain (r : Fin 4096) (q : Fin 2816) : (val_main_v47_2 (F := Ideal) x0 x1 x2) (ix2 r q) = Ideal.logistic (conv (UU x0) (WW x1) (BB x2) r (stored (lo q))) := by
  have e := gate_plain x0 x1 x2 r q
  pointwise [val_main_call0_v0, val_main_call0_v1, val_main_call0_cst, val_main_call0_v2, val_main_call0_v3, val_main_call0_cst_0, val_main_call0_v4, val_main_v47_2]
  rw [e]
  rfl

theorem ct_plain (r : Fin 4096) (q : Fin 2816) : (val_main_v50 (F := Ideal) x3) (ix2 r q) = DD x3 r q := by
  pointwise [val_main_cst_2, val_main_v50]
  simp only [Finset.univ_unique, Finset.sum_singleton, zero_add]
  rfl

theorem v53_plain (r : Fin 4096) (q : Fin 2816) : (val_main_v53 (F := Ideal) x0 x1 x2 x3) (ix2 r q) = dz (UU x0) (WW x1) (BB x2) (DD x3) r (stored (lo q)) := by
  have eg := gate_plain x0 x1 x2 r q
  have eu := gated_plain x0 x1 x2 r q
  have el := logistic_plain x0 x1 x2 r q
  have ec := ct_plain x3 r q
  obtain ⟨h, h1, h2, h3⟩ := stored_lo q
  unfold dz
  rw [if_pos h, h1, h2, h3]
  pointwise [val_main_call0_cst_1, val_main_call0_v6, val_main_call0_v7, val_main_v47_1, val_main_v52, val_main_call1_v0, val_main_call1_v1, val_main_call1_v2, val_main_v53]
  rw [eg, eu, el, ec]

theorem v51_plain (r : Fin 4096) (q : Fin 2816) : (val_main_v51 (F := Ideal) x0 x1 x2 x3) (ix2 r q) = dz (UU x0) (WW x1) (BB x2) (DD x3) r (stored (hi q)) := by
  have eg := gate_plain x0 x1 x2 r q
  have el := logistic_plain x0 x1 x2 r q
  have ec := ct_plain x3 r q
  obtain ⟨h, h1, h2, h3⟩ := stored_hi q
  unfold dz
  rw [if_neg h, h1, h3]
  pointwise [val_main_v47_0, val_main_v51]
  rw [eg, el, ec]

theorem dz_plain (r : Fin 4096) (p : Fin 5632) : (val_main_v54 (F := Ideal) x0 x1 x2 x3) (ix2 r p) = dz (UU x0) (WW x1) (BB x2) (DD x3) r (stored p) := by
  have e1 := fun q => v53_plain x0 x1 x2 x3 r q
  have e2 := fun q => v51_plain x0 x1 x2 x3 r q
  have := p.isLt
  pointwise [val_main_v54]
  by_cases h : p.val < 2816
  · exact (dif_pos h).trans (e1 ⟨p.val, h⟩)
  · refine (dif_neg h).trans ((e2 ⟨p.val - 2816, by omega⟩).trans ?_)
    exact congrArg (fun z => dz (UU x0) (WW x1) (BB x2) (DD x3) r (stored z)) (Fin.ext (by show 2816 + (p.val - 2816) = p.val; omega))

theorem dcb_plain (p : Fin 5632) : (val_main_v57 (F := Ideal) x0 x1 x2 x3) (ix1 p) = dcb (UU x0) (WW x1) (BB x2) (DD x3) (stored p) := by
  have e := fun r => dz_plain x0 x1 x2 x3 r p
  pointwise [val_main_cst_3, val_main_v55, val_main_v56, val_main_cst_4, val_main_v57]
  simp only [Finset.univ_unique, Finset.sum_singleton, zero_add]
  exact Finset.sum_congr rfl fun r _ => e r

theorem dcw2_plain (p : Fin 5632) : (val_main_v63 (F := Ideal) x0 x1 x2 x3) (ix1 p) = dcw (UU x0) (WW x1) (BB x2) (DD x3) 2 (stored p) := by
  have e := fun r => dz_plain x0 x1 x2 x3 r p
  have a := fun r : Fin 4096 => plain_above x0 ⟨2 + r.val, by omega⟩ p
  pointwise [val_main_v37, val_main_v60, val_main_cst_5, val_main_v61, val_main_v62, val_main_cst_6, val_main_v63]
  simp only [Finset.univ_unique, Finset.sum_singleton, zero_add]
  exact Finset.sum_congr rfl fun r _ => congrArg₂ _ (e r) ((a r).trans (congrArg (fun n => above (UU x0) n (stored p)) (Nat.add_comm _ _)))

theorem dcw1_plain (p : Fin 5632) : (val_main_v72 (F := Ideal) x0 x1 x2 x3) (ix1 p) = dcw (UU x0) (WW x1) (BB x2) (DD x3) 1 (stored p) := by
  have e := fun r => dz_plain x0 x1 x2 x3 r p
  have a := fun r : Fin 4096 => plain_above x0 ⟨1 + r.val, by omega⟩ p
  pointwise [val_main_v30, val_main_v69, val_main_cst_9, val_main_v70, val_main_v71, val_main_cst_10, val_main_v72]
  simp only [Finset.univ_unique, Finset.sum_singleton, zero_add]
  exact Finset.sum_congr rfl fun r _ => congrArg₂ _ (e r) ((a r).trans (congrArg (fun n => above (UU x0) n (stored p)) (Nat.add_comm _ _)))

theorem dcw0_plain (p : Fin 5632) : (val_main_v83 (F := Ideal) x0 x1 x2 x3) (ix1 p) = dcw (UU x0) (WW x1) (BB x2) (DD x3) 0 (stored p) := by
  have e := fun r => dz_plain x0 x1 x2 x3 r p
  have a := fun r : Fin 4096 => plain_above x0 ⟨r.val, by omega⟩ p
  pointwise [val_main_v22, val_main_v80, val_main_cst_13, val_main_v81, val_main_v82, val_main_cst_14, val_main_v83]
  simp only [Finset.univ_unique, Finset.sum_singleton, zero_add]
  exact Finset.sum_congr rfl fun r _ => congrArg₂ _ (e r) (a r)

theorem dcw_plain (k : Fin 3) (p : Fin 5632) : (val_main_v88 (F := Ideal) x0 x1 x2 x3) (ix2 k p) = dcw (UU x0) (WW x1) (BB x2) (DD x3) k (stored p) := by
  have e2 := dcw2_plain x0 x1 x2 x3 p
  have e1 := dcw1_plain x0 x1 x2 x3 p
  have e0 := dcw0_plain x0 x1 x2 x3 p
  pointwise [val_main_v65, val_main_cst_8, val_main_v66, val_main_v75, val_main_cst_12, val_main_v76, val_main_v77, val_main_v86, val_main_cst_16, val_main_v87, val_main_v88]
  rw [e0, e1, e2]
  fin_cases k <;> simp

/-- The four blocks put back in their stored places. -/
theorem assemble (f : Fin 5632 → EReal) (p : Fin 5632) :
    (((if h : 4224 ≤ p.val then f ⟨4224 + (p.val - 4224), by have := p.isLt; omega⟩ else 0)
      + (if h : 1408 ≤ p.val ∧ p.val - 1408 < 1408 then f ⟨2816 + (p.val - 1408), by have := p.isLt; omega⟩ else 0))
      + (if h : 2816 ≤ p.val ∧ p.val - 2816 < 1408 then f ⟨1408 + (p.val - 2816), by have := p.isLt; omega⟩ else 0))
      + (if h : p.val < 1408 then f p else 0) = f (stored p) := by
  have := p.isLt
  split_ifs <;> first
    | (exfalso; omega)
    | (simp only [add_zero, zero_add]
       refine congrArg f (Fin.ext ?_)
       rw [stored_val]
       try dsimp only
       split_ifs <;> omega)

theorem last_dcb (p : Fin 5632) : (val_main_v95 (F := Ideal) x0 x1 x2 x3) (ix1 p) = if h : 4224 ≤ p.val then (val_main_v94 (F := Ideal) x0 x1 x2 x3) (ix1 ⟨p.val - 4224, by have := p.isLt; omega⟩) else 0 := by
  have := p.isLt
  unfold val_main_v95
  by_cases h : 4224 ≤ p.val
  · rw [dif_pos h]
    refine pad_apply_of_inside _ _ _ _ _ _ _ _ _ fun a => ?_
    fin_cases a
    · show p.val = 4224 + (p.val - 4224) * (0 + 1)
      omega
  · rw [dif_neg h]
    refine (pad_apply_of_not_inside _ _ _ _ _ _ _ _ 0 fun h' => h h'.1).trans ?_
    pointwise [val_main_cst_17]

theorem third_dcb (p : Fin 5632) : (val_main_v98 (F := Ideal) x0 x1 x2 x3) (ix1 p) = if h : 2816 ≤ p.val ∧ p.val - 2816 < 1408 then (val_main_v92 (F := Ideal) x0 x1 x2 x3) (ix1 ⟨p.val - 2816, h.2⟩) else 0 := by
  have := p.isLt
  unfold val_main_v98
  by_cases h : 2816 ≤ p.val ∧ p.val - 2816 < 1408
  · rw [dif_pos h]
    refine pad_apply_of_inside _ _ _ _ _ _ _ _ _ fun a => ?_
    fin_cases a
    show p.val = 2816 + (p.val - 2816) * (0 + 1)
    omega
  · rw [dif_neg h]
    refine (pad_apply_of_not_inside _ _ _ _ _ _ _ _ 0 fun h' => h ⟨h'.1, ?_⟩).trans ?_
    · have h2 : (p.val - 2816) / (0 + 1) < 1408 := h'.2.2
      omega
    · pointwise [val_main_cst_19]

theorem reference_dcb (z : Fin 1) (p : Fin 5632) : (val_main_v102 (F := Ideal) x0 x1 x2 x3) (ix2 z p) = dcb (UU x0) (WW x1) (BB x2) (DD x3) p := by
  have e := last_dcb x0 x1 x2 x3 p
  have f := assemble (fun p => (val_main_v57 (F := Ideal) x0 x1 x2 x3) (ix1 p)) p
  have g := dcb_plain x0 x1 x2 x3 (stored p)
  rw [stored_stored] at g
  refine Eq.trans ?_ (f.trans g)
  pointwise [val_main_v102, val_main_v101, val_main_v99, val_main_v97]
  rw [e]
  pointwise [val_main_v94]
  refine congrArg₂ _ (congrArg₂ _ (congrArg₂ _ rfl ?_) ?_) ?_
  · pointwise [val_main_cst_18, val_main_v96]
    pointwise [val_main_v93]
  · rw [third_dcb]
    pointwise [val_main_v92]
  · pointwise [val_main_cst_20, val_main_v100]
    pointwise [val_main_v91]

theorem last_dcw (k : Fin 3) (p : Fin 5632) : (val_main_v107 (F := Ideal) x0 x1 x2 x3) (ix2 k p) = if h : 4224 ≤ p.val then (val_main_v106 (F := Ideal) x0 x1 x2 x3) (ix2 k ⟨p.val - 4224, by have := p.isLt; omega⟩) else 0 := by
  have := p.isLt
  unfold val_main_v107
  by_cases h : 4224 ≤ p.val
  · rw [dif_pos h]
    refine pad_apply_of_inside _ _ _ _ _ _ _ _ _ fun a => ?_
    fin_cases a
    · show k.val = 0 + k.val * (0 + 1)
      omega
    · show p.val = 4224 + (p.val - 4224) * (0 + 1)
      omega
  · rw [dif_neg h]
    refine (pad_apply_of_not_inside _ _ _ _ _ _ _ _ 1 fun h' => h h'.1).trans ?_
    pointwise [val_main_cst_21]

theorem reference_dcw (k : Fin 3) (p : Fin 5632) : (val_main_v113 (F := Ideal) x0 x1 x2 x3) (ix2 k p) = dcw (UU x0) (WW x1) (BB x2) (DD x3) k p := by
  have e := last_dcw x0 x1 x2 x3 k p
  have f := assemble (fun p => (val_main_v88 (F := Ideal) x0 x1 x2 x3) (ix2 k p)) p
  have g := dcw_plain x0 x1 x2 x3 k (stored p)
  rw [stored_stored] at g
  refine Eq.trans ?_ (f.trans g)
  pointwise [val_main_cst_22, val_main_v108, val_main_v109, val_main_cst_23, val_main_v110, val_main_v111, val_main_cst_24, val_main_v112, val_main_v113]
  rw [e]
  pointwise [val_main_v103, val_main_v104, val_main_v105, val_main_v106]

theorem last_dup (r : Fin 4096) (p : Fin 5632) : (val_main_v118 (F := Ideal) x0 x1 x2 x3) (ix2 r p) = if h : 4224 ≤ p.val then (val_main_v117 (F := Ideal) x0 x1 x2 x3) (ix2 r ⟨p.val - 4224, by have := p.isLt; omega⟩) else 0 := by
  have := p.isLt
  unfold val_main_v118
  by_cases h : 4224 ≤ p.val
  · rw [dif_pos h]
    refine pad_apply_of_inside _ _ _ _ _ _ _ _ _ fun a => ?_
    fin_cases a
    · show r.val = 0 + r.val * (0 + 1)
      omega
    · show p.val = 4224 + (p.val - 4224) * (0 + 1)
      omega
  · rw [dif_neg h]
    refine (pad_apply_of_not_inside _ _ _ _ _ _ _ _ 1 fun h' => h h'.1).trans ?_
    pointwise [val_main_cst_25]

theorem dup2 (r : Fin 4096) (p : Fin 5632) : (val_main_v64 (F := Ideal) x0 x1 x2 x3) (ix2 ⟨2 + r.val, by have := r.isLt; omega⟩ p) = (val_main_v59 (F := Ideal) x0 x1 x2 x3) (ix2 r p) := by
  unfold val_main_v64
  refine pad_apply_of_inside _ _ _ _ _ _ _ _ _ fun a => ?_
  fin_cases a
  · show 2 + r.val = 2 + r.val * (0 + 1)
    omega
  · show p.val = 0 + p.val * (0 + 1)
    omega

theorem dup_plain (r : Fin 4096) (p : Fin 5632) : (val_main_v90 (F := Ideal) x0 x1 x2 x3) (ix2 r p) = dup (UU x0) (WW x1) (BB x2) (DD x3) r (stored p) := by
  have e := fun r => dz_plain x0 x1 x2 x3 r p
  have ew := fun k => plain_w x1 k p
  have e2 := dup2 x0 x1 x2 x3 r p
  pointwise [val_main_v90, val_main_v85, val_main_v74]
  rw [e2]
  pointwise [val_main_v20, val_main_v21, val_main_v23, val_main_v28, val_main_v29, val_main_v31, val_main_v35, val_main_v36, val_main_v38, val_main_v58, val_main_v59, val_main_v67, val_main_v68, val_main_cst_11, val_main_v73, val_main_v78, val_main_v79, val_main_cst_15, val_main_v84]
  simp only [e, ew]
  have := r.isLt
  unfold dup
  have z2 : tap (UU x0) (WW x1) (BB x2) (DD x3) 2 r.val (stored p) = _ := dif_pos r.isLt
  rw [z2]
  refine congrArg₂ _ (congrArg₂ _ rfl ?_) ?_
  · unfold tap
    by_cases h : r.val + 1 < 4096
    · refine (dif_pos (by omega : 1 ≤ 2 + r.val ∧ 2 + r.val - 1 < 4096)).trans (Eq.trans ?_ (dif_pos h).symm)
      exact congrArg (fun z => WW x1 1 (stored p) * dz (UU x0) (WW x1) (BB x2) (DD x3) z (stored p)) (Fin.ext (by show 2 + r.val - 1 = r.val + 1; omega))
    · rw [dif_neg h]
      exact dif_neg (by omega)
  · unfold tap
    by_cases h : r.val + 2 < 4096
    · refine (dif_pos (by omega : 2 + r.val < 4096)).trans (Eq.trans ?_ (dif_pos h).symm)
      exact congrArg (fun z => WW x1 0 (stored p) * dz (UU x0) (WW x1) (BB x2) (DD x3) z (stored p)) (Fin.ext (by show 2 + r.val = r.val + 2; omega))
    · rw [dif_neg h]
      exact dif_neg (by omega)

theorem reference_dup (z : Fin 1) (r : Fin 4096) (p : Fin 5632) : (val_main_v126 (F := Ideal) x0 x1 x2 x3) (ix3 z r p) = dup (UU x0) (WW x1) (BB x2) (DD x3) r p := by
  have e := last_dup x0 x1 x2 x3 r p
  have f := assemble (fun p => (val_main_v90 (F := Ideal) x0 x1 x2 x3) (ix2 r p)) p
  have g := dup_plain x0 x1 x2 x3 r (stored p)
  rw [stored_stored] at g
  refine Eq.trans ?_ (f.trans g)
  pointwise [val_main_cst_26, val_main_v119, val_main_v120, val_main_cst_27, val_main_v121, val_main_v122, val_main_cst_28, val_main_v123, val_main_v124, val_main_v125, val_main_v126]
  rw [e]
  pointwise [val_main_v114, val_main_v115, val_main_v116, val_main_v117]
/-- The results at arguments equal to the ones given. -/
theorem array_dup (y0 : S1x4096x5632.Idx → EReal) (y1 : S3x5632.Idx → EReal) (y2 : S1x5632.Idx → EReal) (y3 : S1x4096x2816.Idx → EReal) (e0 : y0 = x0) (e1 : y1 = x1) (e2 : y2 = x2) (e3 : y3 = x3) :
    val_main_v126 (F := Ideal) y0 y1 y2 y3 = fun i : S1x4096x5632.Idx => dup (UU x0) (WW x1) (BB x2) (DD x3) (i 1) (i 2) := by
  subst e0 e1 e2 e3
  exact funext fun i => (congrArg _ (eq_ix3 i)).trans (reference_dup _ _ _ _ (i 0) (i 1) (i 2))

theorem array_dcw (y0 : S1x4096x5632.Idx → EReal) (y1 : S3x5632.Idx → EReal) (y2 : S1x5632.Idx → EReal) (y3 : S1x4096x2816.Idx → EReal) (e0 : y0 = x0) (e1 : y1 = x1) (e2 : y2 = x2) (e3 : y3 = x3) :
    val_main_v113 (F := Ideal) y0 y1 y2 y3 = fun i : S3x5632.Idx => dcw (UU x0) (WW x1) (BB x2) (DD x3) (i 0) (i 1) := by
  subst e0 e1 e2 e3
  exact funext fun i => (congrArg _ (eq_ix2 i)).trans (reference_dcw _ _ _ _ (i 0) (i 1))

theorem array_dcb (y0 : S1x4096x5632.Idx → EReal) (y1 : S3x5632.Idx → EReal) (y2 : S1x5632.Idx → EReal) (y3 : S1x4096x2816.Idx → EReal) (e0 : y0 = x0) (e1 : y1 = x1) (e2 : y2 = x2) (e3 : y3 = x3) :
    val_main_v102 (F := Ideal) y0 y1 y2 y3 = fun i : S1x5632.Idx => dcb (UU x0) (WW x1) (BB x2) (DD x3) (i 1) := by
  subst e0 e1 e2 e3
  exact funext fun i => (congrArg _ (eq_ix2 i)).trans (reference_dcb _ _ _ _ (i 0) (i 1))
end Ref

end Cert.Ffn

end
-- ==== Proof.Row.FfnClaims.lean ====
/-
  The claims about the gradient of the convolution and the gate of the feed-forward layer.
-/
module

public import proofs.«01_k».proof.Defs
public import proofs.«01_k».proof.Proof.Gen.Kernel15
public import proofs.«01_k».proof.Proof.Gen.Kernel15.Frame
public import proofs.«01_k».proof.Proof.Gen.Kernel15Ideal.Frame
public import proofs.«01_k».proof.Proof.Gen.Reference15Ideal
public import proofs.«01_k».proof.Proof.Gen.Reference15Ideal.Read
public import proofs.«01_k».proof.Proof.Row.FfnPoints
public import proofs.«01_k».proof.Proof.Row.FfnReference
public import Idealize.ShloMosaic.Adequacy
public import Idealize.ShloMosaic.Init

@[expose] public section

set_option maxRecDepth 16384

noncomputable section

namespace Cert.Ffn.Claims

open Idealize.ShloMosaic Idealize.SL.Sem Idealize.ShloMosaic.StableHlo
open Cert.Reference15Ideal.Read

theorem frame_p : Cert.quiescent_Kernel15 := fun m ρ _ => Cert.Kernel15.Gen.frame m ρ

theorem frame_pi : Cert.quiescent_Kernel15Ideal := fun m ρ _ => Cert.Kernel15Ideal.Gen.frame m ρ

theorem frame_ri : Cert.quiescent_Reference15Ideal := fun m ρ _ =>
  (θ_run Cert.Reference15Ideal.defs _ _).mono (fun r h => ⟨fun c => (h c).2.2.2,
      Idealize.ShloMosaic.sem_eq_zero_of_no_sems (by decide) r.2⟩)
    (Cert.Reference15Ideal.Value.run (F := Ideal) m ρ)

theorem preserves : Cert.preserves_Kernel15_Kernel15Ideal := trivial

/-- Both programs end at the same three arrays. -/
theorem algebraic : Cert.algebraic_Kernel15Ideal_Reference15Ideal := by
  intro m g m' g' _ hargs
  refine ⟨fun c => (fun i : Cert.Kernel15Ideal.S1x4096x5632.Idx => dup (U m c) (W m c) (B m c) (D m c) (i 1) (i 2)),
    fun c => (fun i : Cert.Kernel15Ideal.S3x5632.Idx => dcw (U m c) (W m c) (B m c) (D m c) (i 0) (i 1)),
    fun c => (fun i : Cert.Kernel15Ideal.S1x5632.Idx => dcb (U m c) (W m c) (B m c) (D m c) (i 1)), ?_, ?_⟩
  · exact (θ_run Cert.Kernel15Ideal.defs _ _).mono
      (fun r h c => ⟨(h c).1.trans (result_dup m c), (h c).2.1.trans (result_dcw m c), (h c).2.2.1.trans (result_dcb m c), (h c).2.2.2⟩) (Cert.Kernel15Ideal.Value.run_blocks m g)
  · refine (θ_run Cert.Reference15Ideal.defs _ _).mono (fun r h c => ⟨(h c).1.trans ?_, (h c).2.1.trans ?_, (h c).2.2.1.trans ?_, (h c).2.2.2⟩) (Cert.Reference15Ideal.Value.run m' g')
    · obtain ⟨e0, e1, e2, e3⟩ := hargs c
      have e := array_dup _ _ _ _ _ _ _ _ e0 e1 e2 e3
      exact (val_main_v126_eq (launchContents m' c)).trans e
    · obtain ⟨e0, e1, e2, e3⟩ := hargs c
      have e := array_dcw _ _ _ _ _ _ _ _ e0 e1 e2 e3
      exact (val_main_v113_eq (launchContents m' c)).trans e
    · obtain ⟨e0, e1, e2, e3⟩ := hargs c
      have e := array_dcb _ _ _ _ _ _ _ _ e0 e1 e2 e3
      exact (val_main_v102_eq (launchContents m' c)).trans e

end Cert.Ffn.Claims

end
-- ==== Proof.Row.DownRun.lean ====
/-
  One grid point of the forward call of the feed-forward's convolution, gate and second projection: what it leaves in the
  arrays' blocks and in the two buffers it keeps, as functions of what it finds there.
-/
module

public import proofs.«01_k».proof.Proof.Gen.Kernel17Ideal.Frame
public import proofs.«01_k».proof.Proof.Gen.Kernel17Ideal.Points
public import proofs.«01_k».proof.Proof.Gen.Kernel17Ideal.Skeleton
public import Idealize.ShloMosaic.Lib.VecWindow
public import Idealize.ShloMosaic.Lib.Pipeline.Value

@[expose] public section

set_option maxRecDepth 16384

noncomputable section

namespace Cert.Down

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The memory the statements below are about. -/
abbrev MM (F : FTy → Type) [FloatOps F] : Type := MT nD τ sig Unit (Elt F) ℕ (UR sig nD τ) ℕ

/-- The chunk's first half is worked on. -/
abbrev first (i : grid0.Coords) : Prop := (Scalar.cmpi .ne (Scalar.extui (Scalar.cmpi .eq (BitVec.ofNat 32 (i 1).val) 0#32)) 0#32) = 1#1

/-- The eight rows before the chunk: zeros before the first chunk, else those kept. -/
def rowIn (i : grid0.Coords) (s : Vec F S2x8x2816 .f32) : Vec F S1x8x2816 .f32 :=
  if k0_cond1 i = 1#1 then k0_pay4 else VecWindow.window s ![(i 1).val, 0, 0] S1x8x2816.size (k0_off2_eq i ▸ k0_off2_inb i)

/-- The kept rows with those of the half worked on replaced. -/
def rowOut (i : grid0.Coords) (s : Vec F S2x8x2816 .f32) (v : Vec F S1x8x2816 .f32) : Vec F S2x8x2816 .f32 :=
  VecWindow.put s ![(i 1).val, 0, 0] S1x8x2816.size v

section Of
variable (cin : Vec F S1x8x2816 .f32) (x0 : Vec F S1x256x2816 .f32) (x1 : Vec F S3x2816 .f32) (x2 : Vec F S1x2816 .f32) (x3 : Vec F S1408x1024 .bf16)

def actOf : FVec F S1x256x1408 .bf16 := k0_pay12 (k0_pay5 cin) (k0_pay7 x0) x1 (k0_pay8 cin x0 x1 x2) (k0_pay9 x1)
def partOf : FVec F S256x1024 .f32 := k0_pay13 (k0_pay5 cin) (k0_pay7 x0) x1 (k0_pay8 cin x0 x1 x2) (k0_pay9 x1) x3
end Of

theorem hz2 : (![0, 0] : Fin 2 → ℕ) = fun _ => 0 := by decide
theorem hz3 : (![0, 0, 0] : Fin 3 → ℕ) = fun _ => 0 := by decide
theorem hz4 : (![0, 0, 0, 0] : Fin 4 → ℕ) = fun _ => 0 := by decide

section Rows
variable (c : Dev nD) (i : grid0.Coords) (arg12 : Memref sig .tc .vmem S2x8x2816 .f32) (harg12 : arg12.IsWhole) (s0 : Vec F S2x8x2816 .f32)

theorem row_old (h : ¬ k0_cond1 i = 1#1) :
    View.readAt (Elt F) arg12.view (Rect.unit (s := S2x8x2816) (k0_off2 i) S1x8x2816.size (k0_off2_inb i)).toLoadRect (harg12.unread s0) = rowIn i s0 := by
  rw [View.readAt_unit _ _ (k0_off2_inb i) (k0_off2_eq i) (k0_off2_eq i ▸ k0_off2_inb i), harg12.read_unread]
  exact (if_neg h).symm

theorem row_new (h : k0_cond1 i = 1#1) :
    arg12.view.readCov [⟨Rect.unit (s := S2x8x2816) (k0_off1 i) S1x8x2816.size (k0_off1_inb i h), k0_pay4 (F := F)⟩]
      (Rect.unit (s := S2x8x2816) (k0_off2 i) S1x8x2816.size (k0_off2_inb i)).toLoadRect = rowIn i s0 := by
  unfold View.readCov
  rw [View.readAt_unit _ _ (k0_off2_inb i) (k0_off2_eq i) (k0_off2_eq i ▸ k0_off2_inb i), View.read_writes_cons_put _ _ _ _ _ (k0_off1_eq i), VecWindow.window_put_same]
  exact (if_pos h).symm

theorem kept_old (v : Vec F S1x8x2816 .f32) :
    View.read (Elt F) arg12.view (arg12.view.writes (Elt F) (harg12.unread s0) [⟨Rect.unit (s := S2x8x2816) (k0_off2 i) S1x8x2816.size (k0_off2_inb i), v⟩]) = rowOut i s0 v := by
  rw [View.read_writes_cons_put _ _ _ _ _ (k0_off2_eq i), View.writes_nil, harg12.read_unread]; rfl

theorem kept_new (h : k0_cond1 i = 1#1) (v w : Vec F S1x8x2816 .f32) :
    View.read (Elt F) arg12.view (arg12.view.writes (Elt F) (harg12.unread s0) [⟨Rect.unit (s := S2x8x2816) (k0_off2 i) S1x8x2816.size (k0_off2_inb i), v⟩, ⟨Rect.unit (s := S2x8x2816) (k0_off1 i) S1x8x2816.size (k0_off1_inb i h), w⟩]) = rowOut i s0 v := by
  rw [View.read_writes_cons_put _ _ _ _ _ (k0_off2_eq i), View.read_writes_cons_put _ _ _ _ _ (k0_off1_eq i), View.writes_nil, harg12.read_unread, VecWindow.put_put_same]; rfl
end Rows

set_option maxHeartbeats 4000000 in
theorem run_point (c : Dev nD) (i : grid0.Coords) (arg2 : Memref sig .tc .vmem S1x256x2816 .f32) (harg2 : arg2.IsWhole) (arg3 : Memref sig .tc .vmem S3x2816 .f32) (harg3 : arg3.IsWhole) (arg4 : Memref sig .tc .vmem S1x2816 .f32) (harg4 : arg4.IsWhole) (arg5 : Memref sig .tc .vmem S1408x1024 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x256x1408 .bf16) (harg8 : arg8.IsWhole) (arg9 : Memref sig .tc .vmem S1x1x8x2816 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S2x8x2816 .f32) (harg12 : arg12.IsWhole) (arg13 : Memref sig .tc .vmem S256x1024 .f32) (harg13 : arg13.IsWhole)
    (x0 : Vec F S1x256x2816 .f32) (x1 : Vec F S3x2816 .f32) (x2 : Vec F S1x2816 .f32) (x3 : Vec F S1408x1024 .bf16) (x4 : Vec F S256x1024 .f32) (x5 : Vec F S1x1024 .f32)
    (x8 x9 : Vec F S256x1024 .f32) (s0 : Vec F S2x8x2816 .f32) (s1 : Vec F S256x1024 .f32) (h : k0_cond3 i = 1#1 ↔ ¬ first i) (E : Set ℕ) (K : PUnit → sProp (MM F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare x8 ∗ owns (c : Thread nD τ) arg11 fullShare x9 ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (actOf (rowIn i s0) x0 x1 x2) ∗ owns (c : Thread nD τ) arg9 fullShare (k0_pay6 (rowIn i s0))
            ∗ owns (c : Thread nD τ) arg10 fullShare (if first i then x8 else k0_pay2 (partOf (rowIn i s0) x0 x1 x2 x3) s1)
            ∗ owns (c : Thread nD τ) arg11 fullShare (if first i then x9 else k0_pay3 (partOf (rowIn i s0) x0 x1 x2 x3) s1 x4 x5)
            ∗ owns (c : Thread nD τ) arg12 fullShare (rowOut i s0 (k0_pay11 (k0_pay7 x0)))
            ∗ owns (c : Thread nD τ) arg13 fullShare (if first i then k0_pay1 (partOf (rowIn i s0) x0 x1 x2 x3) else s1)) -∗ K ⟨⟩))
      ⊢ wp frame (wpE (defs₀ (F := F)) Variants.none c none) E (cc0_l1_down i arg2 harg2 arg3 harg3 arg4 harg4 arg5 harg5 arg6 harg6 arg7 harg7 arg8 harg8 arg9 harg9 arg10 harg10 arg11 harg11 arg12 harg12 arg13 harg13) K := by
  simp only [cc0_l1_down_eq_skeleton]; unfold cc0_l1_down_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9; obtain rfl := harg12.eq_unread hfs0; obtain rfl := harg13.eq_unread hfs1
  by_cases hc0 : k0_cond1 i = 1#1
  · have hcin := row_new i arg12 s0 hc0
    unfold k0_off1 k0_off2 at hcin
    dsimp only at hcin
    by_cases hc1 : first i
    · have hc2 : ¬ k0_cond3 i = 1#1 := fun e => h.mp e hc1
      sl_exec (disch := first | sl_exact hc0 | sl_exact hc1 | sl_exact hc2)
      sl_step
      iapply Hk
      isplitl [H0]
      · iexists _; isplitr; swap; · iexact H0
        ipureintro; exact harg2.read_unread _
      isplitl [H1]
      · iexists _; isplitr; swap; · iexact H1
        ipureintro; exact harg3.read_unread _
      isplitl [H2]
      · iexists _; isplitr; swap; · iexact H2
        ipureintro; exact harg4.read_unread _
      isplitl [H3]
      · iexists _; isplitr; swap; · iexact H3
        ipureintro; exact harg5.read_unread _
      isplitl [H4]
      · iexists _; isplitr; swap; · iexact H4
        ipureintro; exact harg6.read_unread _
      isplitl [H5]
      · iexists _; isplitr; swap; · iexact H5
        ipureintro; exact harg7.read_unread _
      isplitl [H6]
      · iexists _; isplitr; swap; · iexact H6
        ipureintro; sl_unfold_words; refine (View.read_writes_full (s := S1x256x1408) _ _ _ _ _).trans ?_; dsimp only; simp only [hcin, View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]; rfl
      isplitl [H7]
      · iexists _; isplitr; swap; · iexact H7
        ipureintro; sl_unfold_words; refine (View.read_writes_full (s := S1x1x8x2816) _ _ _ _ _).trans ?_; dsimp only
      isplitl [H8]
      · iexists _; isplitr; swap; · iexact H8
        ipureintro; rw [if_pos hc1]; exact harg10.read_unread _
      isplitl [H9]
      · iexists _; isplitr; swap; · iexact H9
        ipureintro; rw [if_pos hc1]; exact harg11.read_unread _
      isplitl [HS0]
      · iexists _; isplitr; swap; · iexact HS0
        ipureintro; sl_unfold_words; refine (kept_new i arg12 harg12 s0 hc0 _ _).trans ?_; simp only [View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]
      iexists _; isplitr; swap; · iexact HS1
      ipureintro; sl_unfold_words; refine (View.read_writes_full (s := S256x1024) _ _ _ _ _).trans ?_; rw [if_pos hc1]; dsimp only; simp only [hcin, View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]; rfl
    · have hc2 : k0_cond3 i = 1#1 := h.mpr hc1
      sl_exec (disch := first | sl_exact hc0 | sl_exact hc1 | sl_exact hc2)
      sl_step
      iapply Hk
      isplitl [H0]
      · iexists _; isplitr; swap; · iexact H0
        ipureintro; exact harg2.read_unread _
      isplitl [H1]
      · iexists _; isplitr; swap; · iexact H1
        ipureintro; exact harg3.read_unread _
      isplitl [H2]
      · iexists _; isplitr; swap; · iexact H2
        ipureintro; exact harg4.read_unread _
      isplitl [H3]
      · iexists _; isplitr; swap; · iexact H3
        ipureintro; exact harg5.read_unread _
      isplitl [H4]
      · iexists _; isplitr; swap; · iexact H4
        ipureintro; exact harg6.read_unread _
      isplitl [H5]
      · iexists _; isplitr; swap; · iexact H5
        ipureintro; exact harg7.read_unread _
      isplitl [H6]
      · iexists _; isplitr; swap; · iexact H6
        ipureintro; sl_unfold_words; refine (View.read_writes_full (s := S1x256x1408) _ _ _ _ _).trans ?_; dsimp only; simp only [hcin, View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]; rfl
      isplitl [H7]
      · iexists _; isplitr; swap; · iexact H7
        ipureintro; sl_unfold_words; refine (View.read_writes_full (s := S1x1x8x2816) _ _ _ _ _).trans ?_; dsimp only
      isplitl [H8]
      · iexists _; isplitr; swap; · iexact H8
        ipureintro; sl_unfold_words; refine (View.read_writes_full (s := S256x1024) _ _ _ _ _).trans ?_; rw [if_neg hc1]; dsimp only; simp only [hcin, View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]; rfl
      isplitl [H9]
      · iexists _; isplitr; swap; · iexact H9
        ipureintro; sl_unfold_words; refine (View.read_writes_full (s := S256x1024) _ _ _ _ _).trans ?_; rw [if_neg hc1]; dsimp only; simp only [hcin, View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]; rfl
      isplitl [HS0]
      · iexists _; isplitr; swap; · iexact HS0
        ipureintro; sl_unfold_words; refine (kept_new i arg12 harg12 s0 hc0 _ _).trans ?_; simp only [View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]
      iexists _; isplitr; swap; · iexact HS1
      ipureintro; rw [if_neg hc1]; exact harg13.read_unread _
  · have hcin := row_old i arg12 harg12 s0 hc0
    unfold k0_off2 at hcin
    dsimp only at hcin
    by_cases hc1 : first i
    · have hc2 : ¬ k0_cond3 i = 1#1 := fun e => h.mp e hc1
      sl_exec (disch := first | sl_exact hc0 | sl_exact hc1 | sl_exact hc2)
      sl_step
      iapply Hk
      isplitl [H0]
      · iexists _; isplitr; swap; · iexact H0
        ipureintro; exact harg2.read_unread _
      isplitl [H1]
      · iexists _; isplitr; swap; · iexact H1
        ipureintro; exact harg3.read_unread _
      isplitl [H2]
      · iexists _; isplitr; swap; · iexact H2
        ipureintro; exact harg4.read_unread _
      isplitl [H3]
      · iexists _; isplitr; swap; · iexact H3
        ipureintro; exact harg5.read_unread _
      isplitl [H4]
      · iexists _; isplitr; swap; · iexact H4
        ipureintro; exact harg6.read_unread _
      isplitl [H5]
      · iexists _; isplitr; swap; · iexact H5
        ipureintro; exact harg7.read_unread _
      isplitl [H6]
      · iexists _; isplitr; swap; · iexact H6
        ipureintro; sl_unfold_words; refine (View.read_writes_full (s := S1x256x1408) _ _ _ _ _).trans ?_; dsimp only; simp only [hcin, View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]; rfl
      isplitl [H7]
      · iexists _; isplitr; swap; · iexact H7
        ipureintro; sl_unfold_words; refine (View.read_writes_full (s := S1x1x8x2816) _ _ _ _ _).trans ?_; dsimp only
      isplitl [H8]
      · iexists _; isplitr; swap; · iexact H8
        ipureintro; rw [if_pos hc1]; exact harg10.read_unread _
      isplitl [H9]
      · iexists _; isplitr; swap; · iexact H9
        ipureintro; rw [if_pos hc1]; exact harg11.read_unread _
      isplitl [HS0]
      · iexists _; isplitr; swap; · iexact HS0
        ipureintro; sl_unfold_words; refine (kept_old i arg12 harg12 s0 _).trans ?_; simp only [View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]
      iexists _; isplitr; swap; · iexact HS1
      ipureintro; sl_unfold_words; refine (View.read_writes_full (s := S256x1024) _ _ _ _ _).trans ?_; rw [if_pos hc1]; dsimp only; simp only [hcin, View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]; rfl
    · have hc2 : k0_cond3 i = 1#1 := h.mpr hc1
      sl_exec (disch := first | sl_exact hc0 | sl_exact hc1 | sl_exact hc2)
      sl_step
      iapply Hk
      isplitl [H0]
      · iexists _; isplitr; swap; · iexact H0
        ipureintro; exact harg2.read_unread _
      isplitl [H1]
      · iexists _; isplitr; swap; · iexact H1
        ipureintro; exact harg3.read_unread _
      isplitl [H2]
      · iexists _; isplitr; swap; · iexact H2
        ipureintro; exact harg4.read_unread _
      isplitl [H3]
      · iexists _; isplitr; swap; · iexact H3
        ipureintro; exact harg5.read_unread _
      isplitl [H4]
      · iexists _; isplitr; swap; · iexact H4
        ipureintro; exact harg6.read_unread _
      isplitl [H5]
      · iexists _; isplitr; swap; · iexact H5
        ipureintro; exact harg7.read_unread _
      isplitl [H6]
      · iexists _; isplitr; swap; · iexact H6
        ipureintro; sl_unfold_words; refine (View.read_writes_full (s := S1x256x1408) _ _ _ _ _).trans ?_; dsimp only; simp only [hcin, View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]; rfl
      isplitl [H7]
      · iexists _; isplitr; swap; · iexact H7
        ipureintro; sl_unfold_words; refine (View.read_writes_full (s := S1x1x8x2816) _ _ _ _ _).trans ?_; dsimp only
      isplitl [H8]
      · iexists _; isplitr; swap; · iexact H8
        ipureintro; sl_unfold_words; refine (View.read_writes_full (s := S256x1024) _ _ _ _ _).trans ?_; rw [if_neg hc1]; dsimp only; simp only [hcin, View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]; rfl
      isplitl [H9]
      · iexists _; isplitr; swap; · iexact H9
        ipureintro; sl_unfold_words; refine (View.read_writes_full (s := S256x1024) _ _ _ _ _).trans ?_; rw [if_neg hc1]; dsimp only; simp only [hcin, View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]; rfl
      isplitl [HS0]
      · iexists _; isplitr; swap; · iexact HS0
        ipureintro; sl_unfold_words; refine (kept_old i arg12 harg12 s0 _).trans ?_; simp only [View.readAt_eq_ld, harg2.read_unread, harg3.read_unread, harg4.read_unread, harg5.read_unread, harg6.read_unread, harg7.read_unread, harg13.read_unread, View.ld_unit_zero (S := S1x256x2816) hz3, View.ld_unit_zero (S := S3x2816) hz2, View.ld_unit_zero (S := S1x2816) hz2, View.ld_unit_zero (S := S1408x1024) hz2, View.ld_unit_zero (S := S256x1024) hz2, View.ld_unit_zero (S := S1x1024) hz2]
      iexists _; isplitr; swap; · iexact HS1
      ipureintro; rw [if_neg hc1]; exact harg13.read_unread _

end Cert.Down

end
-- ==== Proof.Row.DownFrame.lean ====
/-
  The run of the forward call of the feed-forward's convolution, gate and second projection: what its two kept buffers hold
  before each grid point, what each point leaves in the arrays' blocks, and the whole run from these.
-/
module

public import proofs.«01_k».proof.Proof.Row.DownRun
public import Idealize.ShloMosaic.Lib.Pipeline.FrameBody
public import Idealize.ShloMosaic.Lib.Tactic
public import Idealize.ShloMosaic.Lib.Claim
public import Idealize.ShloMosaic.Lib.WordCmp

@[expose] public section

set_option maxRecDepth 16384

noncomputable section

namespace Cert.Down

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The grid points -/

theorem t_lt (t : Fin cfg0.N) : t.val < 32 := Nat.lt_of_lt_of_eq t.isLt N_0

theorem half_val (t : Fin cfg0.N) : (grid0.coords t 1).val = t.val % 2 := by
  have e : (grid0.coords t 1).val = t.val / 1 % 2 := Pipeline.Grid.coords_val t 1 (by decide) rfl
  rw [e, Nat.div_one]

theorem chunk_val (t : Fin cfg0.N) : (grid0.coords t 0).val = t.val / 2 % 16 := Pipeline.Grid.coords_val t 0 (by decide) rfl

theorem cond1_iff (t : Fin cfg0.N) : k0_cond1 (grid0.coords t) = 1#1 ↔ t.val < 2 := by
  have ht := t_lt t
  have e0 := chunk_val t
  have e1 := half_val t
  simp only [k0_cond1, e0, e1]
  word_cmp

theorem first_iff (t : Fin cfg0.N) : first (grid0.coords t) ↔ t.val % 2 = 0 := by
  have ht := t_lt t
  have e1 := half_val t
  simp only [first, e1]
  word_cmp

theorem cond3_iff (t : Fin cfg0.N) : k0_cond3 (grid0.coords t) = 1#1 ↔ t.val % 2 = 1 := by
  have ht := t_lt t
  have e0 := chunk_val t
  have e1 := half_val t
  simp only [k0_cond3, e0, e1]
  word_cmp

theorem idle8 : ∀ t : Fin cfg0.N, t.val % 2 = 0 → cfg0.idle 8 (grid0.coords t) = true ∧ (cfg0.win 8).flush t = false := by decide +kernel
theorem idle9 : ∀ t : Fin cfg0.N, t.val % 2 = 0 → cfg0.idle 9 (grid0.coords t) = true ∧ (cfg0.win 9).flush t = false := by decide +kernel
theorem live8 : ∀ t : Fin cfg0.N, t.val % 2 = 1 → cfg0.idle 8 (grid0.coords t) = false := by decide +kernel
theorem live9 : ∀ t : Fin cfg0.N, t.val % 2 = 1 → cfg0.idle 9 (grid0.coords t) = false := by decide +kernel

/-- The grid point `d` before. -/
def back (d : ℕ) (t : Fin cfg0.N) : Fin cfg0.N := ⟨t.val - d, lt_of_le_of_lt (Nat.sub_le _ _) t.isLt⟩

/-! ## What each point works with -/

/-- The last eight rows of point `t`'s block. -/
def lastRows (c : Dev nD) (t : Fin cfg0.N) : Vec F S1x8x2816 .f32 := k0_pay11 (k0_pay7 (iblk m c 0 t))

/-- The eight rows before point `t`'s block. -/
def cin (c : Dev nD) (t : Fin cfg0.N) : Vec F S1x8x2816 .f32 := if t.val < 2 then k0_pay4 else lastRows m c (back 2 t)

/-- The product of the half point `t` works on. -/
def part (c : Dev nD) (t : Fin cfg0.N) : FVec F S256x1024 .f32 := partOf (cin m c t) (iblk m c 0 t) (iblk m c 1 t) (iblk m c 2 t) (iblk m c 3 t)

/-- The product of the half before, as kept. -/
def acc (c : Dev nD) (t : Fin cfg0.N) : Vec F S256x1024 .f32 := k0_pay1 (part m c (back 1 t))

theorem inbRow {r : ℕ} (h : r < 2) : ∀ a, (![r, 0, 0] : Fin 3 → ℕ) a + S1x8x2816.size a ≤ S2x8x2816.size a := by
  intro a
  match a with
  | ⟨0, _⟩ => show r + 1 ≤ 2; omega
  | ⟨1, _⟩ => show 0 + 8 ≤ 8; omega
  | ⟨2, _⟩ => show 0 + 2816 ≤ 2816; omega

/-- Row `r` of the kept rows. -/
def rowAt (s : Vec F S2x8x2816 .f32) (r : ℕ) (h : r < 2) : Vec F S1x8x2816 .f32 := VecWindow.window s ![r, 0, 0] S1x8x2816.size (inbRow h)

theorem mod_lt (n : ℕ) : n % 2 < 2 := Nat.mod_lt _ (by decide)

/-- What the kept buffers hold before point `n`. -/
def Kept (c : Dev nD) (n : ℕ) (s : Vec F S2x8x2816 .f32) (a : Vec F S256x1024 .f32) : Prop :=
  (∀ t : Fin cfg0.N, t.val < n → n ≤ t.val + 2 → rowAt s (t.val % 2) (mod_lt _) = lastRows m c t)
    ∧ (n % 2 = 1 → ∀ t : Fin cfg0.N, t.val + 1 = n → a = k0_pay1 (part m c t))

theorem kept_zero (c : Dev nD) (s : Vec F S2x8x2816 .f32) (a : Vec F S256x1024 .f32) : Kept m c 0 s a :=
  ⟨fun t h => absurd h (Nat.not_lt_zero _), fun h => absurd h (by decide)⟩

theorem rowAt_congr (s : Vec F S2x8x2816 .f32) {r r' : ℕ} (e : r = r') (h : r < 2) (h' : r' < 2) : rowAt s r h = rowAt s r' h' := by subst e; rfl

theorem rowIn_eq (c : Dev nD) (t : Fin cfg0.N) (s : Vec F S2x8x2816 .f32) (a : Vec F S256x1024 .f32) (hk : Kept m c t.val s a) :
    rowIn (grid0.coords t) s = cin m c t := by
  unfold rowIn cin
  by_cases h : t.val < 2
  · rw [if_pos ((cond1_iff t).mpr h), if_pos h]
  · rw [if_neg (fun e => h ((cond1_iff t).mp e)), if_neg h]
    have e : (back 2 t).val = t.val - 2 := rfl
    refine Eq.trans ?_ (hk.1 (back 2 t) (by omega) (by omega))
    exact rowAt_congr s ((half_val t).trans (by rw [e]; omega)) (by rw [half_val]; exact mod_lt _) (mod_lt _)

theorem acc_eq (c : Dev nD) (t : Fin cfg0.N) (s : Vec F S2x8x2816 .f32) (a : Vec F S256x1024 .f32) (hk : Kept m c t.val s a) (h : t.val % 2 = 1) : a = acc m c t :=
  hk.2 h (back 1 t) (by show t.val - 1 + 1 = t.val; omega)

theorem rowAt_put_same (s : Vec F S2x8x2816 .f32) (r : ℕ) (h : r < 2) (v : Vec F S1x8x2816 .f32) : rowAt (VecWindow.put s ![r, 0, 0] S1x8x2816.size v) r h = v :=
  VecWindow.window_put_same s ![r, 0, 0] S1x8x2816.size (inbRow h) v

theorem rowAt_put_other (s : Vec F S2x8x2816 .f32) (r r' : ℕ) (h : r < 2) (hne : r ≠ r') (v : Vec F S1x8x2816 .f32) : rowAt (VecWindow.put s ![r', 0, 0] S1x8x2816.size v) r h = rowAt s r h :=
  VecWindow.window_put_of_disjoint s ![r', 0, 0] S1x8x2816.size ![r, 0, 0] S1x8x2816.size (inbRow h) v (0 : Fin 3)
    (by show r + 1 ≤ r' ∨ r' + 1 ≤ r; omega)

theorem kept_succ (c : Dev nD) (t : Fin cfg0.N) (s : Vec F S2x8x2816 .f32) (a : Vec F S256x1024 .f32) (hk : Kept m c t.val s a) :
    Kept m c (t.val + 1) (rowOut (grid0.coords t) s (lastRows m c t)) (if first (grid0.coords t) then k0_pay1 (part m c t) else a) := by
  refine ⟨fun t' h1 h2 => ?_, fun h t' ht' => ?_⟩
  · unfold rowOut
    rw [half_val t]
    by_cases e : t' = t
    · subst e; exact rowAt_put_same _ _ _ _
    · have hv : t'.val ≠ t.val := fun h => e (Fin.ext h)
      rw [rowAt_put_other _ _ _ _ (by omega)]
      exact hk.1 t' (by omega) (by omega)
  · have e : t' = t := Fin.ext (by omega)
    subst e
    rw [if_pos ((first_iff t').mpr (by omega))]

/-! ## The run's data -/

/-- The kept buffers, and the generator's register at some state. -/
def Inv (c : Dev nD) (n : ℕ) : sProp (MM F) :=
  iprop(∃ s a, owns (c : Thread nD τ) (Memref.whole cc0_scratch0) fullShare s ∗ owns (c : Thread nD τ) (Memref.whole cc0_scratch1) fullShare a ∗ ⌜Kept m c n s a⌝ ∗ (∃ r, prngReg c r))

theorem start_eq (c : Dev nD) :
    (Pipeline.ΦA spec0 c : sProp (MM F))
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The arrays as the run finds them, each point's blocks after it, and the kept buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => actOf (cin m c t) (iblk m c 0 t) (iblk m c 1 t) (iblk m c 2 t)
    | ⟨7, _⟩ => k0_pay6 (cin m c t)
    | ⟨8, _⟩ => k0_pay2 (part m c t) (acc m c t)
    | ⟨9, _⟩ => k0_pay3 (part m c t) (acc m c t) (iblk m c 4 t) (iblk m c 5 t)
  Φ t := Inv m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = actOf (cin m c t) (iblk m c 0 t) (iblk m c 1 t) (iblk m c 2 t) := by dsimp only [dats]
theorem after0_7 (c : Dev nD) (t : Fin cfg0.N) : (dats m 0 c).after 7 t = k0_pay6 (cin m c t) := by dsimp only [dats]
theorem after0_8 (c : Dev nD) (t : Fin cfg0.N) : (dats m 0 c).after 8 t = k0_pay2 (part m c t) (acc m c t) := by dsimp only [dats]
theorem after0_9 (c : Dev nD) (t : Fin cfg0.N) : (dats m 0 c).after 9 t = k0_pay3 (part m c t) (acc m c t) (iblk m c 4 t) (iblk m c 5 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

theorem inv_at (c : Dev nD) (t : Fin cfg0.N) : (dats m 0 c).Φ t.castSucc = Inv m c t.val := by dsimp only [dats]; rfl
theorem inv_next (c : Dev nD) (t : Fin cfg0.N) : (dats m 0 c).Φ t.succ = Inv m c (t.val + 1) := by dsimp only [dats]; rfl

/-- The staging memrefs at point `t`. -/
abbrev ms0 (t : Fin cfg0.N) : Memref sig .tc .vmem S1x256x2816 .f32 := win0_0.stage (cfg0.slots t 0)
abbrev ms1 (t : Fin cfg0.N) : Memref sig .tc .vmem S3x2816 .f32 := win0_1.stage (cfg0.slots t 1)
abbrev ms2 (t : Fin cfg0.N) : Memref sig .tc .vmem S1x2816 .f32 := win0_2.stage (cfg0.slots t 2)
abbrev ms3 (t : Fin cfg0.N) : Memref sig .tc .vmem S1408x1024 .bf16 := win0_3.stage (cfg0.slots t 3)
abbrev ms4 (t : Fin cfg0.N) : Memref sig .tc .vmem S256x1024 .f32 := win0_4.stage (cfg0.slots t 4)
abbrev ms5 (t : Fin cfg0.N) : Memref sig .tc .vmem S1x1024 .f32 := win0_5.stage (cfg0.slots t 5)
abbrev ms6 (t : Fin cfg0.N) : Memref sig .tc .vmem S1x256x1408 .bf16 := win0_6.stage (cfg0.slots t 6)
abbrev ms7 (t : Fin cfg0.N) : Memref sig .tc .vmem S1x1x8x2816 .f32 := win0_7.stage (cfg0.slots t 7)
abbrev ms8 (t : Fin cfg0.N) : Memref sig .tc .vmem S256x1024 .f32 := win0_8.stage (cfg0.slots t 8)
abbrev ms9 (t : Fin cfg0.N) : Memref sig .tc .vmem S256x1024 .f32 := win0_9.stage (cfg0.slots t 9)

set_option maxHeartbeats 4000000 in
theorem point (c : Dev nD) (t : Fin cfg0.N) :
    iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))
      ⊢ wp frame (wpE (defs₀ (F := F)) Variants.none c none) Set.univ (bodyAt0 t) (fun _ =>
        iprop((dats m 0 c).Φ t.succ ∗ (dats m 0 c).owesAt () t.succ
        ∗ (dats m 0 c).leavesExact 0 t
        ∗ (dats m 0 c).leavesExact 1 t
        ∗ (dats m 0 c).leavesExact 2 t
        ∗ (dats m 0 c).leavesExact 3 t
        ∗ (dats m 0 c).leavesExact 4 t
        ∗ (dats m 0 c).leavesExact 5 t
        ∗ (dats m 0 c).leavesExact 6 t
        ∗ (dats m 0 c).leavesExact 7 t
        ∗ (dats m 0 c).leavesExact 8 t
        ∗ (dats m 0 c).leavesExact 9 t)) := by
  unfold bodyAt0
  simp only [before0_0, before0_1, before0_2, before0_3, before0_4, before0_5]
  rw [show (dats m 0 c).owesAt () t.succ = (dats m 0 c).owesAt () t.castSucc from rfl, inv_at, inv_next]
  have hN := t_lt t
  have hc : k0_cond3 (grid0.coords t) = 1#1 ↔ ¬ first (grid0.coords t) := by rw [cond3_iff, first_iff]; omega
  rw [show (dats m 0 c).leavesExact 0 t = owns (c : Thread nD τ) (ms0 t) fullShare ((dats m 0 c).after 0 t) from by unfold Dat.leavesExact; rw [show cfg0.idle 0 (grid0.coords t) = false from rfl], after0_0]
  rw [show (dats m 0 c).leavesExact 1 t = owns (c : Thread nD τ) (ms1 t) fullShare ((dats m 0 c).after 1 t) from by unfold Dat.leavesExact; rw [show cfg0.idle 1 (grid0.coords t) = false from rfl], after0_1]
  rw [show (dats m 0 c).leavesExact 2 t = owns (c : Thread nD τ) (ms2 t) fullShare ((dats m 0 c).after 2 t) from by unfold Dat.leavesExact; rw [show cfg0.idle 2 (grid0.coords t) = false from rfl], after0_2]
  rw [show (dats m 0 c).leavesExact 3 t = owns (c : Thread nD τ) (ms3 t) fullShare ((dats m 0 c).after 3 t) from by unfold Dat.leavesExact; rw [show cfg0.idle 3 (grid0.coords t) = false from rfl], after0_3]
  rw [show (dats m 0 c).leavesExact 4 t = owns (c : Thread nD τ) (ms4 t) fullShare ((dats m 0 c).after 4 t) from by unfold Dat.leavesExact; rw [show cfg0.idle 4 (grid0.coords t) = false from rfl], after0_4]
  rw [show (dats m 0 c).leavesExact 5 t = owns (c : Thread nD τ) (ms5 t) fullShare ((dats m 0 c).after 5 t) from by unfold Dat.leavesExact; rw [show cfg0.idle 5 (grid0.coords t) = false from rfl], after0_5]
  rw [show (dats m 0 c).leavesExact 6 t = owns (c : Thread nD τ) (ms6 t) fullShare ((dats m 0 c).after 6 t) from by unfold Dat.leavesExact; rw [show cfg0.idle 6 (grid0.coords t) = false from rfl], after0_6]
  rw [show (dats m 0 c).leavesExact 7 t = owns (c : Thread nD τ) (ms7 t) fullShare ((dats m 0 c).after 7 t) from by unfold Dat.leavesExact; rw [show cfg0.idle 7 (grid0.coords t) = false from rfl], after0_7]
  unfold Inv
  by_cases h : t.val % 2 = 0
  · rw [Dat.leavesExact_idle (dats m 0 c) 8 t (idle8 t h).1 (idle8 t h).2]
    rw [Dat.leavesExact_idle (dats m 0 c) 9 t (idle9 t h).1 (idle9 t h).2]
    iintro ⟨⟨%s, %a, HS0, HS1, %hk, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_point c (grid0.coords t) _ _ _ _ _ _ _ _ _ _ _ _ _ _ _ _ _ _ _ _ _ _ _ _ (iblk m c 0 t) (iblk m c 1 t) (iblk m c 2 t) (iblk m c 3 t) (iblk m c 4 t) (iblk m c 5 t) _ _ s a hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    isplitl [HS1]; · iexact HS1
    rw [rowIn_eq m c t s a hk]
    have hk' := kept_succ m c t s a hk
    simp only [if_pos ((first_iff t).mpr h)] at hk' ⊢
    iintro ⟨H0, H1, H2, H3, H4, H5, H6, H7, H8, H9, HS0, HS1⟩
    isplitl [HS0 HS1 Hg]
    · iexists _; iexists _
      isplitl [HS0]; · iexact HS0
      isplitl [HS1]; · iexact HS1
      isplitr
      · ipureintro; exact hk'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · have h' : t.val % 2 = 1 := by omega
    rw [show (dats m 0 c).leavesExact 8 t = owns (c : Thread nD τ) (ms8 t) fullShare ((dats m 0 c).after 8 t) from by unfold Dat.leavesExact; rw [live8 t h'], after0_8]
    rw [show (dats m 0 c).leavesExact 9 t = owns (c : Thread nD τ) (ms9 t) fullShare ((dats m 0 c).after 9 t) from by unfold Dat.leavesExact; rw [live9 t h'], after0_9]
    iintro ⟨⟨%s, %a, HS0, HS1, %hk, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_point c (grid0.coords t) _ _ _ _ _ _ _ _ _ _ _ _ _ _ _ _ _ _ _ _ _ _ _ _ (iblk m c 0 t) (iblk m c 1 t) (iblk m c 2 t) (iblk m c 3 t) (iblk m c 4 t) (iblk m c 5 t) _ _ s a hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    isplitl [HS1]; · iexact HS1
    rw [rowIn_eq m c t s a hk]
    have hk' := kept_succ m c t s a hk
    simp only [if_neg (fun e => h ((first_iff t).mp e))] at hk' ⊢
    obtain rfl := acc_eq m c t s a hk h'
    iintro ⟨H0, H1, H2, H3, H4, H5, H6, H7, H8, H9, HS0, HS1⟩
    isplitl [HS0 HS1 Hg]
    · iexists _; iexists _
      isplitl [HS0]; · iexact HS0
      isplitl [HS1]; · iexact HS1
      isplitr
      · ipureintro; exact hk'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row_eq (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row_eq]
  exact triple_restated (point m c t) rfl .rfl fun _ => .rfl

theorem hin (c : Dev nD) : Pipeline.ΦA spec0 c ⊢ (dats m 0 c).Φ 0 := by
  rw [show (dats m 0 c).Φ 0 = Inv m c 0 from rfl, start_eq]
  unfold Inv
  iintro ⟨⟨⟨%s, HS0⟩, ⟨%a, HS1⟩⟩, Hg⟩
  iexists s; iexists a
  isplitl [HS0]; · iexact HS0
  isplitl [HS1]; · iexact HS1
  isplitr
  · ipureintro; exact kept_zero m c s a
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, start_eq]
  unfold Inv
  iintro ⟨%s, %a, HS0, HS1, %hk, Hg⟩
  isplitl [HS0 HS1]
  · isplitl [HS0]
    · iexists _; iexact HS0
    iexists _; iexact HS1
  iexact Hg

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := hin m) (hout := hout m)

/-- The whole run: every array at what the points leave in it. -/
theorem run : θ_run defs (onTc (τ := τ) (main (F := F))) (s₀ m ρ) (Pipeline.FramePost cfgs (dats m) 0 (V m)) :=
  (θ_run defs _ _).mono (fun _ h => h.1) (run_quiet m ρ)

/-- The run ends, the argument arrays unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiet m ρ))

end Cert.Down

end
-- ==== Proof.Row.DownBits.lean ====
/-
  The same run for the program before its idealisation, whose text is the same.
-/
module

public import proofs.«01_k».proof.Proof.Row.DownFrame
public import proofs.«01_k».proof.Proof.Gen.Kernel17
public import proofs.«01_k».proof.Defs

@[expose] public section

set_option maxRecDepth 16384

noncomputable section

namespace Cert.Down
open Idealize.ShloMosaic Idealize.ShloMosaic.TcCoe Idealize.SL Idealize.SL.Sem

theorem table_eq : Cert.Kernel17.defs₀ (F := Bits) = Cert.Kernel17Ideal.defs₀ (F := Bits) := by
  unfold Cert.Kernel17.defs₀ Cert.Kernel17Ideal.defs₀
  refine congrArg (Defs.onTc (Λ := Cert.Kernel17.Λ₀)) (funext fun l => funext fun a => ?_)
  match l, a with
  | ⟨0, _⟩, a => rfl
  | ⟨n + 1, h⟩, a => exact absurd h (Nat.not_lt.2 (Nat.le_add_left _ _))

theorem defs_eq : Cert.Kernel17.defs (F := Bits) = Cert.Kernel17Ideal.defs (F := Bits) :=
  congrArg (Pipeline.defs (Cert.Kernel17.pcfgs (F := Bits))) table_eq

theorem frame_p : Cert.quiescent_Kernel17 := fun m g _ => by
  rw [defs_eq]
  exact frame_any (F := Bits) m g

end Cert.Down

end
-- ==== Proof.Row.Down.lean ====
/-
  The forward call of the feed-forward's convolution, gate and second projection: what its three results are, entry by entry.
-/
module

public import proofs.«01_k».proof.Proof.Row.FfnSpec
public import proofs.«01_k».proof.Proof.Row.DownFrame
public import Idealize.ShloMosaic.Lib.Pipeline.Value
public import Idealize.ShloMosaic.Lib.KernelVsHost

@[expose] public section

set_option maxRecDepth 65536

noncomputable section

namespace Cert.Down

open Idealize.ShloMosaic Idealize.ShloMosaic.TcCoe Idealize.SL.Sem
open Idealize.ShloMosaic.Pipeline (Dat)
open Cert.Kernel17Ideal Cert.Kernel17Ideal.Gen Cert.Mm
open Cert.Ffn (above above_two conv gate_value half_bits)

/-! ## The results -/

/-- The two columns a column of the product comes from. -/
def gcol (y : Fin 2816) : Fin 5632 := ⟨y.val / 1408 * 2816 + y.val % 1408, by have := y.isLt; omega⟩
def ucol (y : Fin 2816) : Fin 5632 := ⟨y.val / 1408 * 2816 + 1408 + y.val % 1408, by have := y.isLt; omega⟩

section Spec
variable (U : Fin 4096 → Fin 5632 → EReal) (W : Fin 3 → Fin 5632 → EReal) (B : Fin 5632 → EReal) (P : Fin 2816 → Fin 1024 → EReal)
  (X : Fin 4096 → Fin 1024 → EReal) (G : Fin 1024 → EReal)

/-- The gated activation, its projection, and the residual with the gated projection added. -/
def act (r : Fin 4096) (y : Fin 2816) : EReal :=
  conv U W B r (gcol y) * Ideal.logistic (conv U W B r (gcol y)) * conv U W B r (ucol y)
def down (r : Fin 4096) (s : Fin 1024) : EReal := ∑ y : Fin 2816, act U W B r y * P y s
def outx (r : Fin 4096) (s : Fin 1024) : EReal := X r s + G s * down U W B P r s
end Spec

/-- A sum over the two halves of the columns. -/
theorem sum_halves (f : Fin 2816 → EReal) :
    ∑ y, f y = (∑ x : Fin 1408, f ⟨x.val, by omega⟩) + ∑ x : Fin 1408, f ⟨1408 + x.val, by omega⟩ :=
  Fin.sum_univ_add (a := 1408) (b := 1408) f

/-! ## The blocks -/

variable (m : (ℓ : Loc nD τ sig) → Buf (Elt Ideal) ℓ) (c : Dev nD)

/-- The arguments, entry by entry. -/
def U (r : Fin 4096) (p : Fin 5632) : EReal := m ((c : Thread nD τ).loc main_arg0) (ix3 0 r p)
def W (k : Fin 3) (p : Fin 5632) : EReal := m ((c : Thread nD τ).loc main_arg1) (ix2 k p)
def B (p : Fin 5632) : EReal := m ((c : Thread nD τ).loc main_arg2) (ix2 0 p)
def P (y : Fin 2816) (s : Fin 1024) : EReal := m ((c : Thread nD τ).loc main_arg3) (ix2 y s)
def X (r : Fin 4096) (s : Fin 1024) : EReal := m ((c : Thread nD τ).loc main_arg4) (ix2 r s)
def G (s : Fin 1024) : EReal := m ((c : Thread nD τ).loc main_arg5) (ix2 0 s)

theorem idx : ∀ t : Fin cfg0.N, win0_0.index t = ![0, t.val / 2, t.val % 2] ∧ win0_1.index t = ![0, t.val % 2] ∧ win0_2.index t = ![0, t.val % 2]
    ∧ win0_3.index t = ![t.val % 2, 0] ∧ win0_4.index t = ![t.val / 2, 0] ∧ win0_5.index t = ![0, 0]
    ∧ win0_6.index t = ![0, t.val / 2, t.val % 2] ∧ win0_8.index t = ![t.val / 2, 0] ∧ win0_9.index t = ![t.val / 2, 0] :=
  (by decide +kernel : ∀ t : Fin grid0.N, win0_0.index t = ![0, t.val / 2, t.val % 2] ∧ win0_1.index t = ![0, t.val % 2] ∧ win0_2.index t = ![0, t.val % 2]
    ∧ win0_3.index t = ![t.val % 2, 0] ∧ win0_4.index t = ![t.val / 2, 0] ∧ win0_5.index t = ![0, 0]
    ∧ win0_6.index t = ![0, t.val / 2, t.val % 2] ∧ win0_8.index t = ![t.val / 2, 0] ∧ win0_9.index t = ![t.val / 2, 0])

/-- The rows and the columns a grid point works on. -/
def row (n : ℕ) (i : Fin 256) : Fin 4096 := ⟨n / 2 % 16 * 256 + i.val, by have := i.isLt; omega⟩
def col (n : ℕ) (q : Fin 2816) : Fin 5632 := ⟨n % 2 * 2816 + q.val, by have := q.isLt; omega⟩
def half (n : ℕ) (x : Fin 1408) : Fin 2816 := ⟨n % 2 * 1408 + x.val, by have := x.isLt; omega⟩

theorem chunk_lt (t : Fin cfg0.N) : t.val / 2 % 16 = t.val / 2 := by have := t_lt t; omega

theorem in0 (t : Fin cfg0.N) (i : Fin 256) (q : Fin 2816) : iblk m c 0 t (ix3 0 i q) = U m c (row t.val i) (col t.val q) := by
  unfold U
  rw [← V_main_arg0 m c]
  unfold row col
  simp only [chunk_lt t]
  blk_ext [iblk, idx t]

theorem in1 (t : Fin cfg0.N) (k : Fin 3) (q : Fin 2816) : iblk m c 1 t (ix2 k q) = W m c k (col t.val q) := by
  unfold W
  rw [← V_main_arg1 m c]
  unfold col
  blk_ext [iblk, idx t]

theorem in2 (t : Fin cfg0.N) (q : Fin 2816) : iblk m c 2 t (ix2 0 q) = B m c (col t.val q) := by
  unfold B
  rw [← V_main_arg2 m c]
  unfold col
  blk_ext [iblk, idx t]

theorem in3 (t : Fin cfg0.N) (x : Fin 1408) (s : Fin 1024) : iblk m c 3 t (ix2 x s) = P m c (half t.val x) s := by
  unfold P
  rw [← V_main_arg3 m c]
  unfold half
  blk_ext [iblk, idx t]

theorem in4 (t : Fin cfg0.N) (i : Fin 256) (s : Fin 1024) : iblk m c 4 t (ix2 i s) = X m c (row t.val i) s := by
  unfold X
  rw [← V_main_arg4 m c]
  unfold row
  simp only [chunk_lt t]
  blk_ext [iblk, idx t]

theorem in5 (t : Fin cfg0.N) (s : Fin 1024) : iblk m c 5 t (ix2 0 s) = G m c s := by
  unfold G
  rw [← V_main_arg5 m c]
  blk_ext [iblk, idx t]

/-- The eight rows before a point's block. -/
theorem cin_apply (t : Fin cfg0.N) (j : Fin 8) (q : Fin 2816) :
    cin m c t (ix3 0 j q) = above (U m c) (t.val / 2 % 16 * 256 + j.val - 6) (col t.val q) := by
  have := t_lt t
  have hj := j.isLt
  unfold cin above
  by_cases h : t.val < 2
  · rw [if_pos h, dif_neg (by omega)]
    pointwise [k0_pay4]
  · rw [if_neg h, dif_pos (by omega)]
    have e := in0 m c (back 2 t) ⟨248 + j.val, by omega⟩ q
    unfold lastRows
    pointwise [k0_pay11, k0_pay7]
    refine e.trans ?_
    have hb : (back 2 t).val = t.val - 2 := rfl
    refine congrArg₂ (U m c) (Fin.ext ?_) (Fin.ext ?_)
    · simp only [row, hb]; omega
    · simp only [col, hb]; omega

/-- A choice by a comparison of small numbers. -/
theorem pick (p : Prop) [Decidable p] (a b : EReal) : Scalar.select (if p then 1#1 else 0#1) a b = if p then a else b := by
  unfold Scalar.select
  by_cases h : p
  · rw [if_pos h, if_pos h]
    exact if_pos rfl
  · rw [if_neg h, if_neg h, if_neg (by decide)]

theorem word_eq (k : Fin 3) : IntOp.cmpi .eq (BitVec.ofNat 32 k.val) 0#32 = (if k = 0 then 1#1 else 0#1)
    ∧ IntOp.cmpi .eq (BitVec.ofNat 32 k.val) 1#32 = (if k = 1 then 1#1 else 0#1)
    ∧ IntOp.cmpi .eq (BitVec.ofNat 32 k.val) 2#32 = (if k = 2 then 1#1 else 0#1) := by
  revert k
  decide +kernel

theorem pay9_apply (w : Vec Ideal S3x2816 .f32) (q : Fin 2816) : k0_pay9 w (ix2 0 q) = w (ix2 1 q) := by
  pointwise [k0_pay9]
  simp only [(word_eq _).2.1, pick, Finset.sum_ite_eq', Finset.mem_univ, if_true]

theorem pay7_apply (t : Fin cfg0.N) (i : Fin 256) (q : Fin 2816) : k0_pay7 (iblk m c 0 t) (ix2 i q) = U m c (row t.val i) (col t.val q) := by
  pointwise [k0_pay7]
  exact in0 m c t i q

theorem pay5_apply (t : Fin cfg0.N) (j : Fin 8) (q : Fin 2816) :
    k0_pay5 (cin m c t) (ix2 j q) = above (U m c) (t.val / 2 % 16 * 256 + j.val - 6) (col t.val q) := by
  pointwise [k0_pay5]
  exact cin_apply m c t j q

/-- The rows `d` before a point's rows, out of the eight rows before its block and the block. -/
theorem shifted (t : Fin cfg0.N) (i : Fin 256) (q : Fin 2816) (d : ℕ) (hd : d = 1 ∨ d = 2) :
    (if h : (8 + i.val + 264 - d) % 264 < 8 then k0_pay5 (cin m c t) (ix2 ⟨(8 + i.val + 264 - d) % 264, h⟩ q)
      else k0_pay7 (iblk m c 0 t) (ix2 ⟨(8 + i.val + 264 - d) % 264 - 8, by omega⟩ q))
      = above (U m c) ((row t.val i).val + (2 - d)) (col t.val q) := by
  have := t_lt t
  have hi := i.isLt
  by_cases h : (8 + i.val + 264 - d) % 264 < 8
  · rw [dif_pos h, pay5_apply]
    congr 1
    simp only [row]
    omega
  · rw [dif_neg h, pay7_apply]
    unfold above
    rw [dif_pos (by simp only [row]; omega)]
    congr 1
    apply Fin.ext
    simp only [row]
    omega

theorem pay8_apply (t : Fin cfg0.N) (i : Fin 256) (q : Fin 2816) :
    k0_pay8 (cin m c t) (iblk m c 0 t) (iblk m c 1 t) (iblk m c 2 t) (ix2 i q)
      = B m c (col t.val q) + W m c 0 (col t.val q) * above (U m c) (row t.val i).val (col t.val q) := by
  have e := shifted m c t i q 2 (Or.inr rfl)
  pointwise [k0_pay8]
  simp only [(word_eq _).1, pick, Finset.sum_ite_eq', Finset.mem_univ, if_true, in1, in2]
  exact congrArg (fun z => B m c (col t.val q) + W m c 0 (col t.val q) * z) e

/-- The gated activation of a point. -/
def gatedOf (t : Fin cfg0.N) : FVec Ideal S256x1408 .f32 :=
  k0_pay10 (k0_pay5 (cin m c t)) (k0_pay7 (iblk m c 0 t)) (iblk m c 1 t) (k0_pay8 (cin m c t) (iblk m c 0 t) (iblk m c 1 t) (iblk m c 2 t))
    (k0_pay9 (iblk m c 1 t))

/-- The activation and the projection over the whole arrays. -/
def ACT : Fin 4096 → Fin 2816 → EReal := act (U m c) (W m c) (B m c)
def DOWN : Fin 4096 → Fin 1024 → EReal := down (U m c) (W m c) (B m c) (P m c)
def OUTX : Fin 4096 → Fin 1024 → EReal := outx (U m c) (W m c) (B m c) (P m c) (X m c) (G m c)

theorem gatedOf_apply (t : Fin cfg0.N) (i : Fin 256) (x : Fin 1408) : gatedOf m c t (ix2 i x) = ACT m c (row t.val i) (half t.val x) := by
  have hx := x.isLt
  have key : ∀ q : Fin 2816, B m c (col t.val q) + W m c 0 (col t.val q) * above (U m c) (row t.val i).val (col t.val q)
      + W m c 1 (col t.val q) * (if h : (8 + i.val + 264 - 1) % 264 < 8 then k0_pay5 (cin m c t) (ix2 ⟨(8 + i.val + 264 - 1) % 264, h⟩ q)
        else k0_pay7 (iblk m c 0 t) (ix2 ⟨(8 + i.val + 264 - 1) % 264 - 8, by omega⟩ q))
      + W m c 2 (col t.val q) * k0_pay7 (iblk m c 0 t) (ix2 i q) = conv (U m c) (W m c) (B m c) (row t.val i) (col t.val q) := by
    intro q
    rw [shifted m c t i q 1 (Or.inl rfl), pay7_apply]
    rfl
  have eg : gcol (half t.val x) = col t.val ⟨x.val, by omega⟩ := Fin.ext (by simp only [gcol, half, col]; omega)
  have eu : ucol (half t.val x) = col t.val ⟨1408 + x.val, by omega⟩ := Fin.ext (by simp only [ucol, half, col]; omega)
  unfold gatedOf ACT act
  rw [eg, eu]
  pointwise [k0_pay10]
  simp only [(word_eq _).2.2, pick, Finset.sum_ite_eq', Finset.mem_univ, if_true, pay8_apply, pay9_apply, in1]
  rw [gate_value _ _ half_bits]
  exact congrArg₂ (· * ·) (congrArg (fun z => z * Ideal.logistic z) (key _)) (key _)

theorem act_apply (t : Fin cfg0.N) (i : Fin 256) (x : Fin 1408) :
    actOf (cin m c t) (iblk m c 0 t) (iblk m c 1 t) (iblk m c 2 t) (ix3 0 i x) = ACT m c (row t.val i) (half t.val x) := by
  have e := gatedOf_apply m c t i x
  unfold actOf
  pointwise [k0_pay12]
  exact e

theorem part_apply (t : Fin cfg0.N) (i : Fin 256) (s : Fin 1024) :
    part m c t (ix2 i s) = ∑ x : Fin 1408, ACT m c (row t.val i) (half t.val x) * P m c (half t.val x) s := by
  have e := fun x => gatedOf_apply m c t i x
  unfold part partOf
  pointwise [k0_pay13]
  simp only [in3]
  exact Finset.sum_congr rfl fun x _ => congrArg (· * P m c (half t.val x) s) (e x)

/-- The two halves of the columns give the projection. -/
theorem sum_apply (t : Fin cfg0.N) (h : t.val % 2 = 1) (i : Fin 256) (s : Fin 1024) :
    k0_pay2 (part m c t) (acc m c t) (ix2 i s) = DOWN m c (row t.val i) s := by
  have hN := t_lt t
  have e1 := part_apply m c t i s
  have e0 := part_apply m c (back 1 t) i s
  have hb : (back 1 t).val = t.val - 1 := rfl
  have er : row (back 1 t).val i = row t.val i := Fin.ext (by simp only [row, hb]; omega)
  have h0 : ∀ x, half (back 1 t).val x = ⟨x.val, by omega⟩ := fun x => Fin.ext (by simp only [half, hb]; omega)
  have h1 : ∀ x, half t.val x = ⟨1408 + x.val, by omega⟩ := fun x => Fin.ext (by simp only [half]; omega)
  simp only [er, h0] at e0
  simp only [h1] at e1
  unfold acc DOWN down
  rw [sum_halves]
  pointwise [k0_pay2, k0_pay1]
  exact congrArg₂ (· + ·) e0 e1

theorem outx_apply (t : Fin cfg0.N) (h : t.val % 2 = 1) (i : Fin 256) (s : Fin 1024) :
    k0_pay3 (part m c t) (acc m c t) (iblk m c 4 t) (iblk m c 5 t) (ix2 i s) = OUTX m c (row t.val i) s := by
  have e := sum_apply m c t h i s
  pointwise [k0_pay3]
  rw [e, in4, in5]
  rfl

/-! ## The arrays -/

theorem result_act : (dats m 0 c).arrAt 6 cfg0.N = fun i : S1x4096x2816.Idx => ACT m c (i 1) (i 2) := by
  refine (dats m 0 c).arrAt_eq_of_covers 6 _ (by decide +kernel) fun t hf y => ?_
  blk_simp
  rw [after0_6]
  have hN := t_lt t
  have e1 : (win0_6.blk t).view.emb y 1 = row t.val (y 1) := by
    apply Fin.ext
    show _ = t.val / 2 % 16 * 256 + (y 1).val
    rw [chunk_lt t]
    blk_simp [idx t] <;> rfl
  have e2 : (win0_6.blk t).view.emb y 2 = half t.val (y 2) := by
    apply Fin.ext
    blk_simp [idx t] <;> rfl
  have hy : y = (ix3 0 (y 1) (y 2) : S1x256x1408.Idx) := by
    refine (eq_ix3 y).trans ?_
    rw [show y 0 = (0 : Fin 1) from Fin.ext (by have : (y 0).val < 1 := (y 0).isLt; show (y 0).val = 0; omega)]
  rw [e1, e2]
  exact (congrArg _ hy).trans (act_apply m c t (y 1) (y 2))

theorem result_down : (dats m 0 c).arrAt 8 cfg0.N = fun i : S4096x1024.Idx => DOWN m c (i 0) (i 1) := by
  refine (dats m 0 c).arrAt_eq_of_covers 8 _ (by decide +kernel) fun t hf y => ?_
  have h := (flush0_8 t).mp hf
  blk_simp
  rw [after0_8]
  have e0 : (win0_8.blk t).view.emb y 0 = row t.val (y 0) := by
    apply Fin.ext
    show _ = t.val / 2 % 16 * 256 + (y 0).val
    rw [chunk_lt t]
    blk_simp [idx t] <;> rfl
  have e1 : (win0_8.blk t).view.emb y 1 = y 1 := by
    apply Fin.ext
    blk_simp [idx t]
  rw [e0, e1]
  exact (congrArg _ (eq_ix2 y)).trans (sum_apply m c t h (y 0) (y 1))

theorem result_outx : (dats m 0 c).arrAt 9 cfg0.N = fun i : S4096x1024.Idx => OUTX m c (i 0) (i 1) := by
  refine (dats m 0 c).arrAt_eq_of_covers 9 _ (by decide +kernel) fun t hf y => ?_
  have h := (flush0_9 t).mp hf
  blk_simp
  rw [after0_9]
  have e0 : (win0_9.blk t).view.emb y 0 = row t.val (y 0) := by
    apply Fin.ext
    show _ = t.val / 2 % 16 * 256 + (y 0).val
    rw [chunk_lt t]
    blk_simp [idx t] <;> rfl
  have e1 : (win0_9.blk t).view.emb y 1 = y 1 := by
    apply Fin.ext
    blk_simp [idx t]
  rw [e0, e1]
  exact (congrArg _ (eq_ix2 y)).trans (outx_apply m c t h (y 0) (y 1))

end Cert.Down

end
-- ==== Proof.Row.DownReference.lean ====
/-
  The plain feed-forward: its gated activation, the projection and the residual, entry by entry.
-/
module

public import proofs.«01_k».proof.Defs
public import proofs.«01_k».proof.Proof.Gen.Reference17Ideal
public import proofs.«01_k».proof.Proof.Gen.Reference17Ideal.Read
public import proofs.«01_k».proof.Proof.Row.FfnReference
public import proofs.«01_k».proof.Proof.Row.Down
public import Idealize.ShloMosaic.Lib.KernelVsHost
public import Idealize.ShloMosaic.Init

@[expose] public section

set_option maxRecDepth 8192

noncomputable section

namespace Cert.Down

open Idealize.ShloMosaic Idealize.SL.Sem
open Cert.Reference17Ideal Cert.Reference17Ideal.Read Cert.Mm
open Cert.Ffn (conv UU WW BB stored lo hi stored_lo_val stored_hi_val)

section Ref
variable (x0 : S1x4096x5632.Idx → EReal) (x1 : S3x5632.Idx → EReal) (x2 : S1x5632.Idx → EReal) (x3 : S2816x1024.Idx → EReal)
  (x4 : S4096x1024.Idx → EReal) (x5 : S1x1024.Idx → EReal)

/-- The other arguments, entry by entry. -/
def PP (y : Fin 2816) (s : Fin 1024) : EReal := x3 (ix2 y s)
def XX (r : Fin 4096) (s : Fin 1024) : EReal := x4 (ix2 r s)
def GG (s : Fin 1024) : EReal := x5 (ix2 0 s)

/-- The convolution is the one of the gradient's program. -/
theorem conv_plain (r : Fin 4096) (p : Fin 5632) : (val_main_v43 (F := Ideal) x0 x1 x2) (ix2 r p) = conv (UU x0) (WW x1) (BB x2) r (stored p) :=
  Cert.Ffn.conv_plain x0 x1 x2 r p

theorem gate_plain (r : Fin 4096) (q : Fin 2816) : (val_main_v44 (F := Ideal) x0 x1 x2) (ix2 r q) = conv (UU x0) (WW x1) (BB x2) r (gcol q) := by
  have e := conv_plain x0 x1 x2 r (lo q)
  rw [show stored (lo q) = gcol q from Fin.ext (by have := q.isLt; have e := stored_lo_val q; rw [e]; simp only [gcol]; split_ifs <;> omega)] at e
  pointwise [val_main_v44]
  exact e

theorem gated_plain (r : Fin 4096) (q : Fin 2816) : (val_main_v45 (F := Ideal) x0 x1 x2) (ix2 r q) = conv (UU x0) (WW x1) (BB x2) r (ucol q) := by
  have e := conv_plain x0 x1 x2 r (hi q)
  rw [show stored (hi q) = ucol q from Fin.ext (by have := q.isLt; have e := stored_hi_val q; rw [e]; simp only [ucol]; split_ifs <;> omega)] at e
  pointwise [val_main_v45]
  exact e

theorem act_plain (r : Fin 4096) (q : Fin 2816) : (val_main_v47 (F := Ideal) x0 x1 x2) (ix2 r q) = act (UU x0) (WW x1) (BB x2) r q := by
  have e := gate_plain x0 x1 x2 r q
  have u := gated_plain x0 x1 x2 r q
  pointwise [val_main_call0_v0, val_main_call0_v1, val_main_call0_cst, val_main_call0_v2, val_main_call0_v3, val_main_call0_cst_0, val_main_call0_v4, val_main_call0_v5, val_main_v46, val_main_v47]
  rw [e, u]
  rfl

theorem reference_act (z : Fin 1) (r : Fin 4096) (q : Fin 2816) : (val_main_v51 (F := Ideal) x0 x1 x2) (ix3 z r q) = act (UU x0) (WW x1) (BB x2) r q := by
  have e := act_plain x0 x1 x2 r q
  pointwise [val_main_v50, val_main_v51]
  exact e

theorem reference_down (r : Fin 4096) (s : Fin 1024) : (val_main_v49 (F := Ideal) x0 x1 x2 x3) (ix2 r s) = down (UU x0) (WW x1) (BB x2) (PP x3) r s := by
  have e := fun q => act_plain x0 x1 x2 r q
  pointwise [val_main_v48, val_main_v49]
  exact Finset.sum_congr rfl fun q _ => congrArg (· * PP x3 q s) (e q)

theorem reference_outx (r : Fin 4096) (s : Fin 1024) : (val_main_v54 (F := Ideal) x0 x1 x2 x3 x4 x5) (ix2 r s)
    = outx (UU x0) (WW x1) (BB x2) (PP x3) (XX x4) (GG x5) r s := by
  have e := reference_down x0 x1 x2 x3 r s
  pointwise [val_main_v52, val_main_v53, val_main_v54]
  rw [e]
  rfl

/-- The results at arguments equal to the ones given. -/
theorem array_act (y0 : S1x4096x5632.Idx → EReal) (y1 : S3x5632.Idx → EReal) (y2 : S1x5632.Idx → EReal) (e0 : y0 = x0) (e1 : y1 = x1) (e2 : y2 = x2) :
    val_main_v51 (F := Ideal) y0 y1 y2 = fun i : S1x4096x2816.Idx => act (UU x0) (WW x1) (BB x2) (i 1) (i 2) := by
  subst e0 e1 e2
  exact funext fun i => (congrArg _ (eq_ix3 i)).trans (reference_act _ _ _ (i 0) (i 1) (i 2))

theorem array_down (y0 : S1x4096x5632.Idx → EReal) (y1 : S3x5632.Idx → EReal) (y2 : S1x5632.Idx → EReal) (y3 : S2816x1024.Idx → EReal)
    (e0 : y0 = x0) (e1 : y1 = x1) (e2 : y2 = x2) (e3 : y3 = x3) :
    val_main_v49 (F := Ideal) y0 y1 y2 y3 = fun i : S4096x1024.Idx => down (UU x0) (WW x1) (BB x2) (PP x3) (i 0) (i 1) := by
  subst e0 e1 e2 e3
  exact funext fun i => (congrArg _ (eq_ix2 i)).trans (reference_down _ _ _ _ (i 0) (i 1))

theorem array_outx (y0 : S1x4096x5632.Idx → EReal) (y1 : S3x5632.Idx → EReal) (y2 : S1x5632.Idx → EReal) (y3 : S2816x1024.Idx → EReal)
    (y4 : S4096x1024.Idx → EReal) (y5 : S1x1024.Idx → EReal) (e0 : y0 = x0) (e1 : y1 = x1) (e2 : y2 = x2) (e3 : y3 = x3) (e4 : y4 = x4) (e5 : y5 = x5) :
    val_main_v54 (F := Ideal) y0 y1 y2 y3 y4 y5 = fun i : S4096x1024.Idx => outx (UU x0) (WW x1) (BB x2) (PP x3) (XX x4) (GG x5) (i 0) (i 1) := by
  subst e0 e1 e2 e3 e4 e5
  exact funext fun i => (congrArg _ (eq_ix2 i)).trans (reference_outx _ _ _ _ _ _ (i 0) (i 1))
end Ref

end Cert.Down

end
-- ==== Proof.Row.DownClaims.lean ====
/-
  The claims about the forward call of the feed-forward's convolution, gate and second projection.
-/
module

public import proofs.«01_k».proof.Defs
public import proofs.«01_k».proof.Proof.Row.DownBits
public import proofs.«01_k».proof.Proof.Row.DownReference
public import Idealize.ShloMosaic.Adequacy
public import Idealize.ShloMosaic.Init

@[expose] public section

set_option maxRecDepth 16384

noncomputable section

namespace Cert.Down.Claims

open Idealize.ShloMosaic Idealize.SL.Sem Idealize.ShloMosaic.StableHlo
open Cert.Reference17Ideal.Read

theorem frame_p : Cert.quiescent_Kernel17 := Cert.Down.frame_p

theorem frame_pi : Cert.quiescent_Kernel17Ideal := fun m ρ _ => frame_any m ρ

theorem frame_ri : Cert.quiescent_Reference17Ideal := fun m ρ _ =>
  (θ_run Cert.Reference17Ideal.defs _ _).mono (fun r h => ⟨fun c => (h c).2.2.2,
      Idealize.ShloMosaic.sem_eq_zero_of_no_sems (by decide) r.2⟩)
    (Cert.Reference17Ideal.Value.run (F := Ideal) m ρ)

theorem preserves : Cert.preserves_Kernel17_Kernel17Ideal := trivial

/-- Both programs end at the same three arrays. -/
theorem algebraic : Cert.algebraic_Kernel17Ideal_Reference17Ideal := by
  intro m g m' g' _ hargs
  refine ⟨fun c => (fun i : Cert.Kernel17Ideal.S1x4096x2816.Idx => ACT m c (i 1) (i 2)),
    fun c => (fun i : Cert.Kernel17Ideal.S4096x1024.Idx => DOWN m c (i 0) (i 1)),
    fun c => (fun i : Cert.Kernel17Ideal.S4096x1024.Idx => OUTX m c (i 0) (i 1)), ?_, ?_⟩
  · exact (θ_run Cert.Kernel17Ideal.defs _ _).mono
      (fun r h c => ⟨((h.1 c).1 6).trans (result_act m c), ((h.1 c).1 8).trans (result_down m c), ((h.1 c).1 9).trans (result_outx m c), h.2.1 c⟩)
      (θ_run_and (run m g) (frame_any m g))
  · refine (θ_run Cert.Reference17Ideal.defs _ _).mono (fun r h c => ⟨(h c).1.trans ?_, (h c).2.1.trans ?_, (h c).2.2.1.trans ?_, (h c).2.2.2⟩) (Cert.Reference17Ideal.Value.run m' g')
    · obtain ⟨e0, e1, e2, e3, e4, e5⟩ := hargs c
      exact (val_main_v51_eq m' c).trans (array_act _ _ _ _ _ _ e0 e1 e2)
    · obtain ⟨e0, e1, e2, e3, e4, e5⟩ := hargs c
      exact (val_main_v49_eq m' c).trans (array_down _ _ _ _ _ _ _ _ e0 e1 e2 e3)
    · obtain ⟨e0, e1, e2, e3, e4, e5⟩ := hargs c
      exact (val_main_v54_eq m' c).trans (array_outx _ _ _ _ _ _ _ _ _ _ _ _ e0 e1 e2 e3 e4 e5)

end Cert.Down.Claims

end
-- ==== Proof.Row.NormForward.lean ====
/-
  The modulated norm itself, entry by entry.
-/
module

public import proofs.«01_k».proof.Proof.Row.Norm
public import proofs.«01_k».proof.Proof.Gen.Kernel18Ideal.Value

@[expose] public section

set_option maxRecDepth 65536

noncomputable section

namespace Cert.NormForward

open Idealize.ShloMosaic Idealize.ShloMosaic.TcCoe Idealize.SL.Sem
open Idealize.ShloMosaic.Pipeline (Dat)
open Cert.Kernel18Ideal Cert.Kernel18Ideal.Gen Cert.Mm Cert.Row

/-- A row divided by its root mean square, times the weight, scaled and shifted. -/
def h (x g w b : Fin 1024 → EReal) (s : Fin 1024) : EReal := x s * Norm.inv x * g s * (1 + w s) + b s

variable (m : (ℓ : Loc nD τ sig) → Buf (Elt Ideal) ℓ) (c : Dev nD)

/-- The arguments, entry by entry. -/
def X (r : Fin 4096) (s : Fin 1024) : EReal := m ((c : Thread nD τ).loc main_arg0) (ix3 0 r s)
def G (s : Fin 1024) : EReal := m ((c : Thread nD τ).loc main_arg1) (ix2 0 s)
def W (s : Fin 1024) : EReal := m ((c : Thread nD τ).loc main_arg2) (ix2 0 s)
def B (s : Fin 1024) : EReal := m ((c : Thread nD τ).loc main_arg3) (ix2 0 s)

theorem bound (t : Fin cfg0.N) : t.val < 8 := lt_of_lt_of_eq t.isLt (show cfg0.N = 8 from N_0)

theorem idx : ∀ t : Fin cfg0.N, win0_0.index t = ![0, t.val, 0] ∧ win0_1.index t = ![0, 0] ∧ win0_2.index t = ![0, 0] ∧ win0_3.index t = ![0, 0] ∧ win0_4.index t = ![0, t.val, 0] :=
  (by decide +kernel : ∀ t : Fin grid0.N, win0_0.index t = ![0, t.val, 0] ∧ win0_1.index t = ![0, 0] ∧ win0_2.index t = ![0, 0] ∧ win0_3.index t = ![0, 0] ∧ win0_4.index t = ![0, t.val, 0])

/-- The rows a grid point works on. -/
def row (t : Fin cfg0.N) (r : Fin 512) : Fin 4096 := ⟨t.val * 512 + r.val, by have := bound t; omega⟩

theorem in0 (t : Fin cfg0.N) (r : Fin 512) (s : Fin 1024) : iblk m c 0 t (ix3 0 r s) = X m c (row t r) s := by
  unfold X
  rw [← V_main_arg0 m c]
  have := bound t
  unfold row
  blk_ext [iblk, idx t]

theorem in1 (t : Fin cfg0.N) (s : Fin 1024) : iblk m c 1 t (ix2 0 s) = G m c s := by
  unfold G
  rw [← V_main_arg1 m c]
  have := bound t
  blk_ext [iblk, idx t]

theorem in2 (t : Fin cfg0.N) (s : Fin 1024) : iblk m c 2 t (ix2 0 s) = W m c s := by
  unfold W
  rw [← V_main_arg2 m c]
  have := bound t
  blk_ext [iblk, idx t]

theorem in3 (t : Fin cfg0.N) (s : Fin 1024) : iblk m c 3 t (ix2 0 s) = B m c s := by
  unfold B
  rw [← V_main_arg3 m c]
  have := bound t
  blk_ext [iblk, idx t]

/-- What a grid point leaves in its block of the result. -/
theorem out_eq (x0 : Vec Ideal S1x512x1024 .f32) (x1 x2 x3 : Vec Ideal S1x1024 .f32) : out0_4 x0 x1 x2 x3 = k0_pay1 x0 x1 x2 x3 := by
  unfold out0_4
  rw [View.canon_unit_zero hz3]
  simp only [View.ld_unit_zero (S := S1x512x1024) hz3, View.ld_unit_zero (S := S1x1024) hz2]

theorem h_apply (t : Fin cfg0.N) (r : Fin 512) (s : Fin 1024) :
    out0_4 (iblk m c 0 t) (iblk m c 1 t) (iblk m c 2 t) (iblk m c 3 t) (ix3 0 r s) = h (X m c (row t r)) (G m c) (W m c) (B m c) s := by
  rw [out_eq]
  pointwise [k0_pay1]
  simp only [Finset.univ_unique, Finset.sum_singleton, in0 m c t, in1 m c t, in2 m c t, in3 m c t]
  rfl

/-- The result array. -/
theorem result : (dats m 0 c).arrAt 4 cfg0.N = fun i : S1x4096x1024.Idx => h (X m c (i 1)) (G m c) (W m c) (B m c) (i 2) := by
  refine (dats m 0 c).arrAt_eq_of_covers 4 _ (by decide +kernel) fun t hf y => ?_
  blk_simp
  rw [after0_4]
  have hN := bound t
  have e1 : (win0_4.blk t).view.emb y 1 = row t (y 1) := by
    apply Fin.ext
    blk_simp [idx t] <;> rfl
  have e2 : (win0_4.blk t).view.emb y 2 = y 2 := by
    apply Fin.ext
    blk_simp [idx t]
  have hy : y = (ix3 0 (y 1) (y 2) : S1x512x1024.Idx) := by
    refine (eq_ix3 y).trans ?_
    rw [show y 0 = (0 : Fin 1) from Fin.ext (by have : (y 0).val < 1 := (y 0).isLt; show (y 0).val = 0; omega)]
  rw [e1, e2]
  exact (congrArg _ hy).trans (h_apply m c t (y 1) (y 2))

end Cert.NormForward

end
-- ==== Proof.Row.NormForwardClaims.lean ====
/-
  The claims about the modulated norm.
-/
module

public import proofs.«01_k».proof.Defs
public import proofs.«01_k».proof.Proof.Gen.Kernel18
public import proofs.«01_k».proof.Proof.Gen.Kernel18.Frame
public import proofs.«01_k».proof.Proof.Gen.Kernel18Ideal.Frame
public import proofs.«01_k».proof.Proof.Gen.Reference18Ideal
public import proofs.«01_k».proof.Proof.Gen.Reference18Ideal.Read
public import proofs.«01_k».proof.Proof.Row.NormForward
public import Idealize.ShloMosaic.Adequacy
public import Idealize.ShloMosaic.Init

@[expose] public section

set_option maxRecDepth 16384

noncomputable section

namespace Cert.NormForward.Claims

open Idealize.ShloMosaic Idealize.SL.Sem
open Cert.Reference18Ideal.Read

theorem frame_p : Cert.quiescent_Kernel18 := fun m ρ _ => Cert.Kernel18.Gen.frame m ρ

theorem frame_pi : Cert.quiescent_Kernel18Ideal := fun m ρ _ => Cert.Kernel18Ideal.Gen.frame m ρ

theorem frame_ri : Cert.quiescent_Reference18Ideal := fun m ρ _ =>
  (θ_run Cert.Reference18Ideal.defs _ _).mono (fun r h => ⟨fun c => (h c).2,
      Idealize.ShloMosaic.sem_eq_zero_of_no_sems (by decide) r.2⟩)
    (Cert.Reference18Ideal.Value.run (F := Ideal) m ρ)

theorem preserves : Cert.preserves_Kernel18_Kernel18Ideal := trivial

/-- The reference's result, entry by entry. -/
theorem reference_h (x0 : Cert.Reference18Ideal.S1x4096x1024.Idx → EReal) (x1 x2 x3 : Cert.Reference18Ideal.S1x1024.Idx → EReal) (z : Fin 1) (r : Fin 4096) (s : Fin 1024) :
    (val_main_v20 (F := Ideal) x0 x1 x2 x3) (ix3 z r s)
      = h (fun s => x0 (ix3 0 r s)) (fun s => x1 (ix2 0 s)) (fun s => x2 (ix2 0 s)) (fun s => x3 (ix2 0 s)) s := by
  obtain rfl : z = 0 := Subsingleton.elim _ _
  pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20]
  rfl

/-- Both programs end at the same array. -/
theorem algebraic : Cert.algebraic_Kernel18Ideal_Reference18Ideal := by
  intro m g m' g' _ hargs
  refine ⟨fun c => (fun i : Cert.Kernel18Ideal.S1x4096x1024.Idx => h (X m c (i 1)) (G m c) (W m c) (B m c) (i 2)), ?_, ?_⟩
  · exact (θ_run Cert.Kernel18Ideal.defs _ _).mono (fun r h c => ⟨(h c).1.trans (result m c), (h c).2⟩)
      (Cert.Kernel18Ideal.Value.run_blocks m g)
  · refine (θ_run Cert.Reference18Ideal.defs _ _).mono (fun r h c => ⟨(h c).1.trans ?_, (h c).2⟩) (Cert.Reference18Ideal.Value.run m' g')
    obtain ⟨e0, e1, e2, e3⟩ := hargs c
    refine (val_main_v20_eq _ _ _ _).trans ?_
    rw [e0, e1, e2, e3]
    exact funext fun i => (congrArg _ (eq_ix3 i)).trans (reference_h _ _ _ _ (i 0) (i 1) (i 2))

end Cert.NormForward.Claims

end
-- ==== Proof.Mm.Val16.lean ====
/-
  The mixers' output product with its gate and the residual, entry by entry.
-/
module

public import proofs.«01_k».proof.Proof.Mm.Common
public import proofs.«01_k».proof.Proof.Gen.Kernel16Ideal.Value

@[expose] public section

set_option maxRecDepth 65536

noncomputable section

namespace Cert.Mm16

open Idealize.ShloMosaic Idealize.ShloMosaic.TcCoe Idealize.SL.Sem
open Idealize.ShloMosaic.Pipeline (Dat)
open Cert.Kernel16Ideal Cert.Kernel16Ideal.Gen Cert.Mm

section Outs
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
  (x0 x1 : Vec Ideal S1024x1024 .bf16) (x2 : Vec Ideal S1024x1024 .f32) (x3 : Vec Ideal S1x1024 .f32)

/-- The product's block of a point. -/
theorem out_A4 (hc0 : cond0_0 i) (hc1 : cond0_1 i) :
    out0_A_4 c i arg3 harg3 arg4 harg4 arg5 harg5 arg6 harg6 arg7 harg7 arg8 harg8 arg9 harg9 hc0 hc1 x0 x1 x2 x3 = k0_pay2 k0_pay1 x0 x1 := by
  unfold out0_A_4
  rw [View.read_writes_eq_canon _ _ _ (cover0_A_4 c i arg3 harg3 arg4 harg4 arg5 harg5 arg6 harg6 arg7 harg7 arg8 harg8 arg9 harg9 hc0 hc1 x0 x1 x2 x3)]
  unfold kernelRun0_A
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1x1024) hz2, View.readCov_unit_zero (S := S1024x1024) _ hz2]
  exact View.readCov_cons_toLoadRect _ _ _ _

/-- The block of the residual with the gated product added. -/
theorem out_A5 (hc0 : cond0_0 i) (hc1 : cond0_1 i) :
    out0_A_5 c i arg3 harg3 arg4 harg4 arg5 harg5 arg6 harg6 arg7 harg7 arg8 harg8 arg9 harg9 hc0 hc1 x0 x1 x2 x3 = k0_pay3 x2 x3 (k0_pay2 k0_pay1 x0 x1) := by
  unfold out0_A_5
  rw [View.read_writes_eq_canon _ _ _ (cover0_A_5 c i arg3 harg3 arg4 harg4 arg5 harg5 arg6 harg6 arg7 harg7 arg8 harg8 arg9 harg9 hc0 hc1 x0 x1 x2 x3)]
  unfold kernelRun0_A
  dsimp only
  sl_unfold_words
  rw [View.canon_unit_zero hz2]
  simp only [View.readAt_eq_ld, harg3.read_unread, harg4.read_unread, harg5.read_unread, harg6.read_unread, View.ld_unit_zero (S := S1024x1024) hz2, View.ld_unit_zero (S := S1x1024) hz2, View.readCov_unit_zero (S := S1024x1024) _ hz2]
  exact congrArg _ (View.readCov_cons_toLoadRect _ _ _ _)
end Outs

variable (m : (ℓ : Loc nD τ sig) → Buf (Elt Ideal) ℓ) (c : Dev nD)

/-- The arguments, entry by entry. -/
def A (r : Fin 4096) (k : Fin 1024) : EReal := m ((c : Thread nD τ).loc main_arg0) (ix2 r k)
def B (k : Fin 1024) (s : Fin 1024) : EReal := m ((c : Thread nD τ).loc main_arg1) (ix2 k s)
def X (r : Fin 4096) (s : Fin 1024) : EReal := m ((c : Thread nD τ).loc main_arg2) (ix2 r s)
def G (s : Fin 1024) : EReal := m ((c : Thread nD τ).loc main_arg3) (ix2 0 s)

/-- The terms of an entry of the product. -/
def term (r : Fin 4096) (s : Fin 1024) (k : Fin 1024) : EReal := A m c r k * B m c k s

theorem bound (t : Fin cfg0.N) : t.val < 4 := lt_of_lt_of_eq t.isLt (show cfg0.N = 4 from N_0)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![t.val, 0])

/-- The rows a grid point works on. -/
def row (t : Fin cfg0.N) (r : Fin 1024) : Fin 4096 := ⟨t.val * 1024 + r.val, by have := bound t; have := r.isLt; omega⟩

theorem in0 (t : Fin cfg0.N) (r z : Fin 1024) : iblk m c 0 t (ix2 r z) = A m c (row t r) z := by
  unfold A
  rw [← V_main_arg0 m c]
  have := bound t
  unfold row
  blk_ext [iblk, idx t]

theorem in1 (t : Fin cfg0.N) (z s : Fin 1024) : iblk m c 1 t (ix2 z s) = B m c z s := by
  unfold B
  rw [← V_main_arg1 m c]
  have := bound t
  blk_ext [iblk, idx t]

theorem in2 (t : Fin cfg0.N) (r s : Fin 1024) : iblk m c 2 t (ix2 r s) = X m c (row t r) s := by
  unfold X
  rw [← V_main_arg2 m c]
  have := bound t
  unfold row
  blk_ext [iblk, idx t]

theorem in3 (t : Fin cfg0.N) (s : Fin 1024) : iblk m c 3 t (ix2 0 s) = G m c s := by
  unfold G
  rw [← V_main_arg3 m c]
  have := bound t
  blk_ext [iblk, idx t]

/-- The product of the two blocks. -/
theorem mul_apply (t : Fin cfg0.N) (r s : Fin 1024) :
    k0_pay2 k0_pay1 (iblk m c 0 t) (iblk m c 1 t) (ix2 r s) = ∑ k, term m c (row t r) s k := by
  have e0 := in0 m c t r
  have e1 := fun z => in1 m c t z s
  pointwise [k0_pay1, k0_pay2]
  exact Finset.sum_congr rfl fun z _ => congrArg₂ _ (e0 z) (e1 z)

theorem res_apply (t : Fin cfg0.N) (acc : Vec Ideal S1024x1024 .f32) (r s : Fin 1024) :
    k0_pay3 (iblk m c 2 t) (iblk m c 3 t) acc (ix2 r s) = X m c (row t r) s + G m c s * acc (ix2 r s) := by
  have e2 := in2 m c t r s
  have e3 := in3 m c t s
  pointwise [k0_pay3]
  exact congrArg₂ _ e2 (congrArg (· * _) e3)

/-- The two blocks of a point. -/
theorem point_out (t : Fin cfg0.N) (r s : Fin 1024) : (outsAt0 m c t).1 (ix2 r s) = ∑ k, term m c (row t r) s k := by
  unfold outsAt0
  dsimp only
  rw [out_A4, mul_apply]

theorem point_res (t : Fin cfg0.N) (r s : Fin 1024) :
    (outsAt0 m c t).2 (ix2 r s) = X m c (row t r) s + G m c s * ∑ k, term m c (row t r) s k := by
  unfold outsAt0
  dsimp only
  rw [out_A5, res_apply, mul_apply]

theorem result_out : (dats m 0 c).arrAt 4 cfg0.N = fun i : S4096x1024.Idx => (∑ k, term m c (i 0) (i 1) k : EReal) := by
  refine (dats m 0 c).arrAt_eq_of_covers 4 _ (by decide +kernel) fun t hf y => ?_
  blk_simp
  rw [after0_4]
  have hN := bound t
  have er : (win0_4.blk t).view.emb y 0 = row t (y 0) := by
    apply Fin.ext
    blk_simp [idx t] <;> rfl
  have es : (win0_4.blk t).view.emb y 1 = y 1 := by
    apply Fin.ext
    blk_simp [idx t]
  rw [er, es]
  exact (congrArg _ (eq_ix2 y)).trans (point_out m c t (y 0) (y 1))

theorem result_res : (dats m 0 c).arrAt 5 cfg0.N = fun i : S4096x1024.Idx => (X m c (i 0) (i 1) + G m c (i 1) * ∑ k, term m c (i 0) (i 1) k : EReal) := by
  refine (dats m 0 c).arrAt_eq_of_covers 5 _ (by decide +kernel) fun t hf y => ?_
  blk_simp
  rw [after0_5]
  have hN := bound t
  have er : (win0_5.blk t).view.emb y 0 = row t (y 0) := by
    apply Fin.ext
    blk_simp [idx t] <;> rfl
  have es : (win0_5.blk t).view.emb y 1 = y 1 := by
    apply Fin.ext
    blk_simp [idx t]
  rw [er, es]
  exact (congrArg _ (eq_ix2 y)).trans (point_res m c t (y 0) (y 1))

end Cert.Mm16

end
-- ==== Proof.Mm.Claims16.lean ====
/-
  The claims about the mixers' output product with its gate and the residual.
-/
module

public import proofs.«01_k».proof.Defs
public import proofs.«01_k».proof.Proof.Gen.Kernel16
public import proofs.«01_k».proof.Proof.Gen.Kernel16.Frame
public import proofs.«01_k».proof.Proof.Gen.Kernel16Ideal.Frame
public import proofs.«01_k».proof.Proof.Gen.Reference16Ideal
public import proofs.«01_k».proof.Proof.Gen.Reference16Ideal.Read
public import proofs.«01_k».proof.Proof.Mm.Val16
public import Idealize.ShloMosaic.Adequacy
public import Idealize.ShloMosaic.Init

@[expose] public section

set_option maxRecDepth 16384

noncomputable section

namespace Cert.Mm16.Claims

open Idealize.ShloMosaic Idealize.SL.Sem
open Cert.Reference16Ideal.Read

theorem frame_p : Cert.quiescent_Kernel16 := fun m ρ _ => Cert.Kernel16.Gen.frame m ρ

theorem frame_pi : Cert.quiescent_Kernel16Ideal := fun m ρ _ => Cert.Kernel16Ideal.Gen.frame m ρ

theorem frame_ri : Cert.quiescent_Reference16Ideal := fun m ρ _ =>
  (θ_run Cert.Reference16Ideal.defs _ _).mono (fun r h => ⟨fun c => (h c).2.2,
      Idealize.ShloMosaic.sem_eq_zero_of_no_sems (by decide) r.2⟩)
    (Cert.Reference16Ideal.Value.run (F := Ideal) m ρ)

theorem preserves : Cert.preserves_Kernel16_Kernel16Ideal := trivial

/-- The reference's results, entry by entry. -/
theorem reference_out (x0 : Cert.Reference16Ideal.S4096x1024.Idx → EReal) (x1 : Cert.Reference16Ideal.S1024x1024.Idx → EReal) (r : Fin 4096) (s : Fin 1024) :
    (val_main_v2 (F := Ideal) x0 x1) (ix2 r s) = ∑ k : Fin 1024, x0 (ix2 r k) * x1 (ix2 k s) := by
  pointwise [val_main_v0, val_main_v1, val_main_v2]

theorem reference_res (x0 : Cert.Reference16Ideal.S4096x1024.Idx → EReal) (x1 : Cert.Reference16Ideal.S1024x1024.Idx → EReal)
    (x2 : Cert.Reference16Ideal.S4096x1024.Idx → EReal) (x3 : Cert.Reference16Ideal.S1x1024.Idx → EReal) (r : Fin 4096) (s : Fin 1024) :
    (val_main_v5 (F := Ideal) x0 x1 x2 x3) (ix2 r s) = x2 (ix2 r s) + x3 (ix2 0 s) * ∑ k : Fin 1024, x0 (ix2 r k) * x1 (ix2 k s) := by
  pointwise [val_main_v0, val_main_v1, val_main_v2, val_main_v3, val_main_v4, val_main_v5]

/-- Both programs end at the same two arrays. -/
theorem algebraic : Cert.algebraic_Kernel16Ideal_Reference16Ideal := by
  intro m g m' g' _ hargs
  refine ⟨fun c => (fun i : Cert.Kernel16Ideal.S4096x1024.Idx => (∑ k, term m c (i 0) (i 1) k : EReal)),
    fun c => (fun i : Cert.Kernel16Ideal.S4096x1024.Idx => (X m c (i 0) (i 1) + G m c (i 1) * ∑ k, term m c (i 0) (i 1) k : EReal)), ?_, ?_⟩
  · exact (θ_run Cert.Kernel16Ideal.defs _ _).mono
      (fun r h c => ⟨(h c).1.trans (result_out m c), (h c).2.1.trans (result_res m c), (h c).2.2⟩) (Cert.Kernel16Ideal.Value.run_blocks m g)
  · refine (θ_run Cert.Reference16Ideal.defs _ _).mono (fun r h c => ⟨(h c).1.trans ?_, (h c).2.1.trans ?_, (h c).2.2⟩) (Cert.Reference16Ideal.Value.run m' g')
    · obtain ⟨e0, e1, e2, e3⟩ := hargs c
      refine (val_main_v2_eq _ _).trans ?_
      refine (congrArg₂ (val_main_v2 (F := Ideal)) e0 e1).trans ?_
      exact funext fun i => (congrArg _ (eq_ix2 i)).trans (reference_out _ _ (i 0) (i 1))
    · obtain ⟨e0, e1, e2, e3⟩ := hargs c
      refine (val_main_v5_eq _ _ _ _).trans ?_
      rw [e0, e1, e2, e3]
      exact funext fun i => (congrArg _ (eq_ix2 i)).trans (reference_res _ _ _ _ (i 0) (i 1))

end Cert.Mm16.Claims

end
-- ==== Proof.lean ====
module

public import proofs.«01_k».proof.Defs
public import proofs.«01_k».proof.Proof.Attn.Claims
public import proofs.«01_k».proof.Proof.Mm.Claims2
public import proofs.«01_k».proof.Proof.Mm.Claims3
public import proofs.«01_k».proof.Proof.Mm.Claims4
public import proofs.«01_k».proof.Proof.Mm.Claims5
public import proofs.«01_k».proof.Proof.Mm.Claims6
public import proofs.«01_k».proof.Proof.Mm.Claims7
public import proofs.«01_k».proof.Proof.Mm.Claims8
public import proofs.«01_k».proof.Proof.Mm.Claims9
public import proofs.«01_k».proof.Proof.Mm.Claims10
public import proofs.«01_k».proof.Proof.Mm.Claims11
public import proofs.«01_k».proof.Proof.Mm.Claims12
public import proofs.«01_k».proof.Proof.Row.GateClaims
public import proofs.«01_k».proof.Proof.Row.NormClaims
public import proofs.«01_k».proof.Proof.Row.FfnClaims
public import proofs.«01_k».proof.Proof.Row.DownClaims
public import proofs.«01_k».proof.Proof.Row.NormForwardClaims
public import proofs.«01_k».proof.Proof.Mm.Claims16

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Attn.Finite.facts,
    Cert.Attn.Claims.frame_p, Cert.Attn.Claims.frame_pi, Cert.Attn.Claims.frame_pi_finite,
    Cert.Attn.Claims.frame_ri, Cert.Attn.Claims.frame_ri_finite,
    Cert.Mm2.Claims.frame_p, Cert.Mm2.Claims.frame_pi, Cert.Mm2.Claims.frame_ri,
    Cert.Mm3.Claims.frame_p, Cert.Mm3.Claims.frame_pi, Cert.Mm3.Claims.frame_ri,
    Cert.Mm4.Claims.frame_p, Cert.Mm4.Claims.frame_pi, Cert.Mm4.Claims.frame_ri,
    Cert.Mm5.Claims.frame_p, Cert.Mm5.Claims.frame_pi, Cert.Mm5.Claims.frame_ri,
    Cert.Mm6.Claims.frame_p, Cert.Mm6.Claims.frame_pi, Cert.Mm6.Claims.frame_ri,
    Cert.Mm7.Claims.frame_p, Cert.Mm7.Claims.frame_pi, Cert.Mm7.Claims.frame_ri,
    Cert.Mm8.Claims.frame_p, Cert.Mm8.Claims.frame_pi, Cert.Mm8.Claims.frame_ri,
    Cert.Mm9.Claims.frame_p, Cert.Mm9.Claims.frame_pi, Cert.Mm9.Claims.frame_ri,
    Cert.Mm10.Claims.frame_p, Cert.Mm10.Claims.frame_pi, Cert.Mm10.Claims.frame_ri,
    Cert.Mm11.Claims.frame_p, Cert.Mm11.Claims.frame_pi, Cert.Mm11.Claims.frame_ri,
    Cert.Mm12.Claims.frame_p, Cert.Mm12.Claims.frame_pi, Cert.Mm12.Claims.frame_ri,
    Cert.Gate.Claims.frame_p, Cert.Gate.Claims.frame_pi, Cert.Gate.Claims.frame_ri,
    Cert.Norm.Claims.frame_p, Cert.Norm.Claims.frame_pi, Cert.Norm.Claims.frame_ri,
    Cert.Ffn.Claims.frame_p, Cert.Ffn.Claims.frame_pi, Cert.Ffn.Claims.frame_ri,
    Cert.Mm16.Claims.frame_p, Cert.Mm16.Claims.frame_pi, Cert.Mm16.Claims.frame_ri,
    Cert.Down.Claims.frame_p, Cert.Down.Claims.frame_pi, Cert.Down.Claims.frame_ri,
    Cert.NormForward.Claims.frame_p, Cert.NormForward.Claims.frame_pi, Cert.NormForward.Claims.frame_ri,
    Cert.Attn.Claims.preserves, Cert.Attn.Claims.algebraic,
    Cert.Mm2.Claims.preserves, Cert.Mm2.Claims.algebraic,
    Cert.Mm3.Claims.preserves, Cert.Mm3.Claims.algebraic,
    Cert.Mm4.Claims.preserves, Cert.Mm4.Claims.algebraic,
    Cert.Mm5.Claims.preserves, Cert.Mm5.Claims.algebraic,
    Cert.Mm6.Claims.preserves, Cert.Mm6.Claims.algebraic,
    Cert.Mm7.Claims.preserves, Cert.Mm7.Claims.algebraic,
    Cert.Mm8.Claims.preserves, Cert.Mm8.Claims.algebraic,
    Cert.Mm9.Claims.preserves, Cert.Mm9.Claims.algebraic,
    Cert.Mm10.Claims.preserves, Cert.Mm10.Claims.algebraic,
    Cert.Mm11.Claims.preserves, Cert.Mm11.Claims.algebraic,
    Cert.Mm12.Claims.preserves, Cert.Mm12.Claims.algebraic,
    Cert.Gate.Claims.preserves, Cert.Gate.Claims.algebraic,
    Cert.Norm.Claims.preserves, Cert.Norm.Claims.algebraic,
    Cert.Ffn.Claims.preserves, Cert.Ffn.Claims.algebraic,
    Cert.Mm16.Claims.preserves, Cert.Mm16.Claims.algebraic,
    Cert.Down.Claims.preserves, Cert.Down.Claims.algebraic,
    Cert.NormForward.Claims.preserves, Cert.NormForward.Claims.algebraic⟩

end Cert.Proof

end
